-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_ordinary [hPre_ordinary : Cert.Pre_ordinary.Facts] (m : (ℓ : Loc Cert.KernelIdeal.nD Cert.KernelIdeal.τ Cert.KernelIdeal.sig) → Buf (Elt Ideal) ℓ) : Prop :=
  ∀ c : Dev Cert.KernelIdeal.nD,
    (Cert.Pre_ordinary.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_ordinary.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_ordinary.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_ordinary.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.1 = (fun _ => 1#1)
    ∧ (Cert.Pre_ordinary.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ordinary [hPre_ordinary : Cert.Pre_ordinary.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ordinary.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_ordinary.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_ordinary.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_ordinary.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.1 = (fun _ => 1#1)
    ∧ (Cert.Pre_ordinary.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite [hPre_finite : Cert.Pre_finite.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6))).1 = (fun _ => 1#1)
    ∧ (Cert.Pre_finite.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6))).2.1 = (fun _ => 1#1)
    ∧ (Cert.Pre_finite.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6))).2.2.1 = (fun _ => 1#1)
    ∧ (Cert.Pre_finite.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6))).2.2.2.1 = (fun _ => 1#1)
    ∧ (Cert.Pre_finite.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6))).2.2.2.2 = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite [hPre_finite : Cert.Pre_finite.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6))).1 = (fun _ => 1#1)
    ∧ (Cert.Pre_finite.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6))).2.1 = (fun _ => 1#1)
    ∧ (Cert.Pre_finite.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6))).2.2.1 = (fun _ => 1#1)
    ∧ (Cert.Pre_finite.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6))).2.2.2.1 = (fun _ => 1#1)
    ∧ (Cert.Pre_finite.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6))).2.2.2.2 = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_blocks [hPre_blocks : Cert.Pre_blocks.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_blocks.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9)) (m ((c.tc : Thread Cert.Kernel4Ideal.nD Cert.Kernel4Ideal.τ).loc Cert.Kernel4Ideal.main_arg10))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_blocks [hPre_blocks : Cert.Pre_blocks.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_blocks.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9)) (m ((c.tc : Thread Cert.Reference4Ideal.nD Cert.Reference4Ideal.τ).loc Cert.Reference4Ideal.main_arg10))) = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_padded [hPre_padded : Cert.Pre_padded.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_padded.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6))).1 = (fun _ => 1#1)
    ∧ (Cert.Pre_padded.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6))).2.1 = (fun _ => 1#1)
    ∧ (Cert.Pre_padded.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6))).2.2.1 = (fun _ => 1#1)
    ∧ (Cert.Pre_padded.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6))).2.2.2.1 = (fun _ => 1#1)
    ∧ (Cert.Pre_padded.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6))).2.2.2.2 = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_padded [hPre_padded : Cert.Pre_padded.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_padded.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6))).1 = (fun _ => 1#1)
    ∧ (Cert.Pre_padded.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6))).2.1 = (fun _ => 1#1)
    ∧ (Cert.Pre_padded.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6))).2.2.1 = (fun _ => 1#1)
    ∧ (Cert.Pre_padded.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6))).2.2.2.1 = (fun _ => 1#1)
    ∧ (Cert.Pre_padded.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6))).2.2.2.2 = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_below [hPre_below : Cert.Pre_below.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_below.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2))).1 = (fun _ => 1#1)
    ∧ (Cert.Pre_below.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2))).2 = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_below [hPre_below : Cert.Pre_below.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_below.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2))).1 = (fun _ => 1#1)
    ∧ (Cert.Pre_below.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2))).2 = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_under [hPre_under : Cert.Pre_under.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_under.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6)) (m ((c.tc : Thread Cert.Kernel7Ideal.nD Cert.Kernel7Ideal.τ).loc Cert.Kernel7Ideal.main_arg7))) = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_under [hPre_under : Cert.Pre_under.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_under.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6)) (m ((c.tc : Thread Cert.Reference7Ideal.nD Cert.Reference7Ideal.τ).loc Cert.Reference7Ideal.main_arg7))) = (fun _ => 1#1)

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Kernel9Ideal_proper [hPre_proper : Cert.Pre_proper.Facts] (m : (ℓ : Loc Cert.Kernel9Ideal.nD Cert.Kernel9Ideal.τ Cert.Kernel9Ideal.sig) → Buf (Elt Ideal) ℓ) : Prop :=
  ∀ c : Dev Cert.Kernel9Ideal.nD,
    (Cert.Pre_proper.fn (F := Ideal) (m ((c.tc : Thread Cert.Kernel9Ideal.nD Cert.Kernel9Ideal.τ).loc Cert.Kernel9Ideal.main_arg0))).1 = (fun _ => 1#1)
    ∧ (Cert.Pre_proper.fn (F := Ideal) (m ((c.tc : Thread Cert.Kernel9Ideal.nD Cert.Kernel9Ideal.τ).loc Cert.Kernel9Ideal.main_arg0))).2 = (fun _ => 1#1)

def Pre_Reference9Ideal (m : (ℓ : Loc Cert.Reference9Ideal.nD Cert.Reference9Ideal.τ Cert.Reference9Ideal.sig) → Buf (Elt Ideal) ℓ) : Prop :=
  True

def Pre_Reference9Ideal_proper [hPre_proper : Cert.Pre_proper.Facts] (m : (ℓ : Loc Cert.Reference9Ideal.nD Cert.Reference9Ideal.τ Cert.Reference9Ideal.sig) → Buf (Elt Ideal) ℓ) : Prop :=
  ∀ c : Dev Cert.Reference9Ideal.nD,
    (Cert.Pre_proper.fn (F := Ideal) (m ((c.tc : Thread Cert.Reference9Ideal.nD Cert.Reference9Ideal.τ).loc Cert.Reference9Ideal.main_arg0))).1 = (fun _ => 1#1)
    ∧ (Cert.Pre_proper.fn (F := Ideal) (m ((c.tc : Thread Cert.Reference9Ideal.nD Cert.Reference9Ideal.τ).loc Cert.Reference9Ideal.main_arg0))).2 = (fun _ => 1#1)

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_ordinary [hKernelIdeal : Cert.KernelIdeal.Facts] [hPre_ordinary : Cert.Pre_ordinary.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_ordinary m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_ordinary [hReferenceIdeal : Cert.ReferenceIdeal.Facts] [hPre_ordinary : Cert.Pre_ordinary.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ordinary m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Kernel3Ideal_pre_finite [hKernel3Ideal : Cert.Kernel3Ideal.Facts] [hPre_finite : Cert.Pre_finite.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Reference3Ideal_pre_finite [hReference3Ideal : Cert.Reference3Ideal.Facts] [hPre_finite : Cert.Pre_finite.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10))
      ∧ r.2.sem = fun _ => 0)

def quiescent_Kernel4Ideal_pre_blocks [hKernel4Ideal : Cert.Kernel4Ideal.Facts] [hPre_blocks : Cert.Pre_blocks.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_blocks m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10))
      ∧ r.2.sem = fun _ => 0)

def quiescent_Reference4Ideal_pre_blocks [hReference4Ideal : Cert.Reference4Ideal.Facts] [hPre_blocks : Cert.Pre_blocks.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_blocks m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ r.2.sem = fun _ => 0)

def quiescent_Kernel5Ideal_pre_padded [hKernel5Ideal : Cert.Kernel5Ideal.Facts] [hPre_padded : Cert.Pre_padded.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_padded m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0)

def quiescent_Reference5Ideal_pre_padded [hReference5Ideal : Cert.Reference5Ideal.Facts] [hPre_padded : Cert.Pre_padded.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_padded m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Kernel6Ideal_pre_below [hKernel6Ideal : Cert.Kernel6Ideal.Facts] [hPre_below : Cert.Pre_below.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_below m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Reference6Ideal_pre_below [hReference6Ideal : Cert.Reference6Ideal.Facts] [hPre_below : Cert.Pre_below.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_below m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7))
      ∧ r.2.sem = fun _ => 0)

def quiescent_Kernel7Ideal_pre_under [hKernel7Ideal : Cert.Kernel7Ideal.Facts] [hPre_under : Cert.Pre_under.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_under m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7))
      ∧ r.2.sem = fun _ => 0)

def quiescent_Reference7Ideal_pre_under [hReference7Ideal : Cert.Reference7Ideal.Facts] [hPre_under : Cert.Pre_under.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_under m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0))
      ∧ r.2.sem = fun _ => 0)

def quiescent_Kernel9Ideal_pre_proper [hKernel9Ideal : Cert.Kernel9Ideal.Facts] [hPre_proper : Cert.Pre_proper.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal_proper m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0))
      ∧ r.2.sem = fun _ => 0)

def quiescent_Reference9Ideal_pre_proper [hReference9Ideal : Cert.Reference9Ideal.Facts] [hPre_proper : Cert.Pre_proper.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal_proper m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3))
      ∧ r.2.sem = fun _ => 0)

def preserves_Kernel_KernelIdeal : Prop :=
  True

def algebraic_KernelIdeal_ReferenceIdeal_pre_ordinary [hKernelIdeal : Cert.KernelIdeal.Facts] [hReferenceIdeal : Cert.ReferenceIdeal.Facts] [hPre_ordinary : Cert.Pre_ordinary.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_ordinary m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v28) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal_pre_finite [hKernel3Ideal : Cert.Kernel3Ideal.Facts] [hReference3Ideal : Cert.Reference3Ideal.Facts] [hPre_finite : Cert.Pre_finite.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v67) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal_pre_blocks [hKernel4Ideal : Cert.Kernel4Ideal.Facts] [hReference4Ideal : Cert.Reference4Ideal.Facts] [hPre_blocks : Cert.Pre_blocks.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_blocks m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v34) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10))

def preserves_Kernel5_Kernel5Ideal : Prop :=
  True

def algebraic_Kernel5Ideal_Reference5Ideal_pre_padded [hKernel5Ideal : Cert.Kernel5Ideal.Facts] [hReference5Ideal : Cert.Reference5Ideal.Facts] [hPre_padded : Cert.Pre_padded.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_padded m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)) →
    ∃ (v0 : (c : Dev Cert.Kernel5Ideal.nD) → Buf (Elt Ideal) ((c.tc : Thread Cert.Kernel5Ideal.nD Cert.Kernel5Ideal.τ).loc Cert.Kernel5Ideal.main_v0_0)) (v1 : (c : Dev Cert.Kernel5Ideal.nD) → Buf (Elt Ideal) ((c.tc : Thread Cert.Kernel5Ideal.nD Cert.Kernel5Ideal.τ).loc Cert.Kernel5Ideal.main_v0_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0_0) = v0 c
          ∧ r.2.mem ((c.tc : Thread Cert.Kernel5Ideal.nD Cert.Kernel5Ideal.τ).loc Cert.Kernel5Ideal.main_v0_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v34) = v0 c
          ∧ r.2.mem ((c.tc : Thread Cert.Reference5Ideal.nD Cert.Reference5Ideal.τ).loc Cert.Reference5Ideal.main_v35) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6))

def preserves_Kernel6_Kernel6Ideal : Prop :=
  True

def algebraic_Kernel6Ideal_Reference6Ideal_pre_below [hKernel6Ideal : Cert.Kernel6Ideal.Facts] [hReference6Ideal : Cert.Reference6Ideal.Facts] [hPre_below : Cert.Pre_below.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_below m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v5) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal_pre_under [hKernel7Ideal : Cert.Kernel7Ideal.Facts] [hReference7Ideal : Cert.Reference7Ideal.Facts] [hPre_under : Cert.Pre_under.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_under m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v24) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v4) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0))

def preserves_Kernel9_Kernel9Ideal : Prop :=
  True

def algebraic_Kernel9Ideal_Reference9Ideal_pre_proper [hKernel9Ideal : Cert.Kernel9Ideal.Facts] [hReference9Ideal : Cert.Reference9Ideal.Facts] [hPre_proper : Cert.Pre_proper.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal_proper m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)) →
    ∃ (v0 : (c : Dev Cert.Kernel9Ideal.nD) → Buf (Elt Ideal) ((c.tc : Thread Cert.Kernel9Ideal.nD Cert.Kernel9Ideal.τ).loc Cert.Kernel9Ideal.main_v2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v2) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v16) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)) →
    ∃ (v0 : (c : Dev Cert.Kernel10Ideal.nD) → Buf (Elt Ideal) ((c.tc : Thread Cert.Kernel10Ideal.nD Cert.Kernel10Ideal.τ).loc Cert.Kernel10Ideal.main_v1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v1) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v9) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v3) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v6) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v32) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hPre_ordinary : Cert.Pre_ordinary.Facts) (hPre_finite : Cert.Pre_finite.Facts) (hPre_blocks : Cert.Pre_blocks.Facts) (hPre_padded : Cert.Pre_padded.Facts) (hPre_below : Cert.Pre_below.Facts) (hPre_under : Cert.Pre_under.Facts) (hPre_proper : Cert.Pre_proper.Facts),
    quiescent_Kernel (hKernel := hKernel)
    ∧ quiescent_KernelIdeal (hKernelIdeal := hKernelIdeal)
    ∧ quiescent_KernelIdeal_pre_ordinary (hKernelIdeal := hKernelIdeal) (hPre_ordinary := hPre_ordinary)
    ∧ quiescent_ReferenceIdeal (hReferenceIdeal := hReferenceIdeal)
    ∧ quiescent_ReferenceIdeal_pre_ordinary (hReferenceIdeal := hReferenceIdeal) (hPre_ordinary := hPre_ordinary)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_finite (hKernel3Ideal := hKernel3Ideal) (hPre_finite := hPre_finite)
    ∧ quiescent_Reference3Ideal (hReference3Ideal := hReference3Ideal)
    ∧ quiescent_Reference3Ideal_pre_finite (hReference3Ideal := hReference3Ideal) (hPre_finite := hPre_finite)
    ∧ quiescent_Kernel4 (hKernel4 := hKernel4)
    ∧ quiescent_Kernel4Ideal (hKernel4Ideal := hKernel4Ideal)
    ∧ quiescent_Kernel4Ideal_pre_blocks (hKernel4Ideal := hKernel4Ideal) (hPre_blocks := hPre_blocks)
    ∧ quiescent_Reference4Ideal (hReference4Ideal := hReference4Ideal)
    ∧ quiescent_Reference4Ideal_pre_blocks (hReference4Ideal := hReference4Ideal) (hPre_blocks := hPre_blocks)
    ∧ quiescent_Kernel5 (hKernel5 := hKernel5)
    ∧ quiescent_Kernel5Ideal (hKernel5Ideal := hKernel5Ideal)
    ∧ quiescent_Kernel5Ideal_pre_padded (hKernel5Ideal := hKernel5Ideal) (hPre_padded := hPre_padded)
    ∧ quiescent_Reference5Ideal (hReference5Ideal := hReference5Ideal)
    ∧ quiescent_Reference5Ideal_pre_padded (hReference5Ideal := hReference5Ideal) (hPre_padded := hPre_padded)
    ∧ quiescent_Kernel6 (hKernel6 := hKernel6)
    ∧ quiescent_Kernel6Ideal (hKernel6Ideal := hKernel6Ideal)
    ∧ quiescent_Kernel6Ideal_pre_below (hKernel6Ideal := hKernel6Ideal) (hPre_below := hPre_below)
    ∧ quiescent_Reference6Ideal (hReference6Ideal := hReference6Ideal)
    ∧ quiescent_Reference6Ideal_pre_below (hReference6Ideal := hReference6Ideal) (hPre_below := hPre_below)
    ∧ quiescent_Kernel7 (hKernel7 := hKernel7)
    ∧ quiescent_Kernel7Ideal (hKernel7Ideal := hKernel7Ideal)
    ∧ quiescent_Kernel7Ideal_pre_under (hKernel7Ideal := hKernel7Ideal) (hPre_under := hPre_under)
    ∧ quiescent_Reference7Ideal (hReference7Ideal := hReference7Ideal)
    ∧ quiescent_Reference7Ideal_pre_under (hReference7Ideal := hReference7Ideal) (hPre_under := hPre_under)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Kernel9Ideal_pre_proper (hKernel9Ideal := hKernel9Ideal) (hPre_proper := hPre_proper)
    ∧ quiescent_Reference9Ideal (hReference9Ideal := hReference9Ideal)
    ∧ quiescent_Reference9Ideal_pre_proper (hReference9Ideal := hReference9Ideal) (hPre_proper := hPre_proper)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ preserves_Kernel_KernelIdeal
    ∧ algebraic_KernelIdeal_ReferenceIdeal_pre_ordinary (hKernelIdeal := hKernelIdeal) (hReferenceIdeal := hReferenceIdeal) (hPre_ordinary := hPre_ordinary)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_finite (hKernel3Ideal := hKernel3Ideal) (hReference3Ideal := hReference3Ideal) (hPre_finite := hPre_finite)
    ∧ preserves_Kernel4_Kernel4Ideal
    ∧ algebraic_Kernel4Ideal_Reference4Ideal_pre_blocks (hKernel4Ideal := hKernel4Ideal) (hReference4Ideal := hReference4Ideal) (hPre_blocks := hPre_blocks)
    ∧ preserves_Kernel5_Kernel5Ideal
    ∧ algebraic_Kernel5Ideal_Reference5Ideal_pre_padded (hKernel5Ideal := hKernel5Ideal) (hReference5Ideal := hReference5Ideal) (hPre_padded := hPre_padded)
    ∧ preserves_Kernel6_Kernel6Ideal
    ∧ algebraic_Kernel6Ideal_Reference6Ideal_pre_below (hKernel6Ideal := hKernel6Ideal) (hReference6Ideal := hReference6Ideal) (hPre_below := hPre_below)
    ∧ preserves_Kernel7_Kernel7Ideal
    ∧ algebraic_Kernel7Ideal_Reference7Ideal_pre_under (hKernel7Ideal := hKernel7Ideal) (hReference7Ideal := hReference7Ideal) (hPre_under := hPre_under)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal_pre_proper (hKernel9Ideal := hKernel9Ideal) (hReference9Ideal := hReference9Ideal) (hPre_proper := hPre_proper)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
-- ==== Pre_below.lean ====
abbrev S8x1024 : Shape := ⟨2, ![8, 1024]⟩
abbrev S4x1024x3072 : Shape := ⟨3, ![4, 1024, 3072]⟩
abbrev S4x3072 : Shape := ⟨2, ![4, 3072]⟩
abbrev S_ : Shape := ⟨0, ![]⟩

class Facts : Prop where
  bcast_S_S8x1024 : S_.BroadcastsInDim S8x1024 (![] : Fin 0 → Fin S8x1024.rank)
  bcast_S_S4x1024x3072 : S_.BroadcastsInDim S4x1024x3072 (![] : Fin 0 → Fin S4x1024x3072.rank)

variable [Facts]

def fn {F : FTy → Type} [FloatOps F] (main_arg0 : FVec F S8x1024 .f32) (main_arg1 : FVec F S4x1024x3072 .f32) (main_arg2 : FVec F S4x3072 .f32) : IVec S8x1024 1 × IVec S4x1024x3072 1 :=
  let main_cst : FVec F S_ .f32 := constant S_ .f32 0x7F800000#32
  let main_v0 : FVec F S8x1024 .f32 := broadcastInDim S8x1024 ![] bcast_S_S8x1024 main_cst
  let main_v1 : IVec S8x1024 1 := cmpf .olt main_arg0 main_v0
  let main_cst_0 : FVec F S_ .f32 := constant S_ .f32 0x7F800000#32
  let main_v2 : FVec F S4x1024x3072 .f32 := broadcastInDim S4x1024x3072 ![] bcast_S_S4x1024x3072 main_cst_0
  let main_v3 : IVec S4x1024x3072 1 := cmpf .olt main_arg1 main_v2
  (main_v1, main_v3)
-- ==== Pre_blocks.lean ====
abbrev S16384x1024 : Shape := ⟨2, ![16384, 1024]⟩
abbrev S4x3x1024 : Shape := ⟨3, ![4, 3, 1024]⟩
abbrev S4x256x4096 : Shape := ⟨3, ![4, 256, 4096]⟩
abbrev S16384x256 : Shape := ⟨2, ![16384, 256]⟩
abbrev S16384x4096 : Shape := ⟨2, ![16384, 4096]⟩
abbrev S1x256 : Shape := ⟨2, ![1, 256]⟩
abbrev S256x256 : Shape := ⟨2, ![256, 256]⟩
abbrev S1024x1024 : Shape := ⟨2, ![1024, 1024]⟩
abbrev S4x64x4x64 : Shape := ⟨4, ![4, 64, 4, 64]⟩
abbrev S4x4 : Shape := ⟨2, ![4, 4]⟩
abbrev S_ : Shape := ⟨0, ![]⟩
abbrev S4x1x4x1 : Shape := ⟨4, ![4, 1, 4, 1]⟩

class Facts : Prop where
  bitsLt_bf16_f32 : FTy.bits .bf16 < FTy.bits .f32
  shapeCasts_S256x256_S4x64x4x64 : S256x256.ShapeCasts S4x64x4x64
  bcast_S_S4x4 : S_.BroadcastsInDim S4x4 (![] : Fin 0 → Fin S4x4.rank)
  bcast_S4x4_S4x1x4x1_0_2 : S4x4.BroadcastsInDim S4x1x4x1 (![0, 2] : Fin 2 → Fin S4x1x4x1.rank)
  bcast_S4x1x4x1_S4x64x4x64_0_1_2_3 : S4x1x4x1.BroadcastsInDim S4x64x4x64 (![0, 1, 2, 3] : Fin 4 → Fin S4x64x4x64.rank)

variable [Facts]

def fn {F : FTy → Type} [FloatOps F] (main_arg0 : FVec F S16384x1024 .f32) (main_arg1 : FVec F S4x3x1024 .f32) (main_arg2 : FVec F S4x256x4096 .f32) (main_arg3 : FVec F S4x256x4096 .f32) (main_arg4 : FVec F S16384x256 .f32) (main_arg5 : FVec F S16384x256 .f32) (main_arg6 : FVec F S16384x256 .f32) (main_arg7 : FVec F S16384x4096 .f32) (main_arg8 : FVec F S1x256 .f32) (main_arg9 : FVec F S256x256 .bf16) (main_arg10 : FVec F S1024x1024 .bf16) : IVec S4x64x4x64 1 :=
  let main_v0 : FVec F S256x256 .f32 := (extf .f32 · bitsLt_bf16_f32) main_arg9
  let main_v1 : FVec F S4x64x4x64 .f32 := shapeCast S4x64x4x64 main_v0 shapeCasts_S256x256_S4x64x4x64
  let main_v2 : IVec S4x4 32 := iotaInDim S4x4 32 0
  let main_v3 : IVec S4x4 32 := iotaInDim S4x4 32 1
  let main_c : IVec S_ 32 := constantI S_ 32 0#32
  let main_v4 : IVec S4x4 32 := broadcastInDim S4x4 ![] bcast_S_S4x4 main_c
  let main_v5 : IVec S4x4 32 := addi main_v2 main_v4
  let main_v6 : IVec S4x4 1 := cmpi .eq main_v5 main_v3
  let main_v7 : FVec F S4x4 .f32 := uitofp .f32 main_v6
  let main_v8 : FVec F S4x1x4x1 .f32 := broadcastInDim S4x1x4x1 ![0, 2] bcast_S4x4_S4x1x4x1_0_2 main_v7
  let main_v9 : FVec F S4x64x4x64 .f32 := broadcastInDim S4x64x4x64 ![0, 1, 2, 3] bcast_S4x1x4x1_S4x64x4x64_0_1_2_3 main_v8
  let main_v10 : IVec S4x64x4x64 1 := cmpf .oeq main_v1 main_v9
  main_v10
-- ==== Pre_finite.lean ====
abbrev S16384x256 : Shape := ⟨2, ![16384, 256]⟩
abbrev S4x4096x256 : Shape := ⟨3, ![4, 4096, 256]⟩
abbrev S4x512x256 : Shape := ⟨3, ![4, 512, 256]⟩
abbrev S4x4x80x4096 : Shape := ⟨4, ![4, 4, 80, 4096]⟩
abbrev S4x4x80x512 : Shape := ⟨4, ![4, 4, 80, 512]⟩
abbrev S4x32 : Shape := ⟨2, ![4, 32]⟩
abbrev S64x1 : Shape := ⟨2, ![64, 1]⟩
abbrev S4x4x64x4096 : Shape := ⟨4, ![4, 4, 64, 4096]⟩
abbrev S_ : Shape := ⟨0, ![]⟩
abbrev S4x4x64x512 : Shape := ⟨4, ![4, 4, 64, 512]⟩
abbrev S4x4x1x4096 : Shape := ⟨4, ![4, 4, 1, 4096]⟩
abbrev S4x4x4096 : Shape := ⟨3, ![4, 4, 4096]⟩
abbrev S4x4x1x512 : Shape := ⟨4, ![4, 4, 1, 512]⟩
abbrev S4x4x512 : Shape := ⟨3, ![4, 4, 512]⟩

class Facts : Prop where
  bitsLt_bf16_f32 : FTy.bits .bf16 < FTy.bits .f32
  slices_S4x4x80x4096_S4x4x64x4096_0_0_0_0 : S4x4x80x4096.Slices ![0, 0, 0, 0] S4x4x64x4096
  bcast_S_S4x4x64x4096 : S_.BroadcastsInDim S4x4x64x4096 (![] : Fin 0 → Fin S4x4x64x4096.rank)
  slices_S4x4x80x512_S4x4x64x512_0_0_0_0 : S4x4x80x512.Slices ![0, 0, 0, 0] S4x4x64x512
  bcast_S_S4x4x64x512 : S_.BroadcastsInDim S4x4x64x512 (![] : Fin 0 → Fin S4x4x64x512.rank)
  slices_S4x4x80x4096_S4x4x1x4096_0_0_64_0 : S4x4x80x4096.Slices ![0, 0, 64, 0] S4x4x1x4096
  shapeCasts_S4x4x1x4096_S4x4x4096 : S4x4x1x4096.ShapeCasts S4x4x4096
  bcast_S_S4x4x4096 : S_.BroadcastsInDim S4x4x4096 (![] : Fin 0 → Fin S4x4x4096.rank)
  slices_S4x4x80x512_S4x4x1x512_0_0_64_0 : S4x4x80x512.Slices ![0, 0, 64, 0] S4x4x1x512
  shapeCasts_S4x4x1x512_S4x4x512 : S4x4x1x512.ShapeCasts S4x4x512
  bcast_S_S4x4x512 : S_.BroadcastsInDim S4x4x512 (![] : Fin 0 → Fin S4x4x512.rank)
  bcast_S_S4x32 : S_.BroadcastsInDim S4x32 (![] : Fin 0 → Fin S4x32.rank)

variable [Facts]

def fn_part1 {F : FTy → Type} [FloatOps F] (main_arg5 : FVec F S4x32 .f32) (main_v4 : IVec S4x4x64x4096 1) (main_v9 : IVec S4x4x64x512 1) (main_v14 : IVec S4x4x4096 1) (main_v19 : IVec S4x4x512 1) : IVec S4x4x64x4096 1 × IVec S4x4x64x512 1 × IVec S4x4x4096 1 × IVec S4x4x512 1 × IVec S4x32 1 :=
  let main_v20 : FVec F S4x32 .f32 := Host.absf main_arg5
  let main_cst_3 : FVec F S_ .f32 := constant S_ .f32 0x7F800000#32
  let main_v21 : FVec F S4x32 .f32 := broadcastInDim S4x32 ![] bcast_S_S4x32 main_cst_3
  let main_v22 : IVec S4x32 1 := cmpf .olt main_v20 main_v21
  (main_v4, main_v9, main_v14, main_v19, main_v22)

def fn {F : FTy → Type} [FloatOps F] (main_arg0 : FVec F S16384x256 .bf16) (main_arg1 : FVec F S4x4096x256 .bf16) (main_arg2 : FVec F S4x512x256 .bf16) (main_arg3 : FVec F S4x4x80x4096 .bf16) (main_arg4 : FVec F S4x4x80x512 .bf16) (main_arg5 : FVec F S4x32 .f32) (main_arg6 : FVec F S64x1 .f32) : IVec S4x4x64x4096 1 × IVec S4x4x64x512 1 × IVec S4x4x4096 1 × IVec S4x4x512 1 × IVec S4x32 1 :=
  let main_v0 : FVec F S4x4x80x4096 .f32 := (extf .f32 · bitsLt_bf16_f32) main_arg3
  let main_v1 : FVec F S4x4x64x4096 .f32 := (extractStridedSlice S4x4x64x4096 ![0, 0, 0, 0] · slices_S4x4x80x4096_S4x4x64x4096_0_0_0_0) main_v0
  let main_v2 : FVec F S4x4x64x4096 .f32 := Host.absf main_v1
  let main_cst : FVec F S_ .f32 := constant S_ .f32 0x7F800000#32
  let main_v3 : FVec F S4x4x64x4096 .f32 := broadcastInDim S4x4x64x4096 ![] bcast_S_S4x4x64x4096 main_cst
  let main_v4 : IVec S4x4x64x4096 1 := cmpf .olt main_v2 main_v3
  let main_v5 : FVec F S4x4x80x512 .f32 := (extf .f32 · bitsLt_bf16_f32) main_arg4
  let main_v6 : FVec F S4x4x64x512 .f32 := (extractStridedSlice S4x4x64x512 ![0, 0, 0, 0] · slices_S4x4x80x512_S4x4x64x512_0_0_0_0) main_v5
  let main_v7 : FVec F S4x4x64x512 .f32 := Host.absf main_v6
  let main_cst_0 : FVec F S_ .f32 := constant S_ .f32 0x7F800000#32
  let main_v8 : FVec F S4x4x64x512 .f32 := broadcastInDim S4x4x64x512 ![] bcast_S_S4x4x64x512 main_cst_0
  let main_v9 : IVec S4x4x64x512 1 := cmpf .olt main_v7 main_v8
  let main_v10 : FVec F S4x4x80x4096 .f32 := (extf .f32 · bitsLt_bf16_f32) main_arg3
  let main_v11 : FVec F S4x4x1x4096 .f32 := (extractStridedSlice S4x4x1x4096 ![0, 0, 64, 0] · slices_S4x4x80x4096_S4x4x1x4096_0_0_64_0) main_v10
  let main_v12 : FVec F S4x4x4096 .f32 := shapeCast S4x4x4096 main_v11 shapeCasts_S4x4x1x4096_S4x4x4096
  let main_cst_1 : FVec F S_ .f32 := constant S_ .f32 0x3F800000#32
  let main_v13 : FVec F S4x4x4096 .f32 := broadcastInDim S4x4x4096 ![] bcast_S_S4x4x4096 main_cst_1
  let main_v14 : IVec S4x4x4096 1 := cmpf .oeq main_v12 main_v13
  let main_v15 : FVec F S4x4x80x512 .f32 := (extf .f32 · bitsLt_bf16_f32) main_arg4
  let main_v16 : FVec F S4x4x1x512 .f32 := (extractStridedSlice S4x4x1x512 ![0, 0, 64, 0] · slices_S4x4x80x512_S4x4x1x512_0_0_64_0) main_v15
  let main_v17 : FVec F S4x4x512 .f32 := shapeCast S4x4x512 main_v16 shapeCasts_S4x4x1x512_S4x4x512
  let main_cst_2 : FVec F S_ .f32 := constant S_ .f32 0x3F800000#32
  let main_v18 : FVec F S4x4x512 .f32 := broadcastInDim S4x4x512 ![] bcast_S_S4x4x512 main_cst_2
  let main_v19 : IVec S4x4x512 1 := cmpf .oeq main_v17 main_v18
  fn_part1 (F := F) main_arg5 main_v4 main_v9 main_v14 main_v19
-- ==== Pre_ordinary.lean ====
abbrev S16384x512 : Shape := ⟨2, ![16384, 512]⟩
abbrev S4x4096x512 : Shape := ⟨3, ![4, 4096, 512]⟩
abbrev S4x512x512 : Shape := ⟨3, ![4, 512, 512]⟩
abbrev S4x4x80x4096 : Shape := ⟨4, ![4, 4, 80, 4096]⟩
abbrev S4x4x80x512 : Shape := ⟨4, ![4, 4, 80, 512]⟩
abbrev S_ : Shape := ⟨0, ![]⟩
abbrev S4x4x1x4096 : Shape := ⟨4, ![4, 4, 1, 4096]⟩
abbrev S4x4x4096 : Shape := ⟨3, ![4, 4, 4096]⟩
abbrev S4x4x1x512 : Shape := ⟨4, ![4, 4, 1, 512]⟩
abbrev S4x4x512 : Shape := ⟨3, ![4, 4, 512]⟩

class Facts : Prop where
  bitsLt_bf16_f32 : FTy.bits .bf16 < FTy.bits .f32
  bcast_S_S16384x512 : S_.BroadcastsInDim S16384x512 (![] : Fin 0 → Fin S16384x512.rank)
  bcast_S_S4x4096x512 : S_.BroadcastsInDim S4x4096x512 (![] : Fin 0 → Fin S4x4096x512.rank)
  bcast_S_S4x512x512 : S_.BroadcastsInDim S4x512x512 (![] : Fin 0 → Fin S4x512x512.rank)
  slices_S4x4x80x4096_S4x4x1x4096_0_0_64_0 : S4x4x80x4096.Slices ![0, 0, 64, 0] S4x4x1x4096
  shapeCasts_S4x4x1x4096_S4x4x4096 : S4x4x1x4096.ShapeCasts S4x4x4096
  bcast_S_S4x4x4096 : S_.BroadcastsInDim S4x4x4096 (![] : Fin 0 → Fin S4x4x4096.rank)
  slices_S4x4x80x512_S4x4x1x512_0_0_64_0 : S4x4x80x512.Slices ![0, 0, 64, 0] S4x4x1x512
  shapeCasts_S4x4x1x512_S4x4x512 : S4x4x1x512.ShapeCasts S4x4x512
  bcast_S_S4x4x512 : S_.BroadcastsInDim S4x4x512 (![] : Fin 0 → Fin S4x4x512.rank)

variable [Facts]

def fn_part1 {F : FTy → Type} [FloatOps F] (main_v3 : IVec S16384x512 1) (main_v7 : IVec S4x4096x512 1) (main_v11 : IVec S4x512x512 1) (main_v16 : IVec S4x4x4096 1) (main_v19 : FVec F S4x4x512 .f32) : IVec S16384x512 1 × IVec S4x4096x512 1 × IVec S4x512x512 1 × IVec S4x4x4096 1 × IVec S4x4x512 1 :=
  let main_cst_3 : FVec F S_ .f32 := constant S_ .f32 0x3F800000#32
  let main_v20 : FVec F S4x4x512 .f32 := broadcastInDim S4x4x512 ![] bcast_S_S4x4x512 main_cst_3
  let main_v21 : IVec S4x4x512 1 := cmpf .oeq main_v19 main_v20
  (main_v3, main_v7, main_v11, main_v16, main_v21)

def fn {F : FTy → Type} [FloatOps F] (main_arg0 : FVec F S16384x512 .bf16) (main_arg1 : FVec F S4x4096x512 .bf16) (main_arg2 : FVec F S4x512x512 .bf16) (main_arg3 : FVec F S4x4x80x4096 .bf16) (main_arg4 : FVec F S4x4x80x512 .bf16) : IVec S16384x512 1 × IVec S4x4096x512 1 × IVec S4x512x512 1 × IVec S4x4x4096 1 × IVec S4x4x512 1 :=
  let main_v0 : FVec F S16384x512 .f32 := (extf .f32 · bitsLt_bf16_f32) main_arg0
  let main_v1 : FVec F S16384x512 .f32 := Host.absf main_v0
  let main_cst : FVec F S_ .f32 := constant S_ .f32 0x7F800000#32
  let main_v2 : FVec F S16384x512 .f32 := broadcastInDim S16384x512 ![] bcast_S_S16384x512 main_cst
  let main_v3 : IVec S16384x512 1 := cmpf .olt main_v1 main_v2
  let main_v4 : FVec F S4x4096x512 .f32 := (extf .f32 · bitsLt_bf16_f32) main_arg1
  let main_v5 : FVec F S4x4096x512 .f32 := Host.absf main_v4
  let main_cst_0 : FVec F S_ .f32 := constant S_ .f32 0x7F800000#32
  let main_v6 : FVec F S4x4096x512 .f32 := broadcastInDim S4x4096x512 ![] bcast_S_S4x4096x512 main_cst_0
  let main_v7 : IVec S4x4096x512 1 := cmpf .olt main_v5 main_v6
  let main_v8 : FVec F S4x512x512 .f32 := (extf .f32 · bitsLt_bf16_f32) main_arg2
  let main_v9 : FVec F S4x512x512 .f32 := Host.absf main_v8
  let main_cst_1 : FVec F S_ .f32 := constant S_ .f32 0x7F800000#32
  let main_v10 : FVec F S4x512x512 .f32 := broadcastInDim S4x512x512 ![] bcast_S_S4x512x512 main_cst_1
  let main_v11 : IVec S4x512x512 1 := cmpf .olt main_v9 main_v10
  let main_v12 : FVec F S4x4x80x4096 .f32 := (extf .f32 · bitsLt_bf16_f32) main_arg3
  let main_v13 : FVec F S4x4x1x4096 .f32 := (extractStridedSlice S4x4x1x4096 ![0, 0, 64, 0] · slices_S4x4x80x4096_S4x4x1x4096_0_0_64_0) main_v12
  let main_v14 : FVec F S4x4x4096 .f32 := shapeCast S4x4x4096 main_v13 shapeCasts_S4x4x1x4096_S4x4x4096
  let main_cst_2 : FVec F S_ .f32 := constant S_ .f32 0x3F800000#32
  let main_v15 : FVec F S4x4x4096 .f32 := broadcastInDim S4x4x4096 ![] bcast_S_S4x4x4096 main_cst_2
  let main_v16 : IVec S4x4x4096 1 := cmpf .oeq main_v14 main_v15
  let main_v17 : FVec F S4x4x80x512 .f32 := (extf .f32 · bitsLt_bf16_f32) main_arg4
  let main_v18 : FVec F S4x4x1x512 .f32 := (extractStridedSlice S4x4x1x512 ![0, 0, 64, 0] · slices_S4x4x80x512_S4x4x1x512_0_0_64_0) main_v17
  let main_v19 : FVec F S4x4x512 .f32 := shapeCast S4x4x512 main_v18 shapeCasts_S4x4x1x512_S4x4x512
  fn_part1 (F := F) main_v3 main_v7 main_v11 main_v16 main_v19
-- ==== Pre_padded.lean ====
abbrev S16384x128 : Shape := ⟨2, ![16384, 128]⟩
abbrev S128x512 : Shape := ⟨2, ![128, 512]⟩
abbrev S256x128 : Shape := ⟨2, ![256, 128]⟩
abbrev S1x512 : Shape := ⟨2, ![1, 512]⟩
abbrev S512x512 : Shape := ⟨2, ![512, 512]⟩
abbrev S128 : Shape := ⟨1, ![128]⟩
abbrev S_ : Shape := ⟨0, ![]⟩
abbrev S4x4 : Shape := ⟨2, ![4, 4]⟩
abbrev S4x1x4x1 : Shape := ⟨4, ![4, 1, 4, 1]⟩
abbrev S1x128x1x1 : Shape := ⟨4, ![1, 128, 1, 1]⟩
abbrev S4x128x4x1 : Shape := ⟨4, ![4, 128, 4, 1]⟩
abbrev S16384x64 : Shape := ⟨2, ![16384, 64]⟩
abbrev S16384x32 : Shape := ⟨2, ![16384, 32]⟩
abbrev S4x128 : Shape := ⟨2, ![4, 128]⟩
abbrev S4x64 : Shape := ⟨2, ![4, 64]⟩
abbrev S4x128x4x128 : Shape := ⟨4, ![4, 128, 4, 128]⟩
abbrev S4x128x4x64 : Shape := ⟨4, ![4, 128, 4, 64]⟩

class Facts : Prop where
  bcast_S_S128 : S_.BroadcastsInDim S128 (![] : Fin 0 → Fin S128.rank)
  bcast_S_S4x4 : S_.BroadcastsInDim S4x4 (![] : Fin 0 → Fin S4x4.rank)
  bcast_S4x4_S4x1x4x1_0_2 : S4x4.BroadcastsInDim S4x1x4x1 (![0, 2] : Fin 2 → Fin S4x1x4x1.rank)
  bcast_S128_S1x128x1x1_1 : S128.BroadcastsInDim S1x128x1x1 (![1] : Fin 1 → Fin S1x128x1x1.rank)
  bcast_S4x1x4x1_S4x128x4x1_0_1_2_3 : S4x1x4x1.BroadcastsInDim S4x128x4x1 (![0, 1, 2, 3] : Fin 4 → Fin S4x128x4x1.rank)
  bcast_S1x128x1x1_S4x128x4x1_0_1_2_3 : S1x128x1x1.BroadcastsInDim S4x128x4x1 (![0, 1, 2, 3] : Fin 4 → Fin S4x128x4x1.rank)
  slices_S16384x128_S16384x64_0_0 : S16384x128.Slices ![0, 0] S16384x64
  bcast_S_S16384x64 : S_.BroadcastsInDim S16384x64 (![] : Fin 0 → Fin S16384x64.rank)
  slices_S16384x128_S16384x32_0_96 : S16384x128.Slices ![0, 96] S16384x32
  bcast_S_S16384x32 : S_.BroadcastsInDim S16384x32 (![] : Fin 0 → Fin S16384x32.rank)
  shapeCasts_S1x512_S4x128 : S1x512.ShapeCasts S4x128
  slices_S4x128_S4x64_0_64 : S4x128.Slices ![0, 64] S4x64
  bcast_S_S4x64 : S_.BroadcastsInDim S4x64 (![] : Fin 0 → Fin S4x64.rank)
  bitsLt_bf16_f32 : FTy.bits .bf16 < FTy.bits .f32
  shapeCasts_S512x512_S4x128x4x128 : S512x512.ShapeCasts S4x128x4x128
  slices_S4x128x4x128_S4x128x4x64_0_0_0_0 : S4x128x4x128.Slices ![0, 0, 0, 0] S4x128x4x64
  bcast_S4x128x4x1_S4x128x4x64_0_1_2_3 : S4x128x4x1.BroadcastsInDim S4x128x4x64 (![0, 1, 2, 3] : Fin 4 → Fin S4x128x4x64.rank)
  slices_S4x128_S4x64_0_0 : S4x128.Slices ![0, 0] S4x64

variable [Facts]

def fn_part1 {F : FTy → Type} [FloatOps F] (main_arg4 : FVec F S1x512 .f32) (main_arg5 : FVec F S512x512 .bf16) (main_arg6 : FVec F S1x512 .f32) (main_v14 : FVec F S4x128x4x1 .f32) (main_v17 : IVec S16384x64 1) (main_v18 : FVec F S16384x32 .f32) (main_v19 : FVec F S16384x32 .f32) : IVec S16384x64 1 × IVec S16384x32 1 × IVec S4x64 1 × IVec S4x128x4x64 1 × IVec S4x64 1 :=
  let main_v20 : IVec S16384x32 1 := cmpf .oeq main_v18 main_v19
  let main_v21 : FVec F S4x128 .f32 := shapeCast S4x128 main_arg4 shapeCasts_S1x512_S4x128
  let main_v22 : FVec F S4x64 .f32 := (extractStridedSlice S4x64 ![0, 64] · slices_S4x128_S4x64_0_64) main_v21
  let main_cst_2 : FVec F S_ .f32 := constant S_ .f32 0x00000000#32
  let main_v23 : FVec F S4x64 .f32 := broadcastInDim S4x64 ![] bcast_S_S4x64 main_cst_2
  let main_v24 : IVec S4x64 1 := cmpf .oeq main_v22 main_v23
  let main_v25 : FVec F S512x512 .f32 := (extf .f32 · bitsLt_bf16_f32) main_arg5
  let main_v26 : FVec F S4x128x4x128 .f32 := shapeCast S4x128x4x128 main_v25 shapeCasts_S512x512_S4x128x4x128
  let main_v27 : FVec F S4x128x4x64 .f32 := (extractStridedSlice S4x128x4x64 ![0, 0, 0, 0] · slices_S4x128x4x128_S4x128x4x64_0_0_0_0) main_v26
  let main_v28 : FVec F S4x128x4x64 .f32 := broadcastInDim S4x128x4x64 ![0, 1, 2, 3] bcast_S4x128x4x1_S4x128x4x64_0_1_2_3 main_v14
  let main_v29 : IVec S4x128x4x64 1 := cmpf .oeq main_v27 main_v28
  let main_v30 : FVec F S4x128 .f32 := shapeCast S4x128 main_arg6 shapeCasts_S1x512_S4x128
  let main_v31 : FVec F S4x64 .f32 := (extractStridedSlice S4x64 ![0, 0] · slices_S4x128_S4x64_0_0) main_v30
  let main_cst_3 : FVec F S_ .f32 := constant S_ .f32 0x3C800000#32
  let main_v32 : FVec F S4x64 .f32 := broadcastInDim S4x64 ![] bcast_S_S4x64 main_cst_3
  let main_v33 : IVec S4x64 1 := cmpf .oeq main_v31 main_v32
  (main_v17, main_v20, main_v24, main_v29, main_v33)

def fn {F : FTy → Type} [FloatOps F] (main_arg0 : FVec F S16384x128 .f32) (main_arg1 : FVec F S16384x128 .f32) (main_arg2 : FVec F S128x512 .bf16) (main_arg3 : FVec F S256x128 .bf16) (main_arg4 : FVec F S1x512 .f32) (main_arg5 : FVec F S512x512 .bf16) (main_arg6 : FVec F S1x512 .f32) : IVec S16384x64 1 × IVec S16384x32 1 × IVec S4x64 1 × IVec S4x128x4x64 1 × IVec S4x64 1 :=
  let main_v0 : IVec S128 32 := iotaInDim S128 32 0
  let main_c : IVec S_ 32 := constantI S_ 32 64#32
  let main_v1 : IVec S128 32 := broadcastInDim S128 ![] bcast_S_S128 main_c
  let main_v2 : IVec S128 1 := cmpi .slt main_v0 main_v1
  let main_v3 : FVec F S128 .f32 := uitofp .f32 main_v2
  let main_v4 : IVec S4x4 32 := iotaInDim S4x4 32 0
  let main_v5 : IVec S4x4 32 := iotaInDim S4x4 32 1
  let main_c_0 : IVec S_ 32 := constantI S_ 32 0#32
  let main_v6 : IVec S4x4 32 := broadcastInDim S4x4 ![] bcast_S_S4x4 main_c_0
  let main_v7 : IVec S4x4 32 := addi main_v4 main_v6
  let main_v8 : IVec S4x4 1 := cmpi .eq main_v7 main_v5
  let main_v9 : FVec F S4x4 .f32 := uitofp .f32 main_v8
  let main_v10 : FVec F S4x1x4x1 .f32 := broadcastInDim S4x1x4x1 ![0, 2] bcast_S4x4_S4x1x4x1_0_2 main_v9
  let main_v11 : FVec F S1x128x1x1 .f32 := broadcastInDim S1x128x1x1 ![1] bcast_S128_S1x128x1x1_1 main_v3
  let main_v12 : FVec F S4x128x4x1 .f32 := broadcastInDim S4x128x4x1 ![0, 1, 2, 3] bcast_S4x1x4x1_S4x128x4x1_0_1_2_3 main_v10
  let main_v13 : FVec F S4x128x4x1 .f32 := broadcastInDim S4x128x4x1 ![0, 1, 2, 3] bcast_S1x128x1x1_S4x128x4x1_0_1_2_3 main_v11
  let main_v14 : FVec F S4x128x4x1 .f32 := mulf main_v12 main_v13
  let main_v15 : FVec F S16384x64 .f32 := (extractStridedSlice S16384x64 ![0, 0] · slices_S16384x128_S16384x64_0_0) main_arg1
  let main_cst : FVec F S_ .f32 := constant S_ .f32 0x00000000#32
  let main_v16 : FVec F S16384x64 .f32 := broadcastInDim S16384x64 ![] bcast_S_S16384x64 main_cst
  let main_v17 : IVec S16384x64 1 := cmpf .oeq main_v15 main_v16
  let main_v18 : FVec F S16384x32 .f32 := (extractStridedSlice S16384x32 ![0, 96] · slices_S16384x128_S16384x32_0_96) main_arg1
  let main_cst_1 : FVec F S_ .f32 := constant S_ .f32 0x00000000#32
  let main_v19 : FVec F S16384x32 .f32 := broadcastInDim S16384x32 ![] bcast_S_S16384x32 main_cst_1
  fn_part1 (F := F) main_arg4 main_arg5 main_arg6 main_v14 main_v17 main_v18 main_v19
-- ==== Pre_proper.lean ====
abbrev S2x4x256 : Shape := ⟨3, ![2, 4, 256]⟩
abbrev S_ : Shape := ⟨0, ![]⟩
abbrev S2x256 : Shape := ⟨2, ![2, 256]⟩

class Facts : Prop where
  bcast_S_S2x4x256 : S_.BroadcastsInDim S2x4x256 (![] : Fin 0 → Fin S2x4x256.rank)
  reducesTo_S2x4x256_S2x256_d1 : S2x4x256.ReducesTo [1] S2x256
  h_S_ : 0 < S_.numel
  bcast_S_S2x256 : S_.BroadcastsInDim S2x256 (![] : Fin 0 → Fin S2x256.rank)

variable [Facts]

def fn {F : FTy → Type} [FloatOps F] (main_arg0 : FVec F S2x4x256 .f32) : IVec S2x4x256 1 × IVec S2x256 1 :=
  let main_cst : FVec F S_ .f32 := constant S_ .f32 0x7F800000#32
  let main_v0 : FVec F S2x4x256 .f32 := broadcastInDim S2x4x256 ![] bcast_S_S2x4x256 main_cst
  let main_v1 : IVec S2x4x256 1 := cmpf .olt main_arg0 main_v0
  let main_cst_0 : FVec F S_ .f32 := constant S_ .f32 0xFF800000#32
  let main_v2 : FVec F S2x256 .f32 := (fun x v => Host.reduce FloatOps.maximumf x v reducesTo_S2x4x256_S2x256_d1 h_S_) main_arg0 main_cst_0
  let main_cst_1 : FVec F S_ .f32 := constant S_ .f32 0xFF800000#32
  let main_v3 : FVec F S2x256 .f32 := broadcastInDim S2x256 ![] bcast_S_S2x256 main_cst_1
  let main_v4 : IVec S2x256 1 := cmpf .ogt main_v2 main_v3
  (main_v1, main_v4)
-- ==== Pre_under.lean ====
abbrev S8192x128 : Shape := ⟨2, ![8192, 128]⟩
abbrev S8192x256 : Shape := ⟨2, ![8192, 256]⟩
abbrev S128x64 : Shape := ⟨2, ![128, 64]⟩
abbrev S1x64 : Shape := ⟨2, ![1, 64]⟩
abbrev S64x64 : Shape := ⟨2, ![64, 64]⟩
abbrev S2x64x512 : Shape := ⟨3, ![2, 64, 512]⟩
abbrev S2x64 : Shape := ⟨2, ![2, 64]⟩
abbrev S_ : Shape := ⟨0, ![]⟩

class Facts : Prop where
  bcast_S_S2x64x512 : S_.BroadcastsInDim S2x64x512 (![] : Fin 0 → Fin S2x64x512.rank)

variable [Facts]

def fn {F : FTy → Type} [FloatOps F] (main_arg0 : FVec F S8192x128 .f32) (main_arg1 : FVec F S8192x256 .f32) (main_arg2 : FVec F S128x64 .f32) (main_arg3 : FVec F S1x64 .f32) (main_arg4 : FVec F S64x64 .f32) (main_arg5 : FVec F S1x64 .f32) (main_arg6 : FVec F S2x64x512 .f32) (main_arg7 : FVec F S2x64 .f32) : IVec S2x64x512 1 :=
  let main_cst : FVec F S_ .f32 := constant S_ .f32 0x7F800000#32
  let main_v0 : FVec F S2x64x512 .f32 := broadcastInDim S2x64x512 ![] bcast_S_S2x64x512 main_cst
  let main_v1 : IVec S2x64x512 1 := cmpf .olt main_arg6 main_v0
  main_v1
-- ==== Kernel.lean ====
abbrev S16384x512 : Shape := ⟨2, ![16384, 512]⟩
abbrev S4x4096x512 : Shape := ⟨3, ![4, 4096, 512]⟩
abbrev S4x512x512 : Shape := ⟨3, ![4, 512, 512]⟩
abbrev S4x4x80x4096 : Shape := ⟨4, ![4, 4, 80, 4096]⟩
abbrev S4x4x80x512 : Shape := ⟨4, ![4, 4, 80, 512]⟩
abbrev S4x256x4096 : Shape := ⟨3, ![4, 256, 4096]⟩
abbrev S256x128 : Shape := ⟨2, ![256, 128]⟩
abbrev S1x4096x128 : Shape := ⟨3, ![1, 4096, 128]⟩
abbrev S1x512x128 : Shape := ⟨3, ![1, 512, 128]⟩
abbrev S1x1x80x4096 : Shape := ⟨4, ![1, 1, 80, 4096]⟩
abbrev S1x1x80x512 : Shape := ⟨4, ![1, 1, 80, 512]⟩
abbrev S1x64x256 : Shape := ⟨3, ![1, 64, 256]⟩
abbrev S1x256x128 : Shape := ⟨3, ![1, 256, 128]⟩
abbrev S256x256 : Shape := ⟨2, ![256, 256]⟩
abbrev S256 : Shape := ⟨1, ![256]⟩
abbrev S1x256 : Shape := ⟨2, ![1, 256]⟩
abbrev S1x1x80x256 : Shape := ⟨4, ![1, 1, 80, 256]⟩
abbrev S80x256 : Shape := ⟨2, ![80, 256]⟩
abbrev S64x256 : Shape := ⟨2, ![64, 256]⟩

abbrev nBuf : Space → Nat
  | .hbm => 6
  | .vmem => 12
  | .smem => 0
  | _ => 0

abbrev bufTy : (tb : Table) → Fin (tcTables nBuf tb) → BufTy
  | .hbm, ⟨0, _⟩ => ⟨S16384x512, .bf16⟩
  | .hbm, ⟨1, _⟩ => ⟨S4x4096x512, .bf16⟩
  | .hbm, ⟨2, _⟩ => ⟨S4x512x512, .bf16⟩
  | .hbm, ⟨3, _⟩ => ⟨S4x4x80x4096, .bf16⟩
  | .hbm, ⟨4, _⟩ => ⟨S4x4x80x512, .bf16⟩
  | .hbm, ⟨5, _⟩ => ⟨S4x256x4096, .f32⟩
  | .local _ .vmem, ⟨0, _⟩ => ⟨S256x128, .bf16⟩
  | .local _ .vmem, ⟨1, _⟩ => ⟨S256x128, .bf16⟩
  | .local _ .vmem, ⟨2, _⟩ => ⟨S1x4096x128, .bf16⟩
  | .local _ .vmem, ⟨3, _⟩ => ⟨S1x4096x128, .bf16⟩
  | .local _ .vmem, ⟨4, _⟩ => ⟨S1x512x128, .bf16⟩
  | .local _ .vmem, ⟨5, _⟩ => ⟨S1x512x128, .bf16⟩
  | .local _ .vmem, ⟨6, _⟩ => ⟨S1x1x80x4096, .bf16⟩
  | .local _ .vmem, ⟨7, _⟩ => ⟨S1x1x80x4096, .bf16⟩
  | .local _ .vmem, ⟨8, _⟩ => ⟨S1x1x80x512, .bf16⟩
  | .local _ .vmem, ⟨9, _⟩ => ⟨S1x1x80x512, .bf16⟩
  | .local _ .vmem, ⟨10, _⟩ => ⟨S1x64x256, .f32⟩
  | .local _ .vmem, ⟨11, _⟩ => ⟨S1x64x256, .f32⟩
  | _, _ => ⟨S16384x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 4, 16], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x80x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x1x80x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x64x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== ReferenceIdeal.lean ====
abbrev S16384x512 : Shape := ⟨2, ![16384, 512]⟩
abbrev S4x4096x512 : Shape := ⟨3, ![4, 4096, 512]⟩
abbrev S4x512x512 : Shape := ⟨3, ![4, 512, 512]⟩
abbrev S4x4x80x4096 : Shape := ⟨4, ![4, 4, 80, 4096]⟩
abbrev S4x4x80x512 : Shape := ⟨4, ![4, 4, 80, 512]⟩
abbrev S4x4096x4x128 : Shape := ⟨4, ![4, 4096, 4, 128]⟩
abbrev S4x4608x512 : Shape := ⟨3, ![4, 4608, 512]⟩
abbrev S4x4608x4x128 : Shape := ⟨4, ![4, 4608, 4, 128]⟩
abbrev S4x4x64x4096 : Shape := ⟨4, ![4, 4, 64, 4096]⟩
abbrev S4x4x64x512 : Shape := ⟨4, ![4, 4, 64, 512]⟩
abbrev S4x4x64x4608 : Shape := ⟨4, ![4, 4, 64, 4608]⟩
abbrev S4x4x4096x4608 : Shape := ⟨4, ![4, 4, 4096, 4608]⟩
abbrev S_ : Shape := ⟨0, ![]⟩
abbrev S4x4x4096 : Shape := ⟨3, ![4, 4, 4096]⟩
abbrev S4x4x4096x1 : Shape := ⟨4, ![4, 4, 4096, 1]⟩
abbrev S4x256x4096 : Shape := ⟨3, ![4, 256, 4096]⟩

abbrev nBuf : Space → Nat
  | .hbm => 37
  | .vmem => 0
  | .smem => 0
  | _ => 0

abbrev bufTy : (tb : Table) → Fin (tcTables nBuf tb) → BufTy
  | .hbm, ⟨0, _⟩ => ⟨S16384x512, .bf16⟩
  | .hbm, ⟨1, _⟩ => ⟨S4x4096x512, .bf16⟩
  | .hbm, ⟨2, _⟩ => ⟨S4x512x512, .bf16⟩
  | .hbm, ⟨3, _⟩ => ⟨S4x4x80x4096, .bf16⟩
  | .hbm, ⟨4, _⟩ => ⟨S4x4x80x512, .bf16⟩
  | .hbm, ⟨5, _⟩ => ⟨S16384x512, .f32⟩
  | .hbm, ⟨6, _⟩ => ⟨S4x4096x4x128, .f32⟩
  | .hbm, ⟨7, _⟩ => ⟨S4x4096x512, .f32⟩
  | .hbm, ⟨8, _⟩ => ⟨S4x512x512, .f32⟩
  | .hbm, ⟨9, _⟩ => ⟨S4x4608x512, .f32⟩
  | .hbm, ⟨10, _⟩ => ⟨S4x4608x4x128, .f32⟩
  | .hbm, ⟨11, _⟩ => ⟨S4x4x80x4096, .f32⟩
  | .hbm, ⟨12, _⟩ => ⟨S4x4x64x4096, .f32⟩
  | .hbm, ⟨13, _⟩ => ⟨S4x4x80x512, .f32⟩
  | .hbm, ⟨14, _⟩ => ⟨S4x4x64x512, .f32⟩
  | .hbm, ⟨15, _⟩ => ⟨S4x4x64x4608, .f32⟩
  | .hbm, ⟨16, _⟩ => ⟨S4x4x4096x4608, .f32⟩
  | .hbm, ⟨17, _⟩ => ⟨S_, .f32⟩
  | .hbm, ⟨18, _⟩ => ⟨S_, .f32⟩
  | .hbm, ⟨19, _⟩ => ⟨S4x4x4096x4608, .f32⟩
  | .hbm, ⟨20, _⟩ => ⟨S4x4x4096x4608, .f32⟩
  | .hbm, ⟨21, _⟩ => ⟨S_, .f32⟩
  | .hbm, ⟨22, _⟩ => ⟨S4x4x4096, .f32⟩
  | .hbm, ⟨23, _⟩ => ⟨S_, .f32⟩
  | .hbm, ⟨24, _⟩ => ⟨S4x4x4096, .f32⟩
  | .hbm, ⟨25, _⟩ => ⟨S4x4x4096, .f32⟩
  | .hbm, ⟨26, _⟩ => ⟨S4x4x4096x1, .f32⟩
  | .hbm, ⟨27, _⟩ => ⟨S4x4x4096x4608, .f32⟩
  | .hbm, ⟨28, _⟩ => ⟨S4x4x4096x4608, .f32⟩
  | .hbm, ⟨29, _⟩ => ⟨S4x4x4096x4608, .f32⟩
  | .hbm, ⟨30, _⟩ => ⟨S_, .f32⟩
  | .hbm, ⟨31, _⟩ => ⟨S4x4x4096, .f32⟩
  | .hbm, ⟨32, _⟩ => ⟨S4x4x4096x1, .f32⟩
  | .hbm, ⟨33, _⟩ => ⟨S4x4x4096x4608, .f32⟩
  | .hbm, ⟨34, _⟩ => ⟨S4x4x4096x4608, .f32⟩
  | .hbm, ⟨35, _⟩ => ⟨S4x4x64x4096, .f32⟩
  | .hbm, ⟨36, _⟩ => ⟨S4x256x4096, .f32⟩
  | _, _ => ⟨S16384x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_0 : Ref sig .tc := ⟨.hbm, 21, rfl⟩
abbrev main_v15 : Ref sig .tc := ⟨.hbm, 22, rfl⟩
abbrev main_cst_1 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_2 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩

abbrev nD : Nat := 1
abbrev τ : Topo := Topo.v7x

variable {F : FTy → Type} [FloatOps F]
-- ==== Kernel2.lean ====
abbrev S16384x1024 : Shape := ⟨2, ![16384, 1024]⟩
abbrev S4x3x1024 : Shape := ⟨3, ![4, 3, 1024]⟩
abbrev S1024 : Shape := ⟨1, ![1024]⟩
abbrev S1024x4096 : Shape := ⟨2, ![1024, 4096]⟩
abbrev S1x1024 : Shape := ⟨2, ![1, 1024]⟩
abbrev S16384x4096 : Shape := ⟨2, ![16384, 4096]⟩
abbrev S512x1024 : Shape := ⟨2, ![512, 1024]⟩
abbrev S1x3x1024 : Shape := ⟨3, ![1, 3, 1024]⟩
abbrev S512x4096 : Shape := ⟨2, ![512, 4096]⟩
abbrev S512 : Shape := ⟨1, ![512]⟩
abbrev S512x1 : Shape := ⟨2, ![512, 1]⟩
abbrev S1x1x1024 : Shape := ⟨3, ![1, 1, 1024]⟩

abbrev nBuf : Space → Nat
  | .hbm => 6
  | .vmem => 8
  | .smem => 0
  | _ => 0

abbrev bufTy : (tb : Table) → Fin (tcTables nBuf tb) → BufTy
  | .hbm, ⟨0, _⟩ => ⟨S16384x1024, .f32⟩
  | .hbm, ⟨1, _⟩ => ⟨S4x3x1024, .f32⟩
  | .hbm, ⟨2, _⟩ => ⟨S1024, .f32⟩
  | .hbm, ⟨3, _⟩ => ⟨S1024x4096, .bf16⟩
  | .hbm, ⟨4, _⟩ => ⟨S1x1024, .f32⟩
  | .hbm, ⟨5, _⟩ => ⟨S16384x4096, .f32⟩
  | .local _ .vmem, ⟨0, _⟩ => ⟨S512x1024, .f32⟩
  | .local _ .vmem, ⟨1, _⟩ => ⟨S512x1024, .f32⟩
  | .local _ .vmem, ⟨2, _⟩ => ⟨S1x3x1024, .f32⟩
  | .local _ .vmem, ⟨3, _⟩ => ⟨S1x3x1024, .f32⟩
  | .local _ .vmem, ⟨4, _⟩ => ⟨S1x1024, .f32⟩
  | .local _ .vmem, ⟨5, _⟩ => ⟨S1024x4096, .bf16⟩
  | .local _ .vmem, ⟨6, _⟩ => ⟨S512x4096, .f32⟩
  | .local _ .vmem, ⟨7, _⟩ => ⟨S512x4096, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x3x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference2Ideal.lean ====
abbrev S16384x1024 : Shape := ⟨2, ![16384, 1024]⟩
abbrev S4x3x1024 : Shape := ⟨3, ![4, 3, 1024]⟩
abbrev S1024 : Shape := ⟨1, ![1024]⟩
abbrev S1024x4096 : Shape := ⟨2, ![1024, 4096]⟩
abbrev S4x1x1024 : Shape := ⟨3, ![4, 1, 1024]⟩
abbrev S4x1024 : Shape := ⟨2, ![4, 1024]⟩
abbrev S4x4096x1024 : Shape := ⟨3, ![4, 4096, 1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x4096 : Shape := ⟨3, ![4, 4096, 4096]⟩
abbrev S16384x4096 : Shape := ⟨2, ![16384, 4096]⟩

abbrev nBuf : Space → Nat
  | .hbm => 37
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S4x3x1024, .f32⟩
  | .hbm, ⟨2, _⟩ => ⟨S1024, .f32⟩
  | .hbm, ⟨3, _⟩ => ⟨S1024x4096, .bf16⟩
  | .hbm, ⟨4, _⟩ => ⟨S4x1x1024, .f32⟩
  | .hbm, ⟨5, _⟩ => ⟨S4x1024, .f32⟩
  | .hbm, ⟨6, _⟩ => ⟨S4x1x1024, .f32⟩
  | .hbm, ⟨7, _⟩ => ⟨S4x1x1024, .f32⟩
  | .hbm, ⟨8, _⟩ => ⟨S4x1024, .f32⟩
  | .hbm, ⟨9, _⟩ => ⟨S4x1x1024, .f32⟩
  | .hbm, ⟨10, _⟩ => ⟨S4x4096x1024, .f32⟩
  | .hbm, ⟨11, _⟩ => ⟨S4x4096x1024, .f32⟩
  | .hbm, ⟨12, _⟩ => ⟨S_, .f32⟩
  | .hbm, ⟨13, _⟩ => ⟨S4x4096, .f32⟩
  | .hbm, ⟨14, _⟩ => ⟨S4x4096x1, .f32⟩
  | .hbm, ⟨15, _⟩ => ⟨S_, .f32⟩
  | .hbm, ⟨16, _⟩ => ⟨S4x4096x1, .f32⟩
  | .hbm, ⟨17, _⟩ => ⟨S4x4096x1, .f32⟩
  | .hbm, ⟨18, _⟩ => ⟨S_, .f32⟩
  | .hbm, ⟨19, _⟩ => ⟨S4x4096x1, .f32⟩
  | .hbm, ⟨20, _⟩ => ⟨S4x4096x1, .f32⟩
  | .hbm, ⟨21, _⟩ => ⟨S4x4096x1, .f32⟩
  | .hbm, ⟨22, _⟩ => ⟨S4x4096x1024, .f32⟩
  | .hbm, ⟨23, _⟩ => ⟨S4x4096x1024, .f32⟩
  | .hbm, ⟨24, _⟩ => ⟨S1x1x1024, .f32⟩
  | .hbm, ⟨25, _⟩ => ⟨S4x4096x1024, .f32⟩
  | .hbm, ⟨26, _⟩ => ⟨S4x4096x1024, .f32⟩
  | .hbm, ⟨27, _⟩ => ⟨S_, .f32⟩
  | .hbm, ⟨28, _⟩ => ⟨S4x1x1024, .f32⟩
  | .hbm, ⟨29, _⟩ => ⟨S4x1x1024, .f32⟩
  | .hbm, ⟨30, _⟩ => ⟨S4x4096x1024, .f32⟩
  | .hbm, ⟨31, _⟩ => ⟨S4x4096x1024, .f32⟩
  | .hbm, ⟨32, _⟩ => ⟨S4x4096x1024, .f32⟩
  | .hbm, ⟨33, _⟩ => ⟨S4x4096x1024, .f32⟩
  | .hbm, ⟨34, _⟩ => ⟨S1024x4096, .f32⟩
  | .hbm, ⟨35, _⟩ => ⟨S4x4096x4096, .f32⟩
  | .hbm, ⟨36, _⟩ => ⟨S16384x4096, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩

abbrev nD : Nat := 1
abbrev τ : Topo := Topo.v7x

variable {F : FTy → Type} [FloatOps F]
-- ==== Kernel3.lean ====
abbrev S16384x256 : Shape := ⟨2, ![16384, 256]⟩
abbrev S4x4096x256 : Shape := ⟨3, ![4, 4096, 256]⟩
abbrev S4x512x256 : Shape := ⟨3, ![4, 512, 256]⟩
abbrev S4x4x80x4096 : Shape := ⟨4, ![4, 4, 80, 4096]⟩
abbrev S4x4x80x512 : Shape := ⟨4, ![4, 4, 80, 512]⟩
abbrev S4x32 : Shape := ⟨2, ![4, 32]⟩
abbrev S64x1 : Shape := ⟨2, ![64, 1]⟩
abbrev S4x256x4096 : Shape := ⟨3, ![4, 256, 4096]⟩
abbrev S512x128 : Shape := ⟨2, ![512, 128]⟩
abbrev S1x4096x128 : Shape := ⟨3, ![1, 4096, 128]⟩
abbrev S1x512x128 : Shape := ⟨3, ![1, 512, 128]⟩
abbrev S1x1x80x4096 : Shape := ⟨4, ![1, 1, 80, 4096]⟩
abbrev S1x1x80x512 : Shape := ⟨4, ![1, 1, 80, 512]⟩
abbrev S1x64x512 : Shape := ⟨3, ![1, 64, 512]⟩
abbrev S1x32 : Shape := ⟨2, ![1, 32]⟩
abbrev S1 : Shape := ⟨1, ![1]⟩
abbrev S1x1 : Shape := ⟨2, ![1, 1]⟩
abbrev S1x256x128 : Shape := ⟨3, ![1, 256, 128]⟩
abbrev S256x128 : Shape := ⟨2, ![256, 128]⟩
abbrev S256x512 : Shape := ⟨2, ![256, 512]⟩
abbrev S512 : Shape := ⟨1, ![512]⟩
abbrev S1x512 : Shape := ⟨2, ![1, 512]⟩
abbrev S1x1x80x256 : Shape := ⟨4, ![1, 1, 80, 256]⟩
abbrev S80x256 : Shape := ⟨2, ![80, 256]⟩
abbrev S80x512 : Shape := ⟨2, ![80, 512]⟩
abbrev S64x512 : Shape := ⟨2, ![64, 512]⟩

abbrev nBuf : Space → Nat
  | .hbm => 8
  | .vmem => 14
  | .smem => 0
  | _ => 0

abbrev bufTy : (tb : Table) → Fin (tcTables nBuf tb) → BufTy
  | .hbm, ⟨0, _⟩ => ⟨S16384x256, .bf16⟩
  | .hbm, ⟨1, _⟩ => ⟨S4x4096x256, .bf16⟩
  | .hbm, ⟨2, _⟩ => ⟨S4x512x256, .bf16⟩
  | .hbm, ⟨3, _⟩ => ⟨S4x4x80x4096, .bf16⟩
  | .hbm, ⟨4, _⟩ => ⟨S4x4x80x512, .bf16⟩
  | .hbm, ⟨5, _⟩ => ⟨S4x32, .f32⟩
  | .hbm, ⟨6, _⟩ => ⟨S64x1, .f32⟩
  | .hbm, ⟨7, _⟩ => ⟨S4x256x4096, .f32⟩
  | .local _ .vmem, ⟨0, _⟩ => ⟨S512x128, .bf16⟩
  | .local _ .vmem, ⟨1, _⟩ => ⟨S512x128, .bf16⟩
  | .local _ .vmem, ⟨2, _⟩ => ⟨S1x4096x128, .bf16⟩
  | .local _ .vmem, ⟨3, _⟩ => ⟨S1x4096x128, .bf16⟩
  | .local _ .vmem, ⟨4, _⟩ => ⟨S1x512x128, .bf16⟩
  | .local _ .vmem, ⟨5, _⟩ => ⟨S1x512x128, .bf16⟩
  | .local _ .vmem, ⟨6, _⟩ => ⟨S1x1x80x4096, .bf16⟩
  | .local _ .vmem, ⟨7, _⟩ => ⟨S1x1x80x4096, .bf16⟩
  | .local _ .vmem, ⟨8, _⟩ => ⟨S1x1x80x512, .bf16⟩
  | .local _ .vmem, ⟨9, _⟩ => ⟨S1x1x80x512, .bf16⟩
  | .local _ .vmem, ⟨10, _⟩ => ⟨S4x32, .f32⟩
  | .local _ .vmem, ⟨11, _⟩ => ⟨S64x1, .f32⟩
  | .local _ .vmem, ⟨12, _⟩ => ⟨S1x64x512, .f32⟩
  | .local _ .vmem, ⟨13, _⟩ => ⟨S1x64x512, .f32⟩
  | _, _ => ⟨S16384x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨3, ![4, 4, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c2_i32 : BitVec 32 := 2#32
  let v2 : BitVec 32 := Scalar.divsi arg1 c2_i32
  let c0_i32 : BitVec 32 := 0#32
  let v3 : BitVec 1 := Scalar.cmpi .sgt arg1 c0_i32
  let v4 : BitVec 32 := Scalar.extui v3
  let c0_i32_0 : BitVec 32 := 0#32
  let v5 : BitVec 1 := Scalar.cmpi .slt arg1 c0_i32_0
  let v6 : BitVec 32 := Scalar.extui v5
  let v7 : BitVec 32 := Scalar.subi v4 v6
  let c0_i32_1 : BitVec 32 := 0#32
  let v8 : BitVec 1 := Scalar.cmpi .sgt c2_i32 c0_i32_1
  let v9 : BitVec 32 := Scalar.extui v8
  let c0_i32_2 : BitVec 32 := 0#32
  let v10 : BitVec 1 := Scalar.cmpi .slt c2_i32 c0_i32_2
  let v11 : BitVec 32 := Scalar.extui v10
  let v12 : BitVec 32 := Scalar.subi v9 v11
  let v13 : BitVec 1 := Scalar.cmpi .ne v7 v12
  let v14 : BitVec 32 := Scalar.remsi arg1 c2_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c0_i32_4 : BitVec 32 := 0#32
  ![v1.toNat, v18.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![arg0.toNat, c0_i32_4.toNat, v16.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![arg0.toNat, c0_i32_4.toNat, v16.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x80x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x1x80x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 1 → Memref sig .tc .vmem S4x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S64x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 2 → Memref sig .tc .vmem S1x64x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]
-- ==== Reference3Ideal.lean ====
abbrev S16384x256 : Shape := ⟨2, ![16384, 256]⟩
abbrev S4x4096x256 : Shape := ⟨3, ![4, 4096, 256]⟩
abbrev S4x512x256 : Shape := ⟨3, ![4, 512, 256]⟩
abbrev S4x4x80x4096 : Shape := ⟨4, ![4, 4, 80, 4096]⟩
abbrev S4x4x80x512 : Shape := ⟨4, ![4, 4, 80, 512]⟩
abbrev S4x32 : Shape := ⟨2, ![4, 32]⟩
abbrev S64x1 : Shape := ⟨2, ![64, 1]⟩
abbrev S4x4096x4x2x32 : Shape := ⟨5, ![4, 4096, 4, 2, 32]⟩
abbrev S4x4608x256 : Shape := ⟨3, ![4, 4608, 256]⟩
abbrev S4x4608x4x2x32 : Shape := ⟨5, ![4, 4608, 4, 2, 32]⟩
abbrev S4x4x64x4096 : Shape := ⟨4, ![4, 4, 64, 4096]⟩
abbrev S4x4x64x512 : Shape := ⟨4, ![4, 4, 64, 512]⟩
abbrev S4x4x64x4608 : Shape := ⟨4, ![4, 4, 64, 4608]⟩
abbrev S1x32 : Shape := ⟨2, ![1, 32]⟩
abbrev S32 : Shape := ⟨1, ![32]⟩
abbrev S_ : Shape := ⟨0, ![]⟩
abbrev S4x4x2x4096x4608 : Shape := ⟨5, ![4, 4, 2, 4096, 4608]⟩
abbrev S4x4x2x4096 : Shape := ⟨4, ![4, 4, 2, 4096]⟩
abbrev S4x4x2x4096x1 : Shape := ⟨5, ![4, 4, 2, 4096, 1]⟩
abbrev S4x4x1x4096x4608 : Shape := ⟨5, ![4, 4, 1, 4096, 4608]⟩
abbrev S4x4x4096x4608 : Shape := ⟨4, ![4, 4, 4096, 4608]⟩
abbrev S4x4x4096x64 : Shape := ⟨4, ![4, 4, 4096, 64]⟩
abbrev S64 : Shape := ⟨1, ![64]⟩
abbrev S4x4x4096 : Shape := ⟨3, ![4, 4, 4096]⟩
abbrev S4x4x4096x1 : Shape := ⟨4, ![4, 4, 4096, 1]⟩
abbrev S1x1x1x64 : Shape := ⟨4, ![1, 1, 1, 64]⟩
abbrev S4x256x4096 : Shape := ⟨3, ![4, 256, 4096]⟩

abbrev nBuf : Space → Nat
  | .hbm => 86
  | .vmem => 0
  | .smem => 0
  | _ => 0

abbrev bufTy : (tb : Table) → Fin (tcTables nBuf tb) → BufTy
  | .hbm, ⟨0, _⟩ => ⟨S16384x256, .bf16⟩
  | .hbm, ⟨1, _⟩ => ⟨S4x4096x256, .bf16⟩
  | .hbm, ⟨2, _⟩ => ⟨S4x512x256, .bf16⟩
  | .hbm, ⟨3, _⟩ => ⟨S4x4x80x4096, .bf16⟩
  | .hbm, ⟨4, _⟩ => ⟨S4x4x80x512, .bf16⟩
  | .hbm, ⟨5, _⟩ => ⟨S4x32, .f32⟩
  | .hbm, ⟨6, _⟩ => ⟨S64x1, .f32⟩
  | .hbm, ⟨7, _⟩ => ⟨S16384x256, .f32⟩
  | .hbm, ⟨8, _⟩ => ⟨S4x4096x4x2x32, .f32⟩
  | .hbm, ⟨9, _⟩ => ⟨S4x4096x256, .f32⟩
  | .hbm, ⟨10, _⟩ => ⟨S4x512x256, .f32⟩
  | .hbm, ⟨11, _⟩ => ⟨S4x4608x256, .f32⟩
  | .hbm, ⟨12, _⟩ => ⟨S4x4608x4x2x32, .f32⟩
  | .hbm, ⟨13, _⟩ => ⟨S4x4x80x4096, .f32⟩
  | .hbm, ⟨14, _⟩ => ⟨S4x4x64x4096, .f32⟩
  | .hbm, ⟨15, _⟩ => ⟨S4x4x80x512, .f32⟩
  | .hbm, ⟨16, _⟩ => ⟨S4x4x64x512, .f32⟩
  | .hbm, ⟨17, _⟩ => ⟨S4x4x64x4608, .f32⟩
  | .hbm, ⟨18, _⟩ => ⟨S1x32, .f32⟩
  | .hbm, ⟨19, _⟩ => ⟨S32, .f32⟩
  | .hbm, ⟨20, _⟩ => ⟨S1x32, .f32⟩
  | .hbm, ⟨21, _⟩ => ⟨S32, .f32⟩
  | .hbm, ⟨22, _⟩ => ⟨S32, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S1x32, .f32⟩
  | .hbm, ⟨27, _⟩ => ⟨S32, .f32⟩
  | .hbm, ⟨28, _⟩ => ⟨S1x32, .f32⟩
  | .hbm, ⟨29, _⟩ => ⟨S32, .f32⟩
  | .hbm, ⟨30, _⟩ => ⟨S32, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S4x4x2x4096x4608, .f32⟩
  | .hbm, ⟨38, _⟩ => ⟨S_, .f32⟩
  | .hbm, ⟨39, _⟩ => ⟨S_, .f32⟩
  | .hbm, ⟨40, _⟩ => ⟨S4x4x2x4096x4608, .f32⟩
  | .hbm, ⟨41, _⟩ => ⟨S4x4x2x4096x4608, .f32⟩
  | .hbm, ⟨42, _⟩ => ⟨S_, .f32⟩
  | .hbm, ⟨43, _⟩ => ⟨S4x4x2x4096, .f32⟩
  | .hbm, ⟨44, _⟩ => ⟨S_, .f32⟩
  | .hbm, ⟨45, _⟩ => ⟨S4x4x2x4096, .f32⟩
  | .hbm, ⟨46, _⟩ => ⟨S4x4x2x4096, .f32⟩
  | .hbm, ⟨47, _⟩ => ⟨S4x4x2x4096x1, .f32⟩
  | .hbm, ⟨48, _⟩ => ⟨S4x4x2x4096x4608, .f32⟩
  | .hbm, ⟨49, _⟩ => ⟨S4x4x2x4096x4608, .f32⟩
  | .hbm, ⟨50, _⟩ => ⟨S4x4x2x4096x4608, .f32⟩
  | .hbm, ⟨51, _⟩ => ⟨S_, .f32⟩
  | .hbm, ⟨52, _⟩ => ⟨S4x4x2x4096, .f32⟩
  | .hbm, ⟨53, _⟩ => ⟨S4x4x2x4096x1, .f32⟩
  | .hbm, ⟨54, _⟩ => ⟨S4x4x2x4096x4608, .f32⟩
  | .hbm, ⟨55, _⟩ => ⟨S4x4x2x4096x4608, .f32⟩
  | .hbm, ⟨56, _⟩ => ⟨S4x4x1x4096x4608, .f32⟩
  | .hbm, ⟨57, _⟩ => ⟨S4x4x4096x4608, .f32⟩
  | .hbm, ⟨58, _⟩ => ⟨S4x4x1x4096x4608, .f32⟩
  | .hbm, ⟨59, _⟩ => ⟨S4x4x4096x4608, .f32⟩
  | .hbm, ⟨60, _⟩ => ⟨S4x4x4096x4608, .f32⟩
  | .hbm, ⟨61, _⟩ => ⟨S4x4x4096x4608, .f32⟩
  | .hbm, ⟨62, _⟩ => ⟨S4x4x4096x4608, .f32⟩
  | .hbm, ⟨63, _⟩ => ⟨S4x4x4096x64, .f32⟩
  | .hbm, ⟨64, _⟩ => ⟨S64, .f32⟩
  | .hbm, ⟨65, _⟩ => ⟨S4x4x4096x64, .f32⟩
  | .hbm, ⟨66, _⟩ => ⟨S_, .f32⟩
  | .hbm, ⟨67, _⟩ => ⟨S4x4x4096, .f32⟩
  | .hbm, ⟨68, _⟩ => ⟨S4x4x4096x1, .f32⟩
  | .hbm, ⟨69, _⟩ => ⟨S_, .f32⟩
  | .hbm, ⟨70, _⟩ => ⟨S4x4x4096x1, .f32⟩
  | .hbm, ⟨71, _⟩ => ⟨S4x4x4096x1, .f32⟩
  | .hbm, ⟨72, _⟩ => ⟨S_, .f32⟩
  | .hbm, ⟨73, _⟩ => ⟨S4x4x4096x1, .f32⟩
  | .hbm, ⟨74, _⟩ => ⟨S4x4x4096x1, .f32⟩
  | .hbm, ⟨75, _⟩ => ⟨S4x4x4096x1, .f32⟩
  | .hbm, ⟨76, _⟩ => ⟨S4x4x4096x64, .f32⟩
  | .hbm, ⟨77, _⟩ => ⟨S4x4x4096x64, .f32⟩
  | .hbm, ⟨78, _⟩ => ⟨S1x1x1x64, .f32⟩
  | .hbm, ⟨79, _⟩ => ⟨S4x4x4096x64, .f32⟩
  | .hbm, ⟨80, _⟩ => ⟨S4x4x4096x64, .f32⟩
  | .hbm, ⟨81, _⟩ => ⟨S_, .f32⟩
  | .hbm, ⟨82, _⟩ => ⟨S4x4x4096x64, .f32⟩
  | .hbm, ⟨83, _⟩ => ⟨S4x4x4096x64, .f32⟩
  | .hbm, ⟨84, _⟩ => ⟨S4x4x64x4096, .f32⟩
  | .hbm, ⟨85, _⟩ => ⟨S4x256x4096, .f32⟩
  | _, _ => ⟨S16384x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_0 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_1 : Ref sig .tc := ⟨.hbm, 35, rfl⟩
abbrev main_v26 : Ref sig .tc := ⟨.hbm, 36, rfl⟩
abbrev main_v27 : Ref sig .tc := ⟨.hbm, 37, rfl⟩
abbrev main_cst_2 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_3 : Ref sig .tc := ⟨.hbm, 42, rfl⟩
abbrev main_v31 : Ref sig .tc := ⟨.hbm, 43, rfl⟩
abbrev main_cst_4 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_5 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_cst_6 : Ref sig .tc := ⟨.hbm, 66, rfl⟩
abbrev main_v52 : Ref sig .tc := ⟨.hbm, 67, rfl⟩
abbrev main_v53 : Ref sig .tc := ⟨.hbm, 68, rfl⟩
abbrev main_cst_7 : Ref sig .tc := ⟨.hbm, 69, rfl⟩
abbrev main_v54 : Ref sig .tc := ⟨.hbm, 70, rfl⟩
abbrev main_v55 : Ref sig .tc := ⟨.hbm, 71, rfl⟩
abbrev main_cst_8 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_cst_9 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩

abbrev nD : Nat := 1
abbrev τ : Topo := Topo.v7x

variable {F : FTy → Type} [FloatOps F]
-- ==== Kernel4.lean ====
abbrev S16384x1024 : Shape := ⟨2, ![16384, 1024]⟩
abbrev S4x3x1024 : Shape := ⟨3, ![4, 3, 1024]⟩
abbrev S4x256x4096 : Shape := ⟨3, ![4, 256, 4096]⟩
abbrev S16384x256 : Shape := ⟨2, ![16384, 256]⟩
abbrev S16384x4096 : Shape := ⟨2, ![16384, 4096]⟩
abbrev S1x256 : Shape := ⟨2, ![1, 256]⟩
abbrev S256x256 : Shape := ⟨2, ![256, 256]⟩
abbrev S1024x1024 : Shape := ⟨2, ![1024, 1024]⟩
abbrev S512x1024 : Shape := ⟨2, ![512, 1024]⟩
abbrev S1x3x1024 : Shape := ⟨3, ![1, 3, 1024]⟩
abbrev S1x256x512 : Shape := ⟨3, ![1, 256, 512]⟩
abbrev S512x256 : Shape := ⟨2, ![512, 256]⟩
abbrev S256x512 : Shape := ⟨2, ![256, 512]⟩
abbrev S256x1024 : Shape := ⟨2, ![256, 1024]⟩
abbrev S1x1x1024 : Shape := ⟨3, ![1, 1, 1024]⟩
abbrev S1x1024 : Shape := ⟨2, ![1, 1024]⟩

abbrev nBuf : Space → Nat
  | .hbm => 12
  | .vmem => 21
  | .smem => 0
  | _ => 0

abbrev bufTy : (tb : Table) → Fin (tcTables nBuf tb) → BufTy
  | .hbm, ⟨0, _⟩ => ⟨S16384x1024, .f32⟩
  | .hbm, ⟨1, _⟩ => ⟨S4x3x1024, .f32⟩
  | .hbm, ⟨2, _⟩ => ⟨S4x256x4096, .f32⟩
  | .hbm, ⟨3, _⟩ => ⟨S4x256x4096, .f32⟩
  | .hbm, ⟨4, _⟩ => ⟨S16384x256, .f32⟩
  | .hbm, ⟨5, _⟩ => ⟨S16384x256, .f32⟩
  | .hbm, ⟨6, _⟩ => ⟨S16384x256, .f32⟩
  | .hbm, ⟨7, _⟩ => ⟨S16384x4096, .f32⟩
  | .hbm, ⟨8, _⟩ => ⟨S1x256, .f32⟩
  | .hbm, ⟨9, _⟩ => ⟨S256x256, .bf16⟩
  | .hbm, ⟨10, _⟩ => ⟨S1024x1024, .bf16⟩
  | .hbm, ⟨11, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x3x1024, .f32⟩
  | .local _ .vmem, ⟨3, _⟩ => ⟨S1x3x1024, .f32⟩
  | .local _ .vmem, ⟨4, _⟩ => ⟨S1x256x512, .f32⟩
  | .local _ .vmem, ⟨5, _⟩ => ⟨S1x256x512, .f32⟩
  | .local _ .vmem, ⟨6, _⟩ => ⟨S1x256x512, .f32⟩
  | .local _ .vmem, ⟨7, _⟩ => ⟨S1x256x512, .f32⟩
  | .local _ .vmem, ⟨8, _⟩ => ⟨S512x256, .f32⟩
  | .local _ .vmem, ⟨9, _⟩ => ⟨S512x256, .f32⟩
  | .local _ .vmem, ⟨10, _⟩ => ⟨S512x256, .f32⟩
  | .local _ .vmem, ⟨11, _⟩ => ⟨S512x256, .f32⟩
  | .local _ .vmem, ⟨12, _⟩ => ⟨S512x256, .f32⟩
  | .local _ .vmem, ⟨13, _⟩ => ⟨S512x256, .f32⟩
  | .local _ .vmem, ⟨14, _⟩ => ⟨S512x1024, .f32⟩
  | .local _ .vmem, ⟨15, _⟩ => ⟨S512x1024, .f32⟩
  | .local _ .vmem, ⟨16, _⟩ => ⟨S1x256, .f32⟩
  | .local _ .vmem, ⟨17, _⟩ => ⟨S256x256, .bf16⟩
  | .local _ .vmem, ⟨18, _⟩ => ⟨S1024x1024, .bf16⟩
  | .local _ .vmem, ⟨19, _⟩ => ⟨S512x1024, .f32⟩
  | .local _ .vmem, ⟨20, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg11_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem11_1 : DmaSem sig := 20

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_3 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x3x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference4Ideal.lean ====
abbrev S16384x1024 : Shape := ⟨2, ![16384, 1024]⟩
abbrev S4x3x1024 : Shape := ⟨3, ![4, 3, 1024]⟩
abbrev S4x256x4096 : Shape := ⟨3, ![4, 256, 4096]⟩
abbrev S16384x256 : Shape := ⟨2, ![16384, 256]⟩
abbrev S16384x4096 : Shape := ⟨2, ![16384, 4096]⟩
abbrev S1x256 : Shape := ⟨2, ![1, 256]⟩
abbrev S256x256 : Shape := ⟨2, ![256, 256]⟩
abbrev S1024x1024 : Shape := ⟨2, ![1024, 1024]⟩
abbrev S4x4096x256 : Shape := ⟨3, ![4, 4096, 256]⟩
abbrev S4x4096x4x64 : Shape := ⟨4, ![4, 4096, 4, 64]⟩
abbrev S4x64 : Shape := ⟨2, ![4, 64]⟩
abbrev S_ : Shape := ⟨0, ![]⟩
abbrev S4x4096x4 : Shape := ⟨3, ![4, 4096, 4]⟩
abbrev S4x4096x4x1 : Shape := ⟨4, ![4, 4096, 4, 1]⟩
abbrev S1x1x4x64 : Shape := ⟨4, ![1, 1, 4, 64]⟩
abbrev S4x4096x1024 : Shape := ⟨3, ![4, 4096, 1024]⟩
abbrev S4x1x1024 : Shape := ⟨3, ![4, 1, 1024]⟩
abbrev S4x1024 : Shape := ⟨2, ![4, 1024]⟩

abbrev nBuf : Space → Nat
  | .hbm => 57
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S4x3x1024, .f32⟩
  | .hbm, ⟨2, _⟩ => ⟨S4x256x4096, .f32⟩
  | .hbm, ⟨3, _⟩ => ⟨S4x256x4096, .f32⟩
  | .hbm, ⟨4, _⟩ => ⟨S16384x256, .f32⟩
  | .hbm, ⟨5, _⟩ => ⟨S16384x256, .f32⟩
  | .hbm, ⟨6, _⟩ => ⟨S16384x256, .f32⟩
  | .hbm, ⟨7, _⟩ => ⟨S16384x4096, .f32⟩
  | .hbm, ⟨8, _⟩ => ⟨S1x256, .f32⟩
  | .hbm, ⟨9, _⟩ => ⟨S256x256, .bf16⟩
  | .hbm, ⟨10, _⟩ => ⟨S1024x1024, .bf16⟩
  | .hbm, ⟨11, _⟩ => ⟨S4x4096x256, .f32⟩
  | .hbm, ⟨12, _⟩ => ⟨S4x4096x256, .f32⟩
  | .hbm, ⟨13, _⟩ => ⟨S16384x256, .f32⟩
  | .hbm, ⟨14, _⟩ => ⟨S4x4096x4x64, .f32⟩
  | .hbm, ⟨15, _⟩ => ⟨S4x64, .f32⟩
  | .hbm, ⟨16, _⟩ => ⟨S4x4096x4x64, .f32⟩
  | .hbm, ⟨17, _⟩ => ⟨S_, .f32⟩
  | .hbm, ⟨18, _⟩ => ⟨S4x4096x4, .f32⟩
  | .hbm, ⟨19, _⟩ => ⟨S4x4096x4x1, .f32⟩
  | .hbm, ⟨20, _⟩ => ⟨S_, .f32⟩
  | .hbm, ⟨21, _⟩ => ⟨S4x4096x4x1, .f32⟩
  | .hbm, ⟨22, _⟩ => ⟨S4x4096x4x1, .f32⟩
  | .hbm, ⟨23, _⟩ => ⟨S_, .f32⟩
  | .hbm, ⟨24, _⟩ => ⟨S4x4096x4x1, .f32⟩
  | .hbm, ⟨25, _⟩ => ⟨S4x4096x4x1, .f32⟩
  | .hbm, ⟨26, _⟩ => ⟨S4x4096x4x1, .f32⟩
  | .hbm, ⟨27, _⟩ => ⟨S4x4096x4x64, .f32⟩
  | .hbm, ⟨28, _⟩ => ⟨S4x4096x4x64, .f32⟩
  | .hbm, ⟨29, _⟩ => ⟨S1x1x4x64, .f32⟩
  | .hbm, ⟨30, _⟩ => ⟨S4x4096x4x64, .f32⟩
  | .hbm, ⟨31, _⟩ => ⟨S4x4096x4x64, .f32⟩
  | .hbm, ⟨32, _⟩ => ⟨S4x4096x256, .f32⟩
  | .hbm, ⟨33, _⟩ => ⟨S4x4096x256, .f32⟩
  | .hbm, ⟨34, _⟩ => ⟨S4x4096x1024, .f32⟩
  | .hbm, ⟨35, _⟩ => ⟨S16384x1024, .f32⟩
  | .hbm, ⟨36, _⟩ => ⟨S4x4096x1024, .f32⟩
  | .hbm, ⟨37, _⟩ => ⟨S4x4096x1024, .f32⟩
  | .hbm, ⟨38, _⟩ => ⟨S4x4096x1024, .f32⟩
  | .hbm, ⟨39, _⟩ => ⟨S_, .f32⟩
  | .hbm, ⟨40, _⟩ => ⟨S4x4096x1024, .f32⟩
  | .hbm, ⟨41, _⟩ => ⟨S4x4096x1024, .f32⟩
  | .hbm, ⟨42, _⟩ => ⟨S_, .f32⟩
  | .hbm, ⟨43, _⟩ => ⟨S4x4096x1024, .f32⟩
  | .hbm, ⟨44, _⟩ => ⟨S4x4096x1024, .f32⟩
  | .hbm, ⟨45, _⟩ => ⟨S4x4096x1024, .f32⟩
  | .hbm, ⟨46, _⟩ => ⟨S4x4096x1024, .f32⟩
  | .hbm, ⟨47, _⟩ => ⟨S4x4096x1024, .f32⟩
  | .hbm, ⟨48, _⟩ => ⟨S4x1x1024, .f32⟩
  | .hbm, ⟨49, _⟩ => ⟨S4x1024, .f32⟩
  | .hbm, ⟨50, _⟩ => ⟨S4x1x1024, .f32⟩
  | .hbm, ⟨51, _⟩ => ⟨S1024x1024, .f32⟩
  | .hbm, ⟨52, _⟩ => ⟨S4x4096x1024, .f32⟩
  | .hbm, ⟨53, _⟩ => ⟨S4x4096x1024, .f32⟩
  | .hbm, ⟨54, _⟩ => ⟨S4x4096x1024, .f32⟩
  | .hbm, ⟨55, _⟩ => ⟨S4x4096x1024, .f32⟩
  | .hbm, ⟨56, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_cst : Ref sig .tc := ⟨.hbm, 17, rfl⟩
abbrev main_v6 : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_cst_1 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_call0_v0 : Ref sig .tc := ⟨.hbm, 37, rfl⟩
abbrev main_call0_v1 : Ref sig .tc := ⟨.hbm, 38, rfl⟩
abbrev main_call0_cst : Ref sig .tc := ⟨.hbm, 39, rfl⟩
abbrev main_call0_v2 : Ref sig .tc := ⟨.hbm, 40, rfl⟩
abbrev main_call0_v3 : Ref sig .tc := ⟨.hbm, 41, rfl⟩
abbrev main_call0_cst_0 : Ref sig .tc := ⟨.hbm, 42, rfl⟩
abbrev main_call0_v4 : Ref sig .tc := ⟨.hbm, 43, rfl⟩
abbrev main_call0_v5 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩

abbrev nD : Nat := 1
abbrev τ : Topo := Topo.v7x

variable {F : FTy → Type} [FloatOps F]
-- ==== Kernel5.lean ====
abbrev S16384x128 : Shape := ⟨2, ![16384, 128]⟩
abbrev S128x512 : Shape := ⟨2, ![128, 512]⟩
abbrev S256x128 : Shape := ⟨2, ![256, 128]⟩
abbrev S1x512 : Shape := ⟨2, ![1, 512]⟩
abbrev S512x512 : Shape := ⟨2, ![512, 512]⟩
abbrev S16384x512 : Shape := ⟨2, ![16384, 512]⟩
abbrev S4x4x80x4096 : Shape := ⟨4, ![4, 4, 80, 4096]⟩
abbrev S512x128 : Shape := ⟨2, ![512, 128]⟩
abbrev S1x4x80x512 : Shape := ⟨4, ![1, 4, 80, 512]⟩
abbrev S256x512 : Shape := ⟨2, ![256, 512]⟩
abbrev S16x512 : Shape := ⟨2, ![16, 512]⟩
abbrev S64x512 : Shape := ⟨2, ![64, 512]⟩
abbrev S1x1x64x512 : Shape := ⟨4, ![1, 1, 64, 512]⟩
abbrev S1x1x16x512 : Shape := ⟨4, ![1, 1, 16, 512]⟩

abbrev nBuf : Space → Nat
  | .hbm => 9
  | .vmem => 13
  | .smem => 0
  | _ => 0

abbrev bufTy : (tb : Table) → Fin (tcTables nBuf tb) → BufTy
  | .hbm, ⟨0, _⟩ => ⟨S16384x128, .f32⟩
  | .hbm, ⟨1, _⟩ => ⟨S16384x128, .f32⟩
  | .hbm, ⟨2, _⟩ => ⟨S128x512, .bf16⟩
  | .hbm, ⟨3, _⟩ => ⟨S256x128, .bf16⟩
  | .hbm, ⟨4, _⟩ => ⟨S1x512, .f32⟩
  | .hbm, ⟨5, _⟩ => ⟨S512x512, .bf16⟩
  | .hbm, ⟨6, _⟩ => ⟨S1x512, .f32⟩
  | .hbm, ⟨7, _⟩ => ⟨S16384x512, .bf16⟩
  | .hbm, ⟨8, _⟩ => ⟨S4x4x80x4096, .bf16⟩
  | .local _ .vmem, ⟨0, _⟩ => ⟨S512x128, .f32⟩
  | .local _ .vmem, ⟨1, _⟩ => ⟨S512x128, .f32⟩
  | .local _ .vmem, ⟨2, _⟩ => ⟨S512x128, .f32⟩
  | .local _ .vmem, ⟨3, _⟩ => ⟨S512x128, .f32⟩
  | .local _ .vmem, ⟨4, _⟩ => ⟨S128x512, .bf16⟩
  | .local _ .vmem, ⟨5, _⟩ => ⟨S256x128, .bf16⟩
  | .local _ .vmem, ⟨6, _⟩ => ⟨S1x512, .f32⟩
  | .local _ .vmem, ⟨7, _⟩ => ⟨S512x512, .bf16⟩
  | .local _ .vmem, ⟨8, _⟩ => ⟨S1x512, .f32⟩
  | .local _ .vmem, ⟨9, _⟩ => ⟨S512x512, .bf16⟩
  | .local _ .vmem, ⟨10, _⟩ => ⟨S512x512, .bf16⟩
  | .local _ .vmem, ⟨11, _⟩ => ⟨S1x4x80x512, .bf16⟩
  | .local _ .vmem, ⟨12, _⟩ => ⟨S1x4x80x512, .bf16⟩
  | _, _ => ⟨S16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, c0_i32_11.toNat, v26.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x4x80x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference5Ideal.lean ====
abbrev S16384x128 : Shape := ⟨2, ![16384, 128]⟩
abbrev S128x512 : Shape := ⟨2, ![128, 512]⟩
abbrev S256x128 : Shape := ⟨2, ![256, 128]⟩
abbrev S1x512 : Shape := ⟨2, ![1, 512]⟩
abbrev S512x512 : Shape := ⟨2, ![512, 512]⟩
abbrev S4x4096x128 : Shape := ⟨3, ![4, 4096, 128]⟩
abbrev S4x4096x512 : Shape := ⟨3, ![4, 4096, 512]⟩
abbrev S4x4096x4x128 : Shape := ⟨4, ![4, 4096, 4, 128]⟩
abbrev S4x4096x4x64 : Shape := ⟨4, ![4, 4096, 4, 64]⟩
abbrev S4x128 : Shape := ⟨2, ![4, 128]⟩
abbrev S4x64 : Shape := ⟨2, ![4, 64]⟩
abbrev S_ : Shape := ⟨0, ![]⟩
abbrev S4x4096x4 : Shape := ⟨3, ![4, 4096, 4]⟩
abbrev S4x4096x4x1 : Shape := ⟨4, ![4, 4096, 4, 1]⟩
abbrev S1x1x4x64 : Shape := ⟨4, ![1, 1, 4, 64]⟩
abbrev S4x4096x1x128 : Shape := ⟨4, ![4, 4096, 1, 128]⟩
abbrev S4x4096x1x32 : Shape := ⟨4, ![4, 4096, 1, 32]⟩
abbrev S4x4096x4x32 : Shape := ⟨4, ![4, 4096, 4, 32]⟩
abbrev S128x256 : Shape := ⟨2, ![128, 256]⟩
abbrev S4x4096x256 : Shape := ⟨3, ![4, 4096, 256]⟩
abbrev S4x4x64x4096 : Shape := ⟨4, ![4, 4, 64, 4096]⟩
abbrev S4x4x1x4096 : Shape := ⟨4, ![4, 4, 1, 4096]⟩
abbrev S4x4x15x4096 : Shape := ⟨4, ![4, 4, 15, 4096]⟩
abbrev S4x4x80x4096 : Shape := ⟨4, ![4, 4, 80, 4096]⟩
abbrev S16384x512 : Shape := ⟨2, ![16384, 512]⟩

abbrev nBuf : Space → Nat
  | .hbm => 49
  | .vmem => 0
  | .smem => 0
  | _ => 0

abbrev bufTy : (tb : Table) → Fin (tcTables nBuf tb) → BufTy
  | .hbm, ⟨0, _⟩ => ⟨S16384x128, .f32⟩
  | .hbm, ⟨1, _⟩ => ⟨S16384x128, .f32⟩
  | .hbm, ⟨2, _⟩ => ⟨S128x512, .bf16⟩
  | .hbm, ⟨3, _⟩ => ⟨S256x128, .bf16⟩
  | .hbm, ⟨4, _⟩ => ⟨S1x512, .f32⟩
  | .hbm, ⟨5, _⟩ => ⟨S512x512, .bf16⟩
  | .hbm, ⟨6, _⟩ => ⟨S1x512, .f32⟩
  | .hbm, ⟨7, _⟩ => ⟨S4x4096x128, .f32⟩
  | .hbm, ⟨8, _⟩ => ⟨S128x512, .f32⟩
  | .hbm, ⟨9, _⟩ => ⟨S4x4096x512, .f32⟩
  | .hbm, ⟨10, _⟩ => ⟨S4x4096x4x128, .f32⟩
  | .hbm, ⟨11, _⟩ => ⟨S4x4096x4x64, .f32⟩
  | .hbm, ⟨12, _⟩ => ⟨S4x128, .f32⟩
  | .hbm, ⟨13, _⟩ => ⟨S4x64, .f32⟩
  | .hbm, ⟨14, _⟩ => ⟨S4x4096x4x64, .f32⟩
  | .hbm, ⟨15, _⟩ => ⟨S_, .f32⟩
  | .hbm, ⟨16, _⟩ => ⟨S4x4096x4, .f32⟩
  | .hbm, ⟨17, _⟩ => ⟨S4x4096x4x1, .f32⟩
  | .hbm, ⟨18, _⟩ => ⟨S_, .f32⟩
  | .hbm, ⟨19, _⟩ => ⟨S4x4096x4x1, .f32⟩
  | .hbm, ⟨20, _⟩ => ⟨S4x4096x4x1, .f32⟩
  | .hbm, ⟨21, _⟩ => ⟨S_, .f32⟩
  | .hbm, ⟨22, _⟩ => ⟨S4x4096x4x1, .f32⟩
  | .hbm, ⟨23, _⟩ => ⟨S4x4096x4x1, .f32⟩
  | .hbm, ⟨24, _⟩ => ⟨S4x4096x4x1, .f32⟩
  | .hbm, ⟨25, _⟩ => ⟨S4x4096x4x64, .f32⟩
  | .hbm, ⟨26, _⟩ => ⟨S4x4096x4x64, .f32⟩
  | .hbm, ⟨27, _⟩ => ⟨S1x1x4x64, .f32⟩
  | .hbm, ⟨28, _⟩ => ⟨S4x4096x4x64, .f32⟩
  | .hbm, ⟨29, _⟩ => ⟨S4x4096x4x64, .f32⟩
  | .hbm, ⟨30, _⟩ => ⟨S4x4096x1x128, .f32⟩
  | .hbm, ⟨31, _⟩ => ⟨S4x4096x1x32, .f32⟩
  | .hbm, ⟨32, _⟩ => ⟨S4x4096x4x32, .f32⟩
  | .hbm, ⟨33, _⟩ => ⟨S_, .f32⟩
  | .hbm, ⟨34, _⟩ => ⟨S4x4096x4x32, .f32⟩
  | .hbm, ⟨35, _⟩ => ⟨S4x4096x4x128, .f32⟩
  | .hbm, ⟨36, _⟩ => ⟨S256x128, .f32⟩
  | .hbm, ⟨37, _⟩ => ⟨S128x256, .f32⟩
  | .hbm, ⟨38, _⟩ => ⟨S4x4096x256, .f32⟩
  | .hbm, ⟨39, _⟩ => ⟨S4x4096x4x64, .f32⟩
  | .hbm, ⟨40, _⟩ => ⟨S4x4x64x4096, .f32⟩
  | .hbm, ⟨41, _⟩ => ⟨S_, .f32⟩
  | .hbm, ⟨42, _⟩ => ⟨S4x4x1x4096, .f32⟩
  | .hbm, ⟨43, _⟩ => ⟨S_, .f32⟩
  | .hbm, ⟨44, _⟩ => ⟨S4x4x15x4096, .f32⟩
  | .hbm, ⟨45, _⟩ => ⟨S4x4x80x4096, .f32⟩
  | .hbm, ⟨46, _⟩ => ⟨S16384x512, .f32⟩
  | .hbm, ⟨47, _⟩ => ⟨S16384x512, .bf16⟩
  | .hbm, ⟨48, _⟩ => ⟨S4x4x80x4096, .bf16⟩
  | _, _ => ⟨S16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_2 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_3 : Ref sig .tc := ⟨.hbm, 41, rfl⟩
abbrev main_v30 : Ref sig .tc := ⟨.hbm, 42, rfl⟩
abbrev main_cst_4 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩

abbrev nD : Nat := 1
abbrev τ : Topo := Topo.v7x

variable {F : FTy → Type} [FloatOps F]
-- ==== Kernel6.lean ====
abbrev S8x1024 : Shape := ⟨2, ![8, 1024]⟩
abbrev S4x1024x3072 : Shape := ⟨3, ![4, 1024, 3072]⟩
abbrev S4x3072 : Shape := ⟨2, ![4, 3072]⟩
abbrev S4x1x3072 : Shape := ⟨3, ![4, 1, 3072]⟩
abbrev S4x8x3072 : Shape := ⟨3, ![4, 8, 3072]⟩
abbrev S1x1024x1024 : Shape := ⟨3, ![1, 1024, 1024]⟩
abbrev S1x1x1024 : Shape := ⟨3, ![1, 1, 1024]⟩
abbrev S1x8x1024 : Shape := ⟨3, ![1, 8, 1024]⟩
abbrev S1024x1024 : Shape := ⟨2, ![1024, 1024]⟩
abbrev S1x1024 : Shape := ⟨2, ![1, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8x1024, .f32⟩
  | .hbm, ⟨1, _⟩ => ⟨S4x1024x3072, .f32⟩
  | .hbm, ⟨2, _⟩ => ⟨S4x3072, .f32⟩
  | .hbm, ⟨3, _⟩ => ⟨S4x1x3072, .f32⟩
  | .hbm, ⟨4, _⟩ => ⟨S4x8x3072, .f32⟩
  | .local _ .vmem, ⟨0, _⟩ => ⟨S8x1024, .f32⟩
  | .local _ .vmem, ⟨1, _⟩ => ⟨S1x1024x1024, .f32⟩
  | .local _ .vmem, ⟨2, _⟩ => ⟨S1x1024x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x8x1024, .f32⟩
  | .local _ .vmem, ⟨6, _⟩ => ⟨S1x8x1024, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference6Ideal.lean ====
abbrev S8x1024 : Shape := ⟨2, ![8, 1024]⟩
abbrev S4x1024x3072 : Shape := ⟨3, ![4, 1024, 3072]⟩
abbrev S4x3072 : Shape := ⟨2, ![4, 3072]⟩
abbrev S_ : Shape := ⟨0, ![]⟩
abbrev S8x4x3072 : Shape := ⟨3, ![8, 4, 3072]⟩
abbrev S4x8x3072 : Shape := ⟨3, ![4, 8, 3072]⟩
abbrev S4x1x3072 : Shape := ⟨3, ![4, 1, 3072]⟩

abbrev nBuf : Space → Nat
  | .hbm => 17
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S4x1024x3072, .f32⟩
  | .hbm, ⟨2, _⟩ => ⟨S4x3072, .f32⟩
  | .hbm, ⟨3, _⟩ => ⟨S8x1024, .f32⟩
  | .hbm, ⟨4, _⟩ => ⟨S8x1024, .f32⟩
  | .hbm, ⟨5, _⟩ => ⟨S_, .f32⟩
  | .hbm, ⟨6, _⟩ => ⟨S8x1024, .f32⟩
  | .hbm, ⟨7, _⟩ => ⟨S8x1024, .f32⟩
  | .hbm, ⟨8, _⟩ => ⟨S_, .f32⟩
  | .hbm, ⟨9, _⟩ => ⟨S8x1024, .f32⟩
  | .hbm, ⟨10, _⟩ => ⟨S8x1024, .f32⟩
  | .hbm, ⟨11, _⟩ => ⟨S8x1024, .f32⟩
  | .hbm, ⟨12, _⟩ => ⟨S8x4x3072, .f32⟩
  | .hbm, ⟨13, _⟩ => ⟨S4x8x3072, .f32⟩
  | .hbm, ⟨14, _⟩ => ⟨S4x1x3072, .f32⟩
  | .hbm, ⟨15, _⟩ => ⟨S4x8x3072, .f32⟩
  | .hbm, ⟨16, _⟩ => ⟨S4x8x3072, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩

abbrev nD : Nat := 1
abbrev τ : Topo := Topo.v7x

variable {F : FTy → Type} [FloatOps F]
-- ==== Kernel7.lean ====
abbrev S8192x128 : Shape := ⟨2, ![8192, 128]⟩
abbrev S8192x256 : Shape := ⟨2, ![8192, 256]⟩
abbrev S128x64 : Shape := ⟨2, ![128, 64]⟩
abbrev S1x64 : Shape := ⟨2, ![1, 64]⟩
abbrev S64x64 : Shape := ⟨2, ![64, 64]⟩
abbrev S2x64x512 : Shape := ⟨3, ![2, 64, 512]⟩
abbrev S2x64 : Shape := ⟨2, ![2, 64]⟩
abbrev S8192x512 : Shape := ⟨2, ![8192, 512]⟩
abbrev S512x128 : Shape := ⟨2, ![512, 128]⟩
abbrev S1x64x512 : Shape := ⟨3, ![1, 64, 512]⟩
abbrev S512x256 : Shape := ⟨2, ![512, 256]⟩
abbrev S512x512 : Shape := ⟨2, ![512, 512]⟩
abbrev S512x64 : Shape := ⟨2, ![512, 64]⟩
abbrev S64x512 : Shape := ⟨2, ![64, 512]⟩

abbrev nBuf : Space → Nat
  | .hbm => 9
  | .vmem => 13
  | .smem => 0
  | _ => 0

abbrev bufTy : (tb : Table) → Fin (tcTables nBuf tb) → BufTy
  | .hbm, ⟨0, _⟩ => ⟨S8192x128, .f32⟩
  | .hbm, ⟨1, _⟩ => ⟨S8192x256, .f32⟩
  | .hbm, ⟨2, _⟩ => ⟨S128x64, .f32⟩
  | .hbm, ⟨3, _⟩ => ⟨S1x64, .f32⟩
  | .hbm, ⟨4, _⟩ => ⟨S64x64, .f32⟩
  | .hbm, ⟨5, _⟩ => ⟨S1x64, .f32⟩
  | .hbm, ⟨6, _⟩ => ⟨S2x64x512, .f32⟩
  | .hbm, ⟨7, _⟩ => ⟨S2x64, .f32⟩
  | .hbm, ⟨8, _⟩ => ⟨S8192x512, .f32⟩
  | .local _ .vmem, ⟨0, _⟩ => ⟨S512x128, .f32⟩
  | .local _ .vmem, ⟨1, _⟩ => ⟨S512x128, .f32⟩
  | .local _ .vmem, ⟨2, _⟩ => ⟨S128x64, .f32⟩
  | .local _ .vmem, ⟨3, _⟩ => ⟨S1x64, .f32⟩
  | .local _ .vmem, ⟨4, _⟩ => ⟨S64x64, .f32⟩
  | .local _ .vmem, ⟨5, _⟩ => ⟨S1x64, .f32⟩
  | .local _ .vmem, ⟨6, _⟩ => ⟨S1x64x512, .f32⟩
  | .local _ .vmem, ⟨7, _⟩ => ⟨S1x64x512, .f32⟩
  | .local _ .vmem, ⟨8, _⟩ => ⟨S2x64, .f32⟩
  | .local _ .vmem, ⟨9, _⟩ => ⟨S512x256, .f32⟩
  | .local _ .vmem, ⟨10, _⟩ => ⟨S512x256, .f32⟩
  | .local _ .vmem, ⟨11, _⟩ => ⟨S512x512, .f32⟩
  | .local _ .vmem, ⟨12, _⟩ => ⟨S512x512, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x64x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S2x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference7Ideal.lean ====
abbrev S8192x128 : Shape := ⟨2, ![8192, 128]⟩
abbrev S8192x256 : Shape := ⟨2, ![8192, 256]⟩
abbrev S128x64 : Shape := ⟨2, ![128, 64]⟩
abbrev S1x64 : Shape := ⟨2, ![1, 64]⟩
abbrev S64x64 : Shape := ⟨2, ![64, 64]⟩
abbrev S2x64x512 : Shape := ⟨3, ![2, 64, 512]⟩
abbrev S2x64 : Shape := ⟨2, ![2, 64]⟩
abbrev S64 : Shape := ⟨1, ![64]⟩
abbrev S8192x64 : Shape := ⟨2, ![8192, 64]⟩
abbrev S2x4096x64 : Shape := ⟨3, ![2, 4096, 64]⟩
abbrev S2x4096x512 : Shape := ⟨3, ![2, 4096, 512]⟩
abbrev S2x4096x2x256 : Shape := ⟨4, ![2, 4096, 2, 256]⟩
abbrev S2x4096x1x256 : Shape := ⟨4, ![2, 4096, 1, 256]⟩
abbrev S8192x512 : Shape := ⟨2, ![8192, 512]⟩

abbrev nBuf : Space → Nat
  | .hbm => 33
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192x256, .f32⟩
  | .hbm, ⟨2, _⟩ => ⟨S128x64, .f32⟩
  | .hbm, ⟨3, _⟩ => ⟨S1x64, .f32⟩
  | .hbm, ⟨4, _⟩ => ⟨S64x64, .f32⟩
  | .hbm, ⟨5, _⟩ => ⟨S1x64, .f32⟩
  | .hbm, ⟨6, _⟩ => ⟨S2x64x512, .f32⟩
  | .hbm, ⟨7, _⟩ => ⟨S2x64, .f32⟩
  | .hbm, ⟨8, _⟩ => ⟨S1x64, .f32⟩
  | .hbm, ⟨9, _⟩ => ⟨S64, .f32⟩
  | .hbm, ⟨10, _⟩ => ⟨S8192x64, .f32⟩
  | .hbm, ⟨11, _⟩ => ⟨S8192x64, .f32⟩
  | .hbm, ⟨12, _⟩ => ⟨S8192x64, .f32⟩
  | .hbm, ⟨13, _⟩ => ⟨S1x64, .f32⟩
  | .hbm, ⟨14, _⟩ => ⟨S8192x64, .f32⟩
  | .hbm, ⟨15, _⟩ => ⟨S8192x64, .f32⟩
  | .hbm, ⟨16, _⟩ => ⟨S8192x64, .f32⟩
  | .hbm, ⟨17, _⟩ => ⟨S1x64, .f32⟩
  | .hbm, ⟨18, _⟩ => ⟨S64, .f32⟩
  | .hbm, ⟨19, _⟩ => ⟨S8192x64, .f32⟩
  | .hbm, ⟨20, _⟩ => ⟨S8192x64, .f32⟩
  | .hbm, ⟨21, _⟩ => ⟨S8192x64, .f32⟩
  | .hbm, ⟨22, _⟩ => ⟨S1x64, .f32⟩
  | .hbm, ⟨23, _⟩ => ⟨S8192x64, .f32⟩
  | .hbm, ⟨24, _⟩ => ⟨S8192x64, .f32⟩
  | .hbm, ⟨25, _⟩ => ⟨S8192x64, .f32⟩
  | .hbm, ⟨26, _⟩ => ⟨S2x4096x64, .f32⟩
  | .hbm, ⟨27, _⟩ => ⟨S2x4096x512, .f32⟩
  | .hbm, ⟨28, _⟩ => ⟨S2x4096x2x256, .f32⟩
  | .hbm, ⟨29, _⟩ => ⟨S2x4096x1x256, .f32⟩
  | .hbm, ⟨30, _⟩ => ⟨S2x4096x2x256, .f32⟩
  | .hbm, ⟨31, _⟩ => ⟨S2x4096x2x256, .f32⟩
  | .hbm, ⟨32, _⟩ => ⟨S8192x512, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩

abbrev nD : Nat := 1
abbrev τ : Topo := Topo.v7x

variable {F : FTy → Type} [FloatOps F]
-- ==== Kernel8.lean ====
abbrev S16x512x256 : Shape := ⟨3, ![16, 512, 256]⟩
abbrev S16x4x80x512 : Shape := ⟨4, ![16, 4, 80, 512]⟩
abbrev S1x512x256 : Shape := ⟨3, ![1, 512, 256]⟩
abbrev S1x4x80x512 : Shape := ⟨4, ![1, 4, 80, 512]⟩
abbrev S512x256 : Shape := ⟨2, ![512, 256]⟩
abbrev S256x512 : Shape := ⟨2, ![256, 512]⟩
abbrev S16x512 : Shape := ⟨2, ![16, 512]⟩
abbrev S64x512 : Shape := ⟨2, ![64, 512]⟩
abbrev S1x1x64x512 : Shape := ⟨4, ![1, 1, 64, 512]⟩
abbrev S1x1x16x512 : Shape := ⟨4, ![1, 1, 16, 512]⟩

abbrev nBuf : Space → Nat
  | .hbm => 2
  | .vmem => 4
  | .smem => 0
  | _ => 0

abbrev bufTy : (tb : Table) → Fin (tcTables nBuf tb) → BufTy
  | .hbm, ⟨0, _⟩ => ⟨S16x512x256, .bf16⟩
  | .hbm, ⟨1, _⟩ => ⟨S16x4x80x512, .bf16⟩
  | .local _ .vmem, ⟨0, _⟩ => ⟨S1x512x256, .bf16⟩
  | .local _ .vmem, ⟨1, _⟩ => ⟨S1x512x256, .bf16⟩
  | .local _ .vmem, ⟨2, _⟩ => ⟨S1x4x80x512, .bf16⟩
  | .local _ .vmem, ⟨3, _⟩ => ⟨S1x4x80x512, .bf16⟩
  | _, _ => ⟨S16x512x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![16, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

abbrev stage0_0 : Fin 2 → Memref sig .tc .vmem S1x512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4x80x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== Reference8Ideal.lean ====
abbrev S16x512x256 : Shape := ⟨3, ![16, 512, 256]⟩
abbrev S16x512x4x64 : Shape := ⟨4, ![16, 512, 4, 64]⟩
abbrev S16x4x64x512 : Shape := ⟨4, ![16, 4, 64, 512]⟩
abbrev S_ : Shape := ⟨0, ![]⟩
abbrev S16x4x1x512 : Shape := ⟨4, ![16, 4, 1, 512]⟩
abbrev S16x4x15x512 : Shape := ⟨4, ![16, 4, 15, 512]⟩
abbrev S16x4x80x512 : Shape := ⟨4, ![16, 4, 80, 512]⟩

abbrev nBuf : Space → Nat
  | .hbm => 8
  | .vmem => 0
  | .smem => 0
  | _ => 0

abbrev bufTy : (tb : Table) → Fin (tcTables nBuf tb) → BufTy
  | .hbm, ⟨0, _⟩ => ⟨S16x512x256, .bf16⟩
  | .hbm, ⟨1, _⟩ => ⟨S16x512x4x64, .bf16⟩
  | .hbm, ⟨2, _⟩ => ⟨S16x4x64x512, .bf16⟩
  | .hbm, ⟨3, _⟩ => ⟨S_, .bf16⟩
  | .hbm, ⟨4, _⟩ => ⟨S16x4x1x512, .bf16⟩
  | .hbm, ⟨5, _⟩ => ⟨S_, .bf16⟩
  | .hbm, ⟨6, _⟩ => ⟨S16x4x15x512, .bf16⟩
  | .hbm, ⟨7, _⟩ => ⟨S16x4x80x512, .bf16⟩
  | _, _ => ⟨S16x512x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel9.lean ====
abbrev S2x4x256 : Shape := ⟨3, ![2, 4, 256]⟩
abbrev S4x2x256 : Shape := ⟨3, ![4, 2, 256]⟩
abbrev S4x512 : Shape := ⟨2, ![4, 512]⟩
abbrev S1x512 : Shape := ⟨2, ![1, 512]⟩

abbrev nBuf : Space → Nat
  | .hbm => 4
  | .vmem => 2
  | .smem => 0
  | _ => 0

abbrev bufTy : (tb : Table) → Fin (tcTables nBuf tb) → BufTy
  | .hbm, ⟨0, _⟩ => ⟨S2x4x256, .f32⟩
  | .hbm, ⟨1, _⟩ => ⟨S4x2x256, .f32⟩
  | .hbm, ⟨2, _⟩ => ⟨S4x512, .f32⟩
  | .hbm, ⟨3, _⟩ => ⟨S4x512, .f32⟩
  | .local _ .vmem, ⟨0, _⟩ => ⟨S4x512, .f32⟩
  | .local _ .vmem, ⟨1, _⟩ => ⟨S4x512, .f32⟩
  | _, _ => ⟨S2x4x256, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S4x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Reference9Ideal.lean ====
abbrev S2x4x256 : Shape := ⟨3, ![2, 4, 256]⟩
abbrev S_ : Shape := ⟨0, ![]⟩
abbrev S2x256 : Shape := ⟨2, ![2, 256]⟩
abbrev S2x1x256 : Shape := ⟨3, ![2, 1, 256]⟩
abbrev S4x2x256 : Shape := ⟨3, ![4, 2, 256]⟩
abbrev S4x512 : Shape := ⟨2, ![4, 512]⟩

abbrev nBuf : Space → Nat
  | .hbm => 23
  | .vmem => 0
  | .smem => 0
  | _ => 0

abbrev bufTy : (tb : Table) → Fin (tcTables nBuf tb) → BufTy
  | .hbm, ⟨0, _⟩ => ⟨S2x4x256, .f32⟩
  | .hbm, ⟨1, _⟩ => ⟨S_, .f32⟩
  | .hbm, ⟨2, _⟩ => ⟨S2x256, .f32⟩
  | .hbm, ⟨3, _⟩ => ⟨S_, .f32⟩
  | .hbm, ⟨4, _⟩ => ⟨S2x256, .f32⟩
  | .hbm, ⟨5, _⟩ => ⟨S2x256, .f32⟩
  | .hbm, ⟨6, _⟩ => ⟨S2x1x256, .f32⟩
  | .hbm, ⟨7, _⟩ => ⟨S2x4x256, .f32⟩
  | .hbm, ⟨8, _⟩ => ⟨S2x4x256, .f32⟩
  | .hbm, ⟨9, _⟩ => ⟨S2x4x256, .f32⟩
  | .hbm, ⟨10, _⟩ => ⟨S_, .f32⟩
  | .hbm, ⟨11, _⟩ => ⟨S2x256, .f32⟩
  | .hbm, ⟨12, _⟩ => ⟨S2x1x256, .f32⟩
  | .hbm, ⟨13, _⟩ => ⟨S2x4x256, .f32⟩
  | .hbm, ⟨14, _⟩ => ⟨S2x4x256, .f32⟩
  | .hbm, ⟨15, _⟩ => ⟨S_, .f32⟩
  | .hbm, ⟨16, _⟩ => ⟨S_, .f32⟩
  | .hbm, ⟨17, _⟩ => ⟨S2x4x256, .f32⟩
  | .hbm, ⟨18, _⟩ => ⟨S2x1x256, .f32⟩
  | .hbm, ⟨19, _⟩ => ⟨S2x4x256, .f32⟩
  | .hbm, ⟨20, _⟩ => ⟨S2x4x256, .f32⟩
  | .hbm, ⟨21, _⟩ => ⟨S4x2x256, .f32⟩
  | .hbm, ⟨22, _⟩ => ⟨S4x512, .f32⟩
  | _, _ => ⟨S2x4x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_cst_0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_1 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_call0_call0_cst : Ref sig .tc := ⟨.hbm, 15, rfl⟩
abbrev main_call0_call0_v0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== Kernel10.lean ====
abbrev S32x66 : Shape := ⟨2, ![32, 66]⟩
abbrev S4x66x128x256 : Shape := ⟨4, ![4, 66, 128, 256]⟩
abbrev S4x32x128x256 : Shape := ⟨4, ![4, 32, 128, 256]⟩
abbrev S1x256 : Shape := ⟨2, ![1, 256]⟩
abbrev S1x1x256 : Shape := ⟨3, ![1, 1, 256]⟩
abbrev S1x66x64x256 : Shape := ⟨4, ![1, 66, 64, 256]⟩
abbrev S1x32x64x256 : Shape := ⟨4, ![1, 32, 64, 256]⟩
abbrev S66x64x256 : Shape := ⟨3, ![66, 64, 256]⟩
abbrev S32x64x256 : Shape := ⟨3, ![32, 64, 256]⟩

abbrev nBuf : Space → Nat
  | .hbm => 7
  | .vmem => 10
  | .smem => 0
  | _ => 0

abbrev bufTy : (tb : Table) → Fin (tcTables nBuf tb) → BufTy
  | .hbm, ⟨0, _⟩ => ⟨S32x66, .bf16⟩
  | .hbm, ⟨1, _⟩ => ⟨S4x66x128x256, .bf16⟩
  | .hbm, ⟨2, _⟩ => ⟨S4x32x128x256, .f32⟩
  | .hbm, ⟨3, _⟩ => ⟨S4x32x128x256, .f32⟩
  | .hbm, ⟨4, _⟩ => ⟨S1x256, .f32⟩
  | .hbm, ⟨5, _⟩ => ⟨S1x1x256, .f32⟩
  | .hbm, ⟨6, _⟩ => ⟨S4x32x128x256, .f32⟩
  | .local _ .vmem, ⟨0, _⟩ => ⟨S32x66, .bf16⟩
  | .local _ .vmem, ⟨1, _⟩ => ⟨S1x66x64x256, .bf16⟩
  | .local _ .vmem, ⟨2, _⟩ => ⟨S1x66x64x256, .bf16⟩
  | .local _ .vmem, ⟨3, _⟩ => ⟨S1x32x64x256, .f32⟩
  | .local _ .vmem, ⟨4, _⟩ => ⟨S1x32x64x256, .f32⟩
  | .local _ .vmem, ⟨5, _⟩ => ⟨S1x32x64x256, .f32⟩
  | .local _ .vmem, ⟨6, _⟩ => ⟨S1x32x64x256, .f32⟩
  | .local _ .vmem, ⟨7, _⟩ => ⟨S1x1x256, .f32⟩
  | .local _ .vmem, ⟨8, _⟩ => ⟨S1x32x64x256, .f32⟩
  | .local _ .vmem, ⟨9, _⟩ => ⟨S1x32x64x256, .f32⟩
  | _, _ => ⟨S32x66, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 1 → Memref sig .tc .vmem S32x66 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x66x64x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x32x64x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x32x64x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x32x64x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference10Ideal.lean ====
abbrev S32x66 : Shape := ⟨2, ![32, 66]⟩
abbrev S4x66x128x256 : Shape := ⟨4, ![4, 66, 128, 256]⟩
abbrev S4x32x128x256 : Shape := ⟨4, ![4, 32, 128, 256]⟩
abbrev S1x256 : Shape := ⟨2, ![1, 256]⟩
abbrev S4x128x256x32 : Shape := ⟨4, ![4, 128, 256, 32]⟩
abbrev S256 : Shape := ⟨1, ![256]⟩
abbrev S1x1x1x256 : Shape := ⟨4, ![1, 1, 1, 256]⟩

abbrev nBuf : Space → Nat
  | .hbm => 15
  | .vmem => 0
  | .smem => 0
  | _ => 0

abbrev bufTy : (tb : Table) → Fin (tcTables nBuf tb) → BufTy
  | .hbm, ⟨0, _⟩ => ⟨S32x66, .bf16⟩
  | .hbm, ⟨1, _⟩ => ⟨S4x66x128x256, .bf16⟩
  | .hbm, ⟨2, _⟩ => ⟨S4x32x128x256, .f32⟩
  | .hbm, ⟨3, _⟩ => ⟨S4x32x128x256, .f32⟩
  | .hbm, ⟨4, _⟩ => ⟨S1x256, .f32⟩
  | .hbm, ⟨5, _⟩ => ⟨S32x66, .f32⟩
  | .hbm, ⟨6, _⟩ => ⟨S4x66x128x256, .f32⟩
  | .hbm, ⟨7, _⟩ => ⟨S4x128x256x32, .f32⟩
  | .hbm, ⟨8, _⟩ => ⟨S4x32x128x256, .f32⟩
  | .hbm, ⟨9, _⟩ => ⟨S256, .f32⟩
  | .hbm, ⟨10, _⟩ => ⟨S1x1x1x256, .f32⟩
  | .hbm, ⟨11, _⟩ => ⟨S4x32x128x256, .f32⟩
  | .hbm, ⟨12, _⟩ => ⟨S4x32x128x256, .f32⟩
  | .hbm, ⟨13, _⟩ => ⟨S4x32x128x256, .f32⟩
  | .hbm, ⟨14, _⟩ => ⟨S4x32x128x256, .f32⟩
  | _, _ => ⟨S32x66, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]
-- ==== Kernel11.lean ====
abbrev S66x32 : Shape := ⟨2, ![66, 32]⟩
abbrev S4x32x128x256 : Shape := ⟨4, ![4, 32, 128, 256]⟩
abbrev S4x66x128x256 : Shape := ⟨4, ![4, 66, 128, 256]⟩
abbrev S1x32x64x256 : Shape := ⟨4, ![1, 32, 64, 256]⟩
abbrev S1x66x64x256 : Shape := ⟨4, ![1, 66, 64, 256]⟩
abbrev S32x64x256 : Shape := ⟨3, ![32, 64, 256]⟩
abbrev S66x64x256 : Shape := ⟨3, ![66, 64, 256]⟩

abbrev nBuf : Space → Nat
  | .hbm => 3
  | .vmem => 5
  | .smem => 0
  | _ => 0

abbrev bufTy : (tb : Table) → Fin (tcTables nBuf tb) → BufTy
  | .hbm, ⟨0, _⟩ => ⟨S66x32, .bf16⟩
  | .hbm, ⟨1, _⟩ => ⟨S4x32x128x256, .f32⟩
  | .hbm, ⟨2, _⟩ => ⟨S4x66x128x256, .bf16⟩
  | .local _ .vmem, ⟨0, _⟩ => ⟨S66x32, .bf16⟩
  | .local _ .vmem, ⟨1, _⟩ => ⟨S1x32x64x256, .f32⟩
  | .local _ .vmem, ⟨2, _⟩ => ⟨S1x32x64x256, .f32⟩
  | .local _ .vmem, ⟨3, _⟩ => ⟨S1x66x64x256, .bf16⟩
  | .local _ .vmem, ⟨4, _⟩ => ⟨S1x66x64x256, .bf16⟩
  | _, _ => ⟨S66x32, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 1 → Memref sig .tc .vmem S66x32 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x32x64x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x66x64x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference11Ideal.lean ====
abbrev S66x32 : Shape := ⟨2, ![66, 32]⟩
abbrev S4x32x128x256 : Shape := ⟨4, ![4, 32, 128, 256]⟩
abbrev S4x128x256x66 : Shape := ⟨4, ![4, 128, 256, 66]⟩
abbrev S4x66x128x256 : Shape := ⟨4, ![4, 66, 128, 256]⟩

abbrev nBuf : Space → Nat
  | .hbm => 6
  | .vmem => 0
  | .smem => 0
  | _ => 0

abbrev bufTy : (tb : Table) → Fin (tcTables nBuf tb) → BufTy
  | .hbm, ⟨0, _⟩ => ⟨S66x32, .bf16⟩
  | .hbm, ⟨1, _⟩ => ⟨S4x32x128x256, .f32⟩
  | .hbm, ⟨2, _⟩ => ⟨S66x32, .f32⟩
  | .hbm, ⟨3, _⟩ => ⟨S4x128x256x66, .f32⟩
  | .hbm, ⟨4, _⟩ => ⟨S4x66x128x256, .f32⟩
  | .hbm, ⟨5, _⟩ => ⟨S4x66x128x256, .bf16⟩
  | _, _ => ⟨S66x32, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel12.lean ====
abbrev S33x256x256 : Shape := ⟨3, ![33, 256, 256]⟩
abbrev S1x2x33x128x512 : Shape := ⟨5, ![1, 2, 33, 128, 512]⟩
abbrev S3x256x256 : Shape := ⟨3, ![3, 256, 256]⟩
abbrev S1x2x3x128x512 : Shape := ⟨5, ![1, 2, 3, 128, 512]⟩
abbrev S1x1x1x128x512 : Shape := ⟨5, ![1, 1, 1, 128, 512]⟩
abbrev S128x512 : Shape := ⟨2, ![128, 512]⟩
abbrev S256x512 : Shape := ⟨2, ![256, 512]⟩
abbrev S1x256x256 : Shape := ⟨3, ![1, 256, 256]⟩
abbrev S256x256 : Shape := ⟨2, ![256, 256]⟩

abbrev nBuf : Space → Nat
  | .hbm => 3
  | .vmem => 6
  | .smem => 0
  | _ => 0

abbrev bufTy : (tb : Table) → Fin (tcTables nBuf tb) → BufTy
  | .hbm, ⟨0, _⟩ => ⟨S33x256x256, .bf16⟩
  | .hbm, ⟨1, _⟩ => ⟨S1x2x33x128x512, .bf16⟩
  | .hbm, ⟨2, _⟩ => ⟨S1x2x33x128x512, .f32⟩
  | .local _ .vmem, ⟨0, _⟩ => ⟨S3x256x256, .bf16⟩
  | .local _ .vmem, ⟨1, _⟩ => ⟨S3x256x256, .bf16⟩
  | .local _ .vmem, ⟨2, _⟩ => ⟨S1x2x3x128x512, .bf16⟩
  | .local _ .vmem, ⟨3, _⟩ => ⟨S1x2x3x128x512, .bf16⟩
  | .local _ .vmem, ⟨4, _⟩ => ⟨S1x2x3x128x512, .f32⟩
  | .local _ .vmem, ⟨5, _⟩ => ⟨S1x2x3x128x512, .f32⟩
  | _, _ => ⟨S33x256x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![11], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, arg0.toNat, c0_i32_1.toNat, c0_i32_2.toNat]

def cc0_transform_2 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, arg0.toNat, c0_i32_1.toNat, c0_i32_2.toNat]

abbrev stage0_0 : Fin 2 → Memref sig .tc .vmem S3x256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2x3x128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2x3x128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference12Ideal.lean ====
abbrev S33x256x256 : Shape := ⟨3, ![33, 256, 256]⟩
abbrev S1x2x33x128x512 : Shape := ⟨5, ![1, 2, 33, 128, 512]⟩
abbrev S1x33x2x128x512 : Shape := ⟨5, ![1, 33, 2, 128, 512]⟩
abbrev S33x256x512 : Shape := ⟨3, ![33, 256, 512]⟩

abbrev nBuf : Space → Nat
  | .hbm => 9
  | .vmem => 0
  | .smem => 0
  | _ => 0

abbrev bufTy : (tb : Table) → Fin (tcTables nBuf tb) → BufTy
  | .hbm, ⟨0, _⟩ => ⟨S33x256x256, .bf16⟩
  | .hbm, ⟨1, _⟩ => ⟨S1x2x33x128x512, .bf16⟩
  | .hbm, ⟨2, _⟩ => ⟨S1x2x33x128x512, .f32⟩
  | .hbm, ⟨3, _⟩ => ⟨S1x33x2x128x512, .f32⟩
  | .hbm, ⟨4, _⟩ => ⟨S33x256x512, .f32⟩
  | .hbm, ⟨5, _⟩ => ⟨S33x256x256, .f32⟩
  | .hbm, ⟨6, _⟩ => ⟨S33x256x512, .f32⟩
  | .hbm, ⟨7, _⟩ => ⟨S1x33x2x128x512, .f32⟩
  | .hbm, ⟨8, _⟩ => ⟨S1x2x33x128x512, .f32⟩
  | _, _ => ⟨S33x256x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== Kernel13.lean ====
abbrev S33x256x256 : Shape := ⟨3, ![33, 256, 256]⟩
abbrev S4x2x33x128x256 : Shape := ⟨5, ![4, 2, 33, 128, 256]⟩
abbrev S2x33x128x512 : Shape := ⟨4, ![2, 33, 128, 512]⟩
abbrev S3x256x256 : Shape := ⟨3, ![3, 256, 256]⟩
abbrev S4x2x3x128x256 : Shape := ⟨5, ![4, 2, 3, 128, 256]⟩
abbrev S2x3x128x256 : Shape := ⟨4, ![2, 3, 128, 256]⟩
abbrev S1x1x1x128x256 : Shape := ⟨5, ![1, 1, 1, 128, 256]⟩
abbrev S128x256 : Shape := ⟨2, ![128, 256]⟩
abbrev S256x256 : Shape := ⟨2, ![256, 256]⟩
abbrev S1x256x256 : Shape := ⟨3, ![1, 256, 256]⟩
abbrev S1x1x128x256 : Shape := ⟨4, ![1, 1, 128, 256]⟩

abbrev nBuf : Space → Nat
  | .hbm => 5
  | .vmem => 10
  | .smem => 0
  | _ => 0

abbrev bufTy : (tb : Table) → Fin (tcTables nBuf tb) → BufTy
  | .hbm, ⟨0, _⟩ => ⟨S33x256x256, .bf16⟩
  | .hbm, ⟨1, _⟩ => ⟨S33x256x256, .bf16⟩
  | .hbm, ⟨2, _⟩ => ⟨S4x2x33x128x256, .bf16⟩
  | .hbm, ⟨3, _⟩ => ⟨S2x33x128x512, .f32⟩
  | .hbm, ⟨4, _⟩ => ⟨S4x2x33x128x256, .bf16⟩
  | .local _ .vmem, ⟨0, _⟩ => ⟨S3x256x256, .bf16⟩
  | .local _ .vmem, ⟨1, _⟩ => ⟨S3x256x256, .bf16⟩
  | .local _ .vmem, ⟨2, _⟩ => ⟨S3x256x256, .bf16⟩
  | .local _ .vmem, ⟨3, _⟩ => ⟨S3x256x256, .bf16⟩
  | .local _ .vmem, ⟨4, _⟩ => ⟨S4x2x3x128x256, .bf16⟩
  | .local _ .vmem, ⟨5, _⟩ => ⟨S4x2x3x128x256, .bf16⟩
  | .local _ .vmem, ⟨6, _⟩ => ⟨S2x3x128x256, .f32⟩
  | .local _ .vmem, ⟨7, _⟩ => ⟨S2x3x128x256, .f32⟩
  | .local _ .vmem, ⟨8, _⟩ => ⟨S4x2x3x128x256, .bf16⟩
  | .local _ .vmem, ⟨9, _⟩ => ⟨S4x2x3x128x256, .bf16⟩
  | _, _ => ⟨S33x256x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![11], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, arg0.toNat, c0_i32_1.toNat, c0_i32_2.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_4 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, arg0.toNat, c0_i32_1.toNat, c0_i32_2.toNat]

abbrev stage0_0 : Fin 2 → Memref sig .tc .vmem S3x256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x2x3x128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x3x128x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x2x3x128x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference13Ideal.lean ====
abbrev S33x256x256 : Shape := ⟨3, ![33, 256, 256]⟩
abbrev S4x2x33x128x256 : Shape := ⟨5, ![4, 2, 33, 128, 256]⟩
abbrev S2x33x128x512 : Shape := ⟨4, ![2, 33, 128, 512]⟩
abbrev S4x33x2x128x256 : Shape := ⟨5, ![4, 33, 2, 128, 256]⟩
abbrev S4x33x256x256 : Shape := ⟨4, ![4, 33, 256, 256]⟩
abbrev S33x4x256x256 : Shape := ⟨4, ![33, 4, 256, 256]⟩
abbrev S4x33x128x256 : Shape := ⟨4, ![4, 33, 128, 256]⟩
abbrev S1x33x128x256 : Shape := ⟨4, ![1, 33, 128, 256]⟩
abbrev S33x128x256 : Shape := ⟨3, ![33, 128, 256]⟩

abbrev nBuf : Space → Nat
  | .hbm => 37
  | .vmem => 0
  | .smem => 0
  | _ => 0

abbrev bufTy : (tb : Table) → Fin (tcTables nBuf tb) → BufTy
  | .hbm, ⟨0, _⟩ => ⟨S33x256x256, .bf16⟩
  | .hbm, ⟨1, _⟩ => ⟨S33x256x256, .bf16⟩
  | .hbm, ⟨2, _⟩ => ⟨S4x2x33x128x256, .bf16⟩
  | .hbm, ⟨3, _⟩ => ⟨S2x33x128x512, .f32⟩
  | .hbm, ⟨4, _⟩ => ⟨S4x2x33x128x256, .f32⟩
  | .hbm, ⟨5, _⟩ => ⟨S4x33x2x128x256, .f32⟩
  | .hbm, ⟨6, _⟩ => ⟨S4x33x256x256, .f32⟩
  | .hbm, ⟨7, _⟩ => ⟨S33x256x256, .f32⟩
  | .hbm, ⟨8, _⟩ => ⟨S33x4x256x256, .f32⟩
  | .hbm, ⟨9, _⟩ => ⟨S4x33x256x256, .f32⟩
  | .hbm, ⟨10, _⟩ => ⟨S4x33x128x256, .f32⟩
  | .hbm, ⟨11, _⟩ => ⟨S4x33x128x256, .f32⟩
  | .hbm, ⟨12, _⟩ => ⟨S1x33x128x256, .f32⟩
  | .hbm, ⟨13, _⟩ => ⟨S33x128x256, .f32⟩
  | .hbm, ⟨14, _⟩ => ⟨S1x33x128x256, .f32⟩
  | .hbm, ⟨15, _⟩ => ⟨S33x128x256, .f32⟩
  | .hbm, ⟨16, _⟩ => ⟨S1x33x128x256, .f32⟩
  | .hbm, ⟨17, _⟩ => ⟨S4x33x128x256, .f32⟩
  | .hbm, ⟨18, _⟩ => ⟨S4x33x128x256, .f32⟩
  | .hbm, ⟨19, _⟩ => ⟨S1x33x128x256, .f32⟩
  | .hbm, ⟨20, _⟩ => ⟨S4x33x128x256, .f32⟩
  | .hbm, ⟨21, _⟩ => ⟨S4x33x128x256, .f32⟩
  | .hbm, ⟨22, _⟩ => ⟨S4x33x128x256, .f32⟩
  | .hbm, ⟨23, _⟩ => ⟨S1x33x128x256, .f32⟩
  | .hbm, ⟨24, _⟩ => ⟨S4x33x128x256, .f32⟩
  | .hbm, ⟨25, _⟩ => ⟨S4x33x128x256, .f32⟩
  | .hbm, ⟨26, _⟩ => ⟨S1x33x128x256, .f32⟩
  | .hbm, ⟨27, _⟩ => ⟨S4x33x128x256, .f32⟩
  | .hbm, ⟨28, _⟩ => ⟨S4x33x128x256, .f32⟩
  | .hbm, ⟨29, _⟩ => ⟨S4x33x128x256, .f32⟩
  | .hbm, ⟨30, _⟩ => ⟨S4x33x256x256, .f32⟩
  | .hbm, ⟨31, _⟩ => ⟨S33x256x256, .f32⟩
  | .hbm, ⟨32, _⟩ => ⟨S33x4x256x256, .f32⟩
  | .hbm, ⟨33, _⟩ => ⟨S4x33x256x256, .f32⟩
  | .hbm, ⟨34, _⟩ => ⟨S4x33x2x128x256, .f32⟩
  | .hbm, ⟨35, _⟩ => ⟨S4x2x33x128x256, .f32⟩
  | .hbm, ⟨36, _⟩ => ⟨S4x2x33x128x256, .bf16⟩
  | _, _ => ⟨S33x256x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩

abbrev nD : Nat := 1
abbrev τ : Topo := Topo.v7x

variable {F : FTy → Type} [FloatOps F]
-- ==== Proof.Soft.lean ====
/- Softmax over the extended reals, free of any program: a sum of values weighted by powers of two,
   rescaled when the number subtracted in the exponent changes, and its quotient by the sum of the
   weights as a softmax written with `exp`. -/
module

public import Idealize.ShloMosaic.Lib.Pointwise

@[expose] public section

noncomputable section

namespace Cert.Soft

open Idealize.ShloMosaic

/-- A value that is a real number, neither infinity. -/
def IsReal (x : EReal) : Prop := ∃ r : ℝ, x = (r : EReal)

/-- A value below `⊤` and above `⊥` is a real number. -/
theorem isReal_of_bounds {x : EReal} (h : x ≠ ⊥) (h' : x ≠ ⊤) : IsReal x :=
  ⟨x.toReal, (EReal.coe_toReal h' h).symm⟩

/-- Zero is a real number. -/
theorem isReal_zero : IsReal 0 := ⟨0, rfl⟩

/-- A real number is not `⊥`. -/
theorem IsReal.ne_bot {x : EReal} (h : IsReal x) : x ≠ ⊥ := by
  obtain ⟨r, rfl⟩ := h; exact EReal.coe_ne_bot r

/-- A real number is not `⊤`. -/
theorem IsReal.ne_top {x : EReal} (h : IsReal x) : x ≠ ⊤ := by
  obtain ⟨r, rfl⟩ := h; exact EReal.coe_ne_top r

/-- The sum of two real numbers is real. -/
theorem IsReal.add {x y : EReal} (hx : IsReal x) (hy : IsReal y) : IsReal (x + y) := by
  obtain ⟨a, rfl⟩ := hx; obtain ⟨b, rfl⟩ := hy; exact ⟨a + b, (EReal.coe_add a b).symm⟩

/-- The product of two real numbers is real. -/
theorem IsReal.mul {x y : EReal} (hx : IsReal x) (hy : IsReal y) : IsReal (x * y) := by
  obtain ⟨a, rfl⟩ := hx; obtain ⟨b, rfl⟩ := hy; exact ⟨a * b, (EReal.coe_mul a b).symm⟩

/-- The greater of two real numbers is real. -/
theorem IsReal.max {x y : EReal} (hx : IsReal x) (hy : IsReal y) : IsReal (max x y) := by
  rcases max_choice x y with h | h <;> rw [h] <;> assumption

/-- A finite sum of real numbers is real. -/
theorem isReal_sum {ι : Type*} (T : Finset ι) (f : ι → EReal) (h : ∀ i ∈ T, IsReal (f i)) : IsReal (∑ i ∈ T, f i) := by
  classical
  induction T using Finset.induction_on with
  | empty => exact ⟨0, by simp⟩
  | insert a T ha ih =>
    rw [Finset.sum_insert ha]
    exact (h a (Finset.mem_insert_self a T)).add (ih fun i hi => h i (Finset.mem_insert_of_mem hi))

/-- The greatest of finitely many, at least one, real numbers, found from `⊥` on, is real. -/
theorem isReal_fold_max {ι : Type*} (T : Finset ι) (hT : T.Nonempty) (f : ι → EReal) (h : ∀ i ∈ T, IsReal (f i)) :
    IsReal (T.fold max ⊥ f) := by
  obtain ⟨i, hi⟩ := hT
  refine isReal_of_bounds (fun h0 => ?_) (fun h0 => ?_)
  · have : f i ≤ T.fold max ⊥ f := (Finset.le_fold_max (f i)).2 (Or.inr ⟨i, hi, le_rfl⟩)
    rw [h0] at this
    exact (h i hi).ne_bot (le_bot_iff.1 this)
  · have : T.fold max ⊥ f < ⊤ :=
      (Finset.fold_max_lt ⊤).2 ⟨bot_lt_top, fun j hj => lt_top_iff_ne_top.2 (h j hj).ne_top⟩
    exact this.ne h0

/-- A product with a nonnegative real number distributes over a finite sum of any extended reals. -/
theorem sum_mul_coe {ι : Type*} (T : Finset ι) (f : ι → EReal) (c : ℝ) (hc : 0 ≤ c) :
    (∑ i ∈ T, f i) * (c : EReal) = ∑ i ∈ T, f i * (c : EReal) := by
  classical
  induction T using Finset.induction_on with
  | empty => simp
  | insert a T ha ih =>
    rw [Finset.sum_insert ha, Finset.sum_insert ha, ← ih,
      EReal.right_distrib_of_nonneg_of_ne_top (EReal.coe_nonneg.2 hc) (EReal.coe_ne_top c)]

/-- A finite sum of real numbers, taken among the extended reals. -/
theorem coe_sum {ι : Type*} (T : Finset ι) (f : ι → ℝ) : ∑ i ∈ T, (f i : EReal) = ((∑ i ∈ T, f i : ℝ) : EReal) := by
  classical
  induction T using Finset.induction_on with
  | empty => simp
  | insert a T ha ih => rw [Finset.sum_insert ha, Finset.sum_insert ha, ih, EReal.coe_add]

/-- A power of two whose exponent is a difference of real numbers. -/
theorem exp2_sub (a b : ℝ) : Ideal.exp2 ((a : EReal) - (b : EReal)) = (((2 : ℝ) ^ (a - b) : ℝ) : EReal) := by
  rw [← EReal.coe_sub, Ideal.exp2_coe]; rfl

/-- A power of `e` whose exponent is a difference of real numbers. -/
theorem exp_sub (a b : ℝ) : Ideal.exp ((a : EReal) - (b : EReal)) = ((Real.exp (a - b) : ℝ) : EReal) := by
  rw [← EReal.coe_sub, Ideal.exp_coe]

/-- When the number subtracted in the exponents changes from `m` to `m'`, the weighted sum is multiplied by
    `2 ^ (m - m')`. The values `v` may be infinite. -/
theorem rescale {ι : Type*} (T : Finset ι) (v s : ι → EReal) (hs : ∀ i, IsReal (s i)) {m m' : EReal} (hm : IsReal m)
    (hm' : IsReal m') :
    (∑ i ∈ T, v i * Ideal.exp2 (s i - m)) * Ideal.exp2 (m - m') = ∑ i ∈ T, v i * Ideal.exp2 (s i - m') := by
  obtain ⟨m, rfl⟩ := hm; obtain ⟨m', rfl⟩ := hm'
  rw [exp2_sub, sum_mul_coe _ _ _ (Real.rpow_nonneg (by norm_num) _)]
  refine Finset.sum_congr rfl fun i _ => ?_
  obtain ⟨r, hr⟩ := hs i
  rw [hr, exp2_sub, exp2_sub, mul_assoc, ← EReal.coe_mul]
  congr 2
  rw [← Real.rpow_add (by norm_num)]
  congr 1; ring

/-- The running softmax: what the first `n + 1` chunks of `J` keys leave, from the first chunk's sum and one rescaled
    addition per further chunk, is the sum over those chunks' keys with the last number subtracted. -/
theorem running (J N : ℕ) (v s : ℕ → EReal) (hs : ∀ k, IsReal (s k)) (m a : ℕ → EReal) (hm : ∀ c ≤ N, IsReal (m c))
    (h0 : a 0 = ∑ i : Fin J, v i * Ideal.exp2 (s i - m 0))
    (hstep : ∀ c < N, a (c + 1) = a c * Ideal.exp2 (m c - m (c + 1))
      + ∑ i : Fin J, v (J * (c + 1) + i) * Ideal.exp2 (s (J * (c + 1) + i) - m (c + 1)))
    (n : ℕ) (hn : n ≤ N) :
    a n = ∑ k ∈ Finset.range (J * (n + 1)), v k * Ideal.exp2 (s k - m n) := by
  induction n with
  | zero => rw [h0, zero_add, mul_one, Finset.sum_range]
  | succ n ih =>
    rw [hstep n hn, ih (by omega), rescale _ v s hs (hm n (by omega)) (hm (n + 1) hn), mul_add J (n + 1) 1, mul_one,
      Finset.sum_range_add, Finset.sum_range (fun x => v (J * (n + 1) + x) * Ideal.exp2 (s (J * (n + 1) + x) - m (n + 1)))]

/-- A softmax weight: `exp` of the score less `M`, over the sum of all of them. -/
def weight {κ : Type*} [Fintype κ] (s : κ → EReal) (M : EReal) (k : κ) : EReal :=
  Ideal.div (Ideal.exp (s k - M)) (0 + ∑ j, Ideal.exp (s j - M))

/-- The quotient of a sum of values weighted by powers of two by the sum of the weights is the sum of the values times
    their softmax weights: the base of the powers is taken into the scores, and the number subtracted cancels. -/
theorem quotient {κ : Type*} [Fintype κ] [Nonempty κ] (v s t : κ → EReal) (hs : ∀ k, IsReal (s k))
    (ht : ∀ k, t k = s k * ((Real.log 2 : ℝ) : EReal)) {m M : EReal} (hm : IsReal m) (hM : IsReal M) :
    Ideal.div (∑ k, v k * Ideal.exp2 (s k - m)) (∑ k, Ideal.exp2 (s k - m)) = ∑ k, v k * weight t M k := by
  obtain ⟨m, rfl⟩ := hm; obtain ⟨M, rfl⟩ := hM
  choose r hr using hs
  have e2 : ∀ k, Ideal.exp2 (s k - (m : EReal)) = (((2 : ℝ) ^ (r k - m) : ℝ) : EReal) := fun k => by rw [hr, exp2_sub]
  have ee : ∀ k, Ideal.exp (t k - (M : EReal)) = ((Real.exp (r k * Real.log 2 - M) : ℝ) : EReal) := fun k => by
    rw [ht, hr, ← EReal.coe_mul, exp_sub]
  have hp : ∀ k, 0 < (2 : ℝ) ^ (r k - m) := fun k => Real.rpow_pos_of_pos (by norm_num) _
  have hD : 0 < ∑ k, (2 : ℝ) ^ (r k - m) := Finset.sum_pos (fun k _ => hp k) Finset.univ_nonempty
  have hE : 0 < ∑ k, Real.exp (r k * Real.log 2 - M) := Finset.sum_pos (fun k _ => Real.exp_pos _) Finset.univ_nonempty
  have key : ∀ k, Real.exp (r k * Real.log 2 - M) = (2 : ℝ) ^ (r k - m) * Real.exp (m * Real.log 2 - M) := fun k => by
    have : (2 : ℝ) ^ (r k - m) = Real.exp (Real.log 2 * (r k - m)) := Real.rpow_def_of_pos (by norm_num) _
    rw [this, ← Real.exp_add]; congr 1; ring
  simp only [weight, e2, ee]
  rw [zero_add, show (∑ k, (((2 : ℝ) ^ (r k - m) : ℝ) : EReal)) = ((∑ k, (2 : ℝ) ^ (r k - m) : ℝ) : EReal) from
      (coe_sum _ _),
    show (∑ k, ((Real.exp (r k * Real.log 2 - M) : ℝ) : EReal)) = ((∑ k, Real.exp (r k * Real.log 2 - M) : ℝ) : EReal) from
      (coe_sum _ _),
    Ideal.div_coe hD.ne', sum_mul_coe _ _ _ (by positivity)]
  refine Finset.sum_congr rfl fun k _ => ?_
  rw [Ideal.div_coe hE.ne', mul_assoc, ← EReal.coe_mul, ← EReal.coe_mul]
  congr 2
  have hsum : ∑ k, Real.exp (r k * Real.log 2 - M) = (∑ k, (2 : ℝ) ^ (r k - m)) * Real.exp (m * Real.log 2 - M) := by
    rw [Finset.sum_mul]; exact Finset.sum_congr rfl fun k _ => key k
  rw [hsum, key k]
  have := (Real.exp_pos (m * Real.log 2 - M)).ne'
  field_simp

end Cert.Soft
-- ==== Proof.Block.lean ====
/- One grid point of the attention kernel as a recursion over its nine chunks of keys, and that recursion read at
   an index. -/
module

public import proofs.«01_k».proof.Proof.Gen.KernelIdeal.Value
public import proofs.«01_k».proof.Proof.Soft
public import Idealize.ShloMosaic.Lib.Pipeline.ValueKit

@[expose] public section

set_option maxRecDepth 16384

noncomputable section

namespace Cert.Block

open Idealize.ShloMosaic Cert.KernelIdeal Cert.KernelIdeal.Gen

variable {F : FTy → Type} [FloatOps F]

/-- The scores of 256 keys (rows) against the block's 256 queries (columns). -/
def sc (q : Vec F S256x128 .bf16) (k : Vec F S1x256x128 .bf16) : FVec F S256x256 .f32 :=
  matmul dot_S256x128_S256x128_S256x256_1_1_0_0_n_n none
    (shapeCast S256x128 k shapeCasts_S1x256x128_S256x128 : FVec F S256x128 .bf16) q (constant S256x256 .f32 0x00000000#32)

/-- Each query's greatest score among two blocks of 256 keys. -/
def cm (s s' : FVec F S256x256 .f32) : FVec F S1x256 .f32 :=
  shapeCast S1x256 (multiReduction .maximumf [0] S256 (maximumf s s') 0xFF800000#32 reduces_S256x256_S256 (.inl rfl) rfl)
    shapeCasts_S256_S1x256

/-- The values of 256 keys times their weights `2 ^ (score - m)`. -/
def pv (s : FVec F S256x256 .f32) (m : FVec F S1x256 .f32) (v : Vec F S1x1x80x256 .bf16) : FVec F S80x256 .f32 :=
  matmul dot_S80x256_S256x256_S80x256_1_0_0_1_n_n none (shapeCast S80x256 v shapeCasts_S1x1x80x256_S80x256 : FVec F S80x256 .bf16)
    (truncf .bf16 (exp2 (subf s (broadcastTo S256x256 m broadcasts_S1x256_S256x256))) bitsLt_bf16_f32)
    (constant S80x256 .f32 0x00000000#32)

/-- The running greatest score after chunk `c`. -/
def mx (s : ℕ → FVec F S256x256 .f32) : ℕ → FVec F S1x256 .f32
  | 0 => cm (s 0) (s 1)
  | c + 1 => maximumf (mx s c) (cm (s (2 * c + 2)) (s (2 * c + 3)))

/-- The two products of chunk `c`, added. -/
def chunk (s : ℕ → FVec F S256x256 .f32) (v : ℕ → Vec F S1x1x80x256 .bf16) (c : ℕ) : FVec F S80x256 .f32 :=
  addf (pv (s (2 * c)) (mx s c) (v (2 * c))) (pv (s (2 * c + 1)) (mx s c) (v (2 * c + 1)))

/-- The accumulator after chunk `c`. -/
def ac (s : ℕ → FVec F S256x256 .f32) (v : ℕ → Vec F S1x1x80x256 .bf16) : ℕ → FVec F S80x256 .f32
  | 0 => chunk s v 0
  | c + 1 => addf (mulf (ac s v c) (broadcastTo S80x256 (exp2 (subf (mx s c) (mx s (c + 1)))) broadcasts_S1x256_S80x256))
      (chunk s v (c + 1))

/-- The quotient of the accumulator's first 64 rows by its row 64. -/
def fin (a : FVec F S80x256 .f32) : FVec F S1x64x256 .f32 :=
  shapeCast S1x64x256
    (divf (extractStridedSlice S64x256 ![0, 0] a slices_S80x256_o0_0_S64x256)
      (broadcastTo S64x256 (extractStridedSlice S1x256 ![64, 0] a slices_S80x256_o64_0_S1x256) broadcasts_S1x256_S64x256))
    shapeCasts_S64x256_S1x64x256

/-- The sixteen loads of the first key array and the two of the second, in the order of the keys. -/
def kl (x1 : Vec F S1x4096x128 .bf16) (x2 : Vec F S1x512x128 .bf16) : ℕ → Vec F S1x256x128 .bf16
  | 0 => View.ld x1 r0_1 | 1 => View.ld x1 r0_2 | 2 => View.ld x1 r0_3 | 3 => View.ld x1 r0_4
  | 4 => View.ld x1 r0_5 | 5 => View.ld x1 r0_6 | 6 => View.ld x1 r0_7 | 7 => View.ld x1 r0_8
  | 8 => View.ld x1 r0_9 | 9 => View.ld x1 r0_10 | 10 => View.ld x1 r0_11 | 11 => View.ld x1 r0_12
  | 12 => View.ld x1 r0_13 | 13 => View.ld x1 r0_14 | 14 => View.ld x1 r0_15 | 15 => View.ld x1 r0_16
  | 16 => View.ld x2 r0_17 | _ => View.ld x2 r0_19

/-- The sixteen loads of the first value array and the two of the second, in the order of the keys. -/
def vl (x3 : Vec F S1x1x80x4096 .bf16) (x4 : Vec F S1x1x80x512 .bf16) : ℕ → Vec F S1x1x80x256 .bf16
  | 0 => View.ld x3 r0_18 | 1 => View.ld x3 r0_20 | 2 => View.ld x3 r0_21 | 3 => View.ld x3 r0_22
  | 4 => View.ld x3 r0_23 | 5 => View.ld x3 r0_24 | 6 => View.ld x3 r0_25 | 7 => View.ld x3 r0_26
  | 8 => View.ld x3 r0_27 | 9 => View.ld x3 r0_28 | 10 => View.ld x3 r0_29 | 11 => View.ld x3 r0_30
  | 12 => View.ld x3 r0_31 | 13 => View.ld x3 r0_32 | 14 => View.ld x3 r0_33 | 15 => View.ld x3 r0_34
  | 16 => View.ld x4 r0_35 | _ => View.ld x4 r0_36

/-- What a grid point writes is the recursion's result over the loads. -/
theorem out_eq (x0 : Vec F S256x128 .bf16) (x1 : Vec F S1x4096x128 .bf16) (x2 : Vec F S1x512x128 .bf16)
    (x3 : Vec F S1x1x80x4096 .bf16) (x4 : Vec F S1x1x80x512 .bf16) :
    out0_5 x0 x1 x2 x3 x4
      = View.canon [⟨r0_37, fin (ac (fun i => sc (View.ld x0 r0_0) (kl x1 x2 i)) (vl x3 x4) 8)⟩] := by
  rfl

end Cert.Block
-- ==== Proof.Read.lean ====
/- The recursion of Block.lean read at an index: what one grid point writes is, for each query and each row of the
   values, the values times the softmax weights of the scores, summed over all keys. -/
module

public import proofs.«01_k».proof.Proof.Block
public import Idealize.ShloMosaic.Lib.Pointwise

@[expose] public section

set_option maxRecDepth 16384

noncomputable section

namespace Cert.Block

open Idealize.ShloMosaic Cert.KernelIdeal Cert.KernelIdeal.Gen Cert.Soft

/-- A score is the sum over the 128 lanes of the key's entry times the query's. -/
theorem sc_apply (q : Vec Ideal S256x128 .bf16) (k : Vec Ideal S1x256x128 .bf16) (j y : Fin 256) :
    sc q k (ix2 j y) = ∑ d : Fin 128, (k (ix3 0 j d) * q (ix2 y d) : EReal) := by
  pointwise [sc]

/-- Two score blocks' greatest entry of a column, as a fold. -/
theorem cm_apply (s s' : FVec Ideal S256x256 .f32) (y : Fin 256) :
    cm s s' (ix2 0 y) = Finset.univ.fold max (Ideal.ofBits .f32 0xFF800000#32) fun j : Fin 256 => max (s (ix2 j y)) (s' (ix2 j y)) := by
  pointwise [cm]

/-- One product of values and weights. -/
theorem pv_apply (s : FVec Ideal S256x256 .f32) (m : FVec Ideal S1x256 .f32) (v : Vec Ideal S1x1x80x256 .bf16) (e : Fin 80)
    (y : Fin 256) :
    pv s m v (ix2 e y) = ∑ j : Fin 256, (v (ix4 0 0 e j) * Ideal.exp2 (s (ix2 j y) - m (ix2 0 y)) : EReal) := by
  pointwise [pv]
  rfl

/-- The accumulator's step at an entry. -/
theorem ac_succ_apply (s : ℕ → FVec Ideal S256x256 .f32) (v : ℕ → Vec Ideal S1x1x80x256 .bf16) (c : ℕ) (e : Fin 80) (y : Fin 256) :
    ac s v (c + 1) (ix2 e y)
      = (ac s v c (ix2 e y) * Ideal.exp2 (mx s c (ix2 0 y) - mx s (c + 1) (ix2 0 y)) + chunk s v (c + 1) (ix2 e y) : EReal) := by
  show addf (mulf (ac s v c) (broadcastTo S80x256 (exp2 (subf (mx s c) (mx s (c + 1)))) broadcasts_S1x256_S80x256))
      (chunk s v (c + 1)) (ix2 e y) = _
  generalize ac s v c = A; generalize mx s c = M; generalize mx s (c + 1) = M'; generalize chunk s v (c + 1) = C
  pointwise
  rfl

/-- A chunk's entry: both products' sums. -/
theorem chunk_apply (s : ℕ → FVec Ideal S256x256 .f32) (v : ℕ → Vec Ideal S1x1x80x256 .bf16) (c : ℕ) (e : Fin 80) (y : Fin 256) :
    chunk s v c (ix2 e y)
      = ((∑ j : Fin 256, v (2 * c) (ix4 0 0 e j) * Ideal.exp2 (s (2 * c) (ix2 j y) - mx s c (ix2 0 y)))
        + ∑ j : Fin 256, v (2 * c + 1) (ix4 0 0 e j) * Ideal.exp2 (s (2 * c + 1) (ix2 j y) - mx s c (ix2 0 y)) : EReal) := by
  rw [← pv_apply, ← pv_apply]; rfl

/-- The quotient's entry. -/
theorem fin_apply (a : FVec Ideal S80x256 .f32) (e : Fin 64) (y : Fin 256) :
    fin a (ix3 0 e y) = Ideal.div (a (ix2 ⟨e, by omega⟩ y)) (a (ix2 64 y)) := by
  pointwise [fin]

/-- The pattern the greatest score is sought from is `⊥`. -/
theorem ofBits_neg_inf : Ideal.ofBits .f32 0xFF800000#32 = (⊥ : EReal) := by
  simp [Ideal.ofBits, Ideal.ieee]

section Column

variable (s : ℕ → FVec Ideal S256x256 .f32) (v : ℕ → Vec Ideal S1x1x80x256 .bf16) (y : Fin 256) (S : ℕ → EReal)
  (hs : ∀ i < 18, ∀ j : Fin 256, s i (ix2 j y) = S (256 * i + j)) (hr : ∀ n, IsReal (S n))
include hs hr

/-- A chunk's greatest score is real when the scores are. -/
theorem isReal_cm (i i' : ℕ) (hi : i < 18) (hi' : i' < 18) : IsReal (cm (s i) (s i') (ix2 0 y)) := by
  rw [cm_apply, ofBits_neg_inf]
  refine isReal_fold_max _ ⟨0, Finset.mem_univ _⟩ _ fun j _ => ?_
  rw [hs i hi, hs i' hi']
  exact (hr _).max (hr _)

/-- The running greatest score is real when the scores are. -/
theorem isReal_mx (c : ℕ) (hc : c ≤ 8) : IsReal (mx s c (ix2 0 y)) := by
  induction c with
  | zero => exact isReal_cm s y S hs hr 0 1 (by omega) (by omega)
  | succ c ih => exact (ih (by omega)).max (isReal_cm s y S hs hr (2 * c + 2) (2 * c + 3) (by omega) (by omega))

variable (V : ℕ → EReal) (e : Fin 80) (hv : ∀ i < 18, ∀ j : Fin 256, v i (ix4 0 0 e j) = V (256 * i + j))
include hv

/-- A chunk's entry as one sum over its 512 keys. -/
theorem chunk_sum (c : ℕ) (hc : c ≤ 8) :
    chunk s v c (ix2 e y) = ∑ i : Fin 512, V (512 * c + i) * Ideal.exp2 (S (512 * c + i) - mx s c (ix2 0 y)) := by
  rw [chunk_apply, Fin.sum_univ_add (a := 256) (b := 256)]
  congr 1 <;> refine Finset.sum_congr rfl fun j _ => ?_
  · rw [hs (2 * c) (by omega), hv (2 * c) (by omega)]
    simp only [Fin.val_castAdd, show 256 * (2 * c) = 512 * c by ring]
  · rw [hs (2 * c + 1) (by omega), hv (2 * c + 1) (by omega)]
    simp only [Fin.val_natAdd, show 256 * (2 * c + 1) + j.val = 512 * c + (256 + j.val) by ring]

/-- The accumulator after the last chunk is the sum over all 4608 keys. -/
theorem ac_sum :
    ac s v 8 (ix2 e y) = ∑ k : Fin 4608, V k * Ideal.exp2 (S k - mx s 8 (ix2 0 y)) := by
  rw [running 512 8 V S hr (fun c => mx s c (ix2 0 y)) (fun c => ac s v c (ix2 e y)) (fun c hc => isReal_mx s y S hs hr c hc)
    ?_ ?_ 8 le_rfl, Finset.sum_range]
  · show chunk s v 0 (ix2 e y) = _
    rw [chunk_sum s v y S hs hr V e hv 0 (by omega)]
    simp only [mul_zero, zero_add]
  · intro c hc
    rw [ac_succ_apply, chunk_sum s v y S hs hr V e hv (c + 1) (by omega)]

end Column

/-- One grid point's result at a query and a row of the values: the softmax over all 4608 keys. -/
theorem fin_ac (s : ℕ → FVec Ideal S256x256 .f32) (v : ℕ → Vec Ideal S1x1x80x256 .bf16) (e : Fin 64) (y : Fin 256)
    (S V : ℕ → EReal) (hs : ∀ i < 18, ∀ j : Fin 256, s i (ix2 j y) = S (256 * i + j)) (hr : ∀ n, IsReal (S n))
    (hv : ∀ i < 18, ∀ j : Fin 256, v i (ix4 0 0 ⟨e, by omega⟩ j) = V (256 * i + j))
    (h1 : ∀ i < 18, ∀ j : Fin 256, v i (ix4 0 0 64 j) = (1 : EReal)) {M : EReal} (hM : IsReal M) :
    fin (ac s v 8) (ix3 0 e y)
      = ∑ k : Fin 4608, V k * weight (fun k : Fin 4608 => S k * ((Real.log 2 : ℝ) : EReal)) M k := by
  rw [fin_apply, ac_sum s v y S hs hr V _ hv, ac_sum s v y S hs hr (fun _ => 1) 64 h1]
  simp only [one_mul]
  exact quotient (fun k : Fin 4608 => V k) (fun k : Fin 4608 => S k) _ (fun k => hr k) (fun _ => rfl)
    (isReal_mx s y S hs hr 8 le_rfl) hM

end Cert.Block
-- ==== Proof.Spec.lean ====
/- The attention's mathematics over the extended reals, from the arrays that the call is given. -/
module

public import proofs.«01_k».proof.Proof.Soft
public import Idealize.ShloMosaic.Lib.Pointwise

@[expose] public section

noncomputable section

namespace Cert.Spec

open Idealize.ShloMosaic Cert.Soft

/-- The lane of head `h` and channel `d`. -/
abbrev lane (h : Fin 4) (d : Fin 128) : Fin 512 := ⟨h * 128 + d, by omega⟩

/-- The row of batch `b` and query `l`. -/
abbrev row (b : Fin 4) (l : Fin 4096) : Fin 16384 := ⟨b * 4096 + l, by omega⟩

/-- Key `n` of batch `b`: the first array's 4096 keys, then the second's 512. -/
def keyAt (a1 : (⟨3, ![4, 4096, 512]⟩ : Shape).Idx → EReal) (a2 : (⟨3, ![4, 512, 512]⟩ : Shape).Idx → EReal)
    (b : Fin 4) (n : ℕ) (p : Fin 512) : EReal :=
  if h : n < 4096 then a1 (ix3 b ⟨n, h⟩ p) else if h' : n - 4096 < 512 then a2 (ix3 b ⟨n - 4096, h'⟩ p) else 0

/-- Row `e` of the values of key `n`, batch `b` and head `h`. -/
def valAt (a3 : (⟨4, ![4, 4, 80, 4096]⟩ : Shape).Idx → EReal) (a4 : (⟨4, ![4, 4, 80, 512]⟩ : Shape).Idx → EReal)
    (b h : Fin 4) (e : Fin 80) (n : ℕ) : EReal :=
  if hn : n < 4096 then a3 (ix4 b h e ⟨n, hn⟩) else if h' : n - 4096 < 512 then a4 (ix4 b h e ⟨n - 4096, h'⟩) else 0

/-- The score of key `n` against query `l`, in powers of two. -/
def score (a0 : (⟨2, ![16384, 512]⟩ : Shape).Idx → EReal) (a1 : (⟨3, ![4, 4096, 512]⟩ : Shape).Idx → EReal)
    (a2 : (⟨3, ![4, 512, 512]⟩ : Shape).Idx → EReal) (b h : Fin 4) (l : Fin 4096) (n : ℕ) : EReal :=
  ∑ d : Fin 128, keyAt a1 a2 b n (lane h d) * a0 (ix2 (row b l) (lane h d))

/-- The score in powers of `e`. -/
def nat (a0 : (⟨2, ![16384, 512]⟩ : Shape).Idx → EReal) (a1 : (⟨3, ![4, 4096, 512]⟩ : Shape).Idx → EReal)
    (a2 : (⟨3, ![4, 512, 512]⟩ : Shape).Idx → EReal) (b h : Fin 4) (l : Fin 4096) (k : Fin 4608) : EReal :=
  score a0 a1 a2 b h l k * ((Real.log 2 : ℝ) : EReal)

/-- The greatest score of a query. -/
def top (a0 : (⟨2, ![16384, 512]⟩ : Shape).Idx → EReal) (a1 : (⟨3, ![4, 4096, 512]⟩ : Shape).Idx → EReal)
    (a2 : (⟨3, ![4, 512, 512]⟩ : Shape).Idx → EReal) (b h : Fin 4) (l : Fin 4096) : EReal :=
  max ⊥ (Finset.univ.fold max ⊥ (nat a0 a1 a2 b h l))

/-- The attention: the values times the softmax weights, summed over the keys. -/
def attn (a0 : (⟨2, ![16384, 512]⟩ : Shape).Idx → EReal) (a1 : (⟨3, ![4, 4096, 512]⟩ : Shape).Idx → EReal)
    (a2 : (⟨3, ![4, 512, 512]⟩ : Shape).Idx → EReal) (a3 : (⟨4, ![4, 4, 80, 4096]⟩ : Shape).Idx → EReal)
    (a4 : (⟨4, ![4, 4, 80, 512]⟩ : Shape).Idx → EReal) (b h : Fin 4) (e : Fin 64) (l : Fin 4096) : EReal :=
  ∑ k : Fin 4608, valAt a3 a4 b h ⟨e, by omega⟩ k * weight (nat a0 a1 a2 b h l) (top a0 a1 a2 b h l) k

/-- With real queries and keys every score is real. -/
theorem isReal_score {a0 : (⟨2, ![16384, 512]⟩ : Shape).Idx → EReal} {a1 : (⟨3, ![4, 4096, 512]⟩ : Shape).Idx → EReal}
    {a2 : (⟨3, ![4, 512, 512]⟩ : Shape).Idx → EReal} (h0 : ∀ i, IsReal (a0 i)) (h1 : ∀ i, IsReal (a1 i))
    (h2 : ∀ i, IsReal (a2 i)) (b h : Fin 4) (l : Fin 4096) (n : ℕ) : IsReal (score a0 a1 a2 b h l n) := by
  refine isReal_sum _ _ fun d _ => IsReal.mul ?_ (h0 _)
  unfold keyAt
  split
  · exact h1 _
  · split
    · exact h2 _
    · exact isReal_zero

/-- With real queries and keys a query's greatest score is real. -/
theorem isReal_top {a0 : (⟨2, ![16384, 512]⟩ : Shape).Idx → EReal} {a1 : (⟨3, ![4, 4096, 512]⟩ : Shape).Idx → EReal}
    {a2 : (⟨3, ![4, 512, 512]⟩ : Shape).Idx → EReal} (h0 : ∀ i, IsReal (a0 i)) (h1 : ∀ i, IsReal (a1 i))
    (h2 : ∀ i, IsReal (a2 i)) (b h : Fin 4) (l : Fin 4096) : IsReal (top a0 a1 a2 b h l) := by
  unfold top
  rw [max_eq_right bot_le]
  exact isReal_fold_max _ ⟨0, Finset.mem_univ _⟩ _ fun k _ => (isReal_score h0 h1 h2 b h l k).mul ⟨_, rfl⟩

end Cert.Spec
-- ==== Proof.Array.lean ====
/- The kernel's result array after the run: every entry is the attention's mathematics. -/
module

public import proofs.«01_k».proof.Proof.Read
public import proofs.«01_k».proof.Proof.Spec
public import Idealize.ShloMosaic.Lib.Pipeline.ValueKit
public import Idealize.ShloMosaic.Lib.Pipeline.Covers

@[expose] public section

set_option maxRecDepth 16384

noncomputable section

namespace Cert.Block

open Idealize.ShloMosaic Idealize.ShloMosaic.TcCoe Cert.KernelIdeal Cert.KernelIdeal.Gen Cert.Soft Cert.Spec

variable (m : (ℓ : Loc nD τ sig) → Buf (Elt Ideal) ℓ)

/-- A load of 256 keys of the first block, from key `o` on. -/
theorem ld1 (x : Vec Ideal S1x4096x128 .bf16) (o : ℕ) (h : ∀ a, ![0, o, 0] a + S1x256x128.size a ≤ S1x4096x128.size a)
    (j : Fin 256) (d : Fin 128) (hj : o + j.val < 4096) :
    View.ld x (Rect.unit (s := S1x4096x128) ![0, o, 0] S1x256x128.size h) (ix3 0 j d) = x (ix3 0 ⟨o + j, hj⟩ d) := by
  pointwise

/-- A load of 256 keys of the second block, from key `o` on. -/
theorem ld2 (x : Vec Ideal S1x512x128 .bf16) (o : ℕ) (h : ∀ a, ![0, o, 0] a + S1x256x128.size a ≤ S1x512x128.size a)
    (j : Fin 256) (d : Fin 128) (k : ℕ) (hk' : k < 512) (hk : k = o + j.val) :
    View.ld x (Rect.unit (s := S1x512x128) ![0, o, 0] S1x256x128.size h) (ix3 0 j d) = x (ix3 0 ⟨k, hk'⟩ d) := by
  subst hk
  pointwise

/-- A load of the values of 256 keys of the first block, from key `o` on. -/
theorem ld3 (x : Vec Ideal S1x1x80x4096 .bf16) (o : ℕ) (h : ∀ a, ![0, 0, 0, o] a + S1x1x80x256.size a ≤ S1x1x80x4096.size a)
    (e : Fin 80) (j : Fin 256) (hj : o + j.val < 4096) :
    View.ld x (Rect.unit (s := S1x1x80x4096) ![0, 0, 0, o] S1x1x80x256.size h) (ix4 0 0 e j) = x (ix4 0 0 e ⟨o + j, hj⟩) := by
  pointwise

/-- A load of the values of 256 keys of the second block, from key `o` on. -/
theorem ld4 (x : Vec Ideal S1x1x80x512 .bf16) (o : ℕ) (h : ∀ a, ![0, 0, 0, o] a + S1x1x80x256.size a ≤ S1x1x80x512.size a)
    (e : Fin 80) (j : Fin 256) (k : ℕ) (hk' : k < 512) (hk : k = o + j.val) :
    View.ld x (Rect.unit (s := S1x1x80x512) ![0, 0, 0, o] S1x1x80x256.size h) (ix4 0 0 e j) = x (ix4 0 0 e ⟨k, hk'⟩) := by
  subst hk
  pointwise

/-- Every load of keys at an entry: the keys in order, from the first block and then from the second. -/
theorem kl_apply (x1 : Vec Ideal S1x4096x128 .bf16) (x2 : Vec Ideal S1x512x128 .bf16) (i : ℕ) (hi : i < 18) (j : Fin 256) (d : Fin 128) :
    kl x1 x2 i (ix3 0 j d) = (if h : 256 * i + j < 4096 then x1 (ix3 0 ⟨256 * i + j, h⟩ d)
      else x2 (ix3 0 ⟨256 * i + j - 4096, by omega⟩ d) : EReal) := by
  have := j.isLt
  split
  · have hi' : i < 16 := by omega
    interval_cases i <;> exact ld1 x1 _ _ j d _
  · have hi' : 16 ≤ i := by omega
    interval_cases i
    · exact ld2 x2 0 _ j d _ _ (by omega)
    · exact ld2 x2 256 _ j d _ _ (by omega)

/-- Every load of values at an entry. -/
theorem vl_apply (x3 : Vec Ideal S1x1x80x4096 .bf16) (x4 : Vec Ideal S1x1x80x512 .bf16) (i : ℕ) (hi : i < 18) (e : Fin 80) (j : Fin 256) :
    vl x3 x4 i (ix4 0 0 e j) = (if h : 256 * i + j < 4096 then x3 (ix4 0 0 e ⟨256 * i + j, h⟩)
      else x4 (ix4 0 0 e ⟨256 * i + j - 4096, by omega⟩) : EReal) := by
  have := j.isLt
  split
  · have hi' : i < 16 := by omega
    interval_cases i <;> exact ld3 x3 _ _ e j _
  · have hi' : 16 ≤ i := by omega
    interval_cases i
    · exact ld4 x4 0 _ e j _ _ (by omega)
    · exact ld4 x4 256 _ e j _ _ (by omega)

/-- The batch of a grid point. -/
def pb (t : Fin cfg0.N) : Fin 4 := ⟨(grid0.coords t 0).val, (grid0.coords t 0).isLt⟩

/-- The head of a grid point. -/
def ph (t : Fin cfg0.N) : Fin 4 := ⟨(grid0.coords t 1).val, (grid0.coords t 1).isLt⟩

/-- The block of queries of a grid point. -/
def pq (t : Fin cfg0.N) : Fin 16 := ⟨(grid0.coords t 2).val, (grid0.coords t 2).isLt⟩

/-- Query `y` of a grid point's block. -/
def pl (t : Fin cfg0.N) (y : Fin 256) : Fin 4096 := ⟨(pq t).val * 256 + y.val, by omega⟩

/-- Where each window stands at a grid point. -/
theorem idx : ∀ t : Fin cfg0.N, win0_0.index t = ![(pb t).val * 16 + (pq t).val, (ph t).val]
    ∧ win0_1.index t = ![(pb t).val, 0, (ph t).val] ∧ win0_2.index t = ![(pb t).val, 0, (ph t).val]
    ∧ win0_3.index t = ![(pb t).val, (ph t).val, 0, 0] ∧ win0_4.index t = ![(pb t).val, (ph t).val, 0, 0]
    ∧ win0_5.index t = ![(pb t).val, (ph t).val, (pq t).val] := by
  decide +kernel

/-- The block of queries, read from the array. -/
theorem read0 (c : Dev nD) (t : Fin cfg0.N) (y : Fin 256) (d : Fin 128) :
    iblk m c 0 t (ix2 y d) = m ((c.tc : Thread nD τ).loc main_arg0) (ix2 (row (pb t) (pl t y)) (lane (ph t) d)) := by
  have h := (idx t).1
  unfold pl
  blk_ext [iblk, V, h]

/-- The first block of keys, read from the array. -/
theorem read1 (c : Dev nD) (t : Fin cfg0.N) (n : Fin 4096) (d : Fin 128) :
    iblk m c 1 t (ix3 0 n d) = m ((c.tc : Thread nD τ).loc main_arg1) (ix3 (pb t) n (lane (ph t) d)) := by
  have h := (idx t).2.1
  blk_ext [iblk, V, h]

/-- The second block of keys, read from the array. -/
theorem read2 (c : Dev nD) (t : Fin cfg0.N) (n : Fin 512) (d : Fin 128) :
    iblk m c 2 t (ix3 0 n d) = m ((c.tc : Thread nD τ).loc main_arg2) (ix3 (pb t) n (lane (ph t) d)) := by
  have h := (idx t).2.2.1
  blk_ext [iblk, V, h]

/-- The first block of values, read from the array. -/
theorem read3 (c : Dev nD) (t : Fin cfg0.N) (e : Fin 80) (n : Fin 4096) :
    iblk m c 3 t (ix4 0 0 e n) = m ((c.tc : Thread nD τ).loc main_arg3) (ix4 (pb t) (ph t) e n) := by
  have h := (idx t).2.2.2.1
  blk_ext [iblk, V, h]

/-- The second block of values, read from the array. -/
theorem read4 (c : Dev nD) (t : Fin cfg0.N) (e : Fin 80) (n : Fin 512) :
    iblk m c 4 t (ix4 0 0 e n) = m ((c.tc : Thread nD τ).loc main_arg4) (ix4 (pb t) (ph t) e n) := by
  have h := (idx t).2.2.2.2.1
  blk_ext [iblk, V, h]

/-- The whole result array. -/
def G (c : Dev nD) : S4x256x4096.Idx → EReal := fun i =>
  attn (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (i 0)
    ⟨(i 1).val / 64, Nat.div_lt_of_lt_mul (i 1).isLt⟩ ⟨(i 1).val % 64, Nat.mod_lt _ (by norm_num)⟩ (i 2)

/-- Every block of the result array is written: the grid's point `(b, h, i)` writes the block at `(b, h, i)`. -/
theorem covers5 : (cfg0.win 5).Covers :=
  (cfg0.win 5).covers_of_indexMap_surj rfl (by decide) fun β => by
    have key : ∀ i : grid0.Coords, ∀ a, cc0_transform_5 i a = (i a).val := by decide +kernel
    let i : grid0.Coords := fun a =>
      ⟨(β a).val, lt_of_lt_of_le (β a).isLt ((by decide : ∀ a : Fin 3, (cfg0.win 5).nblk a ≤ grid0.bound a) a)⟩
    exact ⟨i, fun a => key i a⟩

/-- The conditions on the arrays under which the result is the attention's mathematics. -/
structure Fine (c : Dev nD) : Prop where
  /-- The queries are real. -/
  q : ∀ i, IsReal (m ((c.tc : Thread nD τ).loc main_arg0) i)
  /-- The first keys are real. -/
  k : ∀ i, IsReal (m ((c.tc : Thread nD τ).loc main_arg1) i)
  /-- The second keys are real. -/
  k' : ∀ i, IsReal (m ((c.tc : Thread nD τ).loc main_arg2) i)
  /-- Row 64 of the first values holds ones. -/
  v : ∀ b h n, m ((c.tc : Thread nD τ).loc main_arg3) (ix4 b h 64 n) = (1 : EReal)
  /-- Row 64 of the second values holds ones. -/
  v' : ∀ b h n, m ((c.tc : Thread nD τ).loc main_arg4) (ix4 b h 64 n) = (1 : EReal)

variable {m}

/-- One grid point's scores. -/
theorem point_score (c : Dev nD) (t : Fin cfg0.N) (y : Fin 256) (i : ℕ) (hi : i < 18) (j : Fin 256) :
    sc (iblk m c 0 t) (kl (iblk m c 1 t) (iblk m c 2 t) i) (ix2 j y)
      = score (m ((c.tc : Thread nD τ).loc main_arg0)) (m ((c.tc : Thread nD τ).loc main_arg1))
          (m ((c.tc : Thread nD τ).loc main_arg2)) (pb t) (ph t) (pl t y) (256 * i + j) := by
  rw [sc_apply]
  refine Finset.sum_congr rfl fun d _ => ?_
  rw [kl_apply _ _ i hi, read0]
  unfold keyAt
  have := j.isLt
  split
  · rw [read1]
  · rw [read2, dif_pos (by omega)]

/-- One grid point's values. -/
theorem point_value (c : Dev nD) (t : Fin cfg0.N) (e : Fin 80) (i : ℕ) (hi : i < 18) (j : Fin 256) :
    vl (iblk m c 3 t) (iblk m c 4 t) i (ix4 0 0 e j)
      = valAt (m ((c.tc : Thread nD τ).loc main_arg3)) (m ((c.tc : Thread nD τ).loc main_arg4)) (pb t) (ph t) e (256 * i + j) := by
  rw [vl_apply _ _ i hi]
  unfold valAt
  have := j.isLt
  split
  · rw [read3]
  · rw [read4, dif_pos (by omega)]

/-- Under the conditions the row of ones reads one at every key. -/
theorem ones {c : Dev nD} (hm : Fine m c) (b h : Fin 4) (n : ℕ) (hn : n < 4608) :
    valAt (m ((c.tc : Thread nD τ).loc main_arg3)) (m ((c.tc : Thread nD τ).loc main_arg4)) b h 64 n = 1 := by
  unfold valAt
  split
  · exact hm.v _ _ _
  · rw [dif_pos (by omega)]; exact hm.v' _ _ _

/-- What one grid point writes. -/
theorem point {c : Dev nD} (hm : Fine m c) (t : Fin cfg0.N) (e : Fin 64) (y : Fin 256) :
    fin (ac (fun i => sc (iblk m c 0 t) (kl (iblk m c 1 t) (iblk m c 2 t) i)) (vl (iblk m c 3 t) (iblk m c 4 t)) 8) (ix3 0 e y)
      = attn (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (pb t) (ph t) e (pl t y) :=
  fin_ac _ _ e y _ _ (fun i hi j => point_score c t y i hi j)
    (fun n => isReal_score hm.q hm.k hm.k' _ _ _ n) (fun i hi j => point_value c t _ i hi j)
    (fun i hi j => (point_value c t 64 i hi j).trans (ones hm _ _ _ (by omega)))
    (isReal_top hm.q hm.k hm.k' _ _ _)

/-- The place in the result array of an entry of a grid point's block. -/
theorem place (t : Fin cfg0.N) (e : Fin 64) (y : Fin 256) :
    ((View.whole main_v0).slice (win0_5.rect t)).emb (ix3 0 e y) = ix3 (pb t) ⟨(ph t).val * 64 + e.val, by omega⟩ (pl t y) := by
  have h := (idx t).2.2.2.2.2
  unfold pl
  blk_ext [h]

/-- The array's entry at that place. -/
theorem G_place (c : Dev nD) (b h : Fin 4) (e : Fin 64) (l : Fin 4096) :
    G m c (ix3 b ⟨h.val * 64 + e.val, by omega⟩ l)
      = attn (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) b h e l := by
  unfold G
  congr 1
  · apply Fin.ext; show (h.val * 64 + e.val) / 64 = h.val; omega
  · apply Fin.ext; show (h.val * 64 + e.val) % 64 = e.val; omega

/-- What one grid point writes, at its place in the array. -/
theorem point_G {c : Dev nD} (hm : Fine m c) (t : Fin cfg0.N) (y : S1x64x256.Idx) :
    fin (ac (fun i => sc (iblk m c 0 t) (kl (iblk m c 1 t) (iblk m c 2 t) i)) (vl (iblk m c 3 t) (iblk m c 4 t)) 8) y
      = G m c (((View.whole main_v0).slice (win0_5.rect t)).emb y) := by
  obtain ⟨z, e, q, rfl⟩ : ∃ (z : Fin 1) (e : Fin 64) (q : Fin 256), y = ix3 z e q := ⟨y 0, y 1, y 2, eq_ix3 y⟩
  obtain rfl : z = 0 := Subsingleton.elim _ _
  rw [place, G_place, point hm]

/-- The result array after the run. -/
theorem final {c : Dev nD} (hm : Fine m c) : (dats m 0 c).arrAt 5 cfg0.N = G m c := by
  refine (dats m 0 c).arrAt_eq_of_covers 5 _ covers5 fun t hf y => ?_
  blk_simp
  rw [after0_5, out_eq]
  frame_out
  exact point_G hm t y

end Cert.Block
-- ==== Proof.Pre.lean ====
/- The precondition `ordinary`, read: the queries and the keys are real numbers and the extra row of values holds ones. -/
module

public import proofs.«01_k».proof.Defs
public import proofs.«01_k».proof.Proof.Array
public import Idealize.ShloMosaic.Lib.Pointwise

@[expose] public section

set_option maxRecDepth 16384

noncomputable section

namespace Cert.Pre

open Idealize.ShloMosaic Idealize.ShloMosaic.TcCoe Cert.Soft Cert.Pre_ordinary

/-- The side conditions of the precondition's operations hold. -/
instance facts : Cert.Pre_ordinary.Facts where
  bitsLt_bf16_f32 := by decide
  bcast_S_S16384x512 := by decide
  bcast_S_S4x4096x512 := by decide
  bcast_S_S4x512x512 := by decide
  slices_S4x4x80x4096_S4x4x1x4096_0_0_64_0 := by decide
  shapeCasts_S4x4x1x4096_S4x4x4096 := by decide
  bcast_S_S4x4x4096 := by decide
  slices_S4x4x80x512_S4x4x1x512_0_0_64_0 := by decide
  shapeCasts_S4x4x1x512_S4x4x512 := by decide
  bcast_S_S4x4x512 := by decide

/-- The pattern of the infinity. -/
theorem ofBits_inf : Ideal.ofBits .f32 0x7F800000#32 = (⊤ : EReal) := by
  simp [Ideal.ofBits, Ideal.ieee]

/-- The pattern of one. -/
theorem ofBits_one : Ideal.ofBits .f32 0x3F800000#32 = (1 : EReal) := by
  simp [Ideal.ofBits, Ideal.ieee]
  rw [← EReal.coe_mul, ← EReal.coe_one]
  norm_num

/-- A number whose size is below the infinity is real. -/
theorem isReal_of_lt {x : EReal} (h : FloatOps.cmpf (F := Ideal) (φ := .f32) .olt (FloatOps.hostAbsf (F := Ideal) (φ := .f32) x) (Ideal.ofBits .f32 0x7F800000#32) = 1#1) :
    IsReal x := by
  rw [ofBits_inf] at h
  have h' : max x (-x) < ⊤ := by
    by_contra hc
    have : FloatOps.cmpf (F := Ideal) (φ := .f32) .olt (FloatOps.hostAbsf (F := Ideal) (φ := .f32) x) (⊤ : EReal) = 0#1 := by
      show BitVec.ofBool (decide (max x (-x) < ⊤)) = 0#1
      simp [hc]
    rw [this] at h
    exact absurd h (by decide)
  refine isReal_of_bounds (fun h0 => ?_) (fun h0 => ?_)
  · subst h0; simp at h'
  · subst h0; simp at h'

/-- A number found equal to the pattern of one is one. -/
theorem eq_one {x : EReal} (h : FloatOps.cmpf (F := Ideal) (φ := .f32) .oeq x (Ideal.ofBits .f32 0x3F800000#32) = 1#1) :
    x = 1 := by
  rw [ofBits_one] at h
  by_contra hc
  have : FloatOps.cmpf (F := Ideal) (φ := .f32) .oeq x (1 : EReal) = 0#1 := by
    show BitVec.ofBool (decide (x = 1)) = 0#1
    simp [hc]
  rw [this] at h
  exact absurd h (by decide)

section Read

variable (a0 : FVec Ideal S16384x512 .bf16) (a1 : FVec Ideal S4x4096x512 .bf16) (a2 : FVec Ideal S4x512x512 .bf16)
  (a3 : FVec Ideal S4x4x80x4096 .bf16) (a4 : FVec Ideal S4x4x80x512 .bf16)

/-- The first component: the queries are real. -/
theorem fst_read (h : (fn (F := Ideal) a0 a1 a2 a3 a4).1 = fun _ => 1#1) (i : S16384x512.Idx) : IsReal (a0 i) :=
  isReal_of_lt (congrFun h i)

/-- The second component: the first keys are real. -/
theorem snd_read (h : (fn (F := Ideal) a0 a1 a2 a3 a4).2.1 = fun _ => 1#1) (i : S4x4096x512.Idx) : IsReal (a1 i) :=
  isReal_of_lt (congrFun h i)

/-- The third component: the second keys are real. -/
theorem third_read (h : (fn (F := Ideal) a0 a1 a2 a3 a4).2.2.1 = fun _ => 1#1) (i : S4x512x512.Idx) : IsReal (a2 i) :=
  isReal_of_lt (congrFun h i)

/-- Row 64 of the first values, as the precondition cuts it out. -/
theorem cut_apply (b h : Fin 4) (n : Fin 4096) :
    shapeCast S4x4x4096 (extractStridedSlice S4x4x1x4096 ![0, 0, 64, 0] (extf .f32 a3 facts.bitsLt_bf16_f32)
      facts.slices_S4x4x80x4096_S4x4x1x4096_0_0_64_0) facts.shapeCasts_S4x4x1x4096_S4x4x4096 (ix3 b h n) = (a3 (ix4 b h 64 n) : EReal) := by
  pointwise

/-- Row 64 of the second values, as the precondition cuts it out. -/
theorem cut_apply' (b h : Fin 4) (n : Fin 512) :
    shapeCast S4x4x512 (extractStridedSlice S4x4x1x512 ![0, 0, 64, 0] (extf .f32 a4 facts.bitsLt_bf16_f32)
      facts.slices_S4x4x80x512_S4x4x1x512_0_0_64_0) facts.shapeCasts_S4x4x1x512_S4x4x512 (ix3 b h n) = (a4 (ix4 b h 64 n) : EReal) := by
  pointwise

/-- The fourth component: row 64 of the first values holds ones. -/
theorem fourth_read (h : (fn (F := Ideal) a0 a1 a2 a3 a4).2.2.2.1 = fun _ => 1#1) (b g : Fin 4) (n : Fin 4096) :
    (a3 (ix4 b g 64 n) : EReal) = 1 :=
  (cut_apply a3 b g n).symm.trans (eq_one (congrFun h (ix3 b g n)))

/-- The fifth component: row 64 of the second values holds ones. -/
theorem fifth_read (h : (fn (F := Ideal) a0 a1 a2 a3 a4).2.2.2.2 = fun _ => 1#1) (b g : Fin 4) (n : Fin 512) :
    (a4 (ix4 b g 64 n) : EReal) = 1 :=
  (cut_apply' a4 b g n).symm.trans (eq_one (congrFun h (ix3 b g n)))

end Read

/-- The precondition on a memory gives what the kernel's value needs. -/
theorem fine {m : (ℓ : Loc Cert.KernelIdeal.nD Cert.KernelIdeal.τ Cert.KernelIdeal.sig) → Buf (Elt Ideal) ℓ}
    (h : Cert.Pre_KernelIdeal_ordinary m) (c : Dev Cert.KernelIdeal.nD) : Cert.Block.Fine m c where
  q := fst_read _ _ _ _ _ (h c).1
  k := snd_read _ _ _ _ _ (h c).2.1
  k' := third_read _ _ _ _ _ (h c).2.2.1
  v := fourth_read _ _ _ _ _ (h c).2.2.2.1
  v' := fifth_read _ _ _ _ _ (h c).2.2.2.2

end Cert.Pre
-- ==== Proof.Max.lean ====
/- The host's maximum along the last axis of a rank-four or rank-five array, at any sizes. -/
module

public import Idealize.ShloMosaic.Lib.Pointwise

@[expose] public section

noncomputable section

namespace Cert.Max

open Idealize.ShloMosaic

/-- The host's maximum along the last axis, and of that and another array, is the fold of `max` over that axis. -/
theorem reduce_max_last {n0 n1 n2 n3 : ℕ} {u : Shape} (x : FVec Ideal ⟨3, ![n0, n1, n2]⟩ .f32)
    (s : FVec Ideal ⟨4, ![n0, n1, n2, n3]⟩ .f32) (init : FVec Ideal u .f32)
    (h : (⟨4, ![n0, n1, n2, n3]⟩ : Shape).ReducesTo [3] ⟨3, ![n0, n1, n2]⟩) (hu : 0 < u.numel)
    (a : Fin n0) (b : Fin n1) (c : Fin n2) (z w : EReal) (hz : init (Shape.Idx.first hu) = z) (hw : x (ix3 a b c) = w) :
    maximumf x (Host.reduce FloatOps.maximumf s init h hu) (ix3 a b c)
      = (max w (Finset.univ.fold max z fun k : Fin n3 => s (ix4 a b c k)) : EReal) := by
  subst hz hw
  rw [maximumf_apply, Host.reduce_eq_fold, h.fold_fiber_r4_a3]
  rfl

/-- The same along the last axis of a rank-five array. -/
theorem reduce_max_last5 {n0 n1 n2 n3 n4 : ℕ} {u : Shape} (x : FVec Ideal ⟨4, ![n0, n1, n2, n3]⟩ .f32)
    (s : FVec Ideal ⟨5, ![n0, n1, n2, n3, n4]⟩ .f32) (init : FVec Ideal u .f32)
    (h : (⟨5, ![n0, n1, n2, n3, n4]⟩ : Shape).ReducesTo [4] ⟨4, ![n0, n1, n2, n3]⟩) (hu : 0 < u.numel)
    (a : Fin n0) (b : Fin n1) (c : Fin n2) (d : Fin n3) (z w : EReal) (hz : init (Shape.Idx.first hu) = z) (hw : x (ix4 a b c d) = w) :
    maximumf x (Host.reduce FloatOps.maximumf s init h hu) (ix4 a b c d)
      = (max w (Finset.univ.fold max z fun k : Fin n4 => s (ix5 a b c d k)) : EReal) := by
  subst hz hw
  rw [maximumf_apply, Host.reduce_eq_fold, h.fold_fiber_r5_a4]
  rfl

end Cert.Max
-- ==== Proof.Ref.lean ====
/- The reference's result read at an index, one intermediate array at a time. -/
module

public import proofs.«01_k».proof.Proof.Gen.ReferenceIdeal.Run
public import proofs.«01_k».proof.Proof.Spec
public import proofs.«01_k».proof.Proof.Max
public import Idealize.ShloMosaic.Lib.Pointwise
public import Idealize.ShloMosaic.Lib.Tactic.CleanTypes

@[expose] public section

set_option maxRecDepth 16384

noncomputable section

namespace Cert.Ref

open Idealize.ShloMosaic Idealize.ShloMosaic.TcCoe Cert.ReferenceIdeal Cert.ReferenceIdeal.Gen Cert.Soft Cert.Spec

/-- The queries, one axis for the batch and one for the head. -/
def qArr (a0 : FVec Ideal S16384x512 .bf16) : FVec Ideal S4x4096x4x128 .f32 :=
  shapeCast S4x4096x4x128 (extf .f32 a0 bitsLt_bf16_f32) shapeCasts_S16384x512_S4x4096x4x128

/-- Both key arrays, joined, one axis for the head. -/
def kArr (a1 : FVec Ideal S4x4096x512 .bf16) (a2 : FVec Ideal S4x512x512 .bf16) : FVec Ideal S4x4608x4x128 .f32 :=
  shapeCast S4x4608x4x128 (concatenate S4x4608x512 1 [⟨S4x4096x512, (extf .f32 a1 bitsLt_bf16_f32)⟩, ⟨S4x512x512, (extf .f32 a2 bitsLt_bf16_f32)⟩] concatenates_S4x4096x512_S4x512x512_S4x4608x512_d1) shapeCasts_S4x4608x512_S4x4608x4x128

/-- The first 64 rows of both value arrays, joined. -/
def vArr (a3 : FVec Ideal S4x4x80x4096 .bf16) (a4 : FVec Ideal S4x4x80x512 .bf16) : FVec Ideal S4x4x64x4608 .f32 :=
  concatenate S4x4x64x4608 3 [⟨S4x4x64x4096, (extractStridedSlice S4x4x64x4096 ![0, 0, 0, 0] (extf .f32 a3 bitsLt_bf16_f32) slices_S4x4x80x4096_S4x4x64x4096_0_0_0_0)⟩, ⟨S4x4x64x512, (extractStridedSlice S4x4x64x512 ![0, 0, 0, 0] (extf .f32 a4 bitsLt_bf16_f32) slices_S4x4x80x512_S4x4x64x512_0_0_0_0)⟩] concatenates_S4x4x64x4096_S4x4x64x512_S4x4x64x4608_d3

/-- The scores. -/
def sArr (q : FVec Ideal S4x4096x4x128 .f32) (k : FVec Ideal S4x4608x4x128 .f32) : FVec Ideal S4x4x4096x4608 .f32 :=
  mulf (Host.dotGeneral dot_S4x4096x4x128_S4x4608x4x128_S4x4x4096x4608_3_3_1_1_02_02 none q k) (broadcastInDim S4x4x4096x4608 ![] bcast_S_S4x4x4096x4608 (Host.log (constant S_ .f32 0x40000000#32)))

/-- Each query's greatest score. -/
def mArr (s : FVec Ideal S4x4x4096x4608 .f32) : FVec Ideal S4x4x4096 .f32 :=
  maximumf (broadcastInDim S4x4x4096 ![] bcast_S_S4x4x4096 (constant S_ .f32 0xFF800000#32)) (Host.reduce FloatOps.maximumf s (constant S_ .f32 0xFF800000#32) reducesTo_S4x4x4096x4608_S4x4x4096_d3 h_S_)

/-- An array with one entry per query, repeated for every key. -/
def spread (x : FVec Ideal S4x4x4096 .f32) : FVec Ideal S4x4x4096x4608 .f32 :=
  broadcastInDim S4x4x4096x4608 ![0, 1, 2, 3] bcast_S4x4x4096x1_S4x4x4096x4608_0_1_2_3 (broadcastInDim S4x4x4096x1 ![0, 1, 2] bcast_S4x4x4096_S4x4x4096x1_0_1_2 x)

/-- The exponentials. -/
def eArr (s : FVec Ideal S4x4x4096x4608 .f32) : FVec Ideal S4x4x4096x4608 .f32 :=
  Host.exp (subf s (spread (mArr s)))

/-- The softmax's weights. -/
def wArr (e : FVec Ideal S4x4x4096x4608 .f32) : FVec Ideal S4x4x4096x4608 .f32 :=
  Host.divf e (spread (Host.reduceAdd e (constant S_ .f32 0x00000000#32) reducesTo_S4x4x4096x4608_S4x4x4096_d3 h_S_))

/-- The result. -/
def oArr (v : FVec Ideal S4x4x64x4608 .f32) (w : FVec Ideal S4x4x4096x4608 .f32) : FVec Ideal S4x256x4096 .f32 :=
  shapeCast S4x256x4096 (Host.dotGeneral dot_S4x4x64x4608_S4x4x4096x4608_S4x4x64x4096_3_3_2_2_01_01 none v w) shapeCasts_S4x4x64x4096_S4x256x4096

/-- The reference's composed term is these arrays, one after another. -/
theorem res_eq (m : (ℓ : Loc nD τ sig) → Buf (Elt Ideal) ℓ) (c : Dev nD) :
    Value.res_main_v27 m c
      = oArr (vArr (m ((c.tc : Thread nD τ).loc main_arg3)) (m ((c.tc : Thread nD τ).loc main_arg4)))
          (wArr (eArr (sArr (qArr (m ((c.tc : Thread nD τ).loc main_arg0)))
            (kArr (m ((c.tc : Thread nD τ).loc main_arg1)) (m ((c.tc : Thread nD τ).loc main_arg2)))))) := rfl

/-- The logarithm of the pattern of 2. -/
theorem log_two : Ideal.log (Ideal.ofBits .f32 0x40000000#32) = ((Real.log 2 : ℝ) : EReal) := by
  have h : Ideal.ofBits .f32 0x40000000#32 = ((2 : ℝ) : EReal) := by
    simp [Ideal.ofBits, Ideal.ieee]
    rw [← EReal.coe_mul]; norm_num
  rw [h, Ideal.log_coe, if_neg (by norm_num)]

/-- The pattern the greatest score is sought from is `⊥`. -/
theorem ofBits_neg_inf : Ideal.ofBits .f32 0xFF800000#32 = (⊥ : EReal) := by
  simp [Ideal.ofBits, Ideal.ieee]

/-- The queries at an entry. -/
theorem qArr_apply (a0 : FVec Ideal S16384x512 .bf16) (b : Fin 4) (l : Fin 4096) (h : Fin 4) (d : Fin 128) :
    qArr a0 (ix4 b l h d) = (a0 (ix2 (row b l) (lane h d)) : EReal) := by
  pointwise [qArr]

/-- The keys at an entry. -/
theorem kArr_apply (a1 : FVec Ideal S4x4096x512 .bf16) (a2 : FVec Ideal S4x512x512 .bf16) (b : Fin 4) (n : Fin 4608) (h : Fin 4) (d : Fin 128) :
    kArr a1 a2 (ix4 b n h d) = (keyAt a1 a2 b n (lane h d) : EReal) := by
  pointwise [kArr]
  unfold keyAt
  have := n.isLt
  split
  · rfl
  · rw [dif_pos (by omega)]

/-- The values at an entry. -/
theorem vArr_apply (a3 : FVec Ideal S4x4x80x4096 .bf16) (a4 : FVec Ideal S4x4x80x512 .bf16) (b h : Fin 4) (e : Fin 64) (n : Fin 4608) :
    vArr a3 a4 (ix4 b h e n) = (valAt a3 a4 b h ⟨e, by omega⟩ n : EReal) := by
  pointwise [vArr]
  unfold valAt
  have := n.isLt
  split
  · rfl
  · rw [dif_pos (by omega)]

/-- A score. -/
theorem sArr_apply (q : FVec Ideal S4x4096x4x128 .f32) (k : FVec Ideal S4x4608x4x128 .f32) (b h : Fin 4) (l : Fin 4096) (n : Fin 4608) :
    sArr q k (ix4 b h l n) = ((∑ d : Fin 128, q (ix4 b l h d) * k (ix4 b n h d)) * ((Real.log 2 : ℝ) : EReal) : EReal) := by
  pointwise [sArr]
  rw [log_two]

/-- The array of the least value, at an entry. -/
theorem bot_apply (b h : Fin 4) (l : Fin 4096) :
    broadcastInDim S4x4x4096 ![] bcast_S_S4x4x4096 (constant (F := Ideal) S_ .f32 0xFF800000#32) (ix3 b h l) = (⊥ : EReal) := by
  pointwise
  exact ofBits_neg_inf

/-- A query's greatest score. -/
theorem mArr_apply (s : FVec Ideal S4x4x4096x4608 .f32) (b h : Fin 4) (l : Fin 4096) :
    mArr s (ix3 b h l) = (max ⊥ (Finset.univ.fold max ⊥ fun k : Fin 4608 => s (ix4 b h l k)) : EReal) :=
  Max.reduce_max_last _ s _ reducesTo_S4x4x4096x4608_S4x4x4096_d3 h_S_ b h l ⊥ ⊥ ofBits_neg_inf (bot_apply b h l)

/-- The repeated array at an entry. -/
theorem spread_apply (x : FVec Ideal S4x4x4096 .f32) (b h : Fin 4) (l : Fin 4096) (n : Fin 4608) :
    spread x (ix4 b h l n) = x (ix3 b h l) := by
  pointwise [spread]

/-- An exponential. -/
theorem eArr_apply (s : FVec Ideal S4x4x4096x4608 .f32) (b h : Fin 4) (l : Fin 4096) (n : Fin 4608) :
    eArr s (ix4 b h l n) = Ideal.exp (s (ix4 b h l n) - mArr s (ix3 b h l) : EReal) := by
  rw [← spread_apply (mArr s) b h l n]
  rfl

/-- A weight. -/
theorem wArr_apply (e : FVec Ideal S4x4x4096x4608 .f32) (b h : Fin 4) (l : Fin 4096) (n : Fin 4608) :
    wArr e (ix4 b h l n) = Ideal.div (e (ix4 b h l n)) (0 + ∑ k : Fin 4608, e (ix4 b h l k) : EReal) := by
  pointwise [wArr, spread]

/-- An entry of the result: the weighted sum of the values. -/
theorem oArr_apply (v : FVec Ideal S4x4x64x4608 .f32) (w : FVec Ideal S4x4x4096x4608 .f32) (b h : Fin 4) (e : Fin 64) (l : Fin 4096) :
    oArr v w (ix3 b ⟨h * 64 + e, by omega⟩ l) = (∑ k : Fin 4608, v (ix4 b h e k) * w (ix4 b h l k) : EReal) := by
  pointwise [oArr]

/-- The arrays one after another give the attention's mathematics. -/
theorem arr_apply (a0 : FVec Ideal S16384x512 .bf16) (a1 : FVec Ideal S4x4096x512 .bf16) (a2 : FVec Ideal S4x512x512 .bf16)
    (a3 : FVec Ideal S4x4x80x4096 .bf16) (a4 : FVec Ideal S4x4x80x512 .bf16) (b h : Fin 4) (e : Fin 64) (l : Fin 4096) :
    oArr (vArr a3 a4) (wArr (eArr (sArr (qArr a0) (kArr a1 a2)))) (ix3 b ⟨h * 64 + e, by omega⟩ l)
      = (attn a0 a1 a2 a3 a4 b h e l : EReal) := by
  have hs : ∀ n : Fin 4608, sArr (qArr a0) (kArr a1 a2) (ix4 b h l n) = (nat a0 a1 a2 b h l n : EReal) := fun n => by
    rw [sArr_apply]
    unfold nat score
    simp only [qArr_apply, kArr_apply, mul_comm]
  rw [oArr_apply]
  refine Finset.sum_congr rfl fun k _ => ?_
  rw [vArr_apply, wArr_apply]
  simp only [eArr_apply, mArr_apply, hs]
  rfl

/-- The reference's result: the attention's mathematics. -/
theorem res_apply (m : (ℓ : Loc nD τ sig) → Buf (Elt Ideal) ℓ) (c : Dev nD) (b h : Fin 4) (e : Fin 64) (l : Fin 4096) :
    Value.res_main_v27 m c (ix3 b ⟨h * 64 + e, by omega⟩ l)
      = (attn (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) b h e l : EReal) := by
  rw [res_eq]
  exact arr_apply _ _ _ _ _ b h e l

end Cert.Ref
-- ==== Proof.Attention.lean ====
/- The attention's claim: kernel and reference, from one memory's arguments, leave one array. -/
module

public import proofs.«01_k».proof.Proof.Pre
public import proofs.«01_k».proof.Proof.Ref
public import proofs.«01_k».proof.Proof.Gen.KernelIdeal.Value

@[expose] public section

noncomputable section

namespace Cert.Attention

open Idealize.ShloMosaic Idealize.SL.Sem

/-- The reference's array, from the kernel's arguments, is the array the kernel leaves. -/
theorem reference_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) :
    Cert.ReferenceIdeal.Value.res_main_v27 m' c = Cert.Block.G m c := by
  refine funext fun i => ?_
  obtain ⟨b, r, l, rfl⟩ : ∃ (b : Fin 4) (r : Fin 256) (l : Fin 4096), i = ix3 b r l := ⟨i 0, i 1, i 2, by ext a; fin_cases a <;> rfl⟩
  obtain ⟨h, e, rfl⟩ : ∃ (h : Fin 4) (e : Fin 64), r = ⟨h.val * 64 + e.val, by omega⟩ :=
    ⟨⟨r / 64, by omega⟩, ⟨r % 64, by omega⟩, Fin.ext (by show r.val = r.val / 64 * 64 + r.val % 64; omega)⟩
  refine (Cert.Ref.res_apply m' c b h e l).trans ?_
  rw [h0, h1, h2, h3, h4]
  exact (Cert.Block.G_place c b h e l).symm

/-- The claim: with ordinary arguments, the optimised attention and the plain one leave the same array. -/
theorem holds : Cert.algebraic_KernelIdeal_ReferenceIdeal_pre_ordinary := fun m g m' g' hpre hag =>
  ⟨fun c => Cert.Block.G m c,
    (θ_run _ _ _).mono (fun r h c => ⟨(h c).1.trans (Cert.Block.final (Cert.Pre.fine hpre c)), (h c).2⟩)
      (Cert.KernelIdeal.Value.run_blocks m g),
    (θ_run _ _ _).mono (fun r h c => ⟨(h c).1.trans (reference_eq m m' c (hag c).1 (hag c).2.1 (hag c).2.2.1 (hag c).2.2.2.1 (hag c).2.2.2.2), (h c).2⟩)
      (Cert.ReferenceIdeal.Value.run m' g')⟩

end Cert.Attention
-- ==== Proof.InSpec.lean ====
/- The input projection's mathematics over the extended reals, from the arrays that the call is given. -/
module

public import Idealize.ShloMosaic.Lib.Pointwise

@[expose] public section

noncomputable section

namespace Cert.In

open Idealize.ShloMosaic

/-- One entry of a normalised row: the entry, over the root of the row's mean square, times the entry's gain.
    `n` is the row's length and `ε` the number added to the mean, as the programs have them. -/
def unit {J : ℕ} (n ε : EReal) (x g : Fin J → EReal) (d : Fin J) : EReal :=
  x d * Ideal.rsqrt (Ideal.div (∑ e, x e * x e) n + ε) * g d

/-- The batch of a row. -/
abbrev batch (r : Fin 16384) : Fin 4 := ⟨r / 4096, by omega⟩

/-- One entry of the input projection: the normalised row, scaled and shifted by its batch's modulation, times a
    column of the weights. -/
def proj (a0 : (⟨2, ![16384, 1024]⟩ : Shape).Idx → EReal) (a1 : (⟨3, ![4, 3, 1024]⟩ : Shape).Idx → EReal)
    (a2 : (⟨1, ![1024]⟩ : Shape).Idx → EReal) (a3 : (⟨2, ![1024, 4096]⟩ : Shape).Idx → EReal)
    (r : Fin 16384) (n : Fin 4096) : EReal :=
  ∑ d : Fin 1024, (unit (Ideal.ofBits .f32 0x44800000#32) (Ideal.ofBits .f32 0x358637BD#32)
      (fun e => a0 (ix2 r e)) (fun e => a2 (ix1 e)) d
    * (Ideal.ofBits .f32 0x3F800000#32 + a1 (ix3 (batch r) 1 d)) + a1 (ix3 (batch r) 0 d)) * a3 (ix2 d n)

end Cert.In
-- ==== Proof.InArray.lean ====
/- The input projection kernel's result array. -/
module

public import proofs.«01_k».proof.Proof.Gen.Kernel2Ideal.Value
public import proofs.«01_k».proof.Proof.InSpec
public import Idealize.ShloMosaic.Lib.Pipeline.ValueKit
public import Idealize.ShloMosaic.Lib.Pipeline.Covers
public import Idealize.ShloMosaic.Lib.Claim
public import Idealize.ShloMosaic.Lib.Tactic.CleanTypes

@[expose] public section

set_option maxRecDepth 16384

noncomputable section

namespace Cert.In

open Idealize.ShloMosaic Idealize.ShloMosaic.TcCoe Cert.Kernel2Ideal Cert.Kernel2Ideal.Gen

/-- What one grid point computes, at an entry, from the blocks it loads. -/
theorem pay_apply (v0 : Vec Ideal S512x1024 .f32) (v1 : Vec Ideal S1x1024 .f32) (v15 v21 : Vec Ideal S1x1x1024 .f32)
    (v26 : Vec Ideal S1024x4096 .bf16) (y : Fin 512) (n : Fin 4096) :
    k0_pay1 (F := Ideal) v0 v1 v15 v21 v26 (ix2 y n)
      = (∑ d : Fin 1024, (unit (Ideal.ofBits .f32 0x44800000#32) (Ideal.ofBits .f32 0x358637BD#32)
            (fun e => v0 (ix2 y e)) (fun e => v1 (ix2 0 e)) d
          * (Ideal.ofBits .f32 0x3F800000#32 + v15 (ix3 0 0 d)) + v21 (ix3 0 0 d)) * v26 (ix2 d n) : EReal) := by
  unfold unit
  pointwise [k0_pay1]

variable (m : (ℓ : Loc nD τ sig) → Buf (Elt Ideal) ℓ)

/-- The tile of rows of a grid point. -/
def tile (t : Fin cfg0.N) : Fin 32 := ⟨(grid0.coords t 0).val, (grid0.coords t 0).isLt⟩

/-- Row `y` of a grid point's tile. -/
def rowAt (t : Fin cfg0.N) (y : Fin 512) : Fin 16384 := ⟨(tile t).val * 512 + y.val, by omega⟩

/-- Where each window stands at a grid point. -/
theorem idx : ∀ t : Fin cfg0.N, win0_0.index t = ![(tile t).val, 0] ∧ win0_1.index t = ![(tile t).val / 8, 0, 0]
    ∧ win0_2.index t = ![0, 0] ∧ win0_3.index t = ![0, 0] ∧ win0_4.index t = ![(tile t).val, 0] := by
  decide +kernel

/-- The tile of rows, read from the array. -/
theorem read0 (c : Dev nD) (t : Fin cfg0.N) (y : Fin 512) (d : Fin 1024) :
    iblk m c 0 t (ix2 y d) = m ((c.tc : Thread nD τ).loc main_arg0) (ix2 (rowAt t y) d) := by
  have h := (idx t).1
  rw [← V_main_arg0 m c]
  unfold rowAt
  blk_ext [iblk, h]

/-- The batch's modulation, read from the array. -/
theorem read1 (c : Dev nD) (t : Fin cfg0.N) (y : Fin 512) (k : Fin 3) (d : Fin 1024) :
    iblk m c 1 t (ix3 0 k d) = m ((c.tc : Thread nD τ).loc main_arg1) (ix3 (batch (rowAt t y)) k d) := by
  have h := (idx t).2.1
  have hb : (batch (rowAt t y)).val = (tile t).val / 8 := by
    show ((tile t).val * 512 + y.val) / 4096 = _; omega
  rw [← V_main_arg1 m c]
  obtain ⟨b, hb'⟩ : ∃ b, b = batch (rowAt t y) := ⟨_, rfl⟩
  rw [← hb'] at hb ⊢
  blk_ext [iblk, h, hb]

/-- The gains as the region finds them. -/
theorem gains (c : Dev nD) (e : Fin 1024) :
    V m c main_v0 (ix2 0 e) = m ((c.tc : Thread nD τ).loc main_arg2) (ix1 e) := by
  entry_read
  pointwise

/-- The gains, read from the array. -/
theorem read2 (c : Dev nD) (t : Fin cfg0.N) (e : Fin 1024) :
    iblk m c 2 t (ix2 0 e) = m ((c.tc : Thread nD τ).loc main_arg2) (ix1 e) := by
  have h := (idx t).2.2.1
  rw [← gains m c]
  blk_ext [iblk, h]

/-- The weights, read from the array. -/
theorem read3 (c : Dev nD) (t : Fin cfg0.N) (d : Fin 1024) (n : Fin 4096) :
    iblk m c 3 t (ix2 d n) = m ((c.tc : Thread nD τ).loc main_arg3) (ix2 d n) := by
  have h := (idx t).2.2.2.1
  rw [← V_main_arg3 m c]
  blk_ext [iblk, h]

/-- The whole result array. -/
def G (c : Dev nD) : S16384x4096.Idx → EReal := fun i =>
  proj (m ((c.tc : Thread nD τ).loc main_arg0)) (m ((c.tc : Thread nD τ).loc main_arg1)) (m ((c.tc : Thread nD τ).loc main_arg2))
    (m ((c.tc : Thread nD τ).loc main_arg3)) (i 0) (i 1)

/-- Every block of the result array is written. -/
theorem covers4 : (cfg0.win 4).Covers :=
  (cfg0.win 4).covers_of_indexMap_surj rfl (by decide) fun β => by
    have key : ∀ i : grid0.Coords, cc0_transform_4 i = ![(i 0).val, 0] := by decide +kernel
    have h1 : (β 1).val = 0 := by have := (β 1).isLt; have e : (cfg0.win 4).nblk 1 = 1 := by decide
                                  omega
    let i : grid0.Coords := fun a =>
      ⟨(β 0).val, lt_of_lt_of_le (β 0).isLt ((by decide : ∀ a : Fin 1, (cfg0.win 4).nblk 0 ≤ grid0.bound a) a)⟩
    refine ⟨i, fun a => ?_⟩
    show cc0_transform_4 i a = _
    rw [key i]
    fin_cases a
    · rfl
    · exact h1.symm

/-- The place in the result array of an entry of a grid point's block. -/
theorem place (t : Fin cfg0.N) (y : Fin 512) (n : Fin 4096) :
    ((View.whole main_v1).slice (win0_4.rect t)).emb (ix2 y n) = ix2 (rowAt t y) n := by
  have h := (idx t).2.2.2.2
  unfold rowAt
  blk_ext [h]

/-- What one grid point leaves in its block, from its input blocks. -/
def blockOf (x0 : Vec Ideal S512x1024 .f32) (x1 : Vec Ideal S1x3x1024 .f32) (x2 : Vec Ideal S1x1024 .f32)
    (x3 : Vec Ideal S1024x4096 .bf16) : FVec Ideal S512x4096 .f32 :=
  k0_pay1 (View.ld x0 r0_0) (View.ld x2 r0_1) (View.ld x1 r0_2) (View.ld x1 r0_3) (View.ld x3 r0_4)

/-- The output buffer after a grid point, by that name. -/
theorem out_eq (x0 : Vec Ideal S512x1024 .f32) (x1 : Vec Ideal S1x3x1024 .f32) (x2 : Vec Ideal S1x1024 .f32)
    (x3 : Vec Ideal S1024x4096 .bf16) : out0_4 x0 x1 x2 x3 = View.canon [⟨r0_5, blockOf x0 x1 x2 x3⟩] := rfl

/-- An entry of a grid point's block. -/
theorem blockOf_apply (x0 : Vec Ideal S512x1024 .f32) (x1 : Vec Ideal S1x3x1024 .f32) (x2 : Vec Ideal S1x1024 .f32)
    (x3 : Vec Ideal S1024x4096 .bf16) (y : Fin 512) (n : Fin 4096) :
    blockOf x0 x1 x2 x3 (ix2 y n)
      = (∑ d : Fin 1024, (unit (Ideal.ofBits .f32 0x44800000#32) (Ideal.ofBits .f32 0x358637BD#32)
            (fun e => x0 (ix2 y e)) (fun e => x2 (ix2 0 e)) d
          * (Ideal.ofBits .f32 0x3F800000#32 + x1 (ix3 0 1 d)) + x1 (ix3 0 0 d)) * x3 (ix2 d n) : EReal) := by
  have h0 : ∀ e, View.ld x0 r0_0 (ix2 y e) = x0 (ix2 y e) := fun e => by pointwise
  have h1 : ∀ e, View.ld x2 r0_1 (ix2 0 e) = x2 (ix2 0 e) := fun e => by pointwise
  have h2 : ∀ e, View.ld x1 r0_2 (ix3 0 0 e) = x1 (ix3 0 1 e) := fun e => by pointwise
  have h3 : ∀ e, View.ld x1 r0_3 (ix3 0 0 e) = x1 (ix3 0 0 e) := fun e => by pointwise
  have h4 : ∀ d, View.ld x3 r0_4 (ix2 d n) = x3 (ix2 d n) := fun e => by pointwise
  unfold blockOf
  rw [pay_apply]
  simp only [h0, h1, h2, h3, h4]

/-- What one grid point writes, at its place in the array. -/
theorem point (c : Dev nD) (t : Fin cfg0.N) (y : Fin 512) (n : Fin 4096) :
    blockOf (iblk m c 0 t) (iblk m c 1 t) (iblk m c 2 t) (iblk m c 3 t) (ix2 y n) = G m c (ix2 (rowAt t y) n) := by
  rw [blockOf_apply]
  simp only [read0, read1 m c t y, read2, read3]
  rfl

variable {m}

/-- The same at any index of the block. -/
theorem point_G (c : Dev nD) (t : Fin cfg0.N) (y : S512x4096.Idx) :
    blockOf (iblk m c 0 t) (iblk m c 1 t) (iblk m c 2 t) (iblk m c 3 t) y
      = G m c (((View.whole main_v1).slice (win0_4.rect t)).emb y) := by
  obtain ⟨y, n, rfl⟩ : ∃ (q : Fin 512) (n : Fin 4096), y = ix2 q n := ⟨y 0, y 1, eq_ix2 y⟩
  rw [place, point]

/-- The result array after the run. -/
theorem final (c : Dev nD) : (dats m 0 c).arrAt 4 cfg0.N = G m c := by
  refine (dats m 0 c).arrAt_eq_of_covers 4 _ covers4 fun t hf y => ?_
  blk_simp
  rw [after0_4, out_eq]
  frame_out
  exact point_G c t y

end Cert.In
-- ==== Proof.InRef.lean ====
/- The input projection's reference read at an index. -/
module

public import proofs.«01_k».proof.Proof.Gen.Reference2Ideal.Run
public import proofs.«01_k».proof.Proof.InSpec
public import Idealize.ShloMosaic.Lib.Tactic.CleanTypes

@[expose] public section

set_option maxRecDepth 16384

noncomputable section

namespace Cert.In.Ref

open Idealize.ShloMosaic Idealize.ShloMosaic.TcCoe Cert.Reference2Ideal Cert.Reference2Ideal.Gen Cert.In

/-- The rows, one axis for the batch. -/
def xArr (a0 : FVec Ideal S16384x1024 .f32) : FVec Ideal S4x4096x1024 .f32 :=
  shapeCast S4x4096x1024 a0 shapeCasts_S16384x1024_S4x4096x1024

/-- The normalised rows. -/
def uArr (x : FVec Ideal S4x4096x1024 .f32) (a2 : FVec Ideal S1024 .f32) : FVec Ideal S4x4096x1024 .f32 :=
  mulf (mulf x (broadcastInDim S4x4096x1024 ![0, 1, 2] bcast_S4x4096x1_S4x4096x1024_0_1_2 (Host.rsqrt (addf (Host.divf (broadcastInDim S4x4096x1 ![0, 1] bcast_S4x4096_S4x4096x1_0_1 (Host.reduceAdd (mulf x x) (constant S_ .f32 0x00000000#32) reducesTo_S4x4096x1024_S4x4096_d2 h_S_)) (broadcastInDim S4x4096x1 ![] bcast_S_S4x4096x1 (constant S_ .f32 0x44800000#32))) (broadcastInDim S4x4096x1 ![] bcast_S_S4x4096x1 (constant S_ .f32 0x358637BD#32)))))) (broadcastInDim S4x4096x1024 ![0, 1, 2] bcast_S1x1x1024_S4x4096x1024_0_1_2 (broadcastInDim S1x1x1024 ![2] bcast_S1024_S1x1x1024_2 a2))

/-- The modulated rows. -/
def hArr (u : FVec Ideal S4x4096x1024 .f32) (a1 : FVec Ideal S4x3x1024 .f32) : FVec Ideal S4x4096x1024 .f32 :=
  addf (mulf u (broadcastInDim S4x4096x1024 ![0, 1, 2] bcast_S4x1x1024_S4x4096x1024_0_1_2 (addf (broadcastInDim S4x1x1024 ![] bcast_S_S4x1x1024 (constant S_ .f32 0x3F800000#32)) (broadcastInDim S4x1x1024 ![0, 2] bcast_S4x1024_S4x1x1024_0_2 (shapeCast S4x1024 (extractStridedSlice S4x1x1024 ![0, 1, 0] a1 slices_S4x3x1024_S4x1x1024_0_1_0) shapeCasts_S4x1x1024_S4x1024))))) (broadcastInDim S4x4096x1024 ![0, 1, 2] bcast_S4x1x1024_S4x4096x1024_0_1_2 (broadcastInDim S4x1x1024 ![0, 2] bcast_S4x1024_S4x1x1024_0_2 (shapeCast S4x1024 (extractStridedSlice S4x1x1024 ![0, 0, 0] a1 slices_S4x3x1024_S4x1x1024_0_0_0) shapeCasts_S4x1x1024_S4x1024)))

/-- The projected rows. -/
def pArr (h : FVec Ideal S4x4096x1024 .f32) (a3 : FVec Ideal S1024x4096 .bf16) : FVec Ideal S16384x4096 .f32 :=
  shapeCast S16384x4096 (Host.dotGeneral dot_S4x4096x1024_S1024x4096_S4x4096x4096_2_0_01_1_n_n none h (extf .f32 a3 bitsLt_bf16_f32)) shapeCasts_S4x4096x4096_S16384x4096

/-- A row's entry. -/
theorem xArr_apply (a0 : FVec Ideal S16384x1024 .f32) (b : Fin 4) (l : Fin 4096) (d : Fin 1024) :
    xArr a0 (ix3 b l d) = (a0 (ix2 ⟨b * 4096 + l, by omega⟩ d) : EReal) := by
  pointwise [xArr]

/-- A normalised entry. -/
theorem uArr_apply (x : FVec Ideal S4x4096x1024 .f32) (a2 : FVec Ideal S1024 .f32) (b : Fin 4) (l : Fin 4096) (d : Fin 1024) :
    uArr x a2 (ix3 b l d) = (unit (Ideal.ofBits .f32 0x44800000#32) (Ideal.ofBits .f32 0x358637BD#32)
      (fun e => x (ix3 b l e)) (fun e => a2 (ix1 e)) d : EReal) := by
  unfold unit
  pointwise [uArr]

/-- A modulated entry. -/
theorem hArr_apply (u : FVec Ideal S4x4096x1024 .f32) (a1 : FVec Ideal S4x3x1024 .f32) (b : Fin 4) (l : Fin 4096) (d : Fin 1024) :
    hArr u a1 (ix3 b l d) = (u (ix3 b l d) * (Ideal.ofBits .f32 0x3F800000#32 + a1 (ix3 b 1 d)) + a1 (ix3 b 0 d) : EReal) := by
  pointwise [hArr]

/-- An entry of the projection. -/
theorem pArr_apply (h : FVec Ideal S4x4096x1024 .f32) (a3 : FVec Ideal S1024x4096 .bf16) (b : Fin 4) (l n : Fin 4096) :
    pArr h a3 (ix2 ⟨b * 4096 + l, by omega⟩ n) = (∑ d : Fin 1024, h (ix3 b l d) * a3 (ix2 d n) : EReal) := by
  pointwise [pArr]

/-- The arrays one after another give the projection's mathematics. -/
theorem arr_apply (a0 : FVec Ideal S16384x1024 .f32) (a1 : FVec Ideal S4x3x1024 .f32) (a2 : FVec Ideal S1024 .f32)
    (a3 : FVec Ideal S1024x4096 .bf16) (r : Fin 16384) (n : Fin 4096) :
    pArr (hArr (uArr (xArr a0) a2) a1) a3 (ix2 r n) = (proj a0 a1 a2 a3 r n : EReal) := by
  obtain ⟨b, l, rfl⟩ : ∃ (b : Fin 4) (l : Fin 4096), r = ⟨b.val * 4096 + l.val, by omega⟩ :=
    ⟨⟨r / 4096, by omega⟩, ⟨r % 4096, by omega⟩, Fin.ext (by show r.val = r.val / 4096 * 4096 + r.val % 4096; omega)⟩
  have hb : batch ⟨b.val * 4096 + l.val, by omega⟩ = b := Fin.ext (by show (b.val * 4096 + l.val) / 4096 = b.val; omega)
  rw [pArr_apply]
  unfold proj
  simp only [hArr_apply, uArr_apply, xArr_apply, hb]

end Cert.In.Ref
-- ==== Proof.InProj.lean ====
/- The input projection's claim: kernel and reference, from one memory's arguments, leave one array. -/
module

public import proofs.«01_k».proof.Defs
public import proofs.«01_k».proof.Proof.InArray
public import proofs.«01_k».proof.Proof.InRef

@[expose] public section

noncomputable section

namespace Cert.In

open Idealize.ShloMosaic Idealize.SL.Sem

/-- The reference's array, from the kernel's arguments, is the array the kernel leaves. -/
theorem reference_eq (a0 : FVec Ideal Cert.Reference2Ideal.S16384x1024 .f32) (a1 : FVec Ideal Cert.Reference2Ideal.S4x3x1024 .f32)
    (a2 : FVec Ideal Cert.Reference2Ideal.S1024 .f32) (a3 : FVec Ideal Cert.Reference2Ideal.S1024x4096 .bf16) :
    Ref.pArr (Ref.hArr (Ref.uArr (Ref.xArr a0) a2) a1) a3 = fun i => (proj a0 a1 a2 a3 (i 0) (i 1) : EReal) := by
  refine funext fun i => ?_
  obtain ⟨r, n, rfl⟩ : ∃ (r : Fin 16384) (n : Fin 4096), i = ix2 r n := ⟨i 0, i 1, eq_ix2 i⟩
  exact Ref.arr_apply a0 a1 a2 a3 r n

/-- The claim: the optimised projection and the plain one leave the same array. -/
theorem holds : Cert.algebraic_Kernel2Ideal_Reference2Ideal := fun m g m' g' _ hag =>
  ⟨fun c => G m c,
    (θ_run _ _ _).mono (fun r h c => ⟨(h c).1.trans (final c), (h c).2⟩) (Cert.Kernel2Ideal.Value.run_blocks m g),
    (θ_run _ _ _).mono (fun r h c => ⟨by
      refine (h c).1.trans ((reference_eq _ _ _ _).trans ?_)
      rw [(hag c).1, (hag c).2.1, (hag c).2.2.1, (hag c).2.2.2]
      rfl, (h c).2⟩)
      (Cert.Reference2Ideal.Value.run m' g')⟩

end Cert.In
-- ==== Proof.DiffBlock.lean ====
/- One grid point of the differential attention as two recursions over its eighteen chunks of keys, one per map of
   queries, and what is done with the two results. -/
module

public import proofs.«01_k».proof.Proof.Gen.Kernel3Ideal.Value
public import Idealize.ShloMosaic.Lib.Pipeline.ValueKit

@[expose] public section

set_option maxRecDepth 16384

noncomputable section

namespace Cert.Diff

open Idealize.ShloMosaic Cert.Kernel3Ideal Cert.Kernel3Ideal.Gen

variable {F : FTy → Type} [FloatOps F]

/-- The first lane of the head's pair of maps, as the word that the grid point computes: 64 times the head's remainder. -/
def base (i : grid0.Coords) : BitVec 32 :=
  let n : BitVec 32 := Scalar.select (Scalar.cmpi .eq 2#32 0#32) 1#32 2#32
  let r : BitVec 32 := Scalar.remsi (BitVec.ofNat 32 (i 1).val) n
  Scalar.muli (Scalar.select (Scalar.andi (Scalar.xori (Scalar.cmpi .slt r 0#32) (Scalar.cmpi .slt n 0#32)) (Scalar.cmpi .ne r 0#32))
    (Scalar.addi r n) r) 64#32

/-- The queries on the 32 lanes from `w` on, zero on the others. -/
def mq (w : BitVec 32) (q : Vec F S512x128 .bf16) : Vec F S512x128 .bf16 :=
  select (andi (cmpi .sge (iota .tc S512x128 32 [1] iota_S512x128_d1_w32) (broadcast S512x128 w))
    (cmpi .slt (iota .tc S512x128 32 [1] iota_S512x128_d1_w32) (broadcast S512x128 (Scalar.addi w 32#32)))) q
    (broadcast S512x128 (Scalar.ofBits .bf16 0x0000#16 : F .bf16) : FVec F S512x128 .bf16)

/-- The scores of 256 keys (rows) against the block's 512 queries (columns). -/
def sc (q : Vec F S512x128 .bf16) (k : Vec F S1x256x128 .bf16) : FVec F S256x512 .f32 :=
  matmul dot_S256x128_S512x128_S256x512_1_1_0_0_n_n none
    (shapeCast S256x128 k shapeCasts_S1x256x128_S256x128 : FVec F S256x128 .bf16) q (constant S256x512 .f32 0x00000000#32)

/-- Each query's greatest score among 256 keys. -/
def cm (s : FVec F S256x512 .f32) : FVec F S1x512 .f32 :=
  shapeCast S1x512 (multiReduction .maximumf [0] S512 s 0xFF800000#32 reduces_S256x512_S512 (.inl rfl) rfl)
    shapeCasts_S512_S1x512

/-- The values of 256 keys times their weights `2 ^ (score - m)`. -/
def pv (s : FVec F S256x512 .f32) (m : FVec F S1x512 .f32) (v : Vec F S1x1x80x256 .bf16) : FVec F S80x512 .f32 :=
  matmul dot_S80x256_S256x512_S80x512_1_0_0_1_n_n none (shapeCast S80x256 v shapeCasts_S1x1x80x256_S80x256 : FVec F S80x256 .bf16)
    (truncf .bf16 (exp2 (subf s (broadcastTo S256x512 m broadcasts_S1x512_S256x512))) bitsLt_bf16_f32)
    (constant S80x512 .f32 0x00000000#32)

/-- The running greatest score after chunk `c`. -/
def mx (s : ℕ → FVec F S256x512 .f32) : ℕ → FVec F S1x512 .f32
  | 0 => cm (s 0)
  | c + 1 => maximumf (mx s c) (cm (s (c + 1)))

/-- The accumulator after chunk `c`. -/
def ac (s : ℕ → FVec F S256x512 .f32) (v : ℕ → Vec F S1x1x80x256 .bf16) : ℕ → FVec F S80x512 .f32
  | 0 => pv (s 0) (mx s 0) (v 0)
  | c + 1 => addf (mulf (ac s v c) (broadcastTo S80x512 (exp2 (subf (mx s c) (mx s (c + 1)))) broadcasts_S1x512_S80x512))
      (pv (s (c + 1)) (mx s (c + 1)) (v (c + 1)))

/-- The quotient of the accumulator's first 64 rows by its row 64. -/
def quo (a : FVec F S80x512 .f32) : FVec F S64x512 .f32 :=
  divf (extractStridedSlice S64x512 ![0, 0] a slices_S80x512_o0_0_S64x512)
    (broadcastTo S64x512 (extractStridedSlice S1x512 ![64, 0] a slices_S80x512_o64_0_S1x512) broadcasts_S1x512_S64x512)

/-- The factor of the second map. -/
def lamOf (l : Vec F S4x32 .f32) : FVec F S1x1 .f32 :=
  addf (subf
    (exp (shapeCast S1x1 (multiReduction .add [1] S1 (mulf (extractStridedSlice S1x32 ![0, 0] l slices_S4x32_o0_0_S1x32 : FVec F S1x32 .f32)
      (extractStridedSlice S1x32 ![1, 0] l slices_S4x32_o1_0_S1x32)) 0x00000000#32 reduces_S1x32_S1 (.inl rfl) rfl) shapeCasts_S1_S1x1))
    (exp (shapeCast S1x1 (multiReduction .add [1] S1 (mulf (extractStridedSlice S1x32 ![2, 0] l slices_S4x32_o2_0_S1x32 : FVec F S1x32 .f32)
      (extractStridedSlice S1x32 ![3, 0] l slices_S4x32_o3_0_S1x32)) 0x00000000#32 reduces_S1x32_S1 (.inl rfl) rfl) shapeCasts_S1_S1x1)))
    (broadcast S1x1 (Scalar.ofBits .f32 0x3E4CCCCD#32 : F .f32))

/-- The first map's result less the factor times the second's. -/
def dif (l : FVec F S1x1 .f32) (a b : FVec F S64x512 .f32) : FVec F S64x512 .f32 :=
  subf a (mulf (broadcastTo S64x512 l broadcasts_S1x1_S64x512) b)

/-- Every column normalised by the root of its mean square, times the gains, times the last factor. -/
def nrm (o : FVec F S64x512 .f32) (g : Vec F S64x1 .f32) : FVec F S64x512 .f32 :=
  mulf (mulf (mulf o (broadcastTo S64x512 (rsqrt (addf
    (divf (shapeCast S1x512 (multiReduction .add [0] S512 (mulf o o) 0x00000000#32 reduces_S64x512_S512 (.inl rfl) rfl) shapeCasts_S512_S1x512)
      (broadcast S1x512 (Scalar.ofBits .f32 0x42800000#32 : F .f32)))
    (broadcast S1x512 (Scalar.ofBits .f32 0x358637BD#32 : F .f32)))) broadcasts_S1x512_S64x512))
    (broadcastTo S64x512 g broadcasts_S64x1_S64x512)) (broadcast S64x512 (Scalar.ofBits .f32 0x3F4CCCCD#32 : F .f32))

/-- The sixteen loads of the first key array and the two of the second, in the order of the keys. -/
def kl (x1 : Vec F S1x4096x128 .bf16) (x2 : Vec F S1x512x128 .bf16) : ℕ → Vec F S1x256x128 .bf16
  | 0 => View.ld x1 r0_2 | 1 => View.ld x1 r0_3 | 2 => View.ld x1 r0_4 | 3 => View.ld x1 r0_5
  | 4 => View.ld x1 r0_6 | 5 => View.ld x1 r0_7 | 6 => View.ld x1 r0_8 | 7 => View.ld x1 r0_10
  | 8 => View.ld x1 r0_12 | 9 => View.ld x1 r0_14 | 10 => View.ld x1 r0_16 | 11 => View.ld x1 r0_18
  | 12 => View.ld x1 r0_20 | 13 => View.ld x1 r0_22 | 14 => View.ld x1 r0_24 | 15 => View.ld x1 r0_26
  | 16 => View.ld x2 r0_28 | _ => View.ld x2 r0_30

/-- The sixteen loads of the first value array and the two of the second, in the order of the keys. -/
def vl (x3 : Vec F S1x1x80x4096 .bf16) (x4 : Vec F S1x1x80x512 .bf16) : ℕ → Vec F S1x1x80x256 .bf16
  | 0 => View.ld x3 r0_9 | 1 => View.ld x3 r0_11 | 2 => View.ld x3 r0_13 | 3 => View.ld x3 r0_15
  | 4 => View.ld x3 r0_17 | 5 => View.ld x3 r0_19 | 6 => View.ld x3 r0_21 | 7 => View.ld x3 r0_23
  | 8 => View.ld x3 r0_25 | 9 => View.ld x3 r0_27 | 10 => View.ld x3 r0_29 | 11 => View.ld x3 r0_31
  | 12 => View.ld x3 r0_32 | 13 => View.ld x3 r0_33 | 14 => View.ld x3 r0_34 | 15 => View.ld x3 r0_35
  | 16 => View.ld x4 r0_36 | _ => View.ld x4 r0_37

/-- The result of one map, its 32 lanes starting at `w`. -/
def side (w : BitVec 32) (x0 : Vec F S512x128 .bf16) (x1 : Vec F S1x4096x128 .bf16) (x2 : Vec F S1x512x128 .bf16)
    (x3 : Vec F S1x1x80x4096 .bf16) (x4 : Vec F S1x1x80x512 .bf16) : FVec F S64x512 .f32 :=
  quo (ac (fun c => sc (mq w (View.ld x0 r0_1)) (kl x1 x2 c)) (vl x3 x4) 17)

/-- The block that a grid point writes. -/
def blockOf (i : grid0.Coords) (x0 : Vec F S512x128 .bf16) (x1 : Vec F S1x4096x128 .bf16) (x2 : Vec F S1x512x128 .bf16)
    (x3 : Vec F S1x1x80x4096 .bf16) (x4 : Vec F S1x1x80x512 .bf16) (x5 : Vec F S4x32 .f32) (x6 : Vec F S64x1 .f32) : FVec F S1x64x512 .f32 :=
  shapeCast S1x64x512 (nrm (dif (lamOf (View.ld x5 r0_0)) (side (Scalar.addi (base i) 0#32) x0 x1 x2 x3 x4)
    (side (Scalar.addi (base i) 32#32) x0 x1 x2 x3 x4)) (View.ld x6 r0_38)) shapeCasts_S64x512_S1x64x512

set_option maxHeartbeats 4000000 in
/-- What a grid point writes is that block. -/
theorem out_eq (i : grid0.Coords) (x0 : Vec F S512x128 .bf16) (x1 : Vec F S1x4096x128 .bf16) (x2 : Vec F S1x512x128 .bf16)
    (x3 : Vec F S1x1x80x4096 .bf16) (x4 : Vec F S1x1x80x512 .bf16) (x5 : Vec F S4x32 .f32) (x6 : Vec F S64x1 .f32) :
    out0_7 i x0 x1 x2 x3 x4 x5 x6 = View.canon [⟨r0_39, blockOf i x0 x1 x2 x3 x4 x5 x6⟩] := by
  rfl

end Cert.Diff
-- ==== Proof.DiffSpec.lean ====
/- The differential attention's mathematics over the extended reals, from the arrays that the call is given. -/
module

public import proofs.«01_k».proof.Proof.Spec
public import proofs.«01_k».proof.Proof.InSpec

@[expose] public section

noncomputable section

namespace Cert.Diff

open Idealize.ShloMosaic Cert.Soft

/-- The lane of head `h`, map `j` and channel `d`. -/
abbrev lane (h : Fin 4) (j : Fin 2) (d : Fin 32) : Fin 256 := ⟨h * 64 + j * 32 + d, by omega⟩

/-- Key `n` of batch `b`: the first array's 4096 keys, then the second's 512. -/
def key (a1 : (⟨3, ![4, 4096, 256]⟩ : Shape).Idx → EReal) (a2 : (⟨3, ![4, 512, 256]⟩ : Shape).Idx → EReal)
    (b : Fin 4) (n : ℕ) (p : Fin 256) : EReal :=
  if h : n < 4096 then a1 (ix3 b ⟨n, h⟩ p) else if h' : n - 4096 < 512 then a2 (ix3 b ⟨n - 4096, h'⟩ p) else 0

section Scores

variable (a0 : (⟨2, ![16384, 256]⟩ : Shape).Idx → EReal) (a1 : (⟨3, ![4, 4096, 256]⟩ : Shape).Idx → EReal)
  (a2 : (⟨3, ![4, 512, 256]⟩ : Shape).Idx → EReal) (b h : Fin 4) (j : Fin 2) (l : Fin 4096)

/-- The score of key `n` against query `l` in one map, in powers of two. -/
def score (n : ℕ) : EReal := ∑ d : Fin 32, key a1 a2 b n (lane h j d) * a0 (ix2 (Spec.row b l) (lane h j d))

/-- The score in powers of `e`. -/
def nat (k : Fin 4608) : EReal := score a0 a1 a2 b h j l k * ((Real.log 2 : ℝ) : EReal)

/-- The greatest score of a query in one map. -/
def top : EReal := max ⊥ (Finset.univ.fold max ⊥ (nat a0 a1 a2 b h j l))

/-- The softmax's weight of a key in one map. -/
def soft (k : Fin 4608) : EReal := weight (nat a0 a1 a2 b h j l) (top a0 a1 a2 b h j l) k

end Scores

/-- The factor of the second map. -/
def lam (a5 : (⟨2, ![4, 32]⟩ : Shape).Idx → EReal) : EReal :=
  Ideal.exp (∑ d : Fin 32, a5 (ix2 0 d) * a5 (ix2 1 d)) - Ideal.exp (∑ d : Fin 32, a5 (ix2 2 d) * a5 (ix2 3 d))
    + Ideal.ofBits .f32 0x3E4CCCCD#32

/-- A head's 64 entries, normalised by the root of their mean square, times the gains, times the last factor. -/
def settle (o g : Fin 64 → EReal) (e : Fin 64) : EReal :=
  In.unit (Ideal.ofBits .f32 0x42800000#32) (Ideal.ofBits .f32 0x358637BD#32) o g e * Ideal.ofBits .f32 0x3F4CCCCD#32

/-- The differential attention: the first map's weights less the factor times the second's, summed with the values and settled. -/
def out (a0 : (⟨2, ![16384, 256]⟩ : Shape).Idx → EReal) (a1 : (⟨3, ![4, 4096, 256]⟩ : Shape).Idx → EReal)
    (a2 : (⟨3, ![4, 512, 256]⟩ : Shape).Idx → EReal) (a3 : (⟨4, ![4, 4, 80, 4096]⟩ : Shape).Idx → EReal)
    (a4 : (⟨4, ![4, 4, 80, 512]⟩ : Shape).Idx → EReal) (a5 : (⟨2, ![4, 32]⟩ : Shape).Idx → EReal)
    (a6 : (⟨2, ![64, 1]⟩ : Shape).Idx → EReal) (b h : Fin 4) (e : Fin 64) (l : Fin 4096) : EReal :=
  settle (fun e => ∑ k : Fin 4608, (soft a0 a1 a2 b h 0 l k - lam a5 * soft a0 a1 a2 b h 1 l k) * Spec.valAt a3 a4 b h ⟨e, by omega⟩ k)
    (fun e => a6 (ix2 e 0)) e

/-- A sum of 128 products whose second factors vanish outside the 32 entries from `o` on is the sum of those 32. -/
theorem sum_window (f g : Fin 128 → EReal) (o : ℕ) (ho : o + 32 ≤ 128) :
    ∑ p : Fin 128, f p * (if o ≤ p.val ∧ p.val < o + 32 then g p else 0) = ∑ d : Fin 32, f ⟨o + d, by omega⟩ * g ⟨o + d, by omega⟩ := by
  symm
  refine Finset.sum_of_injOn (fun d : Fin 32 => (⟨o + d, by omega⟩ : Fin 128)) (fun x _ y _ h => ?_) (fun _ _ => Finset.mem_coe.2 (Finset.mem_univ _)) (fun p _ hp => ?_) (fun d _ => ?_)
  · have := congrArg Fin.val h
    exact Fin.ext (by simpa using this)
  · rw [if_neg, mul_zero]
    rintro ⟨h1, h2⟩
    exact hp ⟨⟨p.val - o, by omega⟩, Finset.mem_coe.2 (Finset.mem_univ _), Fin.ext (by show o + (p.val - o) = p.val; omega)⟩
  · rw [if_pos ⟨Nat.le_add_right _ _, by show o + d.val < o + 32; omega⟩]

/-- The pattern of 0.2 is a real number. -/
theorem isReal_fifth : IsReal (Ideal.ofBits .f32 0x3E4CCCCD#32) := by
  simp only [Ideal.ofBits, Ideal.ieee]
  norm_num
  exact ⟨_, (EReal.coe_mul _ _).symm⟩

/-- An exponential of a real number is real. -/
theorem isReal_exp {x : EReal} (h : IsReal x) : IsReal (Ideal.exp x) := by
  obtain ⟨r, rfl⟩ := h; exact ⟨_, Ideal.exp_coe r⟩

/-- The difference of two real numbers is real. -/
theorem isReal_sub {x y : EReal} (hx : IsReal x) (hy : IsReal y) : IsReal (x - y) := by
  obtain ⟨a, rfl⟩ := hx; obtain ⟨b, rfl⟩ := hy; exact ⟨a - b, (EReal.coe_sub a b).symm⟩

/-- The factor is real when its arguments are. -/
theorem isReal_lam {a5 : (⟨2, ![4, 32]⟩ : Shape).Idx → EReal} (h5 : ∀ i, IsReal (a5 i)) : IsReal (lam a5) :=
  (isReal_sub (isReal_exp (isReal_sum _ _ fun _ _ => (h5 _).mul (h5 _))) (isReal_exp (isReal_sum _ _ fun _ _ => (h5 _).mul (h5 _)))).add
    isReal_fifth

/-- With real weights, values and factor, the sum of the values times the differences of the weights is the difference of the sums. -/
theorem sum_diff {κ : Type*} [Fintype κ] {v p q : κ → EReal} {c : EReal} (hv : ∀ k, IsReal (v k)) (hp : ∀ k, IsReal (p k))
    (hq : ∀ k, IsReal (q k)) (hc : IsReal c) :
    ∑ k, (p k - c * q k) * v k = ∑ k, v k * p k - c * ∑ k, v k * q k := by
  obtain ⟨c, rfl⟩ := hc
  choose v' hv using hv
  choose p' hp using hp
  choose q' hq using hq
  simp only [hv, hp, hq, ← EReal.coe_mul, ← EReal.coe_sub, coe_sum]
  congr 1
  rw [Finset.mul_sum, ← Finset.sum_sub_distrib]
  exact Finset.sum_congr rfl fun k _ => by ring

/-- With real values in the first 64 rows, those rows of the joined values are real. -/
theorem isReal_value {a3 : (⟨4, ![4, 4, 80, 4096]⟩ : Shape).Idx → EReal} {a4 : (⟨4, ![4, 4, 80, 512]⟩ : Shape).Idx → EReal}
    (h3 : ∀ (b h : Fin 4) (e : Fin 64) n, IsReal (a3 (ix4 b h ⟨e, by omega⟩ n)))
    (h4 : ∀ (b h : Fin 4) (e : Fin 64) n, IsReal (a4 (ix4 b h ⟨e, by omega⟩ n))) (b h : Fin 4) (e : Fin 64) (n : ℕ) :
    IsReal (Spec.valAt a3 a4 b h ⟨e, by omega⟩ n) := by
  unfold Spec.valAt
  split
  · exact h3 _ _ _ _
  · split
    · exact h4 _ _ _ _
    · exact isReal_zero

end Cert.Diff
-- ==== Proof.OutSpec.lean ====
/- The output projection's mathematics over the extended reals, from the arrays that the call is given. -/
module

public import proofs.«01_k».proof.Proof.InSpec

@[expose] public section

noncomputable section

namespace Cert.Out

open Idealize.ShloMosaic Cert.In

/-- Column `c` of the branch whose columns begin at `o`. -/
def col (o : ℕ) (c : Fin 256) (h : o ≤ 768 := by decide) : Fin 1024 := ⟨o + c, by omega⟩

/-- Lane `e` of the head that lane `c` belongs to. -/
def mate (c : Fin 256) (e : Fin 64) : Fin 256 := ⟨c / 64 * 64 + e, by omega⟩

/-- The place of a row in its batch. -/
abbrev pos (r : Fin 16384) : Fin 4096 := ⟨r % 4096, by omega⟩

/-- The gate's nonlinearity: a number times its logistic. -/
def silu (x : EReal) : EReal := x * Ideal.logistic x

/-- A row normalised head by head, heads of 64 lanes. -/
def heads (o g : Fin 256 → EReal) (c : Fin 256) : EReal :=
  unit (Ideal.ofBits .f32 0x42800000#32) (Ideal.ofBits .f32 0x358637BD#32) (fun e => o (mate c e)) (fun e => g (mate c e))
    ⟨c % 64, by omega⟩

/-- One branch's share of an output entry: the branch's row, gated, times its rows of a column of the weights. -/
def share (o : ℕ) (h : o ≤ 768) (b : Fin 256 → EReal) (p w : Fin 1024 → EReal) : EReal :=
  ∑ c : Fin 256, b c * silu (p (col o c h)) * w (col o c h)

/-- One entry of the output: the layer's input plus the gated projection of the four branches. -/
def out (x g : EReal) (b0 b1 b2 b3 : Fin 256 → EReal) (p w : Fin 1024 → EReal) : EReal :=
  x + g * (share 0 (by decide) b0 p w + share 256 (by decide) b1 p w + share 512 (by decide) b2 p w
    + share 768 (by decide) b3 p w)

/-- The same from the call's arrays. -/
def outAt (a0 : (⟨2, ![16384, 1024]⟩ : Shape).Idx → EReal) (a1 : (⟨3, ![4, 3, 1024]⟩ : Shape).Idx → EReal)
    (a2 a3 : (⟨3, ![4, 256, 4096]⟩ : Shape).Idx → EReal) (a4 a5 a6 : (⟨2, ![16384, 256]⟩ : Shape).Idx → EReal)
    (a7 : (⟨2, ![16384, 4096]⟩ : Shape).Idx → EReal) (a8 : (⟨2, ![1, 256]⟩ : Shape).Idx → EReal)
    (a10 : (⟨2, ![1024, 1024]⟩ : Shape).Idx → EReal) (r : Fin 16384) (n : Fin 1024) : EReal :=
  out (a0 (ix2 r n)) (a1 (ix3 (batch r) 2 n)) (fun c => a2 (ix3 (batch r) c (pos r))) (fun c => a3 (ix3 (batch r) c (pos r)))
    (heads (fun c => a4 (ix2 r c) + a5 (ix2 r c)) (fun c => a8 (ix2 0 c))) (fun c => a6 (ix2 r c))
    (fun k => a7 (ix2 r ⟨3072 + k, by omega⟩)) (fun k => a10 (ix2 k n))

/-- Summing over all lanes with ones for the lane's head and zeros elsewhere sums over the head. -/
theorem sum_mates (f : Fin 256 → EReal) (c : Fin 256) :
    ∑ e : Fin 256, f e * (if e.val / 64 = c.val / 64 then 1 else 0) = ∑ e : Fin 64, f (mate c e) := by
  have h : ∑ e : Fin 256, f e * (if e.val / 64 = c.val / 64 then 1 else 0)
      = ∑ e ∈ Finset.univ.filter (fun e : Fin 256 => e.val / 64 = c.val / 64), f e := by
    rw [Finset.sum_filter]
    exact Finset.sum_congr rfl fun e _ => by split <;> simp
  rw [h]
  refine Finset.sum_nbij' (fun e => ⟨e.val % 64, by omega⟩) (fun e => mate c e) (fun _ _ => Finset.mem_univ _) (fun e _ => ?_)
    (fun e he => ?_) (fun e _ => ?_) (fun e he => ?_)
  · have := e.isLt
    simp only [Finset.mem_filter, Finset.mem_univ, true_and, mate]
    omega
  · have := (Finset.mem_filter.mp he).2
    refine Fin.ext ?_
    show c.val / 64 * 64 + e.val % 64 = e.val
    omega
  · refine Fin.ext ?_
    show (c.val / 64 * 64 + e.val) % 64 = e.val
    omega
  · have := (Finset.mem_filter.mp he).2
    refine congrArg f (Fin.ext ?_)
    show e.val = c.val / 64 * 64 + e.val % 64
    omega

/-- The pattern of 64. -/
theorem ofBits_64 : Ideal.ofBits .f32 0x42800000#32 = ((64 : ℝ) : EReal) := by
  simp [Ideal.ofBits, Ideal.ieee]
  rw [← EReal.coe_mul]; norm_num

/-- The pattern of a sixty-fourth. -/
theorem ofBits_inv_64 : Ideal.ofBits .f32 0x3C800000#32 = (((64 : ℝ)⁻¹ : ℝ) : EReal) := by
  simp [Ideal.ofBits, Ideal.ieee]
  try rw [← EReal.coe_mul]
  norm_num

/-- A sum times a sixty-fourth is the sum over 64. -/
theorem mul_inv_64 (x : EReal) :
    x * Ideal.ofBits .f32 0x3C800000#32 = Ideal.div x (Ideal.ofBits .f32 0x42800000#32) := by
  rw [ofBits_64, ofBits_inv_64]
  unfold Ideal.div
  rw [if_neg (by norm_num), ← EReal.coe_inv]

/-- A lane normalised by the sum over its head, the sum taken with ones and zeros and the mean by multiplication. -/
theorem heads_eq (o g : Fin 256 → EReal) (s : Fin 256 → EReal) (c : Fin 256)
    (hs : ∀ e, s e = if e.val / 64 = c.val / 64 then 1 else 0) :
    o c * Ideal.rsqrt ((∑ e : Fin 256, o e * o e * s e) * Ideal.ofBits .f32 0x3C800000#32 + Ideal.ofBits .f32 0x358637BD#32) * g c
      = heads o g c := by
  have hc : mate c ⟨c.val % 64, by omega⟩ = c := Fin.ext (by show c.val / 64 * 64 + c.val % 64 = c.val; omega)
  unfold heads unit
  simp only [hs, hc, mul_inv_64]
  rw [sum_mates (fun e => o e * o e)]

/-- A sum over all columns is the sum of the sums over the four branches' columns. -/
theorem sum_cols (f : Fin 1024 → EReal) :
    ∑ k, f k = (∑ c, f (col 0 c)) + (∑ c, f (col 256 c)) + (∑ c, f (col 512 c)) + ∑ c, f (col 768 c) := by
  have h : ∑ k : Fin (256 + 256 + 256 + 256), f k = _ := Fin.sum_univ_add (fun k : Fin (256 + 256 + 256 + 256) => f k)
  refine h.trans ?_
  rw [Fin.sum_univ_add, Fin.sum_univ_add]
  refine congrArg₂ _ (congrArg₂ _ (congrArg₂ _ (Finset.sum_congr rfl fun c _ => ?_) (Finset.sum_congr rfl fun c _ => ?_))
    (Finset.sum_congr rfl fun c _ => ?_)) (Finset.sum_congr rfl fun c _ => ?_)
  all_goals exact congrArg f (Fin.ext (by simp [col] <;> omega))

end Cert.Out
-- ==== Proof.DiffSoft.lean ====
/- Two online softmaxes over any extended reals: the running sums need no finite scores, and where a softmax breaks down,
   the normalised difference of the two results and the result of the normalised differences both vanish. -/
module

public import proofs.«01_k».proof.Proof.DiffSpec
public import proofs.«01_k».proof.Proof.OutSpec

@[expose] public section

noncomputable section

namespace Cert.Diff

open Idealize.ShloMosaic Cert.Soft

/-- A power of two whose exponent lies at `⊥` is zero. -/
theorem exp2_bot : Ideal.exp2 ⊥ = 0 := rfl

/-- A power of two is a power of `e`, for every exponent. -/
theorem exp2_eq (x : EReal) : Ideal.exp2 x = Ideal.exp (x * ((Real.log 2 : ℝ) : EReal)) := by
  have hl : 0 < Real.log 2 := Real.log_pos (by norm_num)
  induction x with
  | bot => rw [EReal.bot_mul_coe_of_pos hl]; rfl
  | top => rw [EReal.top_mul_coe_of_pos hl]; rfl
  | coe r =>
    rw [← EReal.coe_mul, Ideal.exp_coe, Ideal.exp2_coe]
    congr 1
    show (2 : ℝ) ^ r = _
    rw [Real.rpow_def_of_pos (by norm_num), mul_comm]

/-- The same for a difference of exponents, the factor taken into both. -/
theorem exp2_diff (a b : EReal) :
    Ideal.exp2 (a - b) = Ideal.exp (a * ((Real.log 2 : ℝ) : EReal) - b * ((Real.log 2 : ℝ) : EReal)) := by
  rw [exp2_eq, sub_eq_add_neg, EReal.right_distrib_of_nonneg_of_ne_top (EReal.coe_nonneg.2 (Real.log_nonneg (by norm_num)))
    (EReal.coe_ne_top _), EReal.neg_mul, ← sub_eq_add_neg]

/-- When the number subtracted in the exponents rises from `m` to `m'`, and no score lies above `m`, the weighted sum is
    multiplied by `2 ^ (m - m')`. Scores and values may be infinite. -/
theorem rescale_le {ι : Type*} (T : Finset ι) (v s : ι → EReal) {m m' : EReal} (hs : ∀ i ∈ T, s i ≤ m) (hm : m ≤ m') :
    (∑ i ∈ T, v i * Ideal.exp2 (s i - m)) * Ideal.exp2 (m - m') = ∑ i ∈ T, v i * Ideal.exp2 (s i - m') := by
  have low : ∀ x : EReal, (∀ i ∈ T, s i = ⊥) → ∑ i ∈ T, v i * Ideal.exp2 (s i - x) = 0 := fun x h =>
    Finset.sum_eq_zero fun i hi => by rw [h i hi, EReal.bot_sub, exp2_bot, mul_zero]
  induction m' with
  | bot =>
    obtain rfl := le_bot_iff.1 hm
    rw [low _ fun i hi => le_bot_iff.1 (hs i hi), zero_mul]
  | top =>
    rw [EReal.sub_top, exp2_bot, mul_zero]
    exact (Finset.sum_eq_zero fun i hi => by rw [EReal.sub_top, exp2_bot, mul_zero]).symm
  | coe r' =>
    induction m with
    | bot =>
      rw [low _ fun i hi => le_bot_iff.1 (hs i hi), low _ fun i hi => le_bot_iff.1 (hs i hi), zero_mul]
    | top => exact absurd hm (by simp)
    | coe r =>
      rw [exp2_sub, sum_mul_coe _ _ _ (Real.rpow_nonneg (by norm_num) _)]
      refine Finset.sum_congr rfl fun i hi => ?_
      have h := hs i hi
      revert h
      generalize s i = x
      intro h
      induction x with
      | bot => simp only [EReal.bot_sub, exp2_bot, mul_zero, zero_mul]
      | top => exact absurd h (by simp)
      | coe x =>
        rw [exp2_sub, exp2_sub, mul_assoc, ← EReal.coe_mul, ← Real.rpow_add (by norm_num)]
        congr 3
        ring

/-- The running softmax over chunks of `J` keys, with any scores, when each number subtracted bounds the scores so far. -/
theorem running_le (J N : ℕ) (v s m a : ℕ → EReal) (hm : ∀ c < N, m c ≤ m (c + 1)) (hs : ∀ c ≤ N, ∀ k < J * (c + 1), s k ≤ m c)
    (h0 : a 0 = ∑ i : Fin J, v i * Ideal.exp2 (s i - m 0))
    (hstep : ∀ c < N, a (c + 1) = a c * Ideal.exp2 (m c - m (c + 1))
      + ∑ i : Fin J, v (J * (c + 1) + i) * Ideal.exp2 (s (J * (c + 1) + i) - m (c + 1)))
    (n : ℕ) (hn : n ≤ N) :
    a n = ∑ k ∈ Finset.range (J * (n + 1)), v k * Ideal.exp2 (s k - m n) := by
  induction n with
  | zero => rw [h0, zero_add, mul_one, Finset.sum_range]
  | succ n ih =>
    rw [hstep n hn, ih (by omega), rescale_le _ v s (fun k hk => hs n (by omega) k (Finset.mem_range.1 hk)) (hm n hn), mul_add J (n + 1) 1,
      mul_one, Finset.sum_range_add,
      Finset.sum_range (fun x => v (J * (n + 1) + x) * Ideal.exp2 (s (J * (n + 1) + x) - m (n + 1)))]

/-- The greatest of finitely many values, found from `⊥` on, is one of them and bounds them all. -/
theorem fold_max_spec {ι : Type*} [Fintype ι] [Nonempty ι] (f : ι → EReal) :
    (∃ k, Finset.univ.fold max ⊥ f = f k) ∧ ∀ j, f j ≤ Finset.univ.fold max ⊥ f := by
  have hb : ∀ j, f j ≤ Finset.univ.fold max ⊥ f := fun j => (Finset.le_fold_max (f j)).2 (Or.inr ⟨j, Finset.mem_univ _, le_rfl⟩)
  obtain ⟨k, hk⟩ := Finite.exists_max f
  exact ⟨⟨k, le_antisymm ((Finset.fold_max_le (f k)).2 ⟨bot_le, fun j _ => hk j⟩) (hb k)⟩, hb⟩

/-- What a map's weights and its result may be: real weights and the values' weighted sums, or, where the softmax breaks
    down, `⊥` for all of them. -/
def Good {ι κ : Type*} [Fintype κ] (p : κ → EReal) (A : ι → EReal) (v : ι → κ → EReal) : Prop :=
  ((∀ k, IsReal (p k)) ∧ ∀ e, A e = ∑ k, v e k * p k) ∨ ((∀ k, p k = ⊥) ∧ ∀ e, A e = ⊥)

/-- Powers of two of the scores less the greatest of them: real numbers whose sum is positive, or zero throughout. -/
theorem shifted {κ : Type*} [Fintype κ] (s : κ → EReal) (z : κ) (hz : ∀ j, s j ≤ s z) :
    (∃ a : κ → ℝ, (∀ k, Ideal.exp2 (s k - s z) = (a k : EReal)) ∧ 0 < ∑ k, a k) ∨ ∀ k, Ideal.exp2 (s k - s z) = 0 := by
  rcases eq_or_ne (s z) ⊥ with hb | hb
  · right
    intro k
    have hk := hz k
    rw [hb] at hk
    rw [le_bot_iff.1 hk, EReal.bot_sub, exp2_bot]
  rcases eq_or_ne (s z) ⊤ with ht | ht
  · right
    intro k
    rw [ht, EReal.sub_top, exp2_bot]
  left
  obtain ⟨r, hr⟩ := isReal_of_bounds hb ht
  have h : ∀ k, ∃ a : ℝ, Ideal.exp2 (s k - s z) = (a : EReal) ∧ 0 ≤ a ∧ (s k = s z → 0 < a) := by
    intro k
    have hk := hz k
    rw [hr] at hk ⊢
    revert hk
    generalize s k = x
    intro hk
    induction x with
    | bot => exact ⟨0, by rw [EReal.bot_sub]; rfl, le_rfl, fun h => absurd h (by simp)⟩
    | top => exact absurd hk (by simp)
    | coe x => exact ⟨_, exp2_sub x r, Real.rpow_nonneg (by norm_num) _, fun _ => Real.rpow_pos_of_pos (by norm_num) _⟩
  choose a ha h0 h1 using h
  exact ⟨a, ha, Finset.sum_pos' (fun k _ => h0 k) ⟨z, Finset.mem_univ _, h1 z rfl⟩⟩

/-- A map's weights and the online softmax's quotients, with any scores. -/
theorem good {ι κ : Type*} [Fintype κ] (v : ι → κ → EReal) (s t : κ → EReal) (ht : ∀ k, t k = s k * ((Real.log 2 : ℝ) : EReal)) (z : κ)
    (hz : ∀ j, s j ≤ s z) :
    Good (weight t (t z)) (fun e => Ideal.div (∑ k, v e k * Ideal.exp2 (s k - s z)) (∑ k, Ideal.exp2 (s k - s z))) v := by
  have hw : ∀ k, weight t (t z) k = Ideal.div (Ideal.exp2 (s k - s z)) (∑ j, Ideal.exp2 (s j - s z)) := fun k => by
    unfold weight
    simp only [ht, exp2_diff, zero_add]
  rcases shifted s z hz with ⟨a, ha, hp⟩ | h0
  · left
    have hD : ∑ k, Ideal.exp2 (s k - s z) = ((∑ k, a k : ℝ) : EReal) := by
      simp only [ha]
      exact coe_sum _ _
    have hwk : ∀ k, weight t (t z) k = ((a k * (1 / ∑ k, a k) : ℝ) : EReal) := fun k => by
      rw [hw, hD, ha, Ideal.div_coe hp.ne', ← EReal.coe_mul]
    refine ⟨fun k => ⟨_, hwk k⟩, fun e => ?_⟩
    show Ideal.div (∑ k, v e k * Ideal.exp2 (s k - s z)) _ = _
    rw [hD, Ideal.div_coe hp.ne', sum_mul_coe _ _ _ (by positivity)]
    refine Finset.sum_congr rfl fun k _ => ?_
    rw [hwk, ha, EReal.coe_mul, mul_assoc]
  · right
    have hd : Ideal.div 0 0 = ⊥ := by simp [Ideal.div]
    refine ⟨fun k => ?_, fun e => ?_⟩
    · rw [hw]
      simp only [h0, Finset.sum_const_zero, hd]
    · simp only [h0, mul_zero, Finset.sum_const_zero, hd]

/-- A value at either end of the extended reals. -/
def AtEnd (x : EReal) : Prop := x = ⊤ ∨ x = ⊥

/-- A real number less a value at an end is at an end. -/
theorem AtEnd.sub {x y : EReal} (hx : IsReal x) (hy : AtEnd y) : AtEnd (x - y) := by
  obtain ⟨r, rfl⟩ := hx
  rcases hy with rfl | rfl
  · exact Or.inr (EReal.sub_top _)
  · exact Or.inl (EReal.coe_sub_bot r)

/-- A real number other than zero times `⊥` is at an end. -/
theorem AtEnd.coe_mul_bot {r : ℝ} (h : r ≠ 0) : AtEnd ((r : EReal) * ⊥) := by
  rcases lt_or_gt_of_ne h with h | h
  · exact Or.inl (EReal.coe_mul_bot_of_neg h)
  · exact Or.inr (EReal.coe_mul_bot_of_pos h)

/-- A value at an end times a real number is at an end or zero. -/
theorem AtEnd.mul {x y : EReal} (hx : AtEnd x) (hy : IsReal y) : AtEnd (x * y) ∨ x * y = 0 := by
  obtain ⟨r, rfl⟩ := hy
  rcases lt_trichotomy r 0 with h | rfl | h
  · rcases hx with rfl | rfl
    · exact Or.inl (Or.inr (EReal.top_mul_coe_of_neg h))
    · exact Or.inl (Or.inl (EReal.bot_mul_coe_of_neg h))
  · exact Or.inr (by rw [EReal.coe_zero, mul_zero])
  · rcases hx with rfl | rfl
    · exact Or.inl (Or.inl (EReal.top_mul_coe_of_pos h))
    · exact Or.inl (Or.inr (EReal.bot_mul_coe_of_pos h))

/-- A sum of values each at an end or zero is at an end or zero. -/
theorem end_sum {κ : Type*} (T : Finset κ) (f : κ → EReal) (h : ∀ k ∈ T, AtEnd (f k) ∨ f k = 0) : AtEnd (∑ k ∈ T, f k) ∨ ∑ k ∈ T, f k = 0 := by
  classical
  induction T using Finset.induction_on with
  | empty => exact Or.inr Finset.sum_empty
  | insert a T ha ih =>
    rw [Finset.sum_insert ha]
    rcases h a (Finset.mem_insert_self a T) with (h1 | h1) | h1 <;> rcases ih (fun k hk => h k (Finset.mem_insert_of_mem hk)) with (h2 | h2) | h2 <;>
      rw [h1, h2] <;> simp [AtEnd]

/-- The pattern of a millionth is not `⊥`. -/
theorem millionth_ne_bot : Ideal.ofBits .f32 0x358637BD#32 ≠ (⊥ : EReal) := by
  have h : IsReal (Ideal.ofBits .f32 0x358637BD#32) := by
    simp only [Ideal.ofBits, Ideal.ieee]
    norm_num
    exact ⟨_, (EReal.coe_mul _ _).symm⟩
  exact h.ne_bot

/-- An entry that is zero is settled to zero. -/
theorem settle_zero (o g : Fin 64 → EReal) (e : Fin 64) (h : o e = 0) : settle o g e = 0 := by
  unfold settle In.unit
  rw [h, zero_mul, zero_mul, zero_mul]

/-- With one entry at an end, the mean square is infinite and every entry is settled to zero. -/
theorem settle_end (o g : Fin 64 → EReal) (e z : Fin 64) (h : AtEnd (o z)) : settle o g e = 0 := by
  have hs : ∑ e, o e * o e = ⊤ := by
    rw [← top_le_iff]
    have hz : o z * o z = ⊤ := by rcases h with h | h <;> rw [h] <;> simp
    rw [← hz]
    refine Finset.single_le_sum (f := fun e => o e * o e) (fun e _ => ?_) (Finset.mem_univ z)
    rcases le_total 0 (o e) with h | h
    · exact mul_nonneg h h
    · rw [← neg_mul_neg]
      exact mul_nonneg (EReal.neg_nonneg.2 h) (EReal.neg_nonneg.2 h)
  unfold settle In.unit
  rw [hs, Out.ofBits_64, Ideal.div_coe (by norm_num), EReal.top_mul_coe_of_pos (by norm_num), EReal.top_add_of_ne_bot millionth_ne_bot,
    show Ideal.rsqrt ⊤ = 0 from rfl, mul_zero, zero_mul, zero_mul]

/-- With every weight at an end and real values, every entry is settled to zero. -/
theorem settle_sum {κ : Type*} [Fintype κ] {w : κ → EReal} {v : Fin 64 → κ → EReal} (hw : ∀ k, AtEnd (w k)) (hv : ∀ e k, IsReal (v e k))
    (g : Fin 64 → EReal) (e : Fin 64) : settle (fun e => ∑ k, w k * v e k) g e = 0 := by
  have h : ∀ e, AtEnd (∑ k, w k * v e k) ∨ ∑ k, w k * v e k = 0 := fun e => end_sum _ _ fun k _ => (hw k).mul (hv e k)
  rcases h e with h | h
  · exact settle_end _ _ _ e h
  · exact settle_zero _ _ _ h

/-- Two maps' results subtracted and settled are the weights subtracted, summed with the values and settled: with real
    values and a real factor, and any scores. -/
theorem settle_eq {κ : Type*} [Fintype κ] [Nonempty κ] {p q : κ → EReal} {A B : Fin 64 → EReal} {v : Fin 64 → κ → EReal} (hp : Good p A v)
    (hq : Good q B v) (hv : ∀ e k, IsReal (v e k)) {c : EReal} (hc : IsReal c) (g : Fin 64 → EReal) (e : Fin 64) :
    settle (fun e => A e - c * B e) g e = settle (fun e => ∑ k, (p k - c * q k) * v e k) g e := by
  rcases hp with ⟨hp, hA⟩ | ⟨hp, hA⟩
  · rcases hq with ⟨hq, hB⟩ | ⟨hq, hB⟩
    · congr 1
      funext e
      rw [hA, hB, sum_diff (hv e) hp hq hc]
    · obtain ⟨c, rfl⟩ := hc
      rcases eq_or_ne c 0 with rfl | h
      · simp only [EReal.coe_zero, zero_mul, sub_zero, hA]
        simp only [mul_comm]
      · rw [settle_sum (fun k => ?_) hv]
        · refine settle_end _ _ _ e ?_
          show AtEnd (A e - c * B e)
          rw [hA, hB]
          exact AtEnd.sub (isReal_sum _ _ fun k _ => (hv e k).mul (hp k)) (AtEnd.coe_mul_bot h)
        · rw [hq]
          exact AtEnd.sub (hp k) (AtEnd.coe_mul_bot h)
  · rw [settle_sum (fun k => ?_) hv]
    · refine settle_end _ _ _ e (Or.inr ?_)
      show A e - c * B e = ⊥
      rw [hA, EReal.bot_sub]
    · rw [hp, EReal.bot_sub]
      exact Or.inr rfl

end Cert.Diff
-- ==== Proof.DiffRead.lean ====
/- The definitions of DiffBlock.lean read at an index: one map's result is, for each query and each row of the values,
   the values times the softmax weights of the map's scores, summed over all keys. -/
module

public import proofs.«01_k».proof.Proof.DiffBlock
public import proofs.«01_k».proof.Proof.DiffSoft
public import proofs.«01_k».proof.Proof.Read

@[expose] public section

set_option maxRecDepth 16384

noncomputable section

namespace Cert.Diff

open Idealize.ShloMosaic Cert.Kernel3Ideal Cert.Kernel3Ideal.Gen Cert.Soft

/-- The word of a head's first lane. -/
theorem base_eq (i : grid0.Coords) : base i = BitVec.ofNat 32 (64 * ((i 1).val % 2)) := by
  have h : ∀ n : Fin 4, Scalar.muli (Scalar.select (Scalar.andi (Scalar.xori (Scalar.cmpi .slt (Scalar.remsi (BitVec.ofNat 32 n.val) (Scalar.select (Scalar.cmpi .eq 2#32 0#32) 1#32 2#32)) 0#32) (Scalar.cmpi .slt (Scalar.select (Scalar.cmpi .eq 2#32 0#32) 1#32 2#32) 0#32)) (Scalar.cmpi .ne (Scalar.remsi (BitVec.ofNat 32 n.val) (Scalar.select (Scalar.cmpi .eq 2#32 0#32) 1#32 2#32)) 0#32))
    (Scalar.addi (Scalar.remsi (BitVec.ofNat 32 n.val) (Scalar.select (Scalar.cmpi .eq 2#32 0#32) 1#32 2#32)) (Scalar.select (Scalar.cmpi .eq 2#32 0#32) 1#32 2#32)) (Scalar.remsi (BitVec.ofNat 32 n.val) (Scalar.select (Scalar.cmpi .eq 2#32 0#32) 1#32 2#32))) 64#32 = BitVec.ofNat 32 (64 * (n.val % 2)) := by decide +kernel
  exact h ⟨(i 1).val, (i 1).isLt⟩

/-- The word of a map's first lane: 32 lanes further for the second map. -/
theorem word_eq (i : grid0.Coords) (j : Fin 2) :
    Scalar.addi (base i) (BitVec.ofNat 32 (32 * j.val)) = BitVec.ofNat 32 (64 * ((i 1).val % 2) + 32 * j.val) := by
  rw [base_eq]
  have h : ∀ (n : Fin 2) (j : Fin 2), Scalar.addi (BitVec.ofNat 32 (64 * n.val)) (BitVec.ofNat 32 (32 * j.val)) = BitVec.ofNat 32 (64 * n.val + 32 * j.val) := by
    decide +kernel
  exact h ⟨(i 1).val % 2, Nat.mod_lt _ (by norm_num)⟩ j

/-- The comparison of a lane with the window of 32 lanes. -/
theorem window_bit : ∀ (o : Fin 4) (p : Fin 128),
    BitVec.and (Scalar.cmpi .sge (BitVec.ofNat 32 p.val) (BitVec.ofNat 32 (32 * o.val)))
      (Scalar.cmpi .slt (BitVec.ofNat 32 p.val) (Scalar.addi (BitVec.ofNat 32 (32 * o.val)) 32#32))
      = BitVec.ofBool (decide (32 * o.val ≤ p.val ∧ p.val < 32 * o.val + 32)) := by
  decide +kernel

/-- The masked queries at an entry. -/
theorem mq_apply (o : Fin 4) (q : Vec Ideal S512x128 .bf16) (y : Fin 512) (p : Fin 128) :
    mq (BitVec.ofNat 32 (32 * o.val)) q (ix2 y p) = (if 32 * o.val ≤ p.val ∧ p.val < 32 * o.val + 32 then q (ix2 y p) else 0 : EReal) := by
  have hb := window_bit o p
  pointwise [mq]
  rw [show IntOp.andi (IntOp.cmpi .sge (BitVec.ofNat 32 p.val) (BitVec.ofNat 32 (32 * o.val)))
    (IntOp.cmpi .slt (BitVec.ofNat 32 p.val) (Scalar.addi (BitVec.ofNat 32 (32 * o.val)) 32#32)) = _ from hb]
  by_cases h : 32 * o.val ≤ p.val ∧ p.val < 32 * o.val + 32
  · rw [if_pos h, decide_eq_true h]; rfl
  · rw [if_neg h, decide_eq_false h]; rfl

/-- A score is the sum over the 128 lanes of the key's entry times the query's. -/
theorem sc_apply (q : Vec Ideal S512x128 .bf16) (k : Vec Ideal S1x256x128 .bf16) (j : Fin 256) (y : Fin 512) :
    sc q k (ix2 j y) = ∑ d : Fin 128, (k (ix3 0 j d) * q (ix2 y d) : EReal) := by
  pointwise [sc]

/-- A score of masked queries is the sum over the window's 32 lanes. -/
theorem sc_mq_apply (o : Fin 4) (q : Vec Ideal S512x128 .bf16) (k : Vec Ideal S1x256x128 .bf16) (j : Fin 256) (y : Fin 512) :
    sc (mq (BitVec.ofNat 32 (32 * o.val)) q) k (ix2 j y)
      = ∑ d : Fin 32, (k (ix3 0 j ⟨32 * o.val + d.val, by omega⟩) * q (ix2 y ⟨32 * o.val + d.val, by omega⟩) : EReal) := by
  rw [sc_apply]
  simp only [mq_apply]
  exact sum_window (fun p => k (ix3 0 j p)) (fun p => q (ix2 y p)) (32 * o.val) (by omega)

/-- A score block's greatest entry of a column, as a fold. -/
theorem cm_apply (s : FVec Ideal S256x512 .f32) (y : Fin 512) :
    cm s (ix2 0 y) = Finset.univ.fold max (Ideal.ofBits .f32 0xFF800000#32) fun j : Fin 256 => s (ix2 j y) := by
  pointwise [cm]

/-- A chunk's product of values and weights. -/
theorem pv_apply (s : FVec Ideal S256x512 .f32) (m : FVec Ideal S1x512 .f32) (v : Vec Ideal S1x1x80x256 .bf16) (e : Fin 80)
    (y : Fin 512) :
    pv s m v (ix2 e y) = ∑ j : Fin 256, (v (ix4 0 0 e j) * Ideal.exp2 (s (ix2 j y) - m (ix2 0 y)) : EReal) := by
  pointwise [pv]
  rfl

/-- The accumulator's step at an entry. -/
theorem ac_succ_apply (s : ℕ → FVec Ideal S256x512 .f32) (v : ℕ → Vec Ideal S1x1x80x256 .bf16) (c : ℕ) (e : Fin 80) (y : Fin 512) :
    ac s v (c + 1) (ix2 e y)
      = (ac s v c (ix2 e y) * Ideal.exp2 (mx s c (ix2 0 y) - mx s (c + 1) (ix2 0 y))
        + pv (s (c + 1)) (mx s (c + 1)) (v (c + 1)) (ix2 e y) : EReal) := by
  show addf (mulf (ac s v c) (broadcastTo S80x512 (exp2 (subf (mx s c) (mx s (c + 1)))) broadcasts_S1x512_S80x512))
      (pv (s (c + 1)) (mx s (c + 1)) (v (c + 1))) (ix2 e y) = _
  generalize ac s v c = A; generalize mx s c = M; generalize mx s (c + 1) = M'; generalize pv (s (c + 1)) M' (v (c + 1)) = C
  pointwise
  rfl

/-- The quotient's entry. -/
theorem quo_apply (a : FVec Ideal S80x512 .f32) (e : Fin 64) (y : Fin 512) :
    quo a (ix2 e y) = Ideal.div (a (ix2 ⟨e, by omega⟩ y)) (a (ix2 64 y)) := by
  pointwise [quo]

section Column

variable (s : ℕ → FVec Ideal S256x512 .f32) (v : ℕ → Vec Ideal S1x1x80x256 .bf16) (y : Fin 512) (S : ℕ → EReal)
  (hs : ∀ i < 18, ∀ j : Fin 256, s i (ix2 j y) = S (256 * i + j))
include hs

/-- A chunk's greatest score is one of its scores and bounds them all. -/
theorem cm_spec (i : ℕ) (hi : i < 18) :
    (∃ j : Fin 256, cm (s i) (ix2 0 y) = S (256 * i + j)) ∧ ∀ j : Fin 256, S (256 * i + j) ≤ cm (s i) (ix2 0 y) := by
  rw [cm_apply, Block.ofBits_neg_inf]
  simp only [hs i hi]
  exact fold_max_spec fun j : Fin 256 => S (256 * i + j)

/-- The running greatest score is one of the scores so far and bounds them all. -/
theorem mx_spec (c : ℕ) (hc : c ≤ 17) :
    (∃ k < 256 * (c + 1), mx s c (ix2 0 y) = S k) ∧ ∀ k < 256 * (c + 1), S k ≤ mx s c (ix2 0 y) := by
  induction c with
  | zero =>
    obtain ⟨⟨j, hj⟩, hb⟩ := cm_spec s y S hs 0 (by omega)
    simp only [mul_zero, zero_add] at hj hb
    exact ⟨⟨j, by omega, hj⟩, fun k hk => hb ⟨k, by omega⟩⟩
  | succ c ih =>
    obtain ⟨⟨j, hj⟩, hb⟩ := cm_spec s y S hs (c + 1) (by omega)
    obtain ⟨⟨k, hk, hm⟩, hb'⟩ := ih (by omega)
    have h : mx s (c + 1) (ix2 0 y) = (max (mx s c (ix2 0 y)) (cm (s (c + 1)) (ix2 0 y)) : EReal) := rfl
    rw [h]
    refine ⟨?_, fun n hn => ?_⟩
    · rcases max_choice (mx s c (ix2 0 y) : EReal) (cm (s (c + 1)) (ix2 0 y)) with h | h <;> rw [h]
      · exact ⟨k, by omega, hm⟩
      · exact ⟨256 * (c + 1) + j, by omega, hj⟩
    · rcases lt_or_ge n (256 * (c + 1)) with h | h
      · exact le_max_of_le_left (hb' n h)
      · refine le_max_of_le_right ?_
        have := hb ⟨n - 256 * (c + 1), by omega⟩
        rwa [show 256 * (c + 1) + (n - 256 * (c + 1)) = n by omega] at this

variable (V : ℕ → EReal) (e : Fin 80) (hv : ∀ i < 18, ∀ j : Fin 256, v i (ix4 0 0 e j) = V (256 * i + j))
include hv

/-- The accumulator after the last chunk is the sum over all 4608 keys. -/
theorem ac_sum : ac s v 17 (ix2 e y) = ∑ k : Fin 4608, V k * Ideal.exp2 (S k - mx s 17 (ix2 0 y)) := by
  have hp : ∀ c ≤ 17, pv (s c) (mx s c) (v c) (ix2 e y)
      = ∑ i : Fin 256, V (256 * c + i) * Ideal.exp2 (S (256 * c + i) - mx s c (ix2 0 y)) := fun c hc => by
    rw [pv_apply]
    exact Finset.sum_congr rfl fun j _ => by rw [hs c (by omega), hv c (by omega)]
  rw [running_le 256 17 V S (fun c => mx s c (ix2 0 y)) (fun c => ac s v c (ix2 e y)) (fun c _ => le_max_left _ _)
    (fun c hc => (mx_spec s y S hs c hc).2) ?_ ?_ 17 le_rfl, Finset.sum_range]
  · show pv (s 0) (mx s 0) (v 0) (ix2 e y) = _
    rw [hp 0 (by omega)]
    simp only [mul_zero, zero_add]
  · intro c hc
    rw [ac_succ_apply, hp (c + 1) (by omega)]

end Column

/-- One map's weights and its results at a query: the softmax over all 4608 keys, where it does not break down. -/
theorem good_quo (s : ℕ → FVec Ideal S256x512 .f32) (v : ℕ → Vec Ideal S1x1x80x256 .bf16) (y : Fin 512)
    (S : ℕ → EReal) (V : Fin 64 → ℕ → EReal) (hs : ∀ i < 18, ∀ j : Fin 256, s i (ix2 j y) = S (256 * i + j))
    (hv : ∀ e : Fin 64, ∀ i < 18, ∀ j : Fin 256, v i (ix4 0 0 ⟨e, by omega⟩ j) = V e (256 * i + j))
    (h1 : ∀ i < 18, ∀ j : Fin 256, v i (ix4 0 0 64 j) = (1 : EReal)) (t : Fin 4608 → EReal)
    (ht : ∀ k : Fin 4608, t k = S k * ((Real.log 2 : ℝ) : EReal)) :
    Good (weight t (max ⊥ (Finset.univ.fold max ⊥ t))) (fun e => quo (ac s v 17) (ix2 e y)) (fun e (k : Fin 4608) => V e k) := by
  obtain ⟨⟨z, hz, hm⟩, hb⟩ := mx_spec s y S hs 17 le_rfl
  obtain ⟨⟨k, hk⟩, hb'⟩ := fold_max_spec t
  have hM : max ⊥ (Finset.univ.fold max ⊥ t) = t ⟨z, hz⟩ := by
    rw [max_eq_right bot_le]
    refine le_antisymm ?_ (hb' _)
    rw [hk, ht, ht]
    exact mul_le_mul_of_nonneg_right (hm ▸ hb k (by omega)) (EReal.coe_nonneg.2 (Real.log_nonneg (by norm_num)))
  have hq : (fun e => quo (ac s v 17) (ix2 e y)) = fun e : Fin 64 =>
      Ideal.div (∑ k : Fin 4608, V e k * Ideal.exp2 (S k - S z)) (∑ k : Fin 4608, Ideal.exp2 (S k - S z)) := by
    funext e
    rw [quo_apply, ac_sum s v y S hs (V e) _ (hv e), ac_sum s v y S hs (fun _ => 1) 64 h1, hm]
    simp only [one_mul]
  rw [hM, hq]
  exact good (fun e (k : Fin 4608) => V e k) (fun k : Fin 4608 => S k) t ht ⟨z, hz⟩ fun j => hm ▸ hb j (by omega)

/-- The factor of the second map, as the mathematics has it. -/
theorem lamOf_apply (l : Vec Ideal S4x32 .f32) : lamOf l (ix2 0 0) = (lam l : EReal) := by
  pointwise [lamOf]
  rfl

/-- The difference of both maps' results. -/
theorem dif_apply (l : FVec Ideal S1x1 .f32) (a b : FVec Ideal S64x512 .f32) (e : Fin 64) (y : Fin 512) :
    dif l a b (ix2 e y) = (a (ix2 e y) - l (ix2 0 0) * b (ix2 e y) : EReal) := by
  pointwise [dif]

/-- A column settled, as the mathematics has it. -/
theorem nrm_apply (o : FVec Ideal S64x512 .f32) (g : Vec Ideal S64x1 .f32) (e : Fin 64) (y : Fin 512) :
    nrm o g (ix2 e y) = (settle (fun e => o (ix2 e y)) (fun e => g (ix2 e 0)) e : EReal) := by
  pointwise [nrm]
  rfl

end Cert.Diff
-- ==== Proof.DiffArray.lean ====
/- The differential attention's result array after the run: every entry is its mathematics. -/
module

public import proofs.«01_k».proof.Proof.DiffRead
public import Idealize.ShloMosaic.Lib.Pipeline.ValueKit
public import Idealize.ShloMosaic.Lib.Pipeline.Covers

@[expose] public section

set_option maxRecDepth 16384

noncomputable section

namespace Cert.Diff

open Idealize.ShloMosaic Idealize.ShloMosaic.TcCoe Cert.Kernel3Ideal Cert.Kernel3Ideal.Gen Cert.Soft

/-- A load of 256 keys of the first block, from key `o` on. -/
theorem ld1 (x : Vec Ideal S1x4096x128 .bf16) (o : ℕ) (h : ∀ a, ![0, o, 0] a + S1x256x128.size a ≤ S1x4096x128.size a)
    (j : Fin 256) (d : Fin 128) (hj : o + j.val < 4096) :
    View.ld x (Rect.unit (s := S1x4096x128) ![0, o, 0] S1x256x128.size h) (ix3 0 j d) = x (ix3 0 ⟨o + j, hj⟩ d) := by
  pointwise

/-- A load of 256 keys of the second block, from key `o` on. -/
theorem ld2 (x : Vec Ideal S1x512x128 .bf16) (o : ℕ) (h : ∀ a, ![0, o, 0] a + S1x256x128.size a ≤ S1x512x128.size a)
    (j : Fin 256) (d : Fin 128) (k : ℕ) (hk' : k < 512) (hk : k = o + j.val) :
    View.ld x (Rect.unit (s := S1x512x128) ![0, o, 0] S1x256x128.size h) (ix3 0 j d) = x (ix3 0 ⟨k, hk'⟩ d) := by
  subst hk
  pointwise

/-- A load of the values of 256 keys of the first block, from key `o` on. -/
theorem ld3 (x : Vec Ideal S1x1x80x4096 .bf16) (o : ℕ) (h : ∀ a, ![0, 0, 0, o] a + S1x1x80x256.size a ≤ S1x1x80x4096.size a)
    (e : Fin 80) (j : Fin 256) (hj : o + j.val < 4096) :
    View.ld x (Rect.unit (s := S1x1x80x4096) ![0, 0, 0, o] S1x1x80x256.size h) (ix4 0 0 e j) = x (ix4 0 0 e ⟨o + j, hj⟩) := by
  pointwise

/-- A load of the values of 256 keys of the second block, from key `o` on. -/
theorem ld4 (x : Vec Ideal S1x1x80x512 .bf16) (o : ℕ) (h : ∀ a, ![0, 0, 0, o] a + S1x1x80x256.size a ≤ S1x1x80x512.size a)
    (e : Fin 80) (j : Fin 256) (k : ℕ) (hk' : k < 512) (hk : k = o + j.val) :
    View.ld x (Rect.unit (s := S1x1x80x512) ![0, 0, 0, o] S1x1x80x256.size h) (ix4 0 0 e j) = x (ix4 0 0 e ⟨k, hk'⟩) := by
  subst hk
  pointwise

/-- Every load of keys at an entry: the keys in order, from the first block and then from the second. -/
theorem kl_apply (x1 : Vec Ideal S1x4096x128 .bf16) (x2 : Vec Ideal S1x512x128 .bf16) (i : ℕ) (hi : i < 18) (j : Fin 256) (d : Fin 128) :
    kl x1 x2 i (ix3 0 j d) = (if h : 256 * i + j < 4096 then x1 (ix3 0 ⟨256 * i + j, h⟩ d)
      else x2 (ix3 0 ⟨256 * i + j - 4096, by omega⟩ d) : EReal) := by
  have := j.isLt
  split
  · have hi' : i < 16 := by omega
    interval_cases i <;> exact ld1 x1 _ _ j d _
  · have hi' : 16 ≤ i := by omega
    interval_cases i
    · exact ld2 x2 0 _ j d _ _ (by omega)
    · exact ld2 x2 256 _ j d _ _ (by omega)

/-- Every load of values at an entry. -/
theorem vl_apply (x3 : Vec Ideal S1x1x80x4096 .bf16) (x4 : Vec Ideal S1x1x80x512 .bf16) (i : ℕ) (hi : i < 18) (e : Fin 80) (j : Fin 256) :
    vl x3 x4 i (ix4 0 0 e j) = (if h : 256 * i + j < 4096 then x3 (ix4 0 0 e ⟨256 * i + j, h⟩)
      else x4 (ix4 0 0 e ⟨256 * i + j - 4096, by omega⟩) : EReal) := by
  have := j.isLt
  split
  · have hi' : i < 16 := by omega
    interval_cases i <;> exact ld3 x3 _ _ e j _
  · have hi' : 16 ≤ i := by omega
    interval_cases i
    · exact ld4 x4 0 _ e j _ _ (by omega)
    · exact ld4 x4 256 _ e j _ _ (by omega)

/-- The load of the whole block of queries. -/
theorem ld0 (x : Vec Ideal S512x128 .bf16) : View.ld x r0_1 = x := by
  funext i
  obtain ⟨y, d, rfl⟩ : ∃ (y : Fin 512) (d : Fin 128), i = ix2 y d := ⟨i 0, i 1, eq_ix2 i⟩
  unfold r0_1
  pointwise

/-- The load of the whole block of the factor's arguments. -/
theorem ld5 (x : Vec Ideal S4x32 .f32) : View.ld x r0_0 = x := by
  funext i
  obtain ⟨y, d, rfl⟩ : ∃ (y : Fin 4) (d : Fin 32), i = ix2 y d := ⟨i 0, i 1, eq_ix2 i⟩
  unfold r0_0
  pointwise

/-- The load of the whole block of gains. -/
theorem ld6 (x : Vec Ideal S64x1 .f32) : View.ld x r0_38 = x := by
  funext i
  obtain ⟨y, d, rfl⟩ : ∃ (y : Fin 64) (d : Fin 1), i = ix2 y d := ⟨i 0, i 1, eq_ix2 i⟩
  obtain rfl : d = 0 := Subsingleton.elim _ _
  unfold r0_38
  pointwise

variable (m : (ℓ : Loc nD τ sig) → Buf (Elt Ideal) ℓ)

/-- The batch of a grid point. -/
def pb (t : Fin cfg0.N) : Fin 4 := ⟨(grid0.coords t 0).val, (grid0.coords t 0).isLt⟩

/-- The head of a grid point. -/
def ph (t : Fin cfg0.N) : Fin 4 := ⟨(grid0.coords t 1).val, (grid0.coords t 1).isLt⟩

/-- The block of queries of a grid point. -/
def pq (t : Fin cfg0.N) : Fin 8 := ⟨(grid0.coords t 2).val, (grid0.coords t 2).isLt⟩

/-- Query `y` of a grid point's block. -/
def pl (t : Fin cfg0.N) (y : Fin 512) : Fin 4096 := ⟨(pq t).val * 512 + y.val, by omega⟩

/-- The lane in the array of lane `p` of a grid point's block of two heads. -/
def pp (t : Fin cfg0.N) (p : Fin 128) : Fin 256 := ⟨(ph t).val / 2 * 128 + p.val, by omega⟩

/-- Where each window stands at a grid point. -/
theorem idx : ∀ t : Fin cfg0.N, win0_0.index t = ![(pb t).val * 8 + (pq t).val, (ph t).val / 2]
    ∧ win0_1.index t = ![(pb t).val, 0, (ph t).val / 2] ∧ win0_2.index t = ![(pb t).val, 0, (ph t).val / 2]
    ∧ win0_3.index t = ![(pb t).val, (ph t).val, 0, 0] ∧ win0_4.index t = ![(pb t).val, (ph t).val, 0, 0]
    ∧ win0_5.index t = ![0, 0] ∧ win0_6.index t = ![0, 0]
    ∧ win0_7.index t = ![(pb t).val, (ph t).val, (pq t).val] := by
  decide +kernel

/-- The block of queries, read from the array. -/
theorem read0 (c : Dev nD) (t : Fin cfg0.N) (y : Fin 512) (d : Fin 128) :
    iblk m c 0 t (ix2 y d) = m ((c.tc : Thread nD τ).loc main_arg0) (ix2 (Spec.row (pb t) (pl t y)) (pp t d)) := by
  have h := (idx t).1
  unfold pl pp
  blk_ext [iblk, V, h]

/-- The first block of keys, read from the array. -/
theorem read1 (c : Dev nD) (t : Fin cfg0.N) (n : Fin 4096) (d : Fin 128) :
    iblk m c 1 t (ix3 0 n d) = m ((c.tc : Thread nD τ).loc main_arg1) (ix3 (pb t) n (pp t d)) := by
  have h := (idx t).2.1
  unfold pp
  blk_ext [iblk, V, h]

/-- The second block of keys, read from the array. -/
theorem read2 (c : Dev nD) (t : Fin cfg0.N) (n : Fin 512) (d : Fin 128) :
    iblk m c 2 t (ix3 0 n d) = m ((c.tc : Thread nD τ).loc main_arg2) (ix3 (pb t) n (pp t d)) := by
  have h := (idx t).2.2.1
  unfold pp
  blk_ext [iblk, V, h]

/-- The first block of values, read from the array. -/
theorem read3 (c : Dev nD) (t : Fin cfg0.N) (e : Fin 80) (n : Fin 4096) :
    iblk m c 3 t (ix4 0 0 e n) = m ((c.tc : Thread nD τ).loc main_arg3) (ix4 (pb t) (ph t) e n) := by
  have h := (idx t).2.2.2.1
  blk_ext [iblk, V, h]

/-- The second block of values, read from the array. -/
theorem read4 (c : Dev nD) (t : Fin cfg0.N) (e : Fin 80) (n : Fin 512) :
    iblk m c 4 t (ix4 0 0 e n) = m ((c.tc : Thread nD τ).loc main_arg4) (ix4 (pb t) (ph t) e n) := by
  have h := (idx t).2.2.2.2.1
  blk_ext [iblk, V, h]

/-- The factor's arguments, read from the array. -/
theorem read5 (c : Dev nD) (t : Fin cfg0.N) (y : Fin 4) (d : Fin 32) :
    iblk m c 5 t (ix2 y d) = m ((c.tc : Thread nD τ).loc main_arg5) (ix2 y d) := by
  have h := (idx t).2.2.2.2.2.1
  blk_ext [iblk, V, h]

/-- The gains, read from the array. -/
theorem read6 (c : Dev nD) (t : Fin cfg0.N) (y : Fin 64) (d : Fin 1) :
    iblk m c 6 t (ix2 y d) = m ((c.tc : Thread nD τ).loc main_arg6) (ix2 y d) := by
  have h := (idx t).2.2.2.2.2.2.1
  blk_ext [iblk, V, h]

/-- The mathematics at the memory's arguments. -/
def outAt (c : Dev nD) (b h : Fin 4) (e : Fin 64) (l : Fin 4096) : EReal :=
  out (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) b h e l

/-- The whole result array. -/
def G (c : Dev nD) : S4x256x4096.Idx → EReal := fun i =>
  outAt m c (i 0) ⟨(i 1).val / 64, Nat.div_lt_of_lt_mul (i 1).isLt⟩ ⟨(i 1).val % 64, Nat.mod_lt _ (by norm_num)⟩ (i 2)

/-- Every block of the result array is written: the grid's point `(b, h, i)` writes the block at `(b, h, i)`. -/
theorem covers7 : (cfg0.win 7).Covers :=
  (cfg0.win 7).covers_of_indexMap_surj rfl (by decide) fun β => by
    have key : ∀ i : grid0.Coords, ∀ a, cc0_transform_7 i a = (i a).val := by decide +kernel
    let i : grid0.Coords := fun a =>
      ⟨(β a).val, lt_of_lt_of_le (β a).isLt ((by decide : ∀ a : Fin 3, (cfg0.win 7).nblk a ≤ grid0.bound a) a)⟩
    exact ⟨i, fun a => key i a⟩

/-- The conditions on the arrays under which the result is the differential attention's mathematics. -/
structure Fine (c : Dev nD) : Prop where
  /-- The first values are real. -/
  v : ∀ (b h : Fin 4) (e : Fin 64) n, IsReal (m ((c.tc : Thread nD τ).loc main_arg3) (ix4 b h ⟨e, by omega⟩ n))
  /-- The second values are real. -/
  v' : ∀ (b h : Fin 4) (e : Fin 64) n, IsReal (m ((c.tc : Thread nD τ).loc main_arg4) (ix4 b h ⟨e, by omega⟩ n))
  /-- Row 64 of the first values holds ones. -/
  one : ∀ b h n, m ((c.tc : Thread nD τ).loc main_arg3) (ix4 b h 64 n) = (1 : EReal)
  /-- Row 64 of the second values holds ones. -/
  one' : ∀ b h n, m ((c.tc : Thread nD τ).loc main_arg4) (ix4 b h 64 n) = (1 : EReal)
  /-- The factor's arguments are real. -/
  l : ∀ i, IsReal (m ((c.tc : Thread nD τ).loc main_arg5) i)

variable {m}

/-- The window of 32 lanes of a grid point's head and a map, within its block. -/
def pw (t : Fin cfg0.N) (j : Fin 2) : Fin 4 := ⟨2 * ((ph t).val % 2) + j.val, by omega⟩

/-- The word of that window's first lane. -/
theorem word_pw (t : Fin cfg0.N) (j : Fin 2) :
    Scalar.addi (base (grid0.coords t)) (BitVec.ofNat 32 (32 * j.val)) = BitVec.ofNat 32 (32 * (pw t j).val) := by
  rw [word_eq]
  congr 1
  show 64 * ((ph t).val % 2) + 32 * j.val = 32 * (2 * ((ph t).val % 2) + j.val)
  ring

/-- The window's lanes are the lanes of the head and the map in the array. -/
theorem pp_pw (t : Fin cfg0.N) (j : Fin 2) (d : Fin 32) (h : 32 * (pw t j).val + d.val < 128) :
    pp t ⟨32 * (pw t j).val + d.val, h⟩ = lane (ph t) j d := by
  apply Fin.ext
  show (ph t).val / 2 * 128 + (32 * (2 * ((ph t).val % 2) + j.val) + d.val) = (ph t).val * 64 + j.val * 32 + d.val
  omega

/-- One grid point's scores in one map. -/
theorem point_score (c : Dev nD) (t : Fin cfg0.N) (w : Fin 2) (y : Fin 512) (i : ℕ) (hi : i < 18) (j : Fin 256) :
    sc (mq (BitVec.ofNat 32 (32 * (pw t w).val)) (iblk m c 0 t)) (kl (iblk m c 1 t) (iblk m c 2 t) i) (ix2 j y)
      = score (m ((c.tc : Thread nD τ).loc main_arg0)) (m ((c.tc : Thread nD τ).loc main_arg1))
          (m ((c.tc : Thread nD τ).loc main_arg2)) (pb t) (ph t) w (pl t y) (256 * i + j) := by
  rw [sc_mq_apply]
  refine Finset.sum_congr rfl fun d _ => ?_
  rw [kl_apply _ _ i hi, read0, pp_pw]
  unfold key
  have := j.isLt
  split
  · rw [read1, pp_pw]
  · rw [read2, pp_pw, dif_pos (by omega)]

/-- One grid point's values. -/
theorem point_value (c : Dev nD) (t : Fin cfg0.N) (e : Fin 80) (i : ℕ) (hi : i < 18) (j : Fin 256) :
    vl (iblk m c 3 t) (iblk m c 4 t) i (ix4 0 0 e j)
      = Spec.valAt (m ((c.tc : Thread nD τ).loc main_arg3)) (m ((c.tc : Thread nD τ).loc main_arg4)) (pb t) (ph t) e (256 * i + j) := by
  rw [vl_apply _ _ i hi]
  unfold Spec.valAt
  have := j.isLt
  split
  · rw [read3]
  · rw [read4, dif_pos (by omega)]

/-- Under the conditions the row of ones reads one at every key. -/
theorem ones {c : Dev nD} (hm : Fine m c) (b h : Fin 4) (n : ℕ) (hn : n < 4608) :
    Spec.valAt (m ((c.tc : Thread nD τ).loc main_arg3)) (m ((c.tc : Thread nD τ).loc main_arg4)) b h 64 n = 1 := by
  unfold Spec.valAt
  split
  · exact hm.one _ _ _
  · rw [dif_pos (by omega)]; exact hm.one' _ _ _

/-- One map's weights and its results at a grid point. -/
theorem point_side {c : Dev nD} (hm : Fine m c) (t : Fin cfg0.N) (w : Fin 2) (y : Fin 512) :
    Good (soft (m ((c.tc : Thread nD τ).loc main_arg0)) (m ((c.tc : Thread nD τ).loc main_arg1)) (m ((c.tc : Thread nD τ).loc main_arg2))
        (pb t) (ph t) w (pl t y))
      (fun e => side (Scalar.addi (base (grid0.coords t)) (BitVec.ofNat 32 (32 * w.val))) (iblk m c 0 t) (iblk m c 1 t) (iblk m c 2 t)
        (iblk m c 3 t) (iblk m c 4 t) (ix2 e y))
      (fun e (k : Fin 4608) => Spec.valAt (m ((c.tc : Thread nD τ).loc main_arg3)) (m ((c.tc : Thread nD τ).loc main_arg4)) (pb t) (ph t)
        ⟨e, by omega⟩ k) := by
  unfold side
  rw [word_pw, ld0]
  exact good_quo _ _ y _ (fun e k => Spec.valAt (m ((c.tc : Thread nD τ).loc main_arg3)) (m ((c.tc : Thread nD τ).loc main_arg4)) (pb t) (ph t)
    ⟨e, by omega⟩ k) (fun i hi j => point_score c t w y i hi j) (fun e i hi j => point_value c t _ i hi j)
    (fun i hi j => (point_value c t 64 i hi j).trans (ones hm _ _ _ (by omega))) _ fun _ => rfl

/-- The factor at a grid point. -/
theorem point_lam (c : Dev nD) (t : Fin cfg0.N) :
    lamOf (iblk m c 5 t) (ix2 0 0) = lam (m ((c.tc : Thread nD τ).loc main_arg5)) := by
  rw [lamOf_apply]
  unfold lam
  simp only [read5]

/-- The block with its leading axis dropped, at an entry. -/
theorem lift_apply (o : FVec Ideal S64x512 .f32) (e : Fin 64) (y : Fin 512) :
    shapeCast S1x64x512 o shapeCasts_S64x512_S1x64x512 (ix3 0 e y) = o (ix2 e y) := by
  pointwise

/-- What one grid point writes. -/
theorem point {c : Dev nD} (hm : Fine m c) (t : Fin cfg0.N) (e : Fin 64) (y : Fin 512) :
    blockOf (grid0.coords t) (iblk m c 0 t) (iblk m c 1 t) (iblk m c 2 t) (iblk m c 3 t) (iblk m c 4 t) (iblk m c 5 t) (iblk m c 6 t)
      (ix3 0 e y) = outAt m c (pb t) (ph t) e (pl t y) := by
  unfold blockOf
  rw [lift_apply, nrm_apply, ld5, ld6]
  simp only [dif_apply, point_lam]
  refine (settle_eq (point_side hm t 0 y) (point_side hm t 1 y) (fun e k => isReal_value hm.v hm.v' _ _ e k) (isReal_lam hm.l) _ e).trans ?_
  unfold outAt out
  congr 1
  funext e
  exact read6 m c t e 0

/-- The place in the result array of an entry of a grid point's block. -/
theorem place (t : Fin cfg0.N) (e : Fin 64) (y : Fin 512) :
    ((View.whole main_v0).slice (win0_7.rect t)).emb (ix3 0 e y) = ix3 (pb t) ⟨(ph t).val * 64 + e.val, by omega⟩ (pl t y) := by
  have h := (idx t).2.2.2.2.2.2.2
  unfold pl
  blk_ext [h]

/-- The array's entry at that place. -/
theorem G_place (c : Dev nD) (b h : Fin 4) (e : Fin 64) (l : Fin 4096) :
    G m c (ix3 b ⟨h.val * 64 + e.val, by omega⟩ l) = outAt m c b h e l := by
  unfold G
  congr 1
  · apply Fin.ext; show (h.val * 64 + e.val) / 64 = h.val; omega
  · apply Fin.ext; show (h.val * 64 + e.val) % 64 = e.val; omega

/-- What one grid point writes, at its place in the array. -/
theorem point_G {c : Dev nD} (hm : Fine m c) (t : Fin cfg0.N) (y : S1x64x512.Idx) :
    blockOf (grid0.coords t) (iblk m c 0 t) (iblk m c 1 t) (iblk m c 2 t) (iblk m c 3 t) (iblk m c 4 t) (iblk m c 5 t) (iblk m c 6 t) y
      = G m c (((View.whole main_v0).slice (win0_7.rect t)).emb y) := by
  obtain ⟨z, e, q, rfl⟩ : ∃ (z : Fin 1) (e : Fin 64) (q : Fin 512), y = ix3 z e q := ⟨y 0, y 1, y 2, eq_ix3 y⟩
  obtain rfl : z = 0 := Subsingleton.elim _ _
  rw [place, G_place, point hm]

/-- The result array after the run. -/
theorem final {c : Dev nD} (hm : Fine m c) : (dats m 0 c).arrAt 7 cfg0.N = G m c := by
  refine (dats m 0 c).arrAt_eq_of_covers 7 _ covers7 fun t hf y => ?_
  blk_simp
  rw [after0_7, out_eq]
  frame_out
  exact point_G hm t y

end Cert.Diff
-- ==== Proof.DiffPre.lean ====
/- The precondition `finite`, read: the values and the factor's arguments are real numbers and the extra row of values
   holds ones. -/
module

public import proofs.«01_k».proof.Proof.Pre
public import proofs.«01_k».proof.Proof.DiffArray
public import proofs.«01_k».proof.Proof.Gen.Pre_finite

@[expose] public section

set_option maxRecDepth 16384

noncomputable section

namespace Cert.Diff.Pre

open Idealize.ShloMosaic Idealize.ShloMosaic.TcCoe Cert.Soft Cert.Pre_finite Cert.Pre_finite.Gen
open Cert.Pre (isReal_of_lt eq_one)

section Read

variable (a0 : FVec Ideal S16384x256 .bf16) (a1 : FVec Ideal S4x4096x256 .bf16) (a2 : FVec Ideal S4x512x256 .bf16)
  (a3 : FVec Ideal S4x4x80x4096 .bf16) (a4 : FVec Ideal S4x4x80x512 .bf16) (a5 : FVec Ideal S4x32 .f32) (a6 : FVec Ideal S64x1 .f32)

/-- The first 64 rows of the first values, as the precondition cuts them out. -/
theorem cut_v (b h : Fin 4) (e : Fin 64) (n : Fin 4096) :
    extractStridedSlice S4x4x64x4096 ![0, 0, 0, 0] (extf .f32 a3 bitsLt_bf16_f32) slices_S4x4x80x4096_S4x4x64x4096_0_0_0_0 (ix4 b h e n)
      = (a3 (ix4 b h ⟨e, by omega⟩ n) : EReal) := by
  pointwise

/-- The first values are real. -/
theorem read_v (hp : (fn (F := Ideal) a0 a1 a2 a3 a4 a5 a6).1 = fun _ => 1#1) (b h : Fin 4) (e : Fin 64) (n : Fin 4096) :
    IsReal (a3 (ix4 b h ⟨e, by omega⟩ n)) := by
  rw [← cut_v a3 b h e n]
  exact isReal_of_lt (congrFun hp (ix4 b h e n))

/-- The first 64 rows of the second values, as the precondition cuts them out. -/
theorem cut_v' (b h : Fin 4) (e : Fin 64) (n : Fin 512) :
    extractStridedSlice S4x4x64x512 ![0, 0, 0, 0] (extf .f32 a4 bitsLt_bf16_f32) slices_S4x4x80x512_S4x4x64x512_0_0_0_0 (ix4 b h e n)
      = (a4 (ix4 b h ⟨e, by omega⟩ n) : EReal) := by
  pointwise

/-- The second values are real. -/
theorem read_v' (hp : (fn (F := Ideal) a0 a1 a2 a3 a4 a5 a6).2.1 = fun _ => 1#1) (b h : Fin 4) (e : Fin 64) (n : Fin 512) :
    IsReal (a4 (ix4 b h ⟨e, by omega⟩ n)) := by
  rw [← cut_v' a4 b h e n]
  exact isReal_of_lt (congrFun hp (ix4 b h e n))

/-- Row 64 of the first values, as the precondition cuts it out. -/
theorem cut_apply (b h : Fin 4) (n : Fin 4096) :
    shapeCast S4x4x4096 (extractStridedSlice S4x4x1x4096 ![0, 0, 64, 0] (extf .f32 a3 bitsLt_bf16_f32)
      slices_S4x4x80x4096_S4x4x1x4096_0_0_64_0) shapeCasts_S4x4x1x4096_S4x4x4096 (ix3 b h n) = (a3 (ix4 b h 64 n) : EReal) := by
  pointwise

/-- Row 64 of the second values, as the precondition cuts it out. -/
theorem cut_apply' (b h : Fin 4) (n : Fin 512) :
    shapeCast S4x4x512 (extractStridedSlice S4x4x1x512 ![0, 0, 64, 0] (extf .f32 a4 bitsLt_bf16_f32)
      slices_S4x4x80x512_S4x4x1x512_0_0_64_0) shapeCasts_S4x4x1x512_S4x4x512 (ix3 b h n) = (a4 (ix4 b h 64 n) : EReal) := by
  pointwise

/-- The third component: row 64 of the first values holds ones. -/
theorem read_one (h : (fn (F := Ideal) a0 a1 a2 a3 a4 a5 a6).2.2.1 = fun _ => 1#1) (b g : Fin 4) (n : Fin 4096) :
    (a3 (ix4 b g 64 n) : EReal) = 1 :=
  (cut_apply a3 b g n).symm.trans (eq_one (congrFun h (ix3 b g n)))

/-- The fourth component: row 64 of the second values holds ones. -/
theorem read_one' (h : (fn (F := Ideal) a0 a1 a2 a3 a4 a5 a6).2.2.2.1 = fun _ => 1#1) (b g : Fin 4) (n : Fin 512) :
    (a4 (ix4 b g 64 n) : EReal) = 1 :=
  (cut_apply' a4 b g n).symm.trans (eq_one (congrFun h (ix3 b g n)))

/-- The fifth component: the factor's arguments are real. -/
theorem read_l (h : (fn (F := Ideal) a0 a1 a2 a3 a4 a5 a6).2.2.2.2 = fun _ => 1#1) (i : S4x32.Idx) : IsReal (a5 i) :=
  isReal_of_lt (congrFun h i)

end Read

/-- The precondition on a memory gives what the values need. -/
theorem fine {m : (ℓ : Loc Cert.Kernel3Ideal.nD Cert.Kernel3Ideal.τ Cert.Kernel3Ideal.sig) → Buf (Elt Ideal) ℓ}
    (h : Cert.Pre_Kernel3Ideal_finite m) (c : Dev Cert.Kernel3Ideal.nD) : Cert.Diff.Fine m c where
  v := read_v _ _ _ _ _ _ _ (h c).1
  v' := read_v' _ _ _ _ _ _ _ (h c).2.1
  one := read_one _ _ _ _ _ _ _ (h c).2.2.1
  one' := read_one' _ _ _ _ _ _ _ (h c).2.2.2.1
  l := read_l _ _ _ _ _ _ _ (h c).2.2.2.2

end Cert.Diff.Pre
-- ==== Proof.DiffRef.lean ====
/- The differential attention's reference read at an index, one intermediate array at a time. -/
module

public import proofs.«01_k».proof.Proof.Gen.Reference3Ideal.Run
public import proofs.«01_k».proof.Proof.DiffSpec
public import proofs.«01_k».proof.Proof.Ref

@[expose] public section

set_option maxRecDepth 16384

noncomputable section

namespace Cert.Diff.Ref

open Idealize.ShloMosaic Idealize.ShloMosaic.TcCoe Cert.Reference3Ideal Cert.Reference3Ideal.Gen Cert.Soft
open Cert.Ref (vArr vArr_apply log_two ofBits_neg_inf)

/-- The queries, one axis for the batch, one for the head and one for the map. -/
def qArr (a0 : FVec Ideal S16384x256 .bf16) : FVec Ideal S4x4096x4x2x32 .f32 :=
  shapeCast S4x4096x4x2x32 (extf .f32 a0 bitsLt_bf16_f32) shapeCasts_S16384x256_S4x4096x4x2x32

/-- Both key arrays, joined, one axis for the head and one for the map. -/
def kArr (a1 : FVec Ideal S4x4096x256 .bf16) (a2 : FVec Ideal S4x512x256 .bf16) : FVec Ideal S4x4608x4x2x32 .f32 :=
  shapeCast S4x4608x4x2x32 (concatenate S4x4608x256 1 [⟨S4x4096x256, (extf .f32 a1 bitsLt_bf16_f32)⟩, ⟨S4x512x256, (extf .f32 a2 bitsLt_bf16_f32)⟩] concatenates_S4x4096x256_S4x512x256_S4x4608x256_d1) shapeCasts_S4x4608x256_S4x4608x4x2x32

/-- The scores of both maps. -/
def sArr (q : FVec Ideal S4x4096x4x2x32 .f32) (k : FVec Ideal S4x4608x4x2x32 .f32) : FVec Ideal S4x4x2x4096x4608 .f32 :=
  mulf (Host.dotGeneral dot_S4x4096x4x2x32_S4x4608x4x2x32_S4x4x2x4096x4608_4_4_1_1_023_023 none q k) (broadcastInDim S4x4x2x4096x4608 ![] bcast_S_S4x4x2x4096x4608 (Host.log (constant S_ .f32 0x40000000#32)))

/-- Each query's greatest score in each map. -/
def mArr (s : FVec Ideal S4x4x2x4096x4608 .f32) : FVec Ideal S4x4x2x4096 .f32 :=
  maximumf (broadcastInDim S4x4x2x4096 ![] bcast_S_S4x4x2x4096 (constant S_ .f32 0xFF800000#32)) (Host.reduce FloatOps.maximumf s (constant S_ .f32 0xFF800000#32) reducesTo_S4x4x2x4096x4608_S4x4x2x4096_d4 h_S_)

/-- An array with one entry per map and query, repeated for every key. -/
def spread (x : FVec Ideal S4x4x2x4096 .f32) : FVec Ideal S4x4x2x4096x4608 .f32 :=
  broadcastInDim S4x4x2x4096x4608 ![0, 1, 2, 3, 4] bcast_S4x4x2x4096x1_S4x4x2x4096x4608_0_1_2_3_4 (broadcastInDim S4x4x2x4096x1 ![0, 1, 2, 3] bcast_S4x4x2x4096_S4x4x2x4096x1_0_1_2_3 x)

/-- The exponentials. -/
def eArr (s : FVec Ideal S4x4x2x4096x4608 .f32) : FVec Ideal S4x4x2x4096x4608 .f32 :=
  Host.exp (subf s (spread (mArr s)))

/-- Both softmaxes' weights. -/
def wArr (e : FVec Ideal S4x4x2x4096x4608 .f32) : FVec Ideal S4x4x2x4096x4608 .f32 :=
  Host.divf e (spread (Host.reduceAdd e (constant S_ .f32 0x00000000#32) reducesTo_S4x4x2x4096x4608_S4x4x2x4096_d4 h_S_))

/-- The factor of the second map. -/
def lArr (a5 : FVec Ideal S4x32 .f32) : FVec Ideal S_ .f32 :=
  addf (subf (Host.exp (Host.reduceAdd (mulf (shapeCast S32 (extractStridedSlice S1x32 ![0, 0] a5 slices_S4x32_S1x32_0_0 : FVec Ideal S1x32 .f32) shapeCasts_S1x32_S32 : FVec Ideal S32 .f32) (shapeCast S32 (extractStridedSlice S1x32 ![1, 0] a5 slices_S4x32_S1x32_1_0 : FVec Ideal S1x32 .f32) shapeCasts_S1x32_S32)) (constant S_ .f32 0x00000000#32) reducesTo_S32_S_d0 h_S_)) (Host.exp (Host.reduceAdd (mulf (shapeCast S32 (extractStridedSlice S1x32 ![2, 0] a5 slices_S4x32_S1x32_2_0 : FVec Ideal S1x32 .f32) shapeCasts_S1x32_S32 : FVec Ideal S32 .f32) (shapeCast S32 (extractStridedSlice S1x32 ![3, 0] a5 slices_S4x32_S1x32_3_0 : FVec Ideal S1x32 .f32) shapeCasts_S1x32_S32)) (constant S_ .f32 0x00000000#32) reducesTo_S32_S_d0 h_S_))) (constant S_ .f32 0x3E4CCCCD#32)

/-- The first map's weights less the factor times the second's. -/
def dArr (w : FVec Ideal S4x4x2x4096x4608 .f32) (l : FVec Ideal S_ .f32) : FVec Ideal S4x4x4096x4608 .f32 :=
  subf (shapeCast S4x4x4096x4608 (extractStridedSlice S4x4x1x4096x4608 ![0, 0, 0, 0, 0] w slices_S4x4x2x4096x4608_S4x4x1x4096x4608_0_0_0_0_0 : FVec Ideal S4x4x1x4096x4608 .f32) shapeCasts_S4x4x1x4096x4608_S4x4x4096x4608)
    (mulf (broadcastInDim S4x4x4096x4608 ![] bcast_S_S4x4x4096x4608 l) (shapeCast S4x4x4096x4608 (extractStridedSlice S4x4x1x4096x4608 ![0, 0, 1, 0, 0] w slices_S4x4x2x4096x4608_S4x4x1x4096x4608_0_0_1_0_0 : FVec Ideal S4x4x1x4096x4608 .f32) shapeCasts_S4x4x1x4096x4608_S4x4x4096x4608))

/-- The weighted sums of the values. -/
def oArr (d : FVec Ideal S4x4x4096x4608 .f32) (v : FVec Ideal S4x4x64x4608 .f32) : FVec Ideal S4x4x4096x64 .f32 :=
  Host.dotGeneral dot_S4x4x4096x4608_S4x4x64x4608_S4x4x4096x64_3_3_2_2_01_01 none d v

/-- Every query's 64 entries normalised, times the gains. -/
def nArr (o : FVec Ideal S4x4x4096x64 .f32) (a6 : FVec Ideal S64x1 .f32) : FVec Ideal S4x4x4096x64 .f32 :=
  mulf (mulf o (broadcastInDim S4x4x4096x64 ![0, 1, 2, 3] bcast_S4x4x4096x1_S4x4x4096x64_0_1_2_3 (Host.rsqrt (addf (Host.divf (broadcastInDim S4x4x4096x1 ![0, 1, 2] bcast_S4x4x4096_S4x4x4096x1_0_1_2 (Host.reduceAdd (mulf o o) (constant S_ .f32 0x00000000#32) reducesTo_S4x4x4096x64_S4x4x4096_d3 h_S_)) (broadcastInDim S4x4x4096x1 ![] bcast_S_S4x4x4096x1 (constant S_ .f32 0x42800000#32))) (broadcastInDim S4x4x4096x1 ![] bcast_S_S4x4x4096x1 (constant S_ .f32 0x358637BD#32)))))) (broadcastInDim S4x4x4096x64 ![0, 1, 2, 3] bcast_S1x1x1x64_S4x4x4096x64_0_1_2_3 (broadcastInDim S1x1x1x64 ![3] bcast_S64_S1x1x1x64_3 (shapeCast S64 a6 shapeCasts_S64x1_S64)))

/-- The result: times the last factor, the entries before the queries, the heads joined. -/
def rArr (n : FVec Ideal S4x4x4096x64 .f32) : FVec Ideal S4x256x4096 .f32 :=
  shapeCast S4x256x4096 (transpose S4x4x64x4096 [0, 1, 3, 2] (mulf n (broadcastInDim S4x4x4096x64 ![] bcast_S_S4x4x4096x64 (constant S_ .f32 0x3F4CCCCD#32)) : FVec Ideal S4x4x4096x64 .f32) transposes_S4x4x4096x64_S4x4x64x4096_0_1_3_2) shapeCasts_S4x4x64x4096_S4x256x4096

/-- The reference's composed term is these arrays, one after another. -/
theorem res_eq (m : (ℓ : Loc nD τ sig) → Buf (Elt Ideal) ℓ) (c : Dev nD) :
    Value.res_main_v67 m c
      = rArr (nArr (oArr (dArr (wArr (eArr (sArr (qArr (m ((c.tc : Thread nD τ).loc main_arg0)))
            (kArr (m ((c.tc : Thread nD τ).loc main_arg1)) (m ((c.tc : Thread nD τ).loc main_arg2))))))
          (lArr (m ((c.tc : Thread nD τ).loc main_arg5))))
        (vArr (m ((c.tc : Thread nD τ).loc main_arg3)) (m ((c.tc : Thread nD τ).loc main_arg4))))
        (m ((c.tc : Thread nD τ).loc main_arg6))) := rfl

/-- The queries at an entry. -/
theorem qArr_apply (a0 : FVec Ideal S16384x256 .bf16) (b : Fin 4) (l : Fin 4096) (h : Fin 4) (j : Fin 2) (d : Fin 32) :
    qArr a0 (ix5 b l h j d) = (a0 (ix2 (Spec.row b l) (lane h j d)) : EReal) := by
  pointwise [qArr]

/-- The keys at an entry. -/
theorem kArr_apply (a1 : FVec Ideal S4x4096x256 .bf16) (a2 : FVec Ideal S4x512x256 .bf16) (b : Fin 4) (n : Fin 4608) (h : Fin 4) (j : Fin 2)
    (d : Fin 32) :
    kArr a1 a2 (ix5 b n h j d) = (key a1 a2 b n (lane h j d) : EReal) := by
  pointwise [kArr]
  unfold key
  have := n.isLt
  split
  · rfl
  · rw [dif_pos (by omega)]

/-- A score. -/
theorem sArr_apply (q : FVec Ideal S4x4096x4x2x32 .f32) (k : FVec Ideal S4x4608x4x2x32 .f32) (b h : Fin 4) (j : Fin 2) (l : Fin 4096) (n : Fin 4608) :
    sArr q k (ix5 b h j l n) = ((∑ d : Fin 32, q (ix5 b l h j d) * k (ix5 b n h j d)) * ((Real.log 2 : ℝ) : EReal) : EReal) := by
  pointwise [sArr]
  rw [log_two]

/-- The array of the least value, at an entry. -/
theorem bot_apply (b h : Fin 4) (j : Fin 2) (l : Fin 4096) :
    broadcastInDim S4x4x2x4096 ![] bcast_S_S4x4x2x4096 (constant (F := Ideal) S_ .f32 0xFF800000#32) (ix4 b h j l) = (⊥ : EReal) := by
  pointwise
  exact ofBits_neg_inf

/-- A query's greatest score. -/
theorem mArr_apply (s : FVec Ideal S4x4x2x4096x4608 .f32) (b h : Fin 4) (j : Fin 2) (l : Fin 4096) :
    mArr s (ix4 b h j l) = (max ⊥ (Finset.univ.fold max ⊥ fun k : Fin 4608 => s (ix5 b h j l k)) : EReal) :=
  Max.reduce_max_last5 _ s _ reducesTo_S4x4x2x4096x4608_S4x4x2x4096_d4 h_S_ b h j l ⊥ ⊥ ofBits_neg_inf (bot_apply b h j l)

/-- The repeated array at an entry. -/
theorem spread_apply (x : FVec Ideal S4x4x2x4096 .f32) (b h : Fin 4) (j : Fin 2) (l : Fin 4096) (n : Fin 4608) :
    spread x (ix5 b h j l n) = x (ix4 b h j l) := by
  pointwise [spread]

/-- An exponential. -/
theorem eArr_apply (s : FVec Ideal S4x4x2x4096x4608 .f32) (b h : Fin 4) (j : Fin 2) (l : Fin 4096) (n : Fin 4608) :
    eArr s (ix5 b h j l n) = Ideal.exp (s (ix5 b h j l n) - mArr s (ix4 b h j l) : EReal) := by
  rw [← spread_apply (mArr s) b h j l n]
  rfl

/-- A weight. -/
theorem wArr_apply (e : FVec Ideal S4x4x2x4096x4608 .f32) (b h : Fin 4) (j : Fin 2) (l : Fin 4096) (n : Fin 4608) :
    wArr e (ix5 b h j l n) = Ideal.div (e (ix5 b h j l n)) (0 + ∑ k : Fin 4608, e (ix5 b h j l k) : EReal) := by
  pointwise [wArr, spread]

/-- The factor. -/
theorem lArr_apply (a5 : FVec Ideal S4x32 .f32) (i : S_.Idx) : lArr a5 i = (lam a5 : EReal) := by
  obtain rfl : i = ix0 := Subsingleton.elim _ _
  pointwise [lArr]
  unfold lam
  simp only [zero_add]

/-- A difference of weights. -/
theorem dArr_apply (w : FVec Ideal S4x4x2x4096x4608 .f32) (l : FVec Ideal S_ .f32) (b h : Fin 4) (q : Fin 4096) (k : Fin 4608) :
    dArr w l (ix4 b h q k) = (w (ix5 b h 0 q k) - l ix0 * w (ix5 b h 1 q k) : EReal) := by
  pointwise [dArr]

/-- A weighted sum of the values. -/
theorem oArr_apply (d : FVec Ideal S4x4x4096x4608 .f32) (v : FVec Ideal S4x4x64x4608 .f32) (b h : Fin 4) (l : Fin 4096) (e : Fin 64) :
    oArr d v (ix4 b h l e) = (∑ k : Fin 4608, d (ix4 b h l k) * v (ix4 b h e k) : EReal) := by
  pointwise [oArr]

/-- A normalised entry. -/
theorem nArr_apply (o : FVec Ideal S4x4x4096x64 .f32) (a6 : FVec Ideal S64x1 .f32) (b h : Fin 4) (l : Fin 4096) (e : Fin 64) :
    nArr o a6 (ix4 b h l e) = (In.unit (Ideal.ofBits .f32 0x42800000#32) (Ideal.ofBits .f32 0x358637BD#32)
      (fun e => o (ix4 b h l e)) (fun e => a6 (ix2 e 0)) e : EReal) := by
  pointwise [nArr]
  unfold In.unit
  simp only [zero_add]

/-- An entry of the result. -/
theorem rArr_apply (n : FVec Ideal S4x4x4096x64 .f32) (b h : Fin 4) (e : Fin 64) (l : Fin 4096) :
    rArr n (ix3 b ⟨h * 64 + e, by omega⟩ l) = (n (ix4 b h l e) * Ideal.ofBits .f32 0x3F4CCCCD#32 : EReal) := by
  pointwise [rArr]

section Arrays

variable (a0 : FVec Ideal S16384x256 .bf16) (a1 : FVec Ideal S4x4096x256 .bf16) (a2 : FVec Ideal S4x512x256 .bf16)
  (a3 : FVec Ideal S4x4x80x4096 .bf16) (a4 : FVec Ideal S4x4x80x512 .bf16) (a5 : FVec Ideal S4x32 .f32) (a6 : FVec Ideal S64x1 .f32)

/-- The weights of the arrays one after another are the softmax's. -/
theorem soft_apply (b h : Fin 4) (j : Fin 2) (l : Fin 4096) (k : Fin 4608) :
    wArr (eArr (sArr (qArr a0) (kArr a1 a2))) (ix5 b h j l k) = (soft a0 a1 a2 b h j l k : EReal) := by
  have hs : ∀ n : Fin 4608, sArr (qArr a0) (kArr a1 a2) (ix5 b h j l n) = (nat a0 a1 a2 b h j l n : EReal) := fun n => by
    rw [sArr_apply]
    unfold nat score
    simp only [qArr_apply, kArr_apply, mul_comm]
  rw [wArr_apply]
  simp only [eArr_apply, mArr_apply, hs]
  rfl

/-- The arrays one after another give the differential attention's mathematics. -/
theorem arr_apply (b h : Fin 4) (e : Fin 64) (l : Fin 4096) :
    rArr (nArr (oArr (dArr (wArr (eArr (sArr (qArr a0) (kArr a1 a2)))) (lArr a5)) (vArr a3 a4)) a6) (ix3 b ⟨h * 64 + e, by omega⟩ l)
      = (out a0 a1 a2 a3 a4 a5 a6 b h e l : EReal) := by
  have ho : ∀ e : Fin 64, oArr (dArr (wArr (eArr (sArr (qArr a0) (kArr a1 a2)))) (lArr a5)) (vArr a3 a4) (ix4 b h l e)
      = (∑ k : Fin 4608, (soft a0 a1 a2 b h 0 l k - lam a5 * soft a0 a1 a2 b h 1 l k) * Spec.valAt a3 a4 b h ⟨e, by omega⟩ k : EReal) := fun e => by
    rw [oArr_apply]
    simp only [dArr_apply, soft_apply, lArr_apply, vArr_apply]
  rw [rArr_apply, nArr_apply]
  simp only [ho]
  rfl

end Arrays

end Cert.Diff.Ref
-- ==== Proof.DiffAttn.lean ====
/- The differential attention's claim: kernel and reference, from one memory's arguments, leave one array. -/
module

public import proofs.«01_k».proof.Proof.DiffPre
public import proofs.«01_k».proof.Proof.DiffRef

@[expose] public section

noncomputable section

namespace Cert.Diff

open Idealize.ShloMosaic Idealize.SL.Sem

/-- The reference's array, from the kernel's arguments, is the array the kernel leaves. -/
theorem reference_eq (m : (ℓ : Loc Cert.Kernel3Ideal.nD Cert.Kernel3Ideal.τ Cert.Kernel3Ideal.sig) → Buf (Elt Ideal) ℓ)
    (m' : (ℓ : Loc Cert.Reference3Ideal.nD Cert.Reference3Ideal.τ Cert.Reference3Ideal.sig) → Buf (Elt Ideal) ℓ) (c : Dev Cert.Kernel3Ideal.nD)
    (h0 : m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0))
    (h1 : m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1))
    (h2 : m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2))
    (h3 : m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3))
    (h4 : m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4))
    (h5 : m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5))
    (h6 : m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) :
    Cert.Reference3Ideal.Value.res_main_v67 m' c = G m c := by
  rw [Ref.res_eq, h0, h1, h2, h3, h4, h5, h6]
  refine funext fun i => ?_
  obtain ⟨b, r, l, rfl⟩ : ∃ (b : Fin 4) (r : Fin 256) (l : Fin 4096), i = ix3 b r l := ⟨i 0, i 1, i 2, by ext a; fin_cases a <;> rfl⟩
  obtain ⟨h, e, rfl⟩ : ∃ (h : Fin 4) (e : Fin 64), r = ⟨h.val * 64 + e.val, by omega⟩ :=
    ⟨⟨r / 64, by omega⟩, ⟨r % 64, by omega⟩, Fin.ext (by show r.val = r.val / 64 * 64 + r.val % 64; omega)⟩
  exact (Ref.arr_apply _ _ _ _ _ _ _ b h e l).trans (G_place c b h e l).symm

/-- The claim: with finite values and a finite factor and a row of ones, the optimised differential attention and the plain one leave the
    same array. -/
theorem holds : Cert.algebraic_Kernel3Ideal_Reference3Ideal_pre_finite := fun m g m' g' hpre hag =>
  ⟨fun c => G m c,
    (θ_run _ _ _).mono (fun r h c => ⟨(h c).1.trans (final (Pre.fine hpre c)), (h c).2⟩)
      (Cert.Kernel3Ideal.Value.run_blocks m g),
    (θ_run _ _ _).mono (fun r h c => ⟨(h c).1.trans (reference_eq m m' c (hag c).1 (hag c).2.1 (hag c).2.2.1 (hag c).2.2.2.1 (hag c).2.2.2.2.1 (hag c).2.2.2.2.2.1 (hag c).2.2.2.2.2.2), (h c).2⟩)
      (Cert.Reference3Ideal.Value.run m' g')⟩

end Cert.Diff
-- ==== Proof.OutArray.lean ====
/- The output projection kernel's result array. -/
module

public import proofs.«01_k».proof.Proof.Gen.Kernel4Ideal.Value
public import proofs.«01_k».proof.Proof.OutSpec
public import Idealize.ShloMosaic.Lib.Pipeline.ValueKit
public import Idealize.ShloMosaic.Lib.Pipeline.Covers
public import Idealize.ShloMosaic.Lib.Tactic.CleanTypes

@[expose] public section

set_option maxRecDepth 16384

noncomputable section

namespace Cert.Out

open Idealize.ShloMosaic Idealize.ShloMosaic.TcCoe Cert.Kernel4Ideal Cert.Kernel4Ideal.Gen Cert.In

/-- The gate. -/
theorem gate_apply (v0 : Vec Ideal S512x1024 .f32) (y : Fin 512) (k : Fin 1024) :
    k0_pay2 (F := Ideal) v0 (ix2 y k) = (silu (v0 (ix2 y k)) : EReal) := by
  unfold silu
  pointwise [k0_pay2]

/-- The third branch's row, normalised. -/
theorem third_apply (v3 v4 : Vec Ideal S512x256 .f32) (v7 : Vec Ideal S256x256 .bf16) (v16 : Vec Ideal S1x256 .f32)
    (y : Fin 512) (c : Fin 256) :
    k0_pay3 (F := Ideal) v3 v4 v7 v16 (ix2 y c)
      = ((v3 (ix2 y c) + v4 (ix2 y c)) * Ideal.rsqrt ((∑ e : Fin 256, (v3 (ix2 y e) + v4 (ix2 y e)) * (v3 (ix2 y e) + v4 (ix2 y e)) * v7 (ix2 e c))
          * Ideal.ofBits .f32 0x3C800000#32 + Ideal.ofBits .f32 0x358637BD#32) * v16 (ix2 0 c) : EReal) := by
  pointwise [k0_pay3]

/-- The first branch's share. -/
theorem first_apply (v0 : Vec Ideal S512x1024 .f32) (v19 : Vec Ideal S1x256x512 .f32) (v24 : Vec Ideal S256x1024 .bf16)
    (y : Fin 512) (n : Fin 1024) :
    k0_pay4 (F := Ideal) v0 v19 v24 (ix2 y n)
      = (∑ c : Fin 256, v19 (ix3 0 c y) * k0_pay2 (F := Ideal) v0 (ix2 y (col 0 c)) * v24 (ix2 c n) : EReal) := by
  have hc : ∀ c, col 0 c = ⟨c.val, by omega⟩ := fun c => Fin.ext (Nat.zero_add _)
  simp only [hc]
  generalize hg : k0_pay2 (F := Ideal) v0 = g
  unfold k0_pay4
  rw [hg]
  pointwise

/-- The second branch's row, gated. -/
theorem second_apply (v0 : Vec Ideal S512x1024 .f32) (v27 : Vec Ideal S1x256x512 .f32) (y : Fin 512) (c : Fin 256) :
    k0_pay5 (F := Ideal) v0 v27 (ix2 y c)
      = (v27 (ix3 0 c y) * k0_pay2 (F := Ideal) v0 (ix2 y (col 256 c)) : EReal) := by
  generalize hg : k0_pay2 (F := Ideal) v0 = g
  unfold k0_pay5 col
  rw [hg]
  pointwise

/-- The last step: the shares' sum, gated and added to the input. -/
theorem last_apply (v2 : FVec Ideal S512x1024 .f32) (v18 : FVec Ideal S512x256 .f32) (v26 : FVec Ideal S512x1024 .f32)
    (v32 : Vec Ideal S256x1024 .bf16) (v33 : FVec Ideal S512x256 .bf16) (v38 : Vec Ideal S256x1024 .bf16)
    (v42 : Vec Ideal S512x256 .f32) (v45 : Vec Ideal S256x1024 .bf16) (v49 : Vec Ideal S512x1024 .f32) (v50 : Vec Ideal S1x1x1024 .f32)
    (y : Fin 512) (n : Fin 1024) :
    k0_pay1 (F := Ideal) v2 v18 v26 v32 v33 (constant S512x1024 .f32 0x00000000#32) v38 v42 v45 v49 v50 (ix2 y n)
      = (v49 (ix2 y n) + v50 (ix3 0 0 n) * (v26 (ix2 y n) + (∑ c : Fin 256, v33 (ix2 y c) * v32 (ix2 c n))
          + (∑ c : Fin 256, v18 (ix2 y c) * v2 (ix2 y (col 512 c)) * v38 (ix2 c n))
          + ∑ c : Fin 256, v42 (ix2 y c) * v2 (ix2 y (col 768 c)) * v45 (ix2 c n)) : EReal) := by
  unfold col
  pointwise [k0_pay1]

/-- What one grid point leaves in its block, from its input blocks. -/
def blockOf (x0 : Vec Ideal S512x1024 .f32) (x1 : Vec Ideal S1x3x1024 .f32) (x2 x3 : Vec Ideal S1x256x512 .f32)
    (x4 x5 x6 : Vec Ideal S512x256 .f32) (x7 : Vec Ideal S512x1024 .f32) (x8 : Vec Ideal S1x256 .f32)
    (x9 : Vec Ideal S256x256 .bf16) (x10 : Vec Ideal S1024x1024 .bf16) : FVec Ideal S512x1024 .f32 :=
  k0_pay1 (k0_pay2 (View.ld x7 r0_0)) (k0_pay3 (View.ld x4 r0_1) (View.ld x5 r0_1) (View.ld x9 r0_2) (View.ld x8 r0_3)) (k0_pay4 (View.ld x7 r0_0) (View.ld x2 r0_4) (View.ld x10 r0_5)) (View.ld x10 r0_6) (k0_pay5 (View.ld x7 r0_0) (View.ld x3 r0_4)) (constant S512x1024 .f32 0x00000000#32) (View.ld x10 r0_7) (View.ld x6 r0_1) (View.ld x10 r0_8) (View.ld x0 r0_0) (View.ld x1 r0_9)

/-- The output buffer after a grid point, by that name. -/
theorem out_eq (x0 : Vec Ideal S512x1024 .f32) (x1 : Vec Ideal S1x3x1024 .f32) (x2 x3 : Vec Ideal S1x256x512 .f32)
    (x4 x5 x6 : Vec Ideal S512x256 .f32) (x7 : Vec Ideal S512x1024 .f32) (x8 : Vec Ideal S1x256 .f32)
    (x9 : Vec Ideal S256x256 .bf16) (x10 : Vec Ideal S1024x1024 .bf16) :
    out0_11 x0 x1 x2 x3 x4 x5 x6 x7 x8 x9 x10 = View.canon [⟨r0_0, blockOf x0 x1 x2 x3 x4 x5 x6 x7 x8 x9 x10⟩] := rfl

/-- The rows of the weights that a branch's load takes. -/
theorem ld5 (x : Vec Ideal S1024x1024 .bf16) (c : Fin 256) (n : Fin 1024) : View.ld x r0_5 (ix2 c n) = x (ix2 (col 0 c) n) := by
  have hc : col 0 c = ⟨c.val, by omega⟩ := Fin.ext (Nat.zero_add _)
  rw [hc]; pointwise
/-- The second branch's rows of the weights. -/
theorem ld6 (x : Vec Ideal S1024x1024 .bf16) (c : Fin 256) (n : Fin 1024) : View.ld x r0_6 (ix2 c n) = x (ix2 (col 256 c) n) := by
  unfold col; pointwise
/-- The third branch's rows of the weights. -/
theorem ld7 (x : Vec Ideal S1024x1024 .bf16) (c : Fin 256) (n : Fin 1024) : View.ld x r0_7 (ix2 c n) = x (ix2 (col 512 c) n) := by
  unfold col; pointwise
/-- The fourth branch's rows of the weights. -/
theorem ld8 (x : Vec Ideal S1024x1024 .bf16) (c : Fin 256) (n : Fin 1024) : View.ld x r0_8 (ix2 c n) = x (ix2 (col 768 c) n) := by
  unfold col; pointwise

/-- An entry of a grid point's block. -/
theorem blockOf_apply (x0 : Vec Ideal S512x1024 .f32) (x1 : Vec Ideal S1x3x1024 .f32) (x2 x3 : Vec Ideal S1x256x512 .f32)
    (x4 x5 x6 : Vec Ideal S512x256 .f32) (x7 : Vec Ideal S512x1024 .f32) (x8 : Vec Ideal S1x256 .f32)
    (x9 : Vec Ideal S256x256 .bf16) (x10 : Vec Ideal S1024x1024 .bf16)
    (hs : ∀ e c : Fin 256, (x9 (ix2 e c) : EReal) = if e.val / 64 = c.val / 64 then 1 else 0) (y : Fin 512) (n : Fin 1024) :
    blockOf x0 x1 x2 x3 x4 x5 x6 x7 x8 x9 x10 (ix2 y n)
      = (out (x0 (ix2 y n)) (x1 (ix3 0 2 n)) (fun c => x2 (ix3 0 c y)) (fun c => x3 (ix3 0 c y))
          (heads (fun c => x4 (ix2 y c) + x5 (ix2 y c)) (fun c => x8 (ix2 0 c))) (fun c => x6 (ix2 y c))
          (fun k => x7 (ix2 y k)) (fun k => x10 (ix2 k n)) : EReal) := by
  have h0 : ∀ (x : Vec Ideal S512x1024 .f32) k, View.ld x r0_0 (ix2 y k) = x (ix2 y k) := fun x k => by pointwise
  have h1 : ∀ (x : Vec Ideal S512x256 .f32) c, View.ld x r0_1 (ix2 y c) = x (ix2 y c) := fun x c => by pointwise
  have h2 : ∀ e c, View.ld x9 r0_2 (ix2 e c) = x9 (ix2 e c) := fun e c => by pointwise
  have h3 : ∀ c, View.ld x8 r0_3 (ix2 0 c) = x8 (ix2 0 c) := fun c => by pointwise
  have h4 : ∀ (x : Vec Ideal S1x256x512 .f32) c, View.ld x r0_4 (ix3 0 c y) = x (ix3 0 c y) := fun x c => by pointwise
  have h9 : View.ld x1 r0_9 (ix3 0 0 n) = x1 (ix3 0 2 n) := by pointwise
  have hh : ∀ c, k0_pay3 (F := Ideal) (View.ld x4 r0_1) (View.ld x5 r0_1) (View.ld x9 r0_2) (View.ld x8 r0_3) (ix2 y c)
      = (heads (fun c => x4 (ix2 y c) + x5 (ix2 y c)) (fun c => x8 (ix2 0 c)) c : EReal) := fun c => by
    rw [third_apply]
    simp only [h1 x4, h1 x5, h2, h3]
    exact heads_eq (fun c => x4 (ix2 y c) + x5 (ix2 y c)) (fun c => x8 (ix2 0 c)) (fun e => x9 (ix2 e c)) c (fun e => hs e c)
  unfold blockOf
  rw [last_apply]
  simp only [first_apply, second_apply, hh, gate_apply, h0 x0, h0 x7, h1 x6, h4 x2, h4 x3, h9, ld5 x10, ld6 x10, ld7 x10, ld8 x10]
  rfl

variable (m : (ℓ : Loc nD τ sig) → Buf (Elt Ideal) ℓ)

/-- The tile of rows of a grid point. -/
def tile (t : Fin cfg0.N) : Fin 32 := ⟨(grid0.coords t 0).val, (grid0.coords t 0).isLt⟩

/-- Row `y` of a grid point's tile. -/
def rowAt (t : Fin cfg0.N) (y : Fin 512) : Fin 16384 := ⟨(tile t).val * 512 + y.val, by omega⟩

/-- Where each window stands at a grid point. -/
theorem idx : ∀ t : Fin cfg0.N, win0_0.index t = ![(tile t).val, 0] ∧ win0_1.index t = ![(tile t).val / 8, 0, 0]
    ∧ win0_2.index t = ![(tile t).val / 8, 0, (tile t).val % 8] ∧ win0_3.index t = ![(tile t).val / 8, 0, (tile t).val % 8]
    ∧ win0_4.index t = ![(tile t).val, 0] ∧ win0_5.index t = ![(tile t).val, 0] ∧ win0_6.index t = ![(tile t).val, 0]
    ∧ win0_7.index t = ![(tile t).val, 3] ∧ win0_8.index t = ![0, 0] ∧ win0_9.index t = ![0, 0] ∧ win0_10.index t = ![0, 0]
    ∧ win0_11.index t = ![(tile t).val, 0] := by
  decide +kernel

/-- The input rows, read from the array. -/
theorem read0 (c : Dev nD) (t : Fin cfg0.N) (y : Fin 512) (d : Fin 1024) :
    iblk m c 0 t (ix2 y d) = m ((c.tc : Thread nD τ).loc main_arg0) (ix2 (rowAt t y) d) := by
  have h := (idx t).1
  rw [← V_main_arg0 m c]
  unfold rowAt
  blk_ext [iblk, h]

/-- The batch's modulation, read from the array. -/
theorem read1 (c : Dev nD) (t : Fin cfg0.N) (y : Fin 512) (k : Fin 3) (d : Fin 1024) :
    iblk m c 1 t (ix3 0 k d) = m ((c.tc : Thread nD τ).loc main_arg1) (ix3 (batch (rowAt t y)) k d) := by
  have h := (idx t).2.1
  have hb : (batch (rowAt t y)).val = (tile t).val / 8 := by
    show ((tile t).val * 512 + y.val) / 4096 = _; omega
  rw [← V_main_arg1 m c]
  obtain ⟨b, hb'⟩ : ∃ b, b = batch (rowAt t y) := ⟨_, rfl⟩
  rw [← hb'] at hb ⊢
  blk_ext [iblk, h, hb]

/-- The first branch, read from the array. -/
theorem read2 (c : Dev nD) (t : Fin cfg0.N) (k : Fin 256) (y : Fin 512) :
    iblk m c 2 t (ix3 0 k y) = m ((c.tc : Thread nD τ).loc main_arg2) (ix3 (batch (rowAt t y)) k (pos (rowAt t y))) := by
  have h := (idx t).2.2.1
  have hb : (batch (rowAt t y)).val = (tile t).val / 8 := by
    show ((tile t).val * 512 + y.val) / 4096 = _; omega
  have hp : (pos (rowAt t y)).val = (tile t).val % 8 * 512 + y.val := by
    show ((tile t).val * 512 + y.val) % 4096 = _; omega
  rw [← V_main_arg2 m c]
  obtain ⟨b, hb'⟩ : ∃ b, b = batch (rowAt t y) := ⟨_, rfl⟩
  obtain ⟨p, hp'⟩ : ∃ b, b = pos (rowAt t y) := ⟨_, rfl⟩
  rw [← hb'] at hb ⊢
  rw [← hp'] at hp ⊢
  blk_ext [iblk, h, hb, hp]

/-- The second branch, read from the array. -/
theorem read3 (c : Dev nD) (t : Fin cfg0.N) (k : Fin 256) (y : Fin 512) :
    iblk m c 3 t (ix3 0 k y) = m ((c.tc : Thread nD τ).loc main_arg3) (ix3 (batch (rowAt t y)) k (pos (rowAt t y))) := by
  have h := (idx t).2.2.2.1
  have hb : (batch (rowAt t y)).val = (tile t).val / 8 := by
    show ((tile t).val * 512 + y.val) / 4096 = _; omega
  have hp : (pos (rowAt t y)).val = (tile t).val % 8 * 512 + y.val := by
    show ((tile t).val * 512 + y.val) % 4096 = _; omega
  rw [← V_main_arg3 m c]
  obtain ⟨b, hb'⟩ : ∃ b, b = batch (rowAt t y) := ⟨_, rfl⟩
  obtain ⟨p, hp'⟩ : ∃ b, b = pos (rowAt t y) := ⟨_, rfl⟩
  rw [← hb'] at hb ⊢
  rw [← hp'] at hp ⊢
  blk_ext [iblk, h, hb, hp]

/-- The third branch's forward half, read from the array. -/
theorem read4 (c : Dev nD) (t : Fin cfg0.N) (y : Fin 512) (k : Fin 256) :
    iblk m c 4 t (ix2 y k) = m ((c.tc : Thread nD τ).loc main_arg4) (ix2 (rowAt t y) k) := by
  have h := (idx t).2.2.2.2.1
  rw [← V_main_arg4 m c]
  unfold rowAt
  blk_ext [iblk, h]

/-- The third branch's backward half, read from the array. -/
theorem read5 (c : Dev nD) (t : Fin cfg0.N) (y : Fin 512) (k : Fin 256) :
    iblk m c 5 t (ix2 y k) = m ((c.tc : Thread nD τ).loc main_arg5) (ix2 (rowAt t y) k) := by
  have h := (idx t).2.2.2.2.2.1
  rw [← V_main_arg5 m c]
  unfold rowAt
  blk_ext [iblk, h]

/-- The fourth branch, read from the array. -/
theorem read6 (c : Dev nD) (t : Fin cfg0.N) (y : Fin 512) (k : Fin 256) :
    iblk m c 6 t (ix2 y k) = m ((c.tc : Thread nD τ).loc main_arg6) (ix2 (rowAt t y) k) := by
  have h := (idx t).2.2.2.2.2.2.1
  rw [← V_main_arg6 m c]
  unfold rowAt
  blk_ext [iblk, h]

/-- The gate's columns of the projected rows, read from the array. -/
theorem read7 (c : Dev nD) (t : Fin cfg0.N) (y : Fin 512) (k : Fin 1024) :
    iblk m c 7 t (ix2 y k) = m ((c.tc : Thread nD τ).loc main_arg7) (ix2 (rowAt t y) ⟨3072 + k, by omega⟩) := by
  have h := (idx t).2.2.2.2.2.2.2.1
  rw [← V_main_arg7 m c]
  unfold rowAt
  blk_ext [iblk, h]

/-- The heads' gains, read from the array. -/
theorem read8 (c : Dev nD) (t : Fin cfg0.N) (k : Fin 256) :
    iblk m c 8 t (ix2 0 k) = m ((c.tc : Thread nD τ).loc main_arg8) (ix2 0 k) := by
  have h := (idx t).2.2.2.2.2.2.2.2.1
  rw [← V_main_arg8 m c]
  blk_ext [iblk, h]

/-- The ones and zeros of the heads, read from the array. -/
theorem read9 (c : Dev nD) (t : Fin cfg0.N) (e k : Fin 256) :
    iblk m c 9 t (ix2 e k) = m ((c.tc : Thread nD τ).loc main_arg9) (ix2 e k) := by
  have h := (idx t).2.2.2.2.2.2.2.2.2.1
  rw [← V_main_arg9 m c]
  blk_ext [iblk, h]

/-- The weights, read from the array. -/
theorem read10 (c : Dev nD) (t : Fin cfg0.N) (d n : Fin 1024) :
    iblk m c 10 t (ix2 d n) = m ((c.tc : Thread nD τ).loc main_arg10) (ix2 d n) := by
  have h := (idx t).2.2.2.2.2.2.2.2.2.2.1
  rw [← V_main_arg10 m c]
  blk_ext [iblk, h]

/-- The whole result array. -/
def G (c : Dev nD) : S16384x1024.Idx → EReal := fun i =>
  outAt (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7)) (m ((c.tc : Thread nD τ).loc main_arg8))
    (m ((c.tc : Thread nD τ).loc main_arg10)) (i 0) (i 1)

/-- Every block of the result array is written. -/
theorem covers11 : (cfg0.win 11).Covers :=
  (cfg0.win 11).covers_of_indexMap_surj rfl (by decide) fun β => by
    have key : ∀ i : grid0.Coords, cc0_transform_11 i = ![(i 0).val, 0] := by decide +kernel
    have h1 : (β 1).val = 0 := by have := (β 1).isLt; have e : (cfg0.win 11).nblk 1 = 1 := by decide
                                  omega
    let i : grid0.Coords := fun a =>
      ⟨(β 0).val, lt_of_lt_of_le (β 0).isLt ((by decide : ∀ a : Fin 1, (cfg0.win 11).nblk 0 ≤ grid0.bound a) a)⟩
    refine ⟨i, fun a => ?_⟩
    show cc0_transform_11 i a = _
    rw [key i]
    fin_cases a
    · rfl
    · exact h1.symm

/-- The place in the result array of an entry of a grid point's block. -/
theorem place (t : Fin cfg0.N) (y : Fin 512) (n : Fin 1024) :
    ((View.whole main_v0).slice (win0_11.rect t)).emb (ix2 y n) = ix2 (rowAt t y) n := by
  have h := (idx t).2.2.2.2.2.2.2.2.2.2.2
  unfold rowAt
  blk_ext [h]

/-- What the value needs of the memory: the constant that sums each head's lanes is what its name says. -/
def Seg (c : Dev nD) : Prop :=
  ∀ e k : Fin 256, m ((c.tc : Thread nD τ).loc main_arg9) (ix2 e k) = (if e.val / 64 = k.val / 64 then 1 else 0 : EReal)

variable {m}

/-- What one grid point writes, at its place in the array. -/
theorem point {c : Dev nD} (hs : Seg m c) (t : Fin cfg0.N) (y : Fin 512) (n : Fin 1024) :
    blockOf (iblk m c 0 t) (iblk m c 1 t) (iblk m c 2 t) (iblk m c 3 t) (iblk m c 4 t) (iblk m c 5 t) (iblk m c 6 t)
      (iblk m c 7 t) (iblk m c 8 t) (iblk m c 9 t) (iblk m c 10 t) (ix2 y n) = G m c (ix2 (rowAt t y) n) := by
  rw [blockOf_apply _ _ _ _ _ _ _ _ _ _ _ (fun e k => (read9 m c t e k).trans (hs e k))]
  simp only [read0, read1 m c t y, read2, read3, read4, read5, read6, read7, read8, read10]
  rfl

/-- The same at any index of the block. -/
theorem point_G {c : Dev nD} (hs : Seg m c) (t : Fin cfg0.N) (y : S512x1024.Idx) :
    blockOf (iblk m c 0 t) (iblk m c 1 t) (iblk m c 2 t) (iblk m c 3 t) (iblk m c 4 t) (iblk m c 5 t) (iblk m c 6 t)
      (iblk m c 7 t) (iblk m c 8 t) (iblk m c 9 t) (iblk m c 10 t) y
      = G m c (((View.whole main_v0).slice (win0_11.rect t)).emb y) := by
  obtain ⟨y, n, rfl⟩ : ∃ (q : Fin 512) (n : Fin 1024), y = ix2 q n := ⟨y 0, y 1, eq_ix2 y⟩
  rw [place, point hs]

/-- The result array after the run. -/
theorem final {c : Dev nD} (hs : Seg m c) : (dats m 0 c).arrAt 11 cfg0.N = G m c := by
  refine (dats m 0 c).arrAt_eq_of_covers 11 _ covers11 fun t hf y => ?_
  blk_simp
  rw [after0_11, out_eq]
  frame_out
  exact point_G hs t y

end Cert.Out
-- ==== Proof.OutPre.lean ====
/- The precondition `blocks`, read: the constant that sums each head's lanes holds ones and zeros. -/
module

public import proofs.«01_k».proof.Defs
public import proofs.«01_k».proof.Proof.OutArray
public import proofs.«01_k».proof.Proof.Gen.Pre_blocks

@[expose] public section

set_option maxRecDepth 16384

noncomputable section

namespace Cert.Out.Pre

open Idealize.ShloMosaic Idealize.ShloMosaic.TcCoe Cert.Pre_blocks Cert.Pre_blocks.Gen

/-- Two numbers found equal are equal. -/
theorem eq_of_oeq {x y : EReal} (h : FloatOps.cmpf (F := Ideal) (φ := .f32) .oeq x y = 1#1) : x = y := by
  by_contra hc
  have : FloatOps.cmpf (F := Ideal) (φ := .f32) .oeq x y = 0#1 := by
    show BitVec.ofBool (decide (x = y)) = 0#1
    simp [hc]
  rw [this] at h
  exact absurd h (by decide)

/-- The array with a one where the first index is the third, and zeros elsewhere. -/
def eye : FVec Ideal S4x64x4x64 .f32 :=
  broadcastInDim S4x64x4x64 ![0, 1, 2, 3] bcast_S4x1x4x1_S4x64x4x64_0_1_2_3 (broadcastInDim S4x1x4x1 ![0, 2] bcast_S4x4_S4x1x4x1_0_2
    (uitofp .f32 (cmpi .eq (addi (iotaInDim S4x4 32 0) (broadcastInDim S4x4 ![] bcast_S_S4x4 (constantI S_ 32 0#32))) (iotaInDim S4x4 32 1))))

/-- A set bit is the number one. -/
theorem bit_one : (FloatOps.uitofp (F := Ideal) .f32 (1#1) : EReal) = 1 := by
  show (((1#1 : BitVec 1).toNat : ℝ) : EReal) = 1
  simp

/-- A cleared bit is the number zero. -/
theorem bit_zero : (FloatOps.uitofp (F := Ideal) .f32 (0#1) : EReal) = 0 := by
  show (((0#1 : BitVec 1).toNat : ℝ) : EReal) = 0
  simp

/-- That array at an entry. -/
theorem eye_apply (h : Fin 4) (i : Fin 64) (g : Fin 4) (j : Fin 64) :
    eye (ix4 h i g j) = (if h.val = g.val then 1 else 0 : EReal) := by
  pointwise [eye]
  fin_cases h <;> fin_cases g <;> first | exact bit_one | exact bit_zero

/-- The constant with its axes split, at an entry. -/
theorem cut_apply (a : FVec Ideal S256x256 .bf16) (h : Fin 4) (i : Fin 64) (g : Fin 4) (j : Fin 64) :
    shapeCast S4x64x4x64 (extf .f32 a bitsLt_bf16_f32) shapeCasts_S256x256_S4x64x4x64 (ix4 h i g j)
      = (a (ix2 ⟨h * 64 + i, by omega⟩ ⟨g * 64 + j, by omega⟩) : EReal) := by
  pointwise

/-- The precondition on a memory gives what the kernel's value needs. -/
theorem seg {m : (ℓ : Loc Cert.Kernel4Ideal.nD Cert.Kernel4Ideal.τ Cert.Kernel4Ideal.sig) → Buf (Elt Ideal) ℓ}
    (hp : Cert.Pre_Kernel4Ideal_blocks m) (c : Dev Cert.Kernel4Ideal.nD) : Cert.Out.Seg m c := by
  intro e k
  obtain ⟨h, i, rfl⟩ : ∃ (h : Fin 4) (i : Fin 64), e = ⟨h.val * 64 + i.val, by omega⟩ :=
    ⟨⟨e / 64, by omega⟩, ⟨e % 64, by omega⟩, Fin.ext (by show e.val = e.val / 64 * 64 + e.val % 64; omega)⟩
  obtain ⟨g, j, rfl⟩ : ∃ (h : Fin 4) (i : Fin 64), k = ⟨h.val * 64 + i.val, by omega⟩ :=
    ⟨⟨k / 64, by omega⟩, ⟨k % 64, by omega⟩, Fin.ext (by show k.val = k.val / 64 * 64 + k.val % 64; omega)⟩
  have := (cut_apply _ h i g j).symm.trans ((eq_of_oeq (congrFun (hp c) (ix4 h i g j))).trans (eye_apply h i g j))
  refine this.trans ?_
  have e1 : (h.val * 64 + i.val) / 64 = h.val := by omega
  have e2 : (g.val * 64 + j.val) / 64 = g.val := by omega
  simp only [e1, e2]

end Cert.Out.Pre
-- ==== Proof.OutRef.lean ====
/- The output projection's reference read at an index. -/
module

public import proofs.«01_k».proof.Proof.Gen.Reference4Ideal.Run
public import proofs.«01_k».proof.Proof.OutSpec
public import Idealize.ShloMosaic.Lib.Tactic.CleanTypes

@[expose] public section

set_option maxRecDepth 16384

noncomputable section

namespace Cert.Out.Ref

open Idealize.ShloMosaic Idealize.ShloMosaic.TcCoe Cert.Reference4Ideal Cert.Reference4Ideal.Gen Cert.In Cert.Out

/-- A transposed branch. -/
def tArr (a : FVec Ideal S4x256x4096 .f32) : FVec Ideal S4x4096x256 .f32 :=
  transpose S4x4096x256 [0, 2, 1] a transposes_S4x256x4096_S4x4096x256_0_2_1

/-- The third branch's rows, one axis for the head. -/
def oArr (a4 a5 : FVec Ideal S16384x256 .f32) : FVec Ideal S4x4096x4x64 .f32 :=
  shapeCast S4x4096x4x64 (addf a4 a5) shapeCasts_S16384x256_S4x4096x4x64

/-- The third branch, normalised head by head. -/
def cArr (o : FVec Ideal S4x4096x4x64 .f32) (a8 : FVec Ideal S1x256 .f32) : FVec Ideal S4x4096x256 .f32 :=
  shapeCast S4x4096x256 (mulf (mulf o (broadcastInDim S4x4096x4x64 ![0, 1, 2, 3] bcast_S4x4096x4x1_S4x4096x4x64_0_1_2_3 (Host.rsqrt (addf (Host.divf (broadcastInDim S4x4096x4x1 ![0, 1, 2] bcast_S4x4096x4_S4x4096x4x1_0_1_2 (Host.reduceAdd (mulf o o) (constant S_ .f32 0x00000000#32) reducesTo_S4x4096x4x64_S4x4096x4_d3 h_S_)) (broadcastInDim S4x4096x4x1 ![] bcast_S_S4x4096x4x1 (constant S_ .f32 0x42800000#32))) (broadcastInDim S4x4096x4x1 ![] bcast_S_S4x4096x4x1 (constant S_ .f32 0x358637BD#32)))))) (broadcastInDim S4x4096x4x64 ![0, 1, 2, 3] bcast_S1x1x4x64_S4x4096x4x64_0_1_2_3 (broadcastInDim S1x1x4x64 ![2, 3] bcast_S4x64_S1x1x4x64_2_3 (shapeCast S4x64 a8 shapeCasts_S1x256_S4x64)))) shapeCasts_S4x4096x4x64_S4x4096x256

/-- The fourth branch's rows. -/
def dArr (a6 : FVec Ideal S16384x256 .f32) : FVec Ideal S4x4096x256 .f32 :=
  shapeCast S4x4096x256 a6 shapeCasts_S16384x256_S4x4096x256

/-- The four branches, joined. -/
def joinArr (b0 b1 b2 b3 : FVec Ideal S4x4096x256 .f32) : FVec Ideal S4x4096x1024 .f32 :=
  concatenate S4x4096x1024 2 [⟨S4x4096x256, b0⟩, ⟨S4x4096x256, b1⟩, ⟨S4x4096x256, b2⟩, ⟨S4x4096x256, b3⟩] concatenates_S4x4096x256_S4x4096x256_S4x4096x256_S4x4096x256_S4x4096x1024_d2

/-- The gate's columns. -/
def pArr (a7 : FVec Ideal S16384x4096 .f32) : FVec Ideal S4x4096x1024 .f32 :=
  shapeCast S4x4096x1024 (extractStridedSlice S16384x1024 ![0, 3072] a7 slices_S16384x4096_S16384x1024_0_3072) shapeCasts_S16384x1024_S4x4096x1024

/-- The gate. -/
def gArr (p : FVec Ideal S4x4096x1024 .f32) : FVec Ideal S4x4096x1024 .f32 :=
  mulf p (Host.divf (broadcastInDim S4x4096x1024 ![] bcast_S_S4x4096x1024 (constant S_ .f32 0x3F800000#32)) (addf (broadcastInDim S4x4096x1024 ![] bcast_S_S4x4096x1024 (constant S_ .f32 0x3F800000#32)) (Host.exp (Host.negf p))))

/-- The result. -/
def yArr (a0 : FVec Ideal S16384x1024 .f32) (a1 : FVec Ideal S4x3x1024 .f32) (z g : FVec Ideal S4x4096x1024 .f32)
    (a10 : FVec Ideal S1024x1024 .bf16) : FVec Ideal S16384x1024 .f32 :=
  shapeCast S16384x1024 (addf (shapeCast S4x4096x1024 a0 shapeCasts_S16384x1024_S4x4096x1024) (mulf (broadcastInDim S4x4096x1024 ![0, 1, 2] bcast_S4x1x1024_S4x4096x1024_0_1_2 (broadcastInDim S4x1x1024 ![0, 2] bcast_S4x1024_S4x1x1024_0_2 (shapeCast S4x1024 (extractStridedSlice S4x1x1024 ![0, 2, 0] a1 slices_S4x3x1024_S4x1x1024_0_2_0) shapeCasts_S4x1x1024_S4x1024))) (Host.dotGeneral dot_S4x4096x1024_S1024x1024_S4x4096x1024_2_0_01_1_n_n none (mulf z g) (extf .f32 a10 bitsLt_bf16_f32)))) shapeCasts_S4x4096x1024_S16384x1024

/-- A transposed branch's entry. -/
theorem tArr_apply (a : FVec Ideal S4x256x4096 .f32) (b : Fin 4) (l : Fin 4096) (c : Fin 256) :
    tArr a (ix3 b l c) = (a (ix3 b c l) : EReal) := by
  pointwise [tArr]

/-- The row of a batch and a place. -/
def row (b : Fin 4) (l : Fin 4096) : Fin 16384 := ⟨b * 4096 + l, by omega⟩

/-- An entry of the third branch's rows. -/
theorem oArr_apply (a4 a5 : FVec Ideal S16384x256 .f32) (b : Fin 4) (l : Fin 4096) (h : Fin 4) (e : Fin 64) :
    oArr a4 a5 (ix4 b l h e) = (a4 (ix2 (row b l) ⟨h * 64 + e, by omega⟩) + a5 (ix2 (row b l) ⟨h * 64 + e, by omega⟩) : EReal) := by
  unfold row
  pointwise [oArr]

/-- An entry of the normalised third branch. -/
theorem cArr_apply (o : FVec Ideal S4x4096x4x64 .f32) (a8 : FVec Ideal S1x256 .f32) (b : Fin 4) (l : Fin 4096) (h : Fin 4) (e : Fin 64) :
    cArr o a8 (ix3 b l ⟨h * 64 + e, by omega⟩)
      = (unit (Ideal.ofBits .f32 0x42800000#32) (Ideal.ofBits .f32 0x358637BD#32) (fun e => o (ix4 b l h e))
          (fun e => a8 (ix2 0 ⟨h * 64 + e, by omega⟩)) e : EReal) := by
  unfold unit
  pointwise [cArr]

/-- An entry of the normalised third branch, from the call's arrays. -/
theorem third_apply (a4 a5 : FVec Ideal S16384x256 .f32) (a8 : FVec Ideal S1x256 .f32) (b : Fin 4) (l : Fin 4096) (c : Fin 256) :
    cArr (oArr a4 a5) a8 (ix3 b l c)
      = (heads (fun c => a4 (ix2 (row b l) c) + a5 (ix2 (row b l) c)) (fun c => a8 (ix2 0 c)) c : EReal) := by
  obtain ⟨h, e, rfl⟩ : ∃ (h : Fin 4) (e : Fin 64), c = ⟨h.val * 64 + e.val, by omega⟩ :=
    ⟨⟨c / 64, by omega⟩, ⟨c % 64, by omega⟩, Fin.ext (by show c.val = c.val / 64 * 64 + c.val % 64; omega)⟩
  have hm : ∀ x : Fin 64, mate ⟨h.val * 64 + e.val, by omega⟩ x = ⟨h.val * 64 + x.val, by omega⟩ := fun x =>
    Fin.ext (by show (h.val * 64 + e.val) / 64 * 64 + x.val = h.val * 64 + x.val; omega)
  have he : (⟨(h.val * 64 + e.val) % 64, by omega⟩ : Fin 64) = e := Fin.ext (by show (h.val * 64 + e.val) % 64 = _; omega)
  rw [cArr_apply]
  unfold heads
  simp only [oArr_apply, hm, he]

/-- An entry of the fourth branch's rows. -/
theorem dArr_apply (a6 : FVec Ideal S16384x256 .f32) (b : Fin 4) (l : Fin 4096) (c : Fin 256) :
    dArr a6 (ix3 b l c) = (a6 (ix2 (row b l) c) : EReal) := by
  unfold row
  pointwise [dArr]

section Join

variable (b0 b1 b2 b3 : FVec Ideal S4x4096x256 .f32) (b : Fin 4) (l : Fin 4096) (c : Fin 256)

/-- The joined branches in the first branch's columns. -/
theorem join0 : joinArr b0 b1 b2 b3 (ix3 b l (col 0 c)) = (b0 (ix3 b l c) : EReal) := by
  have hc : col 0 c = ⟨c.val, by omega⟩ := Fin.ext (Nat.zero_add _)
  have := c.isLt
  rw [hc]
  pointwise [joinArr]
/-- The joined branches in the second branch's columns. -/
theorem join1 : joinArr b0 b1 b2 b3 (ix3 b l (col 256 c)) = (b1 (ix3 b l c) : EReal) := by
  have := c.isLt
  unfold col
  pointwise [joinArr]
/-- The joined branches in the third branch's columns. -/
theorem join2 : joinArr b0 b1 b2 b3 (ix3 b l (col 512 c)) = (b2 (ix3 b l c) : EReal) := by
  have := c.isLt
  unfold col
  pointwise [joinArr]
  rw [dif_neg (by omega), dif_neg (by omega), dif_pos (by omega)]
  exact congrArg b2 (congrArg (ix3 b l) (Fin.ext (by show 512 + c.val - 256 - 256 = c.val; omega)))
/-- The joined branches in the fourth branch's columns. -/
theorem join3 : joinArr b0 b1 b2 b3 (ix3 b l (col 768 c)) = (b3 (ix3 b l c) : EReal) := by
  have := c.isLt
  unfold col
  pointwise [joinArr]
  rw [dif_neg (by omega), dif_neg (by omega), dif_neg (by omega)]
  exact congrArg b3 (congrArg (ix3 b l) (Fin.ext (by show 768 + c.val - 256 - 256 - 256 = c.val; omega)))

end Join

/-- An entry of the gate's columns. -/
theorem pArr_apply (a7 : FVec Ideal S16384x4096 .f32) (b : Fin 4) (l : Fin 4096) (k : Fin 1024) :
    pArr a7 (ix3 b l k) = (a7 (ix2 (row b l) ⟨3072 + k, by omega⟩) : EReal) := by
  unfold row
  pointwise [pArr]

/-- An entry of the gate. -/
theorem gArr_apply (p : FVec Ideal S4x4096x1024 .f32) (b : Fin 4) (l : Fin 4096) (k : Fin 1024) :
    gArr p (ix3 b l k) = (silu (p (ix3 b l k)) : EReal) := by
  unfold silu Ideal.logistic
  pointwise [gArr]

/-- An entry of the result. -/
theorem yArr_apply (a0 : FVec Ideal S16384x1024 .f32) (a1 : FVec Ideal S4x3x1024 .f32) (z g : FVec Ideal S4x4096x1024 .f32)
    (a10 : FVec Ideal S1024x1024 .bf16) (b : Fin 4) (l : Fin 4096) (n : Fin 1024) :
    yArr a0 a1 z g a10 (ix2 (row b l) n)
      = (a0 (ix2 (row b l) n) + a1 (ix3 b 2 n) * ∑ k : Fin 1024, z (ix3 b l k) * g (ix3 b l k) * a10 (ix2 k n) : EReal) := by
  unfold row
  pointwise [yArr]

/-- The arrays one after another give the projection's mathematics. -/
theorem arr_apply (a0 : FVec Ideal S16384x1024 .f32) (a1 : FVec Ideal S4x3x1024 .f32) (a2 a3 : FVec Ideal S4x256x4096 .f32)
    (a4 a5 a6 : FVec Ideal S16384x256 .f32) (a7 : FVec Ideal S16384x4096 .f32) (a8 : FVec Ideal S1x256 .f32)
    (a10 : FVec Ideal S1024x1024 .bf16) (r : Fin 16384) (n : Fin 1024) :
    yArr a0 a1 (joinArr (tArr a2) (tArr a3) (cArr (oArr a4 a5) a8) (dArr a6)) (gArr (pArr a7)) a10 (ix2 r n)
      = (outAt a0 a1 a2 a3 a4 a5 a6 a7 a8 a10 r n : EReal) := by
  obtain ⟨b, l, rfl⟩ : ∃ (b : Fin 4) (l : Fin 4096), r = row b l :=
    ⟨⟨r / 4096, by omega⟩, ⟨r % 4096, by omega⟩, Fin.ext (by show r.val = r.val / 4096 * 4096 + r.val % 4096; omega)⟩
  have hb : batch (row b l) = b := Fin.ext (by show (b.val * 4096 + l.val) / 4096 = b.val; omega)
  have hp : pos (row b l) = l := Fin.ext (by show (b.val * 4096 + l.val) % 4096 = l.val; omega)
  rw [yArr_apply, sum_cols]
  simp only [join0, join1, join2, join3, tArr_apply, third_apply, dArr_apply, gArr_apply, pArr_apply]
  unfold outAt out share
  rw [hb, hp]

end Cert.Out.Ref
-- ==== Proof.OutProj.lean ====
/- The output projection's claim: kernel and reference, from one memory's arguments, leave one array. -/
module

public import proofs.«01_k».proof.Proof.OutPre
public import proofs.«01_k».proof.Proof.OutRef

@[expose] public section

noncomputable section

namespace Cert.Out

open Idealize.ShloMosaic Idealize.SL.Sem Cert.Reference4Ideal

/-- The reference's array, from the kernel's arguments, is the array the kernel leaves. -/
theorem reference_eq (a0 : FVec Ideal S16384x1024 .f32) (a1 : FVec Ideal S4x3x1024 .f32) (a2 a3 : FVec Ideal S4x256x4096 .f32)
    (a4 a5 a6 : FVec Ideal S16384x256 .f32) (a7 : FVec Ideal S16384x4096 .f32) (a8 : FVec Ideal S1x256 .f32)
    (a10 : FVec Ideal S1024x1024 .bf16) :
    Ref.yArr a0 a1 (Ref.joinArr (Ref.tArr a2) (Ref.tArr a3) (Ref.cArr (Ref.oArr a4 a5) a8) (Ref.dArr a6)) (Ref.gArr (Ref.pArr a7)) a10
      = fun i => (outAt a0 a1 a2 a3 a4 a5 a6 a7 a8 a10 (i 0) (i 1) : EReal) := by
  refine funext fun i => ?_
  obtain ⟨r, n, rfl⟩ : ∃ (r : Fin 16384) (n : Fin 1024), i = ix2 r n := ⟨i 0, i 1, eq_ix2 i⟩
  exact Ref.arr_apply a0 a1 a2 a3 a4 a5 a6 a7 a8 a10 r n

/-- The claim: the optimised projection and the plain one leave the same array. -/
theorem holds : Cert.algebraic_Kernel4Ideal_Reference4Ideal_pre_blocks := fun m g m' g' hp hag =>
  ⟨fun c => G m c,
    (θ_run _ _ _).mono (fun r h c => ⟨(h c).1.trans (final (Pre.seg hp c)), (h c).2⟩) (Cert.Kernel4Ideal.Value.run_blocks m g),
    (θ_run _ _ _).mono (fun r h c => ⟨by
      refine (h c).1.trans ((reference_eq _ _ _ _ _ _ _ _ _ _).trans ?_)
      obtain ⟨h0, h1, h2, h3, h4, h5, h6, h7, h8, -, h10⟩ := hag c
      rw [h0, h1, h2, h3, h4, h5, h6, h7, h8, h10]
      rfl, (h c).2⟩)
      (Cert.Reference4Ideal.Value.run m' g')⟩

end Cert.Out
-- ==== Proof.KvSpec.lean ====
/- The latent attention's keys and values over the extended reals, from the arrays that the call is given. -/
module

public import proofs.«01_k».proof.Proof.OutSpec

@[expose] public section

noncomputable section

namespace Cert.Kv

open Idealize.ShloMosaic Cert.In

/-- Lane `l` of head `h` among the keys' lanes. -/
def lane (h : Fin 4) (l : Fin 128) : Fin 512 := ⟨h * 128 + l, by omega⟩

/-- Lane `e` of head `h` among the lanes without position: a head's first 64. -/
def low (h : Fin 4) (e : Fin 64) : Fin 512 := ⟨h * 128 + e, by omega⟩

/-- Row `j` of head `h` among the values' rows. -/
def vrow (h : Fin 4) (j : Fin 64) : Fin 256 := ⟨h * 64 + j, by omega⟩

/-- The row of a batch and a place. -/
def row (b : Fin 4) (p : Fin 4096) : Fin 16384 := ⟨b * 4096 + p, by omega⟩

/-- One lane of a head's key, from the row's projection `k`, the gains `g` and the row's rotated lanes `x`: the projection's
    first 64 lanes normalised, then the rotated lanes 64 to 95, then zeros. -/
def key (k g : Fin 512 → EReal) (x : Fin 128 → EReal) (h : Fin 4) (l : Fin 128) : EReal :=
  if hl : l.val < 64 then
    unit (Ideal.ofBits .f32 0x42800000#32) (Ideal.ofBits .f32 0x358637BD#32) (fun e => k (low h e)) (fun e => g (low h e)) ⟨l, hl⟩
  else if l.val < 96 then x l else 0

/-- One entry of the keys from the call's arrays. -/
def keyAt (a0 a1 : (⟨2, ![16384, 128]⟩ : Shape).Idx → EReal) (a2 : (⟨2, ![128, 512]⟩ : Shape).Idx → EReal)
    (a4 : (⟨2, ![1, 512]⟩ : Shape).Idx → EReal) (r : Fin 16384) (n : Fin 512) : EReal :=
  key (fun n => ∑ d : Fin 128, a0 (ix2 r d) * a2 (ix2 d n)) (fun n => a4 (ix2 0 n)) (fun l => a1 (ix2 r l))
    ⟨n / 128, by omega⟩ ⟨n % 128, by omega⟩

/-- An entry of the keys, its lane given by head and lane of the head. -/
theorem keyAt_lane (a0 a1 : (⟨2, ![16384, 128]⟩ : Shape).Idx → EReal) (a2 : (⟨2, ![128, 512]⟩ : Shape).Idx → EReal)
    (a4 : (⟨2, ![1, 512]⟩ : Shape).Idx → EReal) (r : Fin 16384) (h : Fin 4) (l : Fin 128) :
    keyAt a0 a1 a2 a4 r (lane h l)
      = key (fun n => ∑ d : Fin 128, a0 (ix2 r d) * a2 (ix2 d n)) (fun n => a4 (ix2 0 n)) (fun l => a1 (ix2 r l)) h l := by
  have hh : (⟨(lane h l).val / 128, by omega⟩ : Fin 4) = h := Fin.ext (by show (h.val * 128 + l.val) / 128 = h.val; omega)
  have hl : (⟨(lane h l).val % 128, by omega⟩ : Fin 128) = l := Fin.ext (by show (h.val * 128 + l.val) % 128 = l.val; omega)
  unfold keyAt
  rw [hh, hl]

/-- Every lane is a lane of a head. -/
theorem exists_lane (n : Fin 512) : ∃ (h : Fin 4) (l : Fin 128), n = lane h l :=
  ⟨⟨n / 128, by omega⟩, ⟨n % 128, by omega⟩, Fin.ext (by show n.val = n.val / 128 * 128 + n.val % 128; omega)⟩

/-- One entry of a head's values, from the projected values `v`: the 64 values, then a one, then zeros. -/
def val (v : Fin 64 → EReal) (j : Fin 80) : EReal :=
  if hj : j.val < 64 then v ⟨j, hj⟩ else if j.val = 64 then 1 else 0

/-- One entry of the values from the call's arrays. -/
def valAt (a0 : (⟨2, ![16384, 128]⟩ : Shape).Idx → EReal) (a3 : (⟨2, ![256, 128]⟩ : Shape).Idx → EReal)
    (b : Fin 4) (h : Fin 4) (j : Fin 80) (p : Fin 4096) : EReal :=
  val (fun e => ∑ d : Fin 128, a0 (ix2 (row b p) d) * a3 (ix2 (vrow h e) d)) j

/-- Summing over all lanes with ones for the first 64 lanes of a head and zeros elsewhere sums over those. -/
theorem sum_low (f : Fin 512 → EReal) (h : Fin 4) :
    ∑ e : Fin 512, f e * (if e.val / 128 = h.val ∧ e.val % 128 < 64 then 1 else 0) = ∑ e : Fin 64, f (low h e) := by
  have hf : ∑ e : Fin 512, f e * (if e.val / 128 = h.val ∧ e.val % 128 < 64 then 1 else 0)
      = ∑ e ∈ Finset.univ.filter (fun e : Fin 512 => e.val / 128 = h.val ∧ e.val % 128 < 64), f e := by
    rw [Finset.sum_filter]
    exact Finset.sum_congr rfl fun e _ => by split <;> simp
  rw [hf]
  refine Finset.sum_bij' (fun e he => ⟨e.val % 128, (Finset.mem_filter.mp he).2.2⟩) (fun e _ => low h e)
    (fun _ _ => Finset.mem_univ _) (fun e _ => ?_) (fun e he => ?_) (fun e _ => ?_) (fun e he => ?_)
  · have := e.isLt
    simp only [Finset.mem_filter, Finset.mem_univ, true_and, low]
    omega
  · have := (Finset.mem_filter.mp he).2
    refine Fin.ext ?_
    show h.val * 128 + e.val % 128 = e.val
    omega
  · refine Fin.ext ?_
    show (h.val * 128 + e.val) % 128 = e.val
    omega
  · have := (Finset.mem_filter.mp he).2
    refine congrArg f (Fin.ext ?_)
    show e.val = h.val * 128 + e.val % 128
    omega

/-- A lane of a key as the optimised program has it — the projection normalised under gains that are zero on the lanes with
    position, plus rotated lanes that are zero on the others — is that lane of the key. -/
theorem key_eq (k g s : Fin 512 → EReal) (x : Fin 128 → EReal) (t : EReal) (h : Fin 4) (l : Fin 128)
    (hs : l.val < 64 → ∀ e, s e = if e.val / 128 = h.val ∧ e.val % 128 < 64 then 1 else 0)
    (ht : l.val < 64 → t = Ideal.ofBits .f32 0x3C800000#32)
    (hg : 64 ≤ l.val → g (lane h l) = 0) (hx : l.val < 64 → x l = 0) (hx' : 96 ≤ l.val → x l = 0) :
    k (lane h l) * Ideal.rsqrt ((∑ e : Fin 512, k e * k e * s e) * t + Ideal.ofBits .f32 0x358637BD#32) * g (lane h l) + x l
      = key k g x h l := by
  unfold key
  by_cases hl : l.val < 64
  · rw [dif_pos hl, hx hl, add_zero, ht hl]
    unfold unit
    simp only [hs hl, Cert.Out.mul_inv_64]
    rw [sum_low (fun e => k e * k e)]
    rfl
  · rw [dif_neg hl, hg (by omega), mul_zero, zero_add]
    split
    · rfl
    · exact hx' (by omega)

/-- The same for the array of keys. -/
theorem keyAt_eq (a0 a1 : (⟨2, ![16384, 128]⟩ : Shape).Idx → EReal) (a2 : (⟨2, ![128, 512]⟩ : Shape).Idx → EReal)
    (a4 : (⟨2, ![1, 512]⟩ : Shape).Idx → EReal) (a5 : (⟨2, ![512, 512]⟩ : Shape).Idx → EReal)
    (a6 : (⟨2, ![1, 512]⟩ : Shape).Idx → EReal) (r : Fin 16384) (h : Fin 4) (l : Fin 128)
    (hs : l.val < 64 → ∀ e, a5 (ix2 e (lane h l)) = if e.val / 128 = h.val ∧ e.val % 128 < 64 then 1 else 0)
    (ht : l.val < 64 → a6 (ix2 0 (lane h l)) = Ideal.ofBits .f32 0x3C800000#32)
    (hg : 64 ≤ l.val → a4 (ix2 0 (lane h l)) = 0) (hx : l.val < 64 → a1 (ix2 r l) = 0) (hx' : 96 ≤ l.val → a1 (ix2 r l) = 0) :
    (∑ d : Fin 128, a0 (ix2 r d) * a2 (ix2 d (lane h l)))
        * Ideal.rsqrt ((∑ e : Fin 512, (∑ d : Fin 128, a0 (ix2 r d) * a2 (ix2 d e)) * (∑ d : Fin 128, a0 (ix2 r d) * a2 (ix2 d e))
            * a5 (ix2 e (lane h l))) * a6 (ix2 0 (lane h l)) + Ideal.ofBits .f32 0x358637BD#32) * a4 (ix2 0 (lane h l)) + a1 (ix2 r l)
      = keyAt a0 a1 a2 a4 r (lane h l) := by
  rw [keyAt_lane]
  exact key_eq (fun n => ∑ d : Fin 128, a0 (ix2 r d) * a2 (ix2 d n)) (fun n => a4 (ix2 0 n)) (fun e => a5 (ix2 e (lane h l)))
    (fun l => a1 (ix2 r l)) _ h l hs ht hg hx hx'

/-- An entry of the values, its products taken in the other order. -/
theorem valAt_eq (a0 : (⟨2, ![16384, 128]⟩ : Shape).Idx → EReal) (a3 : (⟨2, ![256, 128]⟩ : Shape).Idx → EReal)
    (b h : Fin 4) (j : Fin 80) (p : Fin 4096) (r : Fin 16384) (hr : row b p = r) :
    val (fun e => ∑ d : Fin 128, a3 (ix2 (vrow h e) d) * a0 (ix2 r d)) j = valAt a0 a3 b h j p := by
  subst hr
  exact congrArg (fun v => val v j) (funext fun e => Finset.sum_congr rfl fun d _ => mul_comm _ _)

end Cert.Kv
-- ==== Proof.KvArray.lean ====
/- The latent attention's key and value kernel's result arrays. -/
module

public import proofs.«01_k».proof.Proof.Gen.Kernel5Ideal.Value
public import proofs.«01_k».proof.Proof.KvSpec
public import Idealize.ShloMosaic.Lib.Pipeline.ValueKit
public import Idealize.ShloMosaic.Lib.Pipeline.Covers
public import Idealize.ShloMosaic.Lib.Tactic.CleanTypes

@[expose] public section

set_option maxRecDepth 16384

noncomputable section

namespace Cert.Kv

open Idealize.ShloMosaic Idealize.ShloMosaic.TcCoe Cert.Kernel5Ideal Cert.Kernel5Ideal.Gen Cert.In

/-- The rotated lanes, once for each head. -/
theorem four_apply (v : FVec Ideal S512x128 .f32) (y : Fin 512) (h : Fin 4) (l : Fin 128) :
    concatenate S512x512 1 [⟨S512x128, v⟩, ⟨S512x128, v⟩, ⟨S512x128, v⟩, ⟨S512x128, v⟩] concatenates_S512x128_S512x128_S512x128_S512x128_S512x512_d1 (ix2 y (lane h l))
      = (v (ix2 y l) : EReal) := by
  have := l.isLt
  unfold lane
  fin_cases h
  · pointwise
  · pointwise
  · pointwise
    rw [dif_neg (by omega), dif_neg (by omega), dif_pos (by omega)]
    exact congrArg v (congrArg (ix2 y) (Fin.ext (by show 256 + l.val - 128 - 128 = l.val; omega)))
  · pointwise
    rw [dif_neg (by omega), dif_neg (by omega), dif_neg (by omega)]
    exact congrArg v (congrArg (ix2 y) (Fin.ext (by show 384 + l.val - 128 - 128 - 128 = l.val; omega)))

/-- A grid point's keys. -/
theorem keys_apply (v0 : Vec Ideal S512x128 .f32) (v2 : Vec Ideal S128x512 .bf16) (v5 : Vec Ideal S512x512 .bf16)
    (v8 v15 : Vec Ideal S1x512 .f32) (v18 : Vec Ideal S512x128 .f32) (y : Fin 512) (h : Fin 4) (l : Fin 128) :
    k0_pay3 (F := Ideal) v0 v2 v5 v8 v15 v18 (ix2 y (lane h l))
      = ((∑ d : Fin 128, v0 (ix2 y d) * v2 (ix2 d (lane h l)))
          * Ideal.rsqrt ((∑ e : Fin 512, (∑ d : Fin 128, v0 (ix2 y d) * v2 (ix2 d e)) * (∑ d : Fin 128, v0 (ix2 y d) * v2 (ix2 d e)) * v5 (ix2 e (lane h l)))
            * v8 (ix2 0 (lane h l)) + Ideal.ofBits .f32 0x358637BD#32) * v15 (ix2 0 (lane h l)) + v18 (ix2 y l) : EReal) := by
  rw [← four_apply v18 y h l]
  generalize lane h l = n
  unfold k0_pay3 k0_pay2
  generalize concatenate S512x512 1 [⟨S512x128, v18⟩, ⟨S512x128, v18⟩, ⟨S512x128, v18⟩, ⟨S512x128, v18⟩] concatenates_S512x128_S512x128_S512x128_S512x128_S512x512_d1 = w
  pointwise

/-- A grid point's projected values. -/
theorem vals_apply (v0 : Vec Ideal S512x128 .f32) (v23 : Vec Ideal S256x128 .bf16) (j : Fin 256) (y : Fin 512) :
    k0_pay4 (F := Ideal) v0 v23 (ix2 j y) = (∑ d : Fin 128, v23 (ix2 j d) * v0 (ix2 y d) : EReal) := by
  pointwise [k0_pay4, k0_pay2]

/-- The row of ones over rows of zeros. -/
theorem ones_apply (i : Fin 16) (y : Fin 512) : k0_pay5 (F := Ideal) (ix2 i y) = (if i.val = 0 then 1 else 0 : EReal) := by
  pointwise [k0_pay5]
  fin_cases i <;> rfl

/-- The four copies of that row's block, one for each head. -/
theorem ones_tile (v : FVec Ideal S16x512 .bf16) (i : Fin 16) (y : Fin 512) :
    k0_pay1 (F := Ideal) v (ix4 0 0 i y) = v (ix2 i y) := by
  pointwise [k0_pay1]

/-- The first head's rows. -/
theorem tile0 (v0 : Vec Ideal S512x128 .f32) (v23 : Vec Ideal S256x128 .bf16) (i : Fin 64) (y : Fin 512) :
    k0_pay7 (F := Ideal) (k0_pay6 v0 v23) (ix4 0 0 i y) = (k0_pay4 (F := Ideal) v0 v23 (ix2 (vrow 0 i) y) : EReal) := by
  have hv : vrow 0 i = ⟨i.val, by omega⟩ := Fin.ext (by show 0 * 64 + i.val = i.val; omega)
  rw [hv]
  unfold k0_pay7 k0_pay6
  generalize k0_pay4 (F := Ideal) v0 v23 = w
  pointwise

/-- The second head's rows. -/
theorem tile1 (w : FVec Ideal S256x512 .f32) (i : Fin 64) (y : Fin 512) :
    k0_pay9 (F := Ideal) w (ix4 0 0 i y) = (w (ix2 (vrow 1 i) y) : EReal) := by
  have hv : vrow 1 i = ⟨64 + i.val, by omega⟩ := Fin.ext (by show 1 * 64 + i.val = 64 + i.val; omega)
  rw [hv]
  pointwise [k0_pay9]

/-- The third head's rows. -/
theorem tile2 (w : FVec Ideal S256x512 .f32) (i : Fin 64) (y : Fin 512) :
    k0_pay11 (F := Ideal) w (ix4 0 0 i y) = (w (ix2 (vrow 2 i) y) : EReal) := by
  have hv : vrow 2 i = ⟨128 + i.val, by omega⟩ := Fin.ext (by show 2 * 64 + i.val = 128 + i.val; omega)
  rw [hv]
  pointwise [k0_pay11]

/-- The fourth head's rows. -/
theorem tile3 (w : FVec Ideal S256x512 .f32) (i : Fin 64) (y : Fin 512) :
    k0_pay13 (F := Ideal) w (ix4 0 0 i y) = (w (ix2 (vrow 3 i) y) : EReal) := by
  have hv : vrow 3 i = ⟨192 + i.val, by omega⟩ := Fin.ext (by show 3 * 64 + i.val = 192 + i.val; omega)
  rw [hv]
  pointwise [k0_pay13]

/-- A row of the values among the first 64. -/
theorem val_low (v : Fin 64 → EReal) (j : Fin 80) (i : Fin 64) (h : j.val = i.val) : val v j = v i := by
  have hi := i.isLt
  unfold val
  rw [dif_pos (by omega)]
  exact congrArg v (Fin.ext h)

/-- A row of the values among the last 16. -/
theorem val_high (v : Fin 64 → EReal) (j : Fin 80) (i : Fin 16) (h : j.val = 64 + i.val) :
    val v j = if i.val = 0 then 1 else 0 := by
  unfold val
  rw [dif_neg (by omega)]
  by_cases hi : i.val = 0
  · rw [if_pos hi, if_pos (by omega)]
  · rw [if_neg hi, if_neg (by omega)]

/-- A stored block of the last 16 rows, where it lies. -/
theorem ones_piece (w : FVec Ideal S1x1x16x512 .bf16)
    (hw : ∀ (i : Fin 16) (y : Fin 512), w (ix4 0 0 i y) = (if i.val = 0 then 1 else 0 : EReal)) (x : S1x1x16x512.Idx)
    (v : Fin 64 → EReal) (j : Fin 80) (hj : j.val = 64 + (x 2).val) : w x = (val v j : EReal) := by
  obtain ⟨a, b, i, y, rfl⟩ : ∃ (a b : Fin 1) (i : Fin 16) (y : Fin 512), x = ix4 a b i y := ⟨x 0, x 1, x 2, x 3, eq_ix4 x⟩
  obtain rfl : a = 0 := Subsingleton.elim _ _
  obtain rfl : b = 0 := Subsingleton.elim _ _
  exact (hw i y).trans (val_high v j i hj).symm

/-- A stored block of a head's 64 rows, where it lies. -/
theorem rows_piece (w : FVec Ideal S1x1x64x512 .bf16) (u : FVec Ideal S256x512 .f32) (k : Fin 4)
    (hw : ∀ (i : Fin 64) (y : Fin 512), w (ix4 0 0 i y) = (u (ix2 (vrow k i) y) : EReal)) (x : S1x1x64x512.Idx)
    (h : Fin 4) (j : Fin 80) (p : Fin 512) (hh : h.val = k.val) (hj : j.val = (x 2).val) (hp : p.val = (x 3).val) :
    w x = (val (fun e => u (ix2 (vrow h e) p)) j : EReal) := by
  obtain ⟨a, b, i, y, rfl⟩ : ∃ (a b : Fin 1) (i : Fin 64) (y : Fin 512), x = ix4 a b i y := ⟨x 0, x 1, x 2, x 3, eq_ix4 x⟩
  obtain rfl : a = 0 := Subsingleton.elim _ _
  obtain rfl : b = 0 := Subsingleton.elim _ _
  obtain rfl : h = k := Fin.ext hh
  obtain rfl : p = y := Fin.ext hp
  exact (hw i p).trans (val_low (fun e => u (ix2 (vrow h e) p)) j i hj).symm

/-- What one grid point leaves in the values' block. -/
def valuesOf (x0 : Vec Ideal S512x128 .f32) (x3 : Vec Ideal S256x128 .bf16) : FVec Ideal S1x4x80x512 .bf16 :=
  View.canon (([⟨Rect.unit ![0, 3, 64, 0] ![1, 1, 16, 512] inb_S1x4x80x512_S1x1x16x512_0_3_64_0, k0_pay1 (F := Ideal) k0_pay5⟩,
        ⟨Rect.unit ![0, 3, 0, 0] ![1, 1, 64, 512] inb_S1x4x80x512_S1x1x64x512_0_3_0_0, k0_pay13 (F := Ideal) (k0_pay4 x0 x3)⟩,
        ⟨Rect.unit ![0, 2, 64, 0] ![1, 1, 16, 512] inb_S1x4x80x512_S1x1x16x512_0_2_64_0, k0_pay12 (F := Ideal) k0_pay5⟩,
        ⟨Rect.unit ![0, 2, 0, 0] ![1, 1, 64, 512] inb_S1x4x80x512_S1x1x64x512_0_2_0_0, k0_pay11 (F := Ideal) (k0_pay4 x0 x3)⟩,
        ⟨Rect.unit ![0, 1, 64, 0] ![1, 1, 16, 512] inb_S1x4x80x512_S1x1x16x512_0_1_64_0, k0_pay10 (F := Ideal) k0_pay5⟩,
        ⟨Rect.unit ![0, 1, 0, 0] ![1, 1, 64, 512] inb_S1x4x80x512_S1x1x64x512_0_1_0_0, k0_pay9 (F := Ideal) (k0_pay4 x0 x3)⟩,
        ⟨Rect.unit ![0, 0, 64, 0] ![1, 1, 16, 512] inb_S1x4x80x512_S1x1x16x512_0_0_64_0, k0_pay8 (F := Ideal) k0_pay5⟩,
        ⟨Rect.unit ![0, 0, 0, 0] ![1, 1, 64, 512] inb_S1x4x80x512_S1x1x64x512_0_0_0_0, k0_pay7 (F := Ideal) (k0_pay6 x0 x3)⟩] : List (View.Piece (Elt Ideal) S1x4x80x512 .bf16)))

/-- An entry of that block. -/
theorem valuesOf_apply (x0 : Vec Ideal S512x128 .f32) (x3 : Vec Ideal S256x128 .bf16) (h : Fin 4) (j : Fin 80) (p : Fin 512) :
    valuesOf x0 x3 (ix4 0 h j p) = (val (fun e => k0_pay4 (F := Ideal) x0 x3 (ix2 (vrow h e) p)) j : EReal) := by
  unfold valuesOf
  have h3 : ∀ {n : ℕ}, h.val = 3 + n → h.val = 3 := by omega
  have h2 : ∀ {n : ℕ}, h.val = 2 + n → n < 1 → h.val = 2 := by omega
  have h1 : ∀ {n : ℕ}, h.val = 1 + n → n < 1 → h.val = 1 := by omega
  have h0 : ∀ {n : ℕ}, h.val = n → n < 1 → h.val = 0 := by omega
  canon_tiles x g using View.cover_of_tiledBy _ ![1, 1, 16, 512] (by sl_kernel_rfl) _
  · exact ones_piece _ (fun i y => (ones_tile _ i y).trans (ones_apply i y)) x _ j g2
  · exact rows_piece _ _ 3 (tile3 _) x h j p (h3 g1) g2 g3
  · exact ones_piece _ (fun i y => (ones_tile _ i y).trans (ones_apply i y)) x _ j g2
  · exact rows_piece _ _ 2 (tile2 _) x h j p (h2 g1 x1_lt) g2 g3
  · exact ones_piece _ (fun i y => (ones_tile _ i y).trans (ones_apply i y)) x _ j g2
  · exact rows_piece _ _ 1 (tile1 _) x h j p (h1 g1 x1_lt) g2 g3
  · exact ones_piece _ (fun i y => (ones_tile _ i y).trans (ones_apply i y)) x _ j g2
  · exact rows_piece _ _ 0 (tile0 x0 x3) x h j p (h0 g1 x1_lt) g2 g3

variable (m : (ℓ : Loc nD τ sig) → Buf (Elt Ideal) ℓ)

/-- The tile of rows of a grid point. -/
def tile (t : Fin cfg0.N) : Fin 32 := ⟨(grid0.coords t 0).val, (grid0.coords t 0).isLt⟩

/-- Row `y` of a grid point's tile. -/
def rowAt (t : Fin cfg0.N) (y : Fin 512) : Fin 16384 := ⟨(tile t).val * 512 + y.val, by omega⟩

/-- The batch of a grid point's tile. -/
def batchOf (t : Fin cfg0.N) : Fin 4 := ⟨(tile t).val / 8, by omega⟩

/-- The place in its batch of row `y` of a grid point's tile. -/
def placeOf (t : Fin cfg0.N) (y : Fin 512) : Fin 4096 := ⟨(tile t).val % 8 * 512 + y.val, by omega⟩

/-- The row of that batch and place is the tile's row. -/
theorem row_place (t : Fin cfg0.N) (y : Fin 512) : row (batchOf t) (placeOf t y) = rowAt t y := by
  refine Fin.ext ?_
  show (tile t).val / 8 * 4096 + ((tile t).val % 8 * 512 + y.val) = (tile t).val * 512 + y.val
  omega

/-- Where each window stands at a grid point. -/
theorem idx : ∀ t : Fin cfg0.N, win0_0.index t = ![(tile t).val, 0] ∧ win0_1.index t = ![(tile t).val, 0]
    ∧ win0_2.index t = ![0, 0] ∧ win0_3.index t = ![0, 0] ∧ win0_4.index t = ![0, 0] ∧ win0_5.index t = ![0, 0]
    ∧ win0_6.index t = ![0, 0] ∧ win0_7.index t = ![(tile t).val, 0]
    ∧ win0_8.index t = ![(tile t).val / 8, 0, 0, (tile t).val % 8] := by
  decide +kernel

/-- The compressed rows, read from the array. -/
theorem read0 (c : Dev nD) (t : Fin cfg0.N) (y : Fin 512) (d : Fin 128) :
    iblk m c 0 t (ix2 y d) = m ((c.tc : Thread nD τ).loc main_arg0) (ix2 (rowAt t y) d) := by
  have h := (idx t).1
  rw [← V_main_arg0 m c]
  unfold rowAt
  blk_ext [iblk, h]

/-- The rotated rows, read from the array. -/
theorem read1 (c : Dev nD) (t : Fin cfg0.N) (y : Fin 512) (d : Fin 128) :
    iblk m c 1 t (ix2 y d) = m ((c.tc : Thread nD τ).loc main_arg1) (ix2 (rowAt t y) d) := by
  have h := (idx t).2.1
  rw [← V_main_arg1 m c]
  unfold rowAt
  blk_ext [iblk, h]

/-- The keys' weights, read from the array. -/
theorem read2 (c : Dev nD) (t : Fin cfg0.N) (d : Fin 128) (n : Fin 512) :
    iblk m c 2 t (ix2 d n) = m ((c.tc : Thread nD τ).loc main_arg2) (ix2 d n) := by
  have h := (idx t).2.2.1
  rw [← V_main_arg2 m c]
  blk_ext [iblk, h]

/-- The values' weights, read from the array. -/
theorem read3 (c : Dev nD) (t : Fin cfg0.N) (n : Fin 256) (d : Fin 128) :
    iblk m c 3 t (ix2 n d) = m ((c.tc : Thread nD τ).loc main_arg3) (ix2 n d) := by
  have h := (idx t).2.2.2.1
  rw [← V_main_arg3 m c]
  blk_ext [iblk, h]

/-- The gains, read from the array. -/
theorem read4 (c : Dev nD) (t : Fin cfg0.N) (n : Fin 512) :
    iblk m c 4 t (ix2 0 n) = m ((c.tc : Thread nD τ).loc main_arg4) (ix2 0 n) := by
  have h := (idx t).2.2.2.2.1
  rw [← V_main_arg4 m c]
  blk_ext [iblk, h]

/-- The ones and zeros of the heads, read from the array. -/
theorem read5 (c : Dev nD) (t : Fin cfg0.N) (e n : Fin 512) :
    iblk m c 5 t (ix2 e n) = m ((c.tc : Thread nD τ).loc main_arg5) (ix2 e n) := by
  have h := (idx t).2.2.2.2.2.1
  rw [← V_main_arg5 m c]
  blk_ext [iblk, h]

/-- The lanes' factors of the mean, read from the array. -/
theorem read6 (c : Dev nD) (t : Fin cfg0.N) (n : Fin 512) :
    iblk m c 6 t (ix2 0 n) = m ((c.tc : Thread nD τ).loc main_arg6) (ix2 0 n) := by
  have h := (idx t).2.2.2.2.2.2.1
  rw [← V_main_arg6 m c]
  blk_ext [iblk, h]

/-- The whole array of keys. -/
def keys (c : Dev nD) : S16384x512.Idx → EReal := fun i =>
  keyAt (m ((c.tc : Thread nD τ).loc main_arg0)) (m ((c.tc : Thread nD τ).loc main_arg1)) (m ((c.tc : Thread nD τ).loc main_arg2))
    (m ((c.tc : Thread nD τ).loc main_arg4)) (i 0) (i 1)

/-- The whole array of values. -/
def values (c : Dev nD) : S4x4x80x4096.Idx → EReal := fun i =>
  valAt (m ((c.tc : Thread nD τ).loc main_arg0)) (m ((c.tc : Thread nD τ).loc main_arg3)) (i 0) (i 1) (i 2) (i 3)

/-- Every block of the keys is written. -/
theorem covers7 : (cfg0.win 7).Covers :=
  (cfg0.win 7).covers_of_indexMap_surj rfl (by decide) fun β => by
    have key : ∀ i : grid0.Coords, cc0_transform_7 i = ![(i 0).val, 0] := by decide +kernel
    have h1 : (β 1).val = 0 := by have := (β 1).isLt; have e : (cfg0.win 7).nblk 1 = 1 := by decide
                                  omega
    let i : grid0.Coords := fun a =>
      ⟨(β 0).val, lt_of_lt_of_le (β 0).isLt ((by decide : ∀ a : Fin 1, (cfg0.win 7).nblk 0 ≤ grid0.bound a) a)⟩
    refine ⟨i, fun a => ?_⟩
    show cc0_transform_7 i a = _
    rw [key i]
    fin_cases a
    · rfl
    · exact h1.symm

/-- Every block of the values is written. -/
theorem covers8 : (cfg0.win 8).Covers :=
  (cfg0.win 8).covers_of_indexMap_surj rfl (by decide) fun β => by
    have key : ∀ i : grid0.Coords, cc0_transform_8 i = ![(i 0).val / 8, 0, 0, (i 0).val % 8] := by decide +kernel
    have h1 : (β 1).val = 0 := by have := (β 1).isLt; have e : (cfg0.win 8).nblk 1 = 1 := by decide
                                  omega
    have h2 : (β 2).val = 0 := by have := (β 2).isLt; have e : (cfg0.win 8).nblk 2 = 1 := by decide
                                  omega
    have h0 : (β 0).val < 4 := by have := (β 0).isLt; have e : (cfg0.win 8).nblk 0 = 4 := by decide
                                  omega
    have h3 : (β 3).val < 8 := by have := (β 3).isLt; have e : (cfg0.win 8).nblk 3 = 8 := by decide
                                  omega
    let i : grid0.Coords := fun a =>
      ⟨(β 0).val * 8 + (β 3).val, lt_of_lt_of_le (by omega) ((by decide : ∀ a : Fin 1, 32 ≤ grid0.bound a) a)⟩
    refine ⟨i, fun a => ?_⟩
    show cc0_transform_8 i a = _
    rw [key i]
    fin_cases a
    · show ((β 0).val * 8 + (β 3).val) / 8 = (β 0).val; omega
    · exact h1.symm
    · exact h2.symm
    · show ((β 0).val * 8 + (β 3).val) % 8 = (β 3).val; omega

/-- The place in the array of keys of an entry of a grid point's block. -/
theorem place7 (t : Fin cfg0.N) (y : Fin 512) (n : Fin 512) :
    ((View.whole main_v0_0).slice (win0_7.rect t)).emb (ix2 y n) = ix2 (rowAt t y) n := by
  have h := (idx t).2.2.2.2.2.2.2.1
  unfold rowAt
  blk_ext [h]

/-- The place in the array of values of an entry of a grid point's block. -/
theorem place8 (t : Fin cfg0.N) (h : Fin 4) (j : Fin 80) (y : Fin 512) :
    ((View.whole main_v0_1).slice (win0_8.rect t)).emb (ix4 0 h j y) = ix4 (batchOf t) h j (placeOf t y) := by
  have g := (idx t).2.2.2.2.2.2.2.2
  unfold batchOf placeOf
  blk_ext [g]

/-- What the keys need of the memory: gains and rotated lanes are zero where they are padding, and the two constants are what
    their names say on the lanes without position. -/
structure Padded (c : Dev nD) : Prop where
  rot_low : ∀ (r : Fin 16384) (l : Fin 128), l.val < 64 → m ((c.tc : Thread nD τ).loc main_arg1) (ix2 r l) = (0 : EReal)
  rot_high : ∀ (r : Fin 16384) (l : Fin 128), 96 ≤ l.val → m ((c.tc : Thread nD τ).loc main_arg1) (ix2 r l) = (0 : EReal)
  gain : ∀ (h : Fin 4) (l : Fin 128), 64 ≤ l.val → m ((c.tc : Thread nD τ).loc main_arg4) (ix2 0 (lane h l)) = (0 : EReal)
  seg : ∀ (e : Fin 512) (h : Fin 4) (l : Fin 128), l.val < 64 → m ((c.tc : Thread nD τ).loc main_arg5) (ix2 e (lane h l))
    = (if e.val / 128 = h.val ∧ e.val % 128 < 64 then 1 else 0 : EReal)
  cnt : ∀ (h : Fin 4) (l : Fin 128), l.val < 64 → m ((c.tc : Thread nD τ).loc main_arg6) (ix2 0 (lane h l))
    = (Ideal.ofBits .f32 0x3C800000#32 : EReal)

variable {m}

/-- The keys that one grid point writes, at their place in the array. -/
theorem point7 {c : Dev nD} (hp : Padded m c) (t : Fin cfg0.N) (y : Fin 512) (n : Fin 512) :
    k0_pay3 (F := Ideal) (iblk m c 0 t) (iblk m c 2 t) (iblk m c 5 t) (iblk m c 6 t) (iblk m c 4 t) (iblk m c 1 t) (ix2 y n)
      = keys m c (ix2 (rowAt t y) n) := by
  obtain ⟨h, l, rfl⟩ := exists_lane n
  rw [keys_apply]
  simp only [read0, read1, read2, read4, read5, read6]
  exact keyAt_eq (m ((c.tc : Thread nD τ).loc main_arg0)) (m ((c.tc : Thread nD τ).loc main_arg1)) (m ((c.tc : Thread nD τ).loc main_arg2))
    (m ((c.tc : Thread nD τ).loc main_arg4)) (m ((c.tc : Thread nD τ).loc main_arg5)) (m ((c.tc : Thread nD τ).loc main_arg6))
    (rowAt t y) h l (fun q e => hp.seg e h l q) (hp.cnt h l) (hp.gain h l) (hp.rot_low _ l) (hp.rot_high _ l)

/-- The same at any index of the block. -/
theorem point_keys {c : Dev nD} (hp : Padded m c) (t : Fin cfg0.N) (y : S512x512.Idx) :
    k0_pay3 (F := Ideal) (iblk m c 0 t) (iblk m c 2 t) (iblk m c 5 t) (iblk m c 6 t) (iblk m c 4 t) (iblk m c 1 t) y
      = keys m c (((View.whole main_v0_0).slice (win0_7.rect t)).emb y) := by
  obtain ⟨y, n, rfl⟩ : ∃ (q : Fin 512) (n : Fin 512), y = ix2 q n := ⟨y 0, y 1, eq_ix2 y⟩
  rw [place7, point7 hp]

/-- The array of keys after the run. -/
theorem final7 {c : Dev nD} (hp : Padded m c) : (dats m 0 c).arrAt 7 cfg0.N = keys m c := by
  refine (dats m 0 c).arrAt_eq_of_covers 7 _ covers7 fun t hf y => ?_
  blk_simp
  rw [after0_7]
  unfold outsAt0
  frame_out
  exact point_keys hp t y

/-- The values that one grid point writes, at their place in the array. -/
theorem point8 (c : Dev nD) (t : Fin cfg0.N) (h : Fin 4) (j : Fin 80) (y : Fin 512) :
    valuesOf (iblk m c 0 t) (iblk m c 3 t) (ix4 0 h j y) = values m c (ix4 (batchOf t) h j (placeOf t y)) := by
  rw [valuesOf_apply]
  simp only [vals_apply, read0, read3]
  exact valAt_eq (m ((c.tc : Thread nD τ).loc main_arg0)) (m ((c.tc : Thread nD τ).loc main_arg3)) (batchOf t) h j (placeOf t y)
    (rowAt t y) (row_place t y)

/-- The same at any index of the block. -/
theorem point_values (c : Dev nD) (t : Fin cfg0.N) (y : S1x4x80x512.Idx) :
    valuesOf (iblk m c 0 t) (iblk m c 3 t) y = values m c (((View.whole main_v0_1).slice (win0_8.rect t)).emb y) := by
  obtain ⟨a, h, j, y, rfl⟩ : ∃ (a : Fin 1) (h : Fin 4) (j : Fin 80) (q : Fin 512), y = ix4 a h j q :=
    ⟨y 0, y 1, y 2, y 3, eq_ix4 y⟩
  obtain rfl : a = 0 := Subsingleton.elim _ _
  rw [place8, point8]

/-- The array of values after the run. -/
theorem final8 (c : Dev nD) : (dats m 0 c).arrAt 8 cfg0.N = values m c := by
  refine (dats m 0 c).arrAt_eq_of_covers 8 _ covers8 fun t hf y => ?_
  blk_simp
  rw [after0_8]
  unfold outsAt0
  frame_out
  exact point_values c t y

end Cert.Kv
-- ==== Proof.KvPre.lean ====
/- The precondition `padded`, read: what it says of the rotated lanes, the gains and the two constants. -/
module

public import proofs.«01_k».proof.Proof.OutPre
public import proofs.«01_k».proof.Proof.KvArray
public import proofs.«01_k».proof.Proof.Gen.Pre_padded

@[expose] public section

set_option maxRecDepth 16384

noncomputable section

namespace Cert.Kv.Pre

open Idealize.ShloMosaic Idealize.ShloMosaic.TcCoe Cert.Pre_padded Cert.Pre_padded.Gen Cert.Out.Pre Cert.Kv

/-- The array with a one where the first index is the third and the second is below 64, and zeros elsewhere. -/
def own : FVec Ideal S4x128x4x64 .f32 :=
  broadcastInDim S4x128x4x64 ![0, 1, 2, 3] bcast_S4x128x4x1_S4x128x4x64_0_1_2_3 (mulf
    (broadcastInDim S4x128x4x1 ![0, 1, 2, 3] bcast_S4x1x4x1_S4x128x4x1_0_1_2_3 (broadcastInDim S4x1x4x1 ![0, 2] bcast_S4x4_S4x1x4x1_0_2
      (uitofp .f32 (cmpi .eq (addi (iotaInDim S4x4 32 0) (broadcastInDim S4x4 ![] bcast_S_S4x4 (constantI S_ 32 0#32))) (iotaInDim S4x4 32 1)))))
    (broadcastInDim S4x128x4x1 ![0, 1, 2, 3] bcast_S1x128x1x1_S4x128x4x1_0_1_2_3 (broadcastInDim S1x128x1x1 ![1] bcast_S128_S1x128x1x1_1
      (uitofp .f32 (cmpi .slt (iotaInDim S128 32 0) (broadcastInDim S128 ![] bcast_S_S128 (constantI S_ 32 64#32)))))))

/-- The heads' part of that array. -/
theorem same_bit (h g : Fin 4) :
    (FloatOps.uitofp (F := Ideal) .f32 (IntOp.cmpi .eq (IntOp.addi (BitVec.ofNat 32 h.val) 0#32) (BitVec.ofNat 32 g.val)) : EReal)
      = if h.val = g.val then 1 else 0 := by
  fin_cases h <;> fin_cases g <;> first | exact bit_one | exact bit_zero

/-- The lanes' part of that array. -/
theorem low_bit (i : Fin 128) :
    (FloatOps.uitofp (F := Ideal) .f32 (IntOp.cmpi .slt (BitVec.ofNat 32 i.val) 64#32) : EReal) = if i.val < 64 then 1 else 0 := by
  fin_cases i <;> first | exact bit_one | exact bit_zero

/-- That array at an entry. -/
theorem own_apply (h : Fin 4) (i : Fin 128) (g : Fin 4) (j : Fin 64) :
    own (ix4 h i g j) = (if h.val = g.val ∧ i.val < 64 then 1 else 0 : EReal) := by
  pointwise [own]
  rw [same_bit, low_bit]
  by_cases h1 : h.val = g.val <;> by_cases h2 : i.val < 64 <;> simp [h1, h2]

/-- The constant that sums the heads' lanes, its axes split, at an entry. -/
theorem seg_apply (a : FVec Ideal S512x512 .bf16) (h : Fin 4) (i : Fin 128) (g : Fin 4) (j : Fin 64) :
    extractStridedSlice S4x128x4x64 ![0, 0, 0, 0] (shapeCast S4x128x4x128 (extf .f32 a bitsLt_bf16_f32) shapeCasts_S512x512_S4x128x4x128)
        slices_S4x128x4x128_S4x128x4x64_0_0_0_0 (ix4 h i g j)
      = (a (ix2 ⟨h * 128 + i, by omega⟩ (low g j)) : EReal) := by
  unfold low
  pointwise

/-- The gains on the lanes with position. -/
theorem gain_apply (a : FVec Ideal S1x512 .f32) (h : Fin 4) (i : Fin 64) :
    extractStridedSlice S4x64 ![0, 64] (shapeCast S4x128 a shapeCasts_S1x512_S4x128) slices_S4x128_S4x64_0_64 (ix2 h i)
      = (a (ix2 0 (lane h ⟨64 + i, by omega⟩)) : EReal) := by
  unfold lane
  pointwise

/-- The lanes' factors of the mean on the lanes without position. -/
theorem cnt_apply (a : FVec Ideal S1x512 .f32) (h : Fin 4) (i : Fin 64) :
    extractStridedSlice S4x64 ![0, 0] (shapeCast S4x128 a shapeCasts_S1x512_S4x128) slices_S4x128_S4x64_0_0 (ix2 h i)
      = (a (ix2 0 (low h i)) : EReal) := by
  unfold low
  pointwise

/-- The rotated rows' first 64 lanes. -/
theorem rot_low_apply (a : FVec Ideal S16384x128 .f32) (r : Fin 16384) (i : Fin 64) :
    extractStridedSlice S16384x64 ![0, 0] a slices_S16384x128_S16384x64_0_0 (ix2 r i) = (a (ix2 r ⟨i, by omega⟩) : EReal) := by
  pointwise

/-- The rotated rows' last 32 lanes. -/
theorem rot_high_apply (a : FVec Ideal S16384x128 .f32) (r : Fin 16384) (i : Fin 32) :
    extractStridedSlice S16384x32 ![0, 96] a slices_S16384x128_S16384x32_0_96 (ix2 r i) = (a (ix2 r ⟨96 + i, by omega⟩) : EReal) := by
  pointwise

/-- A constant spread over an array, at an entry. -/
theorem spread_apply {s : Shape} (h : S_.BroadcastsInDim s ![]) (x : BitVec 32) (i : s.Idx) :
    broadcastInDim s ![] h (constant (F := Ideal) S_ .f32 x) i = (Ideal.ofBits .f32 x : EReal) := rfl

/-- The pattern of zero. -/
theorem ofBits_zero : Ideal.ofBits .f32 0x00000000#32 = 0 := by
  simp [Ideal.ofBits, Ideal.ieee]

/-- A lane from 96 on. -/
theorem exists_last (l : Fin 128) (h : 96 ≤ l.val) : ∃ i : Fin 32, l.val = 96 + i.val := ⟨⟨l - 96, by omega⟩, by show l.val = 96 + (l.val - 96); omega⟩

/-- A lane from 64 on. -/
theorem exists_rot (l : Fin 128) (h : 64 ≤ l.val) : ∃ i : Fin 64, l.val = 64 + i.val := ⟨⟨l - 64, by omega⟩, by show l.val = 64 + (l.val - 64); omega⟩

/-- The precondition on a memory gives what the kernel's value needs. -/
theorem fine {m : (ℓ : Loc Cert.Kernel5Ideal.nD Cert.Kernel5Ideal.τ Cert.Kernel5Ideal.sig) → Buf (Elt Ideal) ℓ}
    (hp : Cert.Pre_Kernel5Ideal_padded m) (c : Dev Cert.Kernel5Ideal.nD) : Cert.Kv.Padded m c where
  rot_low r l hl := (rot_low_apply _ r ⟨l, hl⟩).symm.trans
    ((eq_of_oeq (congrFun (hp c).1 (ix2 r ⟨l, hl⟩))).trans ofBits_zero)
  rot_high r l hl := by
    obtain ⟨i, hi⟩ := exists_last l hl
    rw [show l = ⟨96 + i.val, by omega⟩ from Fin.ext hi]
    exact (rot_high_apply _ r i).symm.trans ((eq_of_oeq (congrFun (hp c).2.1 (ix2 r i))).trans ofBits_zero)
  gain h l hl := by
    obtain ⟨i, hi⟩ := exists_rot l hl
    rw [show l = ⟨64 + i.val, by omega⟩ from Fin.ext hi]
    exact (gain_apply _ h i).symm.trans ((eq_of_oeq (congrFun (hp c).2.2.1 (ix2 h i))).trans ofBits_zero)
  seg e h l hl := by
    obtain ⟨g, i, rfl⟩ := exists_lane e
    have := (seg_apply _ g i h ⟨l, hl⟩).symm.trans ((eq_of_oeq (congrFun (hp c).2.2.2.1 (ix4 g i h ⟨l, hl⟩))).trans (own_apply g i h ⟨l, hl⟩))
    refine this.trans ?_
    have e1 : (lane g i).val / 128 = g.val := by show (g.val * 128 + i.val) / 128 = g.val; omega
    have e2 : (lane g i).val % 128 = i.val := by show (g.val * 128 + i.val) % 128 = i.val; omega
    simp only [e1, e2]
  cnt h l hl := (cnt_apply _ h ⟨l, hl⟩).symm.trans (eq_of_oeq (congrFun (hp c).2.2.2.2 (ix2 h ⟨l, hl⟩)))

end Cert.Kv.Pre
-- ==== Proof.KvRef.lean ====
/- The latent attention's keys and values: the reference read at an index. -/
module

public import proofs.«01_k».proof.Proof.Gen.Reference5Ideal.Run
public import proofs.«01_k».proof.Proof.KvSpec
public import Idealize.ShloMosaic.Lib.Tactic.CleanTypes

@[expose] public section

set_option maxRecDepth 16384

noncomputable section

namespace Cert.Kv.Ref

open Idealize.ShloMosaic Idealize.ShloMosaic.TcCoe Cert.Reference5Ideal Cert.Reference5Ideal.Gen Cert.In Cert.Kv

/-- The rows' projection, one axis for the head, its first 64 lanes. -/
def kArr (a0 : FVec Ideal S16384x128 .f32) (a2 : FVec Ideal S128x512 .bf16) : FVec Ideal S4x4096x4x64 .f32 :=
  extractStridedSlice S4x4096x4x64 ![0, 0, 0, 0] (shapeCast S4x4096x4x128 (Host.dotGeneral dot_S4x4096x128_S128x512_S4x4096x512_2_0_01_1_n_n none (shapeCast S4x4096x128 a0 shapeCasts_S16384x128_S4x4096x128) (extf .f32 a2 bitsLt_bf16_f32)) shapeCasts_S4x4096x512_S4x4096x4x128) slices_S4x4096x4x128_S4x4096x4x64_0_0_0_0

/-- Those lanes normalised. -/
def nArr (k : FVec Ideal S4x4096x4x64 .f32) (a4 : FVec Ideal S1x512 .f32) : FVec Ideal S4x4096x4x64 .f32 :=
  mulf (mulf k (broadcastInDim S4x4096x4x64 ![0, 1, 2, 3] bcast_S4x4096x4x1_S4x4096x4x64_0_1_2_3 (Host.rsqrt (addf (Host.divf (broadcastInDim S4x4096x4x1 ![0, 1, 2] bcast_S4x4096x4_S4x4096x4x1_0_1_2 (Host.reduceAdd (mulf k k) (constant S_ .f32 0x00000000#32) reducesTo_S4x4096x4x64_S4x4096x4_d3 h_S_)) (broadcastInDim S4x4096x4x1 ![] bcast_S_S4x4096x4x1 (constant S_ .f32 0x42800000#32))) (broadcastInDim S4x4096x4x1 ![] bcast_S_S4x4096x4x1 (constant S_ .f32 0x358637BD#32)))))) (broadcastInDim S4x4096x4x64 ![0, 1, 2, 3] bcast_S1x1x4x64_S4x4096x4x64_0_1_2_3 (broadcastInDim S1x1x4x64 ![2, 3] bcast_S4x64_S1x1x4x64_2_3 (extractStridedSlice S4x64 ![0, 0] (shapeCast S4x128 a4 shapeCasts_S1x512_S4x128) slices_S4x128_S4x64_0_0)))

/-- The rotated lanes, the same for every head. -/
def pArr (a1 : FVec Ideal S16384x128 .f32) : FVec Ideal S4x4096x4x32 .f32 :=
  broadcastInDim S4x4096x4x32 ![0, 1, 2, 3] bcast_S4x4096x1x32_S4x4096x4x32_0_1_2_3 (extractStridedSlice S4x4096x1x32 ![0, 0, 0, 64] (shapeCast S4x4096x1x128 a1 shapeCasts_S16384x128_S4x4096x1x128) slices_S4x4096x1x128_S4x4096x1x32_0_0_0_64)

/-- The heads' keys: the normalised lanes, the rotated ones, zeros. -/
def joinArr (n : FVec Ideal S4x4096x4x64 .f32) (p : FVec Ideal S4x4096x4x32 .f32) : FVec Ideal S4x4096x4x128 .f32 :=
  concatenate S4x4096x4x128 3 [⟨S4x4096x4x64, n⟩, ⟨S4x4096x4x32, p⟩, ⟨S4x4096x4x32, broadcastInDim S4x4096x4x32 ![] bcast_S_S4x4096x4x32 (constant S_ .f32 0x00000000#32)⟩] concatenates_S4x4096x4x64_S4x4096x4x32_S4x4096x4x32_S4x4096x4x128_d3

/-- The array of keys. -/
def keysArr (z : FVec Ideal S4x4096x4x128 .f32) : FVec Ideal S16384x512 .bf16 :=
  truncf .bf16 (shapeCast S16384x512 z shapeCasts_S4x4096x4x128_S16384x512) bitsLt_bf16_f32

/-- The rows' values, transposed. -/
def vArr (a0 : FVec Ideal S16384x128 .f32) (a3 : FVec Ideal S256x128 .bf16) : FVec Ideal S4x4x64x4096 .f32 :=
  transpose S4x4x64x4096 [0, 2, 3, 1] (shapeCast S4x4096x4x64 (Host.dotGeneral dot_S4x4096x128_S128x256_S4x4096x256_2_0_01_1_n_n none (shapeCast S4x4096x128 a0 shapeCasts_S16384x128_S4x4096x128) (transpose S128x256 [1, 0] (extf .f32 a3 bitsLt_bf16_f32) transposes_S256x128_S128x256_1_0)) shapeCasts_S4x4096x256_S4x4096x4x64) transposes_S4x4096x4x64_S4x4x64x4096_0_2_3_1

/-- The array of values: the values, a row of ones, rows of zeros. -/
def valuesArr (v : FVec Ideal S4x4x64x4096 .f32) : FVec Ideal S4x4x80x4096 .bf16 :=
  truncf .bf16 (concatenate S4x4x80x4096 2 [⟨S4x4x64x4096, v⟩, ⟨S4x4x1x4096, broadcastInDim S4x4x1x4096 ![] bcast_S_S4x4x1x4096 (constant S_ .f32 0x3F800000#32)⟩, ⟨S4x4x15x4096, broadcastInDim S4x4x15x4096 ![] bcast_S_S4x4x15x4096 (constant S_ .f32 0x00000000#32)⟩] concatenates_S4x4x64x4096_S4x4x1x4096_S4x4x15x4096_S4x4x80x4096_d2) bitsLt_bf16_f32

/-- A lane of the projection. -/
theorem kArr_apply (a0 : FVec Ideal S16384x128 .f32) (a2 : FVec Ideal S128x512 .bf16) (b : Fin 4) (p : Fin 4096) (h : Fin 4) (e : Fin 64) :
    kArr a0 a2 (ix4 b p h e) = (∑ d : Fin 128, a0 (ix2 (row b p) d) * a2 (ix2 d (low h e)) : EReal) := by
  unfold row low
  pointwise [kArr]

/-- A normalised lane. -/
theorem nArr_apply (k : FVec Ideal S4x4096x4x64 .f32) (a4 : FVec Ideal S1x512 .f32) (b : Fin 4) (p : Fin 4096) (h : Fin 4) (e : Fin 64) :
    nArr k a4 (ix4 b p h e)
      = (unit (Ideal.ofBits .f32 0x42800000#32) (Ideal.ofBits .f32 0x358637BD#32) (fun e => k (ix4 b p h e))
          (fun e => a4 (ix2 0 (low h e))) e : EReal) := by
  unfold unit low
  pointwise [nArr]

/-- A rotated lane. -/
theorem pArr_apply (a1 : FVec Ideal S16384x128 .f32) (b : Fin 4) (p : Fin 4096) (h : Fin 4) (e : Fin 32) :
    pArr a1 (ix4 b p h e) = (a1 (ix2 (row b p) ⟨64 + e, by omega⟩) : EReal) := by
  unfold row
  pointwise [pArr]

/-- A lane of a head's key. -/
theorem joinArr_apply (n : FVec Ideal S4x4096x4x64 .f32) (q : FVec Ideal S4x4096x4x32 .f32) (b : Fin 4) (p : Fin 4096) (h : Fin 4) (l : Fin 128) :
    joinArr n q (ix4 b p h l) = (if hl : l.val < 64 then n (ix4 b p h ⟨l, hl⟩)
      else if hl' : l.val < 96 then q (ix4 b p h ⟨l - 64, by omega⟩) else 0 : EReal) := by
  pointwise [joinArr]
  have : l.val - 64 < 32 ↔ l.val < 96 := by omega
  simp only [this]

/-- An entry of the keys. -/
theorem keysArr_apply (z : FVec Ideal S4x4096x4x128 .f32) (b : Fin 4) (p : Fin 4096) (h : Fin 4) (l : Fin 128) :
    keysArr z (ix2 (row b p) (lane h l)) = (z (ix4 b p h l) : EReal) := by
  unfold row lane
  pointwise [keysArr]

/-- A value. -/
theorem vArr_apply (a0 : FVec Ideal S16384x128 .f32) (a3 : FVec Ideal S256x128 .bf16) (b : Fin 4) (h : Fin 4) (e : Fin 64) (p : Fin 4096) :
    vArr a0 a3 (ix4 b h e p) = (∑ d : Fin 128, a0 (ix2 (row b p) d) * a3 (ix2 (vrow h e) d) : EReal) := by
  unfold row vrow
  pointwise [vArr]

/-- An entry of the values. -/
theorem valuesArr_apply (v : FVec Ideal S4x4x64x4096 .f32) (b : Fin 4) (h : Fin 4) (j : Fin 80) (p : Fin 4096) :
    valuesArr v (ix4 b h j p) = (val (fun e => v (ix4 b h e p)) j : EReal) := by
  unfold val
  pointwise [valuesArr]
  by_cases hj : j.val < 64
  · rw [dif_pos hj, dif_pos hj]
  · rw [dif_neg hj, dif_neg hj]
    have : j.val - 64 < 1 ↔ j.val = 64 := by omega
    simp only [this, dite_eq_ite]

/-- The arrays one after another give the keys' mathematics. -/
theorem keys_apply (a0 a1 : FVec Ideal S16384x128 .f32) (a2 : FVec Ideal S128x512 .bf16) (a4 : FVec Ideal S1x512 .f32)
    (r : Fin 16384) (n : Fin 512) :
    keysArr (joinArr (nArr (kArr a0 a2) a4) (pArr a1)) (ix2 r n) = (keyAt a0 a1 a2 a4 r n : EReal) := by
  obtain ⟨b, p, rfl⟩ : ∃ (b : Fin 4) (p : Fin 4096), r = row b p :=
    ⟨⟨r / 4096, by omega⟩, ⟨r % 4096, by omega⟩, Fin.ext (by show r.val = r.val / 4096 * 4096 + r.val % 4096; omega)⟩
  obtain ⟨h, l, rfl⟩ := exists_lane n
  rw [keysArr_apply, joinArr_apply, keyAt_lane]
  unfold key
  simp only [nArr_apply, kArr_apply, pArr_apply]
  split
  · rfl
  · rename_i h1
    split
    · refine congrArg (fun l => a1 (ix2 (row b p) l)) (Fin.ext ?_)
      show 64 + (l.val - 64) = l.val
      omega
    · rfl

/-- The arrays one after another give the values' mathematics. -/
theorem values_apply (a0 : FVec Ideal S16384x128 .f32) (a3 : FVec Ideal S256x128 .bf16) (b h : Fin 4) (j : Fin 80) (p : Fin 4096) :
    valuesArr (vArr a0 a3) (ix4 b h j p) = (valAt a0 a3 b h j p : EReal) := by
  rw [valuesArr_apply]
  simp only [vArr_apply]
  rfl

end Cert.Kv.Ref
-- ==== Proof.Kv.lean ====
/- The latent attention's keys and values: kernel and reference, from one memory's arguments, leave the same two arrays. -/
module

public import proofs.«01_k».proof.Proof.KvPre
public import proofs.«01_k».proof.Proof.KvRef

@[expose] public section

noncomputable section

namespace Cert.Kv

open Idealize.ShloMosaic Idealize.SL.Sem Cert.Reference5Ideal

/-- The reference's keys, from the kernel's arguments, are the keys the kernel leaves. -/
theorem reference_keys (a0 a1 : FVec Ideal S16384x128 .f32) (a2 : FVec Ideal S128x512 .bf16) (a4 : FVec Ideal S1x512 .f32) :
    Ref.keysArr (Ref.joinArr (Ref.nArr (Ref.kArr a0 a2) a4) (Ref.pArr a1)) = fun i => (keyAt a0 a1 a2 a4 (i 0) (i 1) : EReal) := by
  refine funext fun i => ?_
  obtain ⟨r, n, rfl⟩ : ∃ (r : Fin 16384) (n : Fin 512), i = ix2 r n := ⟨i 0, i 1, eq_ix2 i⟩
  exact Ref.keys_apply a0 a1 a2 a4 r n

/-- The reference's values, from the kernel's arguments, are the values the kernel leaves. -/
theorem reference_values (a0 : FVec Ideal S16384x128 .f32) (a3 : FVec Ideal S256x128 .bf16) :
    Ref.valuesArr (Ref.vArr a0 a3) = fun i => (valAt a0 a3 (i 0) (i 1) (i 2) (i 3) : EReal) := by
  refine funext fun i => ?_
  obtain ⟨b, h, j, p, rfl⟩ : ∃ (b h : Fin 4) (j : Fin 80) (p : Fin 4096), i = ix4 b h j p := ⟨i 0, i 1, i 2, i 3, eq_ix4 i⟩
  exact Ref.values_apply a0 a3 b h j p

/-- The claim: the optimised preparation of keys and values and the plain one leave the same arrays. -/
theorem holds : Cert.algebraic_Kernel5Ideal_Reference5Ideal_pre_padded := fun m g m' g' hp hag =>
  ⟨fun c => keys m c, fun c => values m c,
    (θ_run _ _ _).mono (fun r h c => ⟨(h c).1.trans (final7 (Pre.fine hp c)), (h c).2.1.trans (final8 c), (h c).2.2⟩)
      (Cert.Kernel5Ideal.Value.run_blocks m g),
    (θ_run _ _ _).mono (fun r h c => ⟨by
      refine (h c).1.trans ((reference_keys _ _ _ _).trans ?_)
      obtain ⟨h0, h1, h2, h3, h4, h5, h6⟩ := hag c
      rw [h0, h1, h2, h4]
      rfl, by
      refine (h c).2.1.trans ((reference_values _ _).trans ?_)
      obtain ⟨h0, h1, h2, h3, h4, h5, h6⟩ := hag c
      rw [h0, h3]
      rfl, (h c).2.2⟩)
      (Cert.Reference5Ideal.Value.run m' g')⟩

end Cert.Kv
-- ==== Proof.ModSpec.lean ====
/- The modulations' mathematics over the extended reals, and what real arguments give. -/
module

public import proofs.«01_k».proof.Proof.OutSpec
public import proofs.«01_k».proof.Proof.DiffSpec

@[expose] public section

noncomputable section

namespace Cert.Mod

open Idealize.ShloMosaic Cert.Soft Cert.Diff Cert.Out

/-- One entry of a layer's modulation: the conditioning row, each entry times its logistic, times a column of the layer's
    weights, plus the column's bias. -/
def modAt (a0 : (⟨2, ![8, 1024]⟩ : Shape).Idx → EReal) (a1 : (⟨3, ![4, 1024, 3072]⟩ : Shape).Idx → EReal)
    (a2 : (⟨2, ![4, 3072]⟩ : Shape).Idx → EReal) (l : Fin 4) (b : Fin 8) (n : Fin 3072) : EReal :=
  ∑ d : Fin 1024, silu (a0 (ix2 b d)) * a1 (ix3 l d n) + a2 (ix2 l n)

/-- A number that is not plus infinity, times its logistic, is real: minus infinity's logistic is zero. -/
theorem isReal_silu {x : EReal} (h : x ≠ ⊤) : IsReal (silu x) := by
  by_cases hb : x = ⊥
  · refine ⟨0, ?_⟩
    rw [hb, silu, Ideal.logistic_bot, mul_zero]
    rfl
  · obtain ⟨r, rfl⟩ := isReal_of_bounds hb h
    exact IsReal.mul ⟨r, rfl⟩ ⟨_, Ideal.logistic_coe r⟩

/-- The three parts of a product of two numbers that are not plus infinity: the number less itself is zero, or minus
    infinity where the number is, and the parts add up to the product. -/
theorem mul_parts {x w : EReal} (hx : x ≠ ⊤) (hw : w ≠ ⊤) : x * w + x * (w - w) + (x - x) * w = x * w := by
  have hd : (⊥ : EReal) - ⊥ = ⊥ := by rw [sub_eq_add_neg, EReal.bot_add]
  have hb : ∀ {y : EReal}, IsReal y → (⊥ : EReal) * y + ⊥ * y = ⊥ * y := fun {y} hy => by
    obtain ⟨r, rfl⟩ := hy
    rcases lt_trichotomy r 0 with h | h | h
    · rw [EReal.bot_mul_coe_of_neg h]; rfl
    · subst h; simp
    · rw [EReal.bot_mul_coe_of_pos h]; rfl
  by_cases h : x = ⊥ <;> by_cases h' : w = ⊥
  · rw [h, h', hd, EReal.bot_mul_bot]; rfl
  · rw [h, hd, EReal.sub_self hw h', mul_zero, add_zero, hb (isReal_of_bounds h' hw)]
  · rw [h', hd, EReal.sub_self hx h, zero_mul, add_zero, mul_comm x, hb (isReal_of_bounds h hx)]
  · rw [EReal.sub_self hw h', EReal.sub_self hx h, mul_zero, zero_mul, add_zero, add_zero]

/-- A product in three parts: the leading parts, a leading part with the weights' rest, a rest with the weights. Where neither
    factor is plus infinity it is the product. -/
theorem split_sum {κ : Type*} [Fintype κ] {x w : κ → EReal} (hx : ∀ k, x k ≠ ⊤) (hw : ∀ k, w k ≠ ⊤) :
    ∑ k, x k * w k + ∑ k, x k * (w k - w k) + ∑ k, (x k - x k) * w k = ∑ k, x k * w k := by
  rw [← Finset.sum_add_distrib, ← Finset.sum_add_distrib]
  exact Finset.sum_congr rfl fun k _ => mul_parts (hx k) (hw k)

end Cert.Mod
-- ==== Proof.ModArray.lean ====
/- The modulation kernel's result array. -/
module

public import proofs.«01_k».proof.Proof.Gen.Kernel6Ideal.Value
public import proofs.«01_k».proof.Proof.ModSpec
public import Idealize.ShloMosaic.Lib.Pipeline.ValueKit
public import Idealize.ShloMosaic.Lib.Pipeline.Covers
public import Idealize.ShloMosaic.Lib.Claim
public import Idealize.ShloMosaic.Lib.Tactic.CleanTypes

@[expose] public section

set_option maxRecDepth 16384

noncomputable section

namespace Cert.Mod

open Idealize.ShloMosaic Idealize.ShloMosaic.TcCoe Cert.Kernel6Ideal Cert.Kernel6Ideal.Gen Cert.Soft Cert.Out

/-- What one grid point computes, at an entry, from the blocks it loads: the product in three parts. -/
theorem pay_apply (v0 : Vec Ideal S8x1024 .f32) (v3 : Vec Ideal S1x1024x1024 .f32) (v18 : Vec Ideal S1x1x1024 .f32)
    (b : Fin 8) (n : Fin 1024) :
    k0_pay1 (F := Ideal) v0 v3 v18 (ix3 0 b n)
      = ((∑ d : Fin 1024, silu (v0 (ix2 b d)) * v3 (ix3 0 d n)
          + ∑ d : Fin 1024, silu (v0 (ix2 b d)) * (v3 (ix3 0 d n) - v3 (ix3 0 d n))
          + ∑ d : Fin 1024, (silu (v0 (ix2 b d)) - silu (v0 (ix2 b d))) * v3 (ix3 0 d n)) + v18 (ix3 0 0 n) : EReal) := by
  unfold silu
  pointwise [k0_pay1]

variable (m : (ℓ : Loc nD τ sig) → Buf (Elt Ideal) ℓ)

/-- The layer of a grid point. -/
def layer (t : Fin cfg0.N) : Fin 4 := ⟨(grid0.coords t 0).val, (grid0.coords t 0).isLt⟩

/-- The tile of columns of a grid point. -/
def third (t : Fin cfg0.N) : Fin 3 := ⟨(grid0.coords t 1).val, (grid0.coords t 1).isLt⟩

/-- Column `n` of a grid point's tile. -/
def colAt (t : Fin cfg0.N) (n : Fin 1024) : Fin 3072 := ⟨(third t).val * 1024 + n.val, by omega⟩

/-- Where each window stands at a grid point. -/
theorem idx : ∀ t : Fin cfg0.N, win0_0.index t = ![0, 0] ∧ win0_1.index t = ![(layer t).val, 0, (third t).val]
    ∧ win0_2.index t = ![(layer t).val, 0, (third t).val] ∧ win0_3.index t = ![(layer t).val, 0, (third t).val] := by
  decide +kernel

/-- The conditioning rows, read from the array. -/
theorem read0 (c : Dev nD) (t : Fin cfg0.N) (b : Fin 8) (d : Fin 1024) :
    iblk m c 0 t (ix2 b d) = m ((c.tc : Thread nD τ).loc main_arg0) (ix2 b d) := by
  have h := (idx t).1
  rw [← V_main_arg0 m c]
  blk_ext [iblk, h]

/-- The layer's weights, read from the array. -/
theorem read1 (c : Dev nD) (t : Fin cfg0.N) (d n : Fin 1024) :
    iblk m c 1 t (ix3 0 d n) = m ((c.tc : Thread nD τ).loc main_arg1) (ix3 (layer t) d (colAt t n)) := by
  have h := (idx t).2.1
  rw [← V_main_arg1 m c]
  unfold colAt
  blk_ext [iblk, h]

/-- The biases as the region finds them. -/
theorem biases (c : Dev nD) (l : Fin 4) (n : Fin 3072) :
    V m c main_v0 (ix3 l 0 n) = m ((c.tc : Thread nD τ).loc main_arg2) (ix2 l n) := by
  entry_read
  pointwise

/-- The layer's biases, read from the array. -/
theorem read2 (c : Dev nD) (t : Fin cfg0.N) (n : Fin 1024) :
    iblk m c 2 t (ix3 0 0 n) = m ((c.tc : Thread nD τ).loc main_arg2) (ix2 (layer t) (colAt t n)) := by
  have h := (idx t).2.2.1
  rw [← biases m c]
  unfold colAt
  blk_ext [iblk, h]

/-- The whole result array. -/
def G (c : Dev nD) : S4x8x3072.Idx → EReal := fun i =>
  modAt (m ((c.tc : Thread nD τ).loc main_arg0)) (m ((c.tc : Thread nD τ).loc main_arg1)) (m ((c.tc : Thread nD τ).loc main_arg2))
    (i 0) (i 1) (i 2)

/-- Every block of the result array is written. -/
theorem covers3 : (cfg0.win 3).Covers :=
  (cfg0.win 3).covers_of_indexMap_surj rfl (by decide) fun β => by
    have key : ∀ i : grid0.Coords, cc0_transform_3 i = ![(i 0).val, 0, (i 1).val] := by decide +kernel
    have h1 : (β 1).val = 0 := by have := (β 1).isLt; have e : (cfg0.win 3).nblk 1 = 1 := by decide
                                  omega
    let i : grid0.Coords := fun a => match a with
      | ⟨0, _⟩ => ⟨(β 0).val, lt_of_lt_of_le (β 0).isLt (by decide : (cfg0.win 3).nblk 0 ≤ grid0.bound 0)⟩
      | ⟨1, _⟩ => ⟨(β 2).val, lt_of_lt_of_le (β 2).isLt (by decide : (cfg0.win 3).nblk 2 ≤ grid0.bound 1)⟩
    refine ⟨i, fun a => ?_⟩
    show cc0_transform_3 i a = _
    rw [key i]
    fin_cases a
    · rfl
    · exact h1.symm
    · rfl

/-- The place in the result array of an entry of a grid point's block. -/
theorem place (t : Fin cfg0.N) (b : Fin 8) (n : Fin 1024) :
    ((View.whole main_v1).slice (win0_3.rect t)).emb (ix3 0 b n) = ix3 (layer t) b (colAt t n) := by
  have h := (idx t).2.2.2
  unfold colAt
  blk_ext [h]

/-- What one grid point leaves in its block, from its input blocks. -/
def blockOf (x0 : Vec Ideal S8x1024 .f32) (x1 : Vec Ideal S1x1024x1024 .f32) (x2 : Vec Ideal S1x1x1024 .f32) :
    FVec Ideal S1x8x1024 .f32 :=
  k0_pay1 (View.ld x0 r0_0) (View.ld x1 r0_1) (View.ld x2 r0_2)

/-- The output buffer after a grid point, by that name. -/
theorem out_eq (x0 : Vec Ideal S8x1024 .f32) (x1 : Vec Ideal S1x1024x1024 .f32) (x2 : Vec Ideal S1x1x1024 .f32) :
    out0_3 x0 x1 x2 = View.canon [⟨r0_3, blockOf x0 x1 x2⟩] := rfl

/-- An entry of a grid point's block, where no entry of the rows or weights is plus infinity: the three parts are one product. -/
theorem blockOf_apply (x0 : Vec Ideal S8x1024 .f32) (x1 : Vec Ideal S1x1024x1024 .f32) (x2 : Vec Ideal S1x1x1024 .f32)
    (b : Fin 8) (n : Fin 1024) (h0 : ∀ d, x0 (ix2 b d) ≠ (⊤ : EReal)) (h1 : ∀ d, x1 (ix3 0 d n) ≠ (⊤ : EReal)) :
    blockOf x0 x1 x2 (ix3 0 b n)
      = (∑ d : Fin 1024, silu (x0 (ix2 b d)) * x1 (ix3 0 d n) + x2 (ix3 0 0 n) : EReal) := by
  have e0 : ∀ d, View.ld x0 r0_0 (ix2 b d) = x0 (ix2 b d) := fun d => by pointwise
  have e1 : ∀ d, View.ld x1 r0_1 (ix3 0 d n) = x1 (ix3 0 d n) := fun d => by pointwise
  have e2 : View.ld x2 r0_2 (ix3 0 0 n) = x2 (ix3 0 0 n) := by pointwise
  unfold blockOf
  rw [pay_apply]
  simp only [e0, e1, e2]
  exact congrArg (· + _) (split_sum (fun d => (isReal_silu (h0 d)).ne_top) h1)

/-- What the values need of a memory: no conditioning entry and no weight is plus infinity. -/
structure Fine (c : Dev nD) : Prop where
  x : ∀ i, m ((c.tc : Thread nD τ).loc main_arg0) i ≠ (⊤ : EReal)
  w : ∀ i, m ((c.tc : Thread nD τ).loc main_arg1) i ≠ (⊤ : EReal)

variable {m}

/-- What one grid point writes, at its place in the array. -/
theorem point {c : Dev nD} (hm : Fine m c) (t : Fin cfg0.N) (b : Fin 8) (n : Fin 1024) :
    blockOf (iblk m c 0 t) (iblk m c 1 t) (iblk m c 2 t) (ix3 0 b n) = G m c (ix3 (layer t) b (colAt t n)) := by
  rw [blockOf_apply _ _ _ _ _ (fun d => by rw [read0]; exact hm.x _) (fun d => by rw [read1]; exact hm.w _)]
  simp only [read0, read1, read2]
  rfl

/-- The same at any index of the block. -/
theorem point_G {c : Dev nD} (hm : Fine m c) (t : Fin cfg0.N) (y : S1x8x1024.Idx) :
    blockOf (iblk m c 0 t) (iblk m c 1 t) (iblk m c 2 t) y
      = G m c (((View.whole main_v1).slice (win0_3.rect t)).emb y) := by
  obtain ⟨a, b, n, rfl⟩ : ∃ (a : Fin 1) (b : Fin 8) (n : Fin 1024), y = ix3 a b n := ⟨y 0, y 1, y 2, eq_ix3 y⟩
  obtain rfl : a = 0 := Subsingleton.elim _ _
  rw [place, point hm]

/-- The result array after the run. -/
theorem final {c : Dev nD} (hm : Fine m c) : (dats m 0 c).arrAt 3 cfg0.N = G m c := by
  refine (dats m 0 c).arrAt_eq_of_covers 3 _ covers3 fun t hf y => ?_
  blk_simp
  rw [after0_3, out_eq]
  frame_out
  exact point_G hm t y

end Cert.Mod
-- ==== Proof.Mod.lean ====
/- The modulations' claim: kernel and reference, from one memory's arguments, leave one array. -/
module

public import proofs.«01_k».proof.Defs
public import proofs.«01_k».proof.Proof.Pre
public import proofs.«01_k».proof.Proof.ModArray
public import proofs.«01_k».proof.Proof.Gen.Pre_below
public import proofs.«01_k».proof.Proof.Gen.Reference6Ideal.Run

@[expose] public section

set_option maxRecDepth 16384

noncomputable section

namespace Cert.Mod

open Idealize.ShloMosaic Idealize.ShloMosaic.TcCoe Idealize.SL.Sem Cert.Out

namespace Ref

open Cert.Reference6Ideal Cert.Reference6Ideal.Gen

/-- The conditioning rows, each entry times its logistic. -/
def siluArr (a0 : FVec Ideal S8x1024 .f32) : FVec Ideal S8x1024 .f32 :=
  mulf a0 (Host.divf (broadcastInDim S8x1024 ![] bcast_S_S8x1024 (constant S_ .f32 0x3F800000#32)) (addf (broadcastInDim S8x1024 ![] bcast_S_S8x1024 (constant S_ .f32 0x3F800000#32)) (Host.exp (Host.negf a0))))

/-- The layers' modulations. -/
def modArr (s : FVec Ideal S8x1024 .f32) (a1 : FVec Ideal S4x1024x3072 .f32) (a2 : FVec Ideal S4x3072 .f32) : FVec Ideal S4x8x3072 .f32 :=
  addf (transpose S4x8x3072 [1, 0, 2] (Host.dotGeneral dot_S8x1024_S4x1024x3072_S8x4x3072_1_1_0_02_n_n none s a1) transposes_S8x4x3072_S4x8x3072_1_0_2) (broadcastInDim S4x8x3072 ![0, 1, 2] bcast_S4x1x3072_S4x8x3072_0_1_2 (broadcastInDim S4x1x3072 ![0, 2] bcast_S4x3072_S4x1x3072_0_2 a2))

/-- An entry times its logistic. -/
theorem siluArr_apply (a0 : FVec Ideal S8x1024 .f32) (b : Fin 8) (d : Fin 1024) :
    siluArr a0 (ix2 b d) = (silu (a0 (ix2 b d)) : EReal) := by
  unfold silu Ideal.logistic
  pointwise [siluArr]

/-- An entry of a layer's modulation. -/
theorem modArr_apply (s : FVec Ideal S8x1024 .f32) (a1 : FVec Ideal S4x1024x3072 .f32) (a2 : FVec Ideal S4x3072 .f32)
    (l : Fin 4) (b : Fin 8) (n : Fin 3072) :
    modArr s a1 a2 (ix3 l b n) = (∑ d : Fin 1024, s (ix2 b d) * a1 (ix3 l d n) + a2 (ix2 l n) : EReal) := by
  pointwise [modArr]

/-- The reference's array, from the kernel's arguments, is the array the kernel leaves. -/
theorem eq (a0 : FVec Ideal S8x1024 .f32) (a1 : FVec Ideal S4x1024x3072 .f32) (a2 : FVec Ideal S4x3072 .f32) :
    modArr (siluArr a0) a1 a2 = fun i => (modAt a0 a1 a2 (i 0) (i 1) (i 2) : EReal) := by
  refine funext fun i => ?_
  obtain ⟨l, b, n, rfl⟩ : ∃ (l : Fin 4) (b : Fin 8) (n : Fin 3072), i = ix3 l b n := ⟨i 0, i 1, i 2, eq_ix3 i⟩
  rw [modArr_apply]
  simp only [siluArr_apply]
  rfl

end Ref

/-- A number below the infinity's pattern is not plus infinity. -/
theorem ne_top_of_lt {x : EReal} (h : FloatOps.cmpf (F := Ideal) (φ := .f32) .olt x (Ideal.ofBits .f32 0x7F800000#32) = 1#1) : x ≠ ⊤ := by
  rw [Cert.Pre.ofBits_inf] at h
  rintro rfl
  have : FloatOps.cmpf (F := Ideal) (φ := .f32) .olt (⊤ : EReal) (⊤ : EReal) = 0#1 := by
    show BitVec.ofBool (decide ((⊤ : EReal) < ⊤)) = 0#1
    simp
  rw [this] at h
  exact absurd h (by decide)

/-- The precondition on a memory gives what the values need. -/
theorem fine {m : (ℓ : Loc Cert.Kernel6Ideal.nD Cert.Kernel6Ideal.τ Cert.Kernel6Ideal.sig) → Buf (Elt Ideal) ℓ}
    (h : Cert.Pre_Kernel6Ideal_below m) (c : Dev Cert.Kernel6Ideal.nD) : Fine m c where
  x := fun i => ne_top_of_lt (congrFun (h c).1 i)
  w := fun i => ne_top_of_lt (congrFun (h c).2 i)

/-- The claim: the optimised modulations and the plain ones are the same array. -/
theorem holds : Cert.algebraic_Kernel6Ideal_Reference6Ideal_pre_below := fun m g m' g' hp hag =>
  ⟨fun c => G m c,
    (θ_run _ _ _).mono (fun r h c => ⟨(h c).1.trans (final (fine hp c)), (h c).2⟩) (Cert.Kernel6Ideal.Value.run_blocks m g),
    (θ_run _ _ _).mono (fun r h c => ⟨by
      refine (h c).1.trans ((Ref.eq _ _ _).trans ?_)
      rw [(hag c).1, (hag c).2.1, (hag c).2.2]
      rfl, (h c).2⟩)
      (Cert.Reference6Ideal.Value.run m' g')⟩

end Cert.Mod
-- ==== Proof.TapsSpec.lean ====
/- The long convolution's filters over the extended reals, from the arrays that the call is given. -/
module

public import proofs.«01_k».proof.Proof.ModSpec

@[expose] public section

noncomputable section

namespace Cert.Taps

open Idealize.ShloMosaic Cert.Soft

/-- One entry of a layer of sines: a row times a column of the weights, plus the column's bias, times its frequency. -/
def wave {K : ℕ} (x w : Fin K → EReal) (b f : EReal) : EReal := Ideal.sin (f * (∑ k, x k * w k + b))

/-- One entry of a row after both layers of sines. -/
def hidden (x : Fin 128 → EReal) (w1 : (⟨2, ![128, 64]⟩ : Shape).Idx → EReal) (b1 : (⟨2, ![1, 64]⟩ : Shape).Idx → EReal)
    (w2 : (⟨2, ![64, 64]⟩ : Shape).Idx → EReal) (b2 : (⟨2, ![1, 64]⟩ : Shape).Idx → EReal)
    (f : (⟨2, ![2, 64]⟩ : Shape).Idx → EReal) (j : Fin 64) : EReal :=
  wave (fun k => wave x (fun d => w1 (ix2 d k)) (b1 (ix2 0 k)) (f (ix2 0 k))) (fun k => w2 (ix2 k j)) (b2 (ix2 0 j)) (f (ix2 1 j))

/-- The direction of a row: the first half's rows are one direction's, the second half's the other's. -/
abbrev side (r : Fin 8192) : Fin 2 := ⟨r / 4096, by omega⟩

/-- The channel of a column: both orders have the same channels. -/
abbrev chan (c : Fin 512) : Fin 256 := ⟨c % 256, by omega⟩

/-- One entry of the filters: the row's features through two layers of sines and the direction's weights, times the window. -/
def tapAt (a0 : (⟨2, ![8192, 128]⟩ : Shape).Idx → EReal) (a1 : (⟨2, ![8192, 256]⟩ : Shape).Idx → EReal)
    (w1 : (⟨2, ![128, 64]⟩ : Shape).Idx → EReal) (b1 : (⟨2, ![1, 64]⟩ : Shape).Idx → EReal)
    (w2 : (⟨2, ![64, 64]⟩ : Shape).Idx → EReal) (b2 : (⟨2, ![1, 64]⟩ : Shape).Idx → EReal)
    (w3 : (⟨3, ![2, 64, 512]⟩ : Shape).Idx → EReal) (f : (⟨2, ![2, 64]⟩ : Shape).Idx → EReal)
    (r : Fin 8192) (c : Fin 512) : EReal :=
  (∑ k : Fin 64, hidden (fun d => a0 (ix2 r d)) w1 b1 w2 b2 f k * w3 (ix3 (side r) k c)) * a1 (ix2 r (chan c))

/-- A sine is never plus infinity. -/
theorem sin_ne_top (x : EReal) : Ideal.sin x ≠ ⊤ := by
  induction x using EReal.rec with
  | bot => rw [Ideal.sin_bot]; exact bot_ne_top
  | top => rw [Ideal.sin_top]; exact bot_ne_top
  | coe r => rw [Ideal.sin_coe]; exact EReal.coe_ne_top _

/-- The three parts of a product, as the kernel adds them. -/
def parts {K : ℕ} (x w : Fin K → EReal) : EReal :=
  ∑ k, x k * w k + ∑ k, x k * (w k - w k) + ∑ k, (x k - x k) * w k

/-- A layer of sines whose product is taken in three parts. -/
def wave3 {K : ℕ} (x w : Fin K → EReal) (b f : EReal) : EReal := Ideal.sin (f * (parts x w + b))

/-- Two numbers that are equal or both infinite. -/
def Alike (a b : EReal) : Prop := a = b ∨ ((a = ⊤ ∨ a = ⊥) ∧ (b = ⊤ ∨ b = ⊥))

/-- A sum with an infinite number is infinite. -/
theorem infinite_add {a : EReal} (b : EReal) (h : a = ⊤ ∨ a = ⊥) : a + b = ⊤ ∨ a + b = ⊥ := by
  by_cases hb : b = ⊥
  · subst hb; exact .inr (EReal.add_bot a)
  · rcases h with rfl | rfl
    · exact .inl (EReal.top_add_of_ne_bot hb)
    · exact .inr (EReal.bot_add b)

/-- Sums of numbers that are alike. -/
theorem Alike.add {a a' b b' : EReal} (h : Alike a a') (h' : Alike b b') : Alike (a + b) (a' + b') := by
  rcases h with rfl | ⟨ha, ha'⟩
  · rcases h' with rfl | ⟨hb, hb'⟩
    · exact .inl rfl
    · exact .inr ⟨by rw [add_comm]; exact infinite_add a hb, by rw [add_comm]; exact infinite_add a hb'⟩
  · exact .inr ⟨infinite_add b ha, infinite_add b' ha'⟩

/-- The same for a sum of many. -/
theorem Alike.sum {K : ℕ} {a b : Fin K → EReal} (h : ∀ k, Alike (a k) (b k)) : Alike (∑ k, a k) (∑ k, b k) := by
  induction K with
  | zero => exact .inl rfl
  | succ n ih => rw [Fin.sum_univ_succ, Fin.sum_univ_succ]; exact (h 0).add (ih fun k => h k.succ)

/-- A product with an infinite number is infinite, if the other factor is not zero. -/
theorem infinite_mul {a b : EReal} (h : a = ⊤ ∨ a = ⊥) (hb : b ≠ 0) : b * a = ⊤ ∨ b * a = ⊥ := by
  rcases lt_or_gt_of_ne hb with hn | hp
  · rcases h with rfl | rfl
    · exact .inr (EReal.mul_top_of_neg hn)
    · exact .inl (EReal.mul_bot_of_neg hn)
  · rcases h with rfl | rfl
    · exact .inl (EReal.mul_top_of_pos hp)
    · exact .inr (EReal.mul_bot_of_pos hp)

/-- The sines of a multiple of two numbers that are alike are equal: a sine of an infinite number is minus infinity. -/
theorem Alike.sin {a b : EReal} (h : Alike a b) (f : EReal) : Ideal.sin (f * a) = Ideal.sin (f * b) := by
  rcases h with rfl | ⟨ha, hb⟩
  · rfl
  · have hs : ∀ {x : EReal}, (x = ⊤ ∨ x = ⊥) → Ideal.sin x = ⊥ := fun {x} hx => by
      rcases hx with rfl | rfl
      · exact Ideal.sin_top
      · exact Ideal.sin_bot
    by_cases hf : f = 0
    · rw [hf, zero_mul, zero_mul]
    · rw [hs (infinite_mul ha hf), hs (infinite_mul hb hf)]

/-- The three parts of a product of any two numbers: their sum and the product are alike. -/
theorem mul_parts_alike (x w : EReal) : Alike (x * w + x * (w - w) + (x - x) * w) (x * w) := by
  by_cases hx : x = ⊤
  · subst hx
    by_cases hw : w = 0
    · subst hw; exact .inl (by simp)
    · have h := infinite_mul (a := ⊤) (.inl rfl) hw
      rw [mul_comm w] at h
      exact .inr ⟨infinite_add _ (infinite_add _ h), h⟩
  · by_cases hw : w = ⊤
    · subst hw
      by_cases hx0 : x = 0
      · subst hx0; exact .inl (by simp)
      · have h := infinite_mul (a := ⊤) (.inl rfl) hx0
        exact .inr ⟨infinite_add _ (infinite_add _ h), h⟩
    · exact .inl (Cert.Mod.mul_parts hx hw)

/-- A layer in three parts is the plain one, whatever its factors: where they differ both are infinite under the sine. -/
theorem wave3_eq {K : ℕ} (x w : Fin K → EReal) (b f : EReal) : wave3 x w b f = wave x w b f := by
  unfold wave3 wave parts
  rw [← Finset.sum_add_distrib, ← Finset.sum_add_distrib]
  exact ((Alike.sum fun k => mul_parts_alike (x k) (w k)).add (.inl rfl)).sin f

end Cert.Taps
-- ==== Proof.TapsArray.lean ====
/- The filter kernel's result array. -/
module

public import proofs.«01_k».proof.Proof.Gen.Kernel7Ideal.Value
public import proofs.«01_k».proof.Proof.TapsSpec
public import Idealize.ShloMosaic.Lib.Pipeline.ValueKit
public import Idealize.ShloMosaic.Lib.Pipeline.Covers
public import Idealize.ShloMosaic.Lib.Claim
public import Idealize.ShloMosaic.Lib.Tactic.CleanTypes

@[expose] public section

set_option maxRecDepth 16384

noncomputable section

namespace Cert.Taps

open Idealize.ShloMosaic Idealize.ShloMosaic.TcCoe Cert.Kernel7Ideal Cert.Kernel7Ideal.Gen Cert.Soft

/-- What one grid point computes before its second sine, at an entry. -/
theorem inner_apply (v0 : Vec Ideal S2x64 .f32) (v2 : Vec Ideal S512x128 .f32) (v3 : Vec Ideal S128x64 .f32) (v17 : Vec Ideal S1x64 .f32)
    (v24 : Vec Ideal S64x64 .f32) (v38 : Vec Ideal S1x64 .f32) (y : Fin 512) (j : Fin 64) :
    k0_pay3 (F := Ideal) v0 v2 v3 v17 v24 v38 (ix2 y j)
      = (parts (fun k : Fin 64 => wave3 (fun d : Fin 128 => v2 (ix2 y d)) (fun d => v3 (ix2 d k)) (v17 (ix2 0 k)) (v0 (ix2 0 k)))
          (fun k => v24 (ix2 k j)) + v38 (ix2 0 j) : EReal) := by
  unfold wave3 parts
  pointwise [k0_pay3]

/-- The second sine's frequencies. -/
theorem freq_apply (v0 : Vec Ideal S2x64 .f32) (j : Fin 64) : k0_pay2 (F := Ideal) v0 (ix2 0 j) = (v0 (ix2 1 j) : EReal) := by
  pointwise [k0_pay2]

/-- The window, repeated for both orders. -/
theorem window_apply (v : FVec Ideal S512x256 .f32) (y : Fin 512) (c : Fin 512) :
    concatenate S512x512 1 [⟨S512x256, v⟩, ⟨S512x256, v⟩] concatenates_S512x256_S512x256_S512x512_d1 (ix2 y c)
      = (v (ix2 y (chan c)) : EReal) := by
  by_cases h : c.val < 256
  · obtain ⟨e, rfl⟩ : ∃ e : Fin 256, c = ⟨e.val, e.isLt.trans (by decide)⟩ := ⟨⟨c.val, h⟩, rfl⟩
    have hc : chan ⟨e.val, by omega⟩ = e := Fin.ext (Nat.mod_eq_of_lt e.isLt)
    rw [hc]
    pointwise
  · obtain ⟨e, rfl⟩ : ∃ e : Fin 256, c = ⟨256 + e.val, Nat.add_lt_add_left e.isLt 256⟩ := ⟨⟨c.val - 256, by omega⟩, Fin.ext (by show c.val = 256 + (c.val - 256); omega)⟩
    have hc : chan ⟨256 + e.val, by omega⟩ = e := Fin.ext (by show (256 + e.val) % 256 = e.val; omega)
    rw [hc]
    pointwise

/-- What one grid point computes, at an entry. -/
theorem pay_apply (v23 : FVec Ideal S1x64 .f32) (v40 : FVec Ideal S512x64 .f32) (v44 : Vec Ideal S1x64x512 .f32)
    (v59 : Vec Ideal S512x256 .f32) (y c : Fin 512) :
    k0_pay1 (F := Ideal) v23 v40 v44 v59 (ix2 y c)
      = (parts (fun k : Fin 64 => Ideal.sin (v23 (ix2 0 k) * v40 (ix2 y k))) (fun k => v44 (ix3 0 k c)) * v59 (ix2 y (chan c)) : EReal) := by
  unfold k0_pay1
  rw [← window_apply v59 y c]
  generalize concatenate S512x512 1 [⟨S512x256, v59⟩, ⟨S512x256, v59⟩] concatenates_S512x256_S512x256_S512x512_d1 = w
  unfold parts
  pointwise

variable (m : (ℓ : Loc nD τ sig) → Buf (Elt Ideal) ℓ)

/-- The tile of rows of a grid point. -/
def tile (t : Fin cfg0.N) : Fin 16 := ⟨(grid0.coords t 0).val, (grid0.coords t 0).isLt⟩

/-- Row `y` of a grid point's tile. -/
def rowAt (t : Fin cfg0.N) (y : Fin 512) : Fin 8192 := ⟨(tile t).val * 512 + y.val, by omega⟩

/-- Where each window stands at a grid point. -/
theorem idx : ∀ t : Fin cfg0.N, win0_0.index t = ![(tile t).val, 0] ∧ win0_1.index t = ![0, 0] ∧ win0_2.index t = ![0, 0]
    ∧ win0_3.index t = ![0, 0] ∧ win0_4.index t = ![0, 0] ∧ win0_5.index t = ![(tile t).val / 8, 0, 0] ∧ win0_6.index t = ![0, 0]
    ∧ win0_7.index t = ![(tile t).val, 0] ∧ win0_8.index t = ![(tile t).val, 0] := by
  decide +kernel

/-- The features, read from the array. -/
theorem read0 (c : Dev nD) (t : Fin cfg0.N) (y : Fin 512) (d : Fin 128) :
    iblk m c 0 t (ix2 y d) = m ((c.tc : Thread nD τ).loc main_arg0) (ix2 (rowAt t y) d) := by
  have h := (idx t).1
  rw [← V_main_arg0 m c]
  unfold rowAt
  blk_ext [iblk, h]

/-- The first weights, read from the array. -/
theorem read1 (c : Dev nD) (t : Fin cfg0.N) (d : Fin 128) (k : Fin 64) :
    iblk m c 1 t (ix2 d k) = m ((c.tc : Thread nD τ).loc main_arg2) (ix2 d k) := by
  have h := (idx t).2.1
  rw [← V_main_arg2 m c]
  blk_ext [iblk, h]

/-- The first biases, read from the array. -/
theorem read2 (c : Dev nD) (t : Fin cfg0.N) (k : Fin 64) :
    iblk m c 2 t (ix2 0 k) = m ((c.tc : Thread nD τ).loc main_arg3) (ix2 0 k) := by
  have h := (idx t).2.2.1
  rw [← V_main_arg3 m c]
  blk_ext [iblk, h]

/-- The second weights, read from the array. -/
theorem read3 (c : Dev nD) (t : Fin cfg0.N) (k j : Fin 64) :
    iblk m c 3 t (ix2 k j) = m ((c.tc : Thread nD τ).loc main_arg4) (ix2 k j) := by
  have h := (idx t).2.2.2.1
  rw [← V_main_arg4 m c]
  blk_ext [iblk, h]

/-- The second biases, read from the array. -/
theorem read4 (c : Dev nD) (t : Fin cfg0.N) (j : Fin 64) :
    iblk m c 4 t (ix2 0 j) = m ((c.tc : Thread nD τ).loc main_arg5) (ix2 0 j) := by
  have h := (idx t).2.2.2.2.1
  rw [← V_main_arg5 m c]
  blk_ext [iblk, h]

/-- The direction's weights, read from the array. -/
theorem read5 (c : Dev nD) (t : Fin cfg0.N) (y : Fin 512) (k : Fin 64) (n : Fin 512) :
    iblk m c 5 t (ix3 0 k n) = m ((c.tc : Thread nD τ).loc main_arg6) (ix3 (side (rowAt t y)) k n) := by
  have h := (idx t).2.2.2.2.2.1
  have hb : (side (rowAt t y)).val = (tile t).val / 8 := by
    show ((tile t).val * 512 + y.val) / 4096 = _; omega
  rw [← V_main_arg6 m c]
  obtain ⟨b, hb'⟩ : ∃ b, b = side (rowAt t y) := ⟨_, rfl⟩
  rw [← hb'] at hb ⊢
  blk_ext [iblk, h, hb]

/-- The frequencies, read from the array. -/
theorem read6 (c : Dev nD) (t : Fin cfg0.N) (i : Fin 2) (j : Fin 64) :
    iblk m c 6 t (ix2 i j) = m ((c.tc : Thread nD τ).loc main_arg7) (ix2 i j) := by
  have h := (idx t).2.2.2.2.2.2.1
  rw [← V_main_arg7 m c]
  blk_ext [iblk, h]

/-- The window, read from the array. -/
theorem read7 (c : Dev nD) (t : Fin cfg0.N) (y : Fin 512) (n : Fin 256) :
    iblk m c 7 t (ix2 y n) = m ((c.tc : Thread nD τ).loc main_arg1) (ix2 (rowAt t y) n) := by
  have h := (idx t).2.2.2.2.2.2.2.1
  rw [← V_main_arg1 m c]
  unfold rowAt
  blk_ext [iblk, h]

/-- The whole result array. -/
def G (c : Dev nD) : S8192x512.Idx → EReal := fun i =>
  tapAt (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7)) (i 0) (i 1)

/-- Every block of the result array is written. -/
theorem covers8 : (cfg0.win 8).Covers :=
  (cfg0.win 8).covers_of_indexMap_surj rfl (by decide) fun β => by
    have key : ∀ i : grid0.Coords, cc0_transform_8 i = ![(i 0).val, 0] := by decide +kernel
    have h1 : (β 1).val = 0 := by have := (β 1).isLt; have e : (cfg0.win 8).nblk 1 = 1 := by decide
                                  omega
    let i : grid0.Coords := fun a =>
      ⟨(β 0).val, lt_of_lt_of_le (β 0).isLt ((by decide : ∀ a : Fin 1, (cfg0.win 8).nblk 0 ≤ grid0.bound a) a)⟩
    refine ⟨i, fun a => ?_⟩
    show cc0_transform_8 i a = _
    rw [key i]
    fin_cases a
    · rfl
    · exact h1.symm

/-- The place in the result array of an entry of a grid point's block. -/
theorem place (t : Fin cfg0.N) (y n : Fin 512) :
    ((View.whole main_v0).slice (win0_8.rect t)).emb (ix2 y n) = ix2 (rowAt t y) n := by
  have h := (idx t).2.2.2.2.2.2.2.2
  unfold rowAt
  blk_ext [h]

section Block

variable (x0 : Vec Ideal S512x128 .f32) (x1 : Vec Ideal S128x64 .f32) (x2 : Vec Ideal S1x64 .f32) (x3 : Vec Ideal S64x64 .f32)
  (x4 : Vec Ideal S1x64 .f32) (x5 : Vec Ideal S1x64x512 .f32) (x6 : Vec Ideal S2x64 .f32) (x7 : Vec Ideal S512x256 .f32)

/-- What one grid point leaves in its block, from its input blocks. -/
def blockOf : FVec Ideal S512x512 .f32 :=
  k0_pay1 (k0_pay2 (View.ld x6 r0_0)) (k0_pay3 (View.ld x6 r0_0) (View.ld x0 r0_1) (View.ld x1 r0_2) (View.ld x2 r0_3)
    (View.ld x3 r0_4) (View.ld x4 r0_3)) (View.ld x5 r0_5) (View.ld x7 r0_6)

/-- The output buffer after a grid point, by that name. -/
theorem out_eq : out0_8 x0 x1 x2 x3 x4 x5 x6 x7 = View.canon [⟨r0_7, blockOf x0 x1 x2 x3 x4 x5 x6 x7⟩] := rfl

/-- An entry of a grid point's block, where no weight of the last product is plus infinity. -/
theorem blockOf_apply (y n : Fin 512) (h5 : ∀ k, x5 (ix3 0 k n) ≠ (⊤ : EReal)) :
    blockOf x0 x1 x2 x3 x4 x5 x6 x7 (ix2 y n)
      = ((∑ k : Fin 64, hidden (fun d => x0 (ix2 y d)) x1 x2 x3 x4 x6 k * x5 (ix3 0 k n)) * x7 (ix2 y (chan n)) : EReal) := by
  have e0 : ∀ d, View.ld x0 r0_1 (ix2 y d) = x0 (ix2 y d) := fun d => by pointwise
  have e1 : ∀ d k, View.ld x1 r0_2 (ix2 d k) = x1 (ix2 d k) := fun d k => by pointwise
  have e2 : ∀ k, View.ld x2 r0_3 (ix2 0 k) = x2 (ix2 0 k) := fun k => by pointwise
  have e3 : ∀ k j, View.ld x3 r0_4 (ix2 k j) = x3 (ix2 k j) := fun k j => by pointwise
  have e4 : ∀ k, View.ld x4 r0_3 (ix2 0 k) = x4 (ix2 0 k) := fun k => by pointwise
  have e5 : ∀ k, View.ld x5 r0_5 (ix3 0 k n) = x5 (ix3 0 k n) := fun k => by pointwise
  have e6 : ∀ i k, View.ld x6 r0_0 (ix2 i k) = x6 (ix2 i k) := fun i k => by pointwise
  have e7 : View.ld x7 r0_6 (ix2 y (chan n)) = x7 (ix2 y (chan n)) := by pointwise
  unfold blockOf
  rw [pay_apply]
  simp only [inner_apply, freq_apply, e0, e1, e2, e3, e4, e5, e6, e7]
  have hw : ∀ k, wave3 (fun d => x0 (ix2 y d)) (fun d => x1 (ix2 d k)) (x2 (ix2 0 k)) (x6 (ix2 0 k))
      = wave (fun d => x0 (ix2 y d)) (fun d => x1 (ix2 d k)) (x2 (ix2 0 k)) (x6 (ix2 0 k)) := fun k => wave3_eq _ _ _ _
  simp only [hw]
  have hv : ∀ j, Ideal.sin (x6 (ix2 1 j) * (parts (fun k : Fin 64 => wave (fun d => x0 (ix2 y d)) (fun d => x1 (ix2 d k)) (x2 (ix2 0 k))
      (x6 (ix2 0 k))) (fun k => x3 (ix2 k j)) + x4 (ix2 0 j))) = hidden (fun d => x0 (ix2 y d)) x1 x2 x3 x4 x6 j := fun j => wave3_eq _ _ _ _
  simp only [hv]
  exact congrArg (· * _) (Cert.Mod.split_sum (fun k => sin_ne_top _) h5)

end Block

/-- What the values need of a memory: no weight of the last product is plus infinity. -/
structure Fine (c : Dev nD) : Prop where
  w3 : ∀ i, m ((c.tc : Thread nD τ).loc main_arg6) i ≠ (⊤ : EReal)

variable {m}

/-- What one grid point writes, at its place in the array. -/
theorem point {c : Dev nD} (hm : Fine m c) (t : Fin cfg0.N) (y n : Fin 512) :
    blockOf (iblk m c 0 t) (iblk m c 1 t) (iblk m c 2 t) (iblk m c 3 t) (iblk m c 4 t) (iblk m c 5 t) (iblk m c 6 t) (iblk m c 7 t) (ix2 y n)
      = G m c (ix2 (rowAt t y) n) := by
  rw [blockOf_apply _ _ _ _ _ _ _ _ _ _ (fun k => by rw [read5 m c t y]; exact hm.w3 _)]
  unfold hidden
  simp only [read0, read1, read2, read3, read4, read5 m c t y, read6, read7]
  rfl

/-- The same at any index of the block. -/
theorem point_G {c : Dev nD} (hm : Fine m c) (t : Fin cfg0.N) (y : S512x512.Idx) :
    blockOf (iblk m c 0 t) (iblk m c 1 t) (iblk m c 2 t) (iblk m c 3 t) (iblk m c 4 t) (iblk m c 5 t) (iblk m c 6 t) (iblk m c 7 t) y
      = G m c (((View.whole main_v0).slice (win0_8.rect t)).emb y) := by
  obtain ⟨y, n, rfl⟩ : ∃ (q : Fin 512) (n : Fin 512), y = ix2 q n := ⟨y 0, y 1, eq_ix2 y⟩
  rw [place, point hm]

/-- The result array after the run. -/
theorem final {c : Dev nD} (hm : Fine m c) : (dats m 0 c).arrAt 8 cfg0.N = G m c := by
  refine (dats m 0 c).arrAt_eq_of_covers 8 _ covers8 fun t hf y => ?_
  blk_simp
  rw [after0_8, out_eq]
  frame_out
  exact point_G hm t y

end Cert.Taps
-- ==== Proof.Taps.lean ====
/- The filters' claim: kernel and reference, from one memory's arguments, leave one array. -/
module

public import proofs.«01_k».proof.Defs
public import proofs.«01_k».proof.Proof.Mod
public import proofs.«01_k».proof.Proof.TapsArray
public import proofs.«01_k».proof.Proof.Gen.Pre_under
public import proofs.«01_k».proof.Proof.Gen.Reference7Ideal.Run

@[expose] public section

set_option maxRecDepth 16384

noncomputable section

namespace Cert.Taps

open Idealize.ShloMosaic Idealize.ShloMosaic.TcCoe Idealize.SL.Sem

namespace Ref

open Cert.Reference7Ideal Cert.Reference7Ideal.Gen

/-- The first layer of sines. -/
def oneArr (a0 : FVec Ideal S8192x128 .f32) (w1 : FVec Ideal S128x64 .f32) (b1 : FVec Ideal S1x64 .f32) (f : FVec Ideal S2x64 .f32) : FVec Ideal S8192x64 .f32 :=
  Host.sin (mulf (broadcastInDim S8192x64 ![0, 1] bcast_S1x64_S8192x64_0_1 (broadcastInDim S1x64 ![1] bcast_S64_S1x64_1 (shapeCast S64 (extractStridedSlice S1x64 ![0, 0] f slices_S2x64_S1x64_0_0) shapeCasts_S1x64_S64))) (addf (Host.dotGeneral dot_S8192x128_S128x64_S8192x64_1_0_0_1_n_n none a0 w1) (broadcastInDim S8192x64 ![0, 1] bcast_S1x64_S8192x64_0_1 b1)))

/-- The second layer of sines. -/
def twoArr (h : FVec Ideal S8192x64 .f32) (w2 : FVec Ideal S64x64 .f32) (b2 : FVec Ideal S1x64 .f32) (f : FVec Ideal S2x64 .f32) : FVec Ideal S8192x64 .f32 :=
  Host.sin (mulf (broadcastInDim S8192x64 ![0, 1] bcast_S1x64_S8192x64_0_1 (broadcastInDim S1x64 ![1] bcast_S64_S1x64_1 (shapeCast S64 (extractStridedSlice S1x64 ![1, 0] f slices_S2x64_S1x64_1_0) shapeCasts_S1x64_S64))) (addf (Host.dotGeneral dot_S8192x64_S64x64_S8192x64_1_0_0_1_n_n none h w2) (broadcastInDim S8192x64 ![0, 1] bcast_S1x64_S8192x64_0_1 b2)))

/-- The filters. -/
def tapArr (h : FVec Ideal S8192x64 .f32) (w3 : FVec Ideal S2x64x512 .f32) (a1 : FVec Ideal S8192x256 .f32) : FVec Ideal S8192x512 .f32 :=
  shapeCast S8192x512 (mulf (shapeCast S2x4096x2x256 (Host.dotGeneral dot_S2x4096x64_S2x64x512_S2x4096x512_2_1_1_2_0_0 none (shapeCast S2x4096x64 h shapeCasts_S8192x64_S2x4096x64) w3) shapeCasts_S2x4096x512_S2x4096x2x256) (broadcastInDim S2x4096x2x256 ![0, 1, 2, 3] bcast_S2x4096x1x256_S2x4096x2x256_0_1_2_3 (shapeCast S2x4096x1x256 a1 shapeCasts_S8192x256_S2x4096x1x256))) shapeCasts_S2x4096x2x256_S8192x512

/-- An entry of the first layer. -/
theorem oneArr_apply (a0 : FVec Ideal S8192x128 .f32) (w1 : FVec Ideal S128x64 .f32) (b1 : FVec Ideal S1x64 .f32) (f : FVec Ideal S2x64 .f32)
    (r : Fin 8192) (k : Fin 64) :
    oneArr a0 w1 b1 f (ix2 r k) = (wave (fun d => a0 (ix2 r d)) (fun d => w1 (ix2 d k)) (b1 (ix2 0 k)) (f (ix2 0 k)) : EReal) := by
  unfold wave
  pointwise [oneArr]

/-- An entry of the second layer. -/
theorem twoArr_apply (h : FVec Ideal S8192x64 .f32) (w2 : FVec Ideal S64x64 .f32) (b2 : FVec Ideal S1x64 .f32) (f : FVec Ideal S2x64 .f32)
    (r : Fin 8192) (j : Fin 64) :
    twoArr h w2 b2 f (ix2 r j) = (wave (fun k => h (ix2 r k)) (fun k => w2 (ix2 k j)) (b2 (ix2 0 j)) (f (ix2 1 j)) : EReal) := by
  unfold wave
  pointwise [twoArr]

/-- An entry of the filters. -/
theorem tapArr_apply (h : FVec Ideal S8192x64 .f32) (w3 : FVec Ideal S2x64x512 .f32) (a1 : FVec Ideal S8192x256 .f32)
    (s : Fin 2) (l : Fin 4096) (o : Fin 2) (c : Fin 256) :
    tapArr h w3 a1 (ix2 ⟨s * 4096 + l, by omega⟩ ⟨o * 256 + c, by omega⟩)
      = ((∑ k : Fin 64, h (ix2 ⟨s * 4096 + l, by omega⟩ k) * w3 (ix3 s k ⟨o * 256 + c, by omega⟩))
          * a1 (ix2 ⟨s * 4096 + l, by omega⟩ c) : EReal) := by
  pointwise [tapArr]

/-- The reference's array, from the kernel's arguments, is the array the kernel leaves. -/
theorem eq (a0 : FVec Ideal S8192x128 .f32) (a1 : FVec Ideal S8192x256 .f32) (w1 : FVec Ideal S128x64 .f32) (b1 : FVec Ideal S1x64 .f32)
    (w2 : FVec Ideal S64x64 .f32) (b2 : FVec Ideal S1x64 .f32) (w3 : FVec Ideal S2x64x512 .f32) (f : FVec Ideal S2x64 .f32) :
    tapArr (twoArr (oneArr a0 w1 b1 f) w2 b2 f) w3 a1 = fun i => (tapAt a0 a1 w1 b1 w2 b2 w3 f (i 0) (i 1) : EReal) := by
  refine funext fun i => ?_
  obtain ⟨r, n, rfl⟩ : ∃ (r : Fin 8192) (n : Fin 512), i = ix2 r n := ⟨i 0, i 1, eq_ix2 i⟩
  obtain ⟨s, l, rfl⟩ : ∃ (s : Fin 2) (l : Fin 4096), r = ⟨s.val * 4096 + l.val, by omega⟩ :=
    ⟨⟨r / 4096, by omega⟩, ⟨r % 4096, by omega⟩, Fin.ext (by show r.val = r.val / 4096 * 4096 + r.val % 4096; omega)⟩
  obtain ⟨o, c, rfl⟩ : ∃ (o : Fin 2) (c : Fin 256), n = ⟨o.val * 256 + c.val, by omega⟩ :=
    ⟨⟨n / 256, by omega⟩, ⟨n % 256, by omega⟩, Fin.ext (by show n.val = n.val / 256 * 256 + n.val % 256; omega)⟩
  have hs : side ⟨s.val * 4096 + l.val, by omega⟩ = s := Fin.ext (by show (s.val * 4096 + l.val) / 4096 = s.val; omega)
  have hc : chan ⟨o.val * 256 + c.val, by omega⟩ = c := Fin.ext (by show (o.val * 256 + c.val) % 256 = c.val; omega)
  rw [tapArr_apply]
  simp only [twoArr_apply, oneArr_apply]
  show _ = tapAt a0 a1 w1 b1 w2 b2 w3 f ⟨s.val * 4096 + l.val, by omega⟩ ⟨o.val * 256 + c.val, by omega⟩
  unfold tapAt hidden
  rw [hs, hc]

end Ref

/-- The precondition on a memory gives what the values need. -/
theorem fine {m : (ℓ : Loc Cert.Kernel7Ideal.nD Cert.Kernel7Ideal.τ Cert.Kernel7Ideal.sig) → Buf (Elt Ideal) ℓ}
    (h : Cert.Pre_Kernel7Ideal_under m) (c : Dev Cert.Kernel7Ideal.nD) : Fine m c where
  w3 := fun i => Cert.Mod.ne_top_of_lt (congrFun (h c) i)

/-- The claim: the optimised filters and the plain ones are the same array. -/
theorem holds : Cert.algebraic_Kernel7Ideal_Reference7Ideal_pre_under := fun m g m' g' hp hag =>
  ⟨fun c => G m c,
    (θ_run _ _ _).mono (fun r h c => ⟨(h c).1.trans (final (fine hp c)), (h c).2⟩) (Cert.Kernel7Ideal.Value.run_blocks m g),
    (θ_run _ _ _).mono (fun r h c => ⟨by
      refine (h c).1.trans ((Ref.eq _ _ _ _ _ _ _ _).trans ?_)
      obtain ⟨h0, h1, h2, h3, h4, h5, h6, h7⟩ := hag c
      rw [h0, h1, h2, h3, h4, h5, h6, h7]
      rfl, (h c).2⟩)
      (Cert.Reference7Ideal.Value.run m' g')⟩

end Cert.Taps
-- ==== Proof.OnesArray.lean ====
/- The transposed values with their row of ones: the kernel's result array. -/
module

public import proofs.«01_k».proof.Proof.Gen.Kernel8Ideal.Value
public import proofs.«01_k».proof.Proof.KvArray

@[expose] public section

set_option maxRecDepth 16384

noncomputable section

namespace Cert.Ones

open Idealize.ShloMosaic Idealize.ShloMosaic.TcCoe Cert.Kernel8Ideal Cert.Kernel8Ideal.Gen
open Cert.Kv (val vrow ones_piece rows_piece)

/-- The block's values, transposed. -/
theorem flip_apply (v0 : Vec Ideal S1x512x256 .bf16) (j : Fin 256) (y : Fin 512) :
    k0_pay5 (F := Ideal) v0 (ix2 j y) = (v0 (ix3 0 y j) : EReal) := by
  pointwise [k0_pay5]

/-- The row of ones over rows of zeros. -/
theorem ones_apply (i : Fin 16) (y : Fin 512) : k0_pay6 (F := Ideal) (ix2 i y) = (if i.val = 0 then 1 else 0 : EReal) := by
  pointwise [k0_pay6]
  fin_cases i <;> rfl

/-- The copies of that row's block, one for each head. -/
theorem ones_tile (v : FVec Ideal S16x512 .bf16) (i : Fin 16) (y : Fin 512) :
    k0_pay2 (F := Ideal) v (ix4 0 0 i y) = v (ix2 i y) := by
  pointwise [k0_pay2]

/-- The first head's rows. -/
theorem tile0 (v0 : Vec Ideal S1x512x256 .bf16) (i : Fin 64) (y : Fin 512) :
    k0_pay7 (F := Ideal) v0 (ix4 0 0 i y) = (k0_pay5 (F := Ideal) v0 (ix2 (vrow 0 i) y) : EReal) := by
  have hv : vrow 0 i = ⟨i.val, by omega⟩ := Fin.ext (by show 0 * 64 + i.val = i.val; omega)
  rw [hv]
  unfold k0_pay7
  generalize k0_pay5 (F := Ideal) v0 = w
  pointwise

/-- The second head's rows. -/
theorem tile1 (v0 : Vec Ideal S1x512x256 .bf16) (i : Fin 64) (y : Fin 512) :
    k0_pay9 (F := Ideal) v0 (ix4 0 0 i y) = (k0_pay5 (F := Ideal) v0 (ix2 (vrow 1 i) y) : EReal) := by
  have hv : vrow 1 i = ⟨64 + i.val, by omega⟩ := Fin.ext (by show 1 * 64 + i.val = 64 + i.val; omega)
  rw [hv]
  unfold k0_pay9
  generalize k0_pay5 (F := Ideal) v0 = w
  pointwise

/-- The third head's rows. -/
theorem tile2 (v0 : Vec Ideal S1x512x256 .bf16) (i : Fin 64) (y : Fin 512) :
    k0_pay1 (F := Ideal) (k0_pay11 v0) (ix4 0 0 i y) = (k0_pay5 (F := Ideal) v0 (ix2 (vrow 2 i) y) : EReal) := by
  have hv : vrow 2 i = ⟨128 + i.val, by omega⟩ := Fin.ext (by show 2 * 64 + i.val = 128 + i.val; omega)
  rw [hv]
  unfold k0_pay1 k0_pay11
  generalize k0_pay5 (F := Ideal) v0 = w
  pointwise

/-- The fourth head's rows. -/
theorem tile3 (w : FVec Ideal S256x512 .f32) (i : Fin 64) (y : Fin 512) :
    k0_pay3 (F := Ideal) w (ix4 0 0 i y) = (w (ix2 (vrow 3 i) y) : EReal) := by
  have hv : vrow 3 i = ⟨192 + i.val, by omega⟩ := Fin.ext (by show 3 * 64 + i.val = 192 + i.val; omega)
  rw [hv]
  pointwise [k0_pay3]

/-- What one grid point leaves in its block. -/
def blockOf (x0 : Vec Ideal S1x512x256 .bf16) : FVec Ideal S1x4x80x512 .bf16 :=
  View.canon (([⟨Rect.unit ![0, 3, 64, 0] ![1, 1, 16, 512] inb_S1x4x80x512_S1x1x16x512_0_3_64_0, k0_pay4 (F := Ideal) k0_pay6⟩,
        ⟨Rect.unit ![0, 3, 0, 0] ![1, 1, 64, 512] inb_S1x4x80x512_S1x1x64x512_0_3_0_0, k0_pay3 (F := Ideal) (k0_pay5 x0)⟩,
        ⟨Rect.unit ![0, 2, 64, 0] ![1, 1, 16, 512] inb_S1x4x80x512_S1x1x16x512_0_2_64_0, k0_pay2 (F := Ideal) k0_pay6⟩,
        ⟨Rect.unit ![0, 2, 0, 0] ![1, 1, 64, 512] inb_S1x4x80x512_S1x1x64x512_0_2_0_0, k0_pay1 (F := Ideal) (k0_pay11 x0)⟩,
        ⟨Rect.unit ![0, 1, 64, 0] ![1, 1, 16, 512] inb_S1x4x80x512_S1x1x16x512_0_1_64_0, k0_pay10 (F := Ideal)⟩,
        ⟨Rect.unit ![0, 1, 0, 0] ![1, 1, 64, 512] inb_S1x4x80x512_S1x1x64x512_0_1_0_0, k0_pay9 (F := Ideal) x0⟩,
        ⟨Rect.unit ![0, 0, 64, 0] ![1, 1, 16, 512] inb_S1x4x80x512_S1x1x16x512_0_0_64_0, k0_pay8 (F := Ideal)⟩,
        ⟨Rect.unit ![0, 0, 0, 0] ![1, 1, 64, 512] inb_S1x4x80x512_S1x1x64x512_0_0_0_0, k0_pay7 (F := Ideal) x0⟩] : List (View.Piece (Elt Ideal) S1x4x80x512 .bf16)))

/-- An entry of that block. -/
theorem blockOf_apply (x0 : Vec Ideal S1x512x256 .bf16) (h : Fin 4) (j : Fin 80) (p : Fin 512) :
    blockOf x0 (ix4 0 h j p) = (val (fun e => k0_pay5 (F := Ideal) x0 (ix2 (vrow h e) p)) j : EReal) := by
  unfold blockOf
  have h3 : ∀ {n : ℕ}, h.val = 3 + n → h.val = 3 := by omega
  have h2 : ∀ {n : ℕ}, h.val = 2 + n → n < 1 → h.val = 2 := by omega
  have h1 : ∀ {n : ℕ}, h.val = 1 + n → n < 1 → h.val = 1 := by omega
  have h0 : ∀ {n : ℕ}, h.val = n → n < 1 → h.val = 0 := by omega
  canon_tiles x g using View.cover_of_tiledBy _ ![1, 1, 16, 512] (by sl_kernel_rfl) _
  · exact ones_piece _ (fun i y => (ones_tile _ i y).trans (ones_apply i y)) x _ j g2
  · exact rows_piece _ _ 3 (tile3 _) x h j p (h3 g1) g2 g3
  · exact ones_piece _ (fun i y => (ones_tile _ i y).trans (ones_apply i y)) x _ j g2
  · exact rows_piece _ _ 2 (tile2 x0) x h j p (h2 g1 x1_lt) g2 g3
  · exact ones_piece _ (fun i y => (ones_tile _ i y).trans (ones_apply i y)) x _ j g2
  · exact rows_piece _ _ 1 (tile1 x0) x h j p (h1 g1 x1_lt) g2 g3
  · exact ones_piece _ (fun i y => (ones_tile _ i y).trans (ones_apply i y)) x _ j g2
  · exact rows_piece _ _ 0 (tile0 x0) x h j p (h0 g1 x1_lt) g2 g3

variable (m : (ℓ : Loc nD τ sig) → Buf (Elt Ideal) ℓ)

/-- The sequence of a grid point. -/
def seqOf (t : Fin cfg0.N) : Fin 16 := ⟨(grid0.coords t 0).val, (grid0.coords t 0).isLt⟩

/-- Where each window stands at a grid point. -/
theorem idx : ∀ t : Fin cfg0.N, win0_0.index t = ![(seqOf t).val, 0, 0] ∧ win0_1.index t = ![(seqOf t).val, 0, 0, 0] := by
  decide +kernel

/-- The values, read from the array. -/
theorem read0 (c : Dev nD) (t : Fin cfg0.N) (y : Fin 512) (d : Fin 256) :
    iblk m c 0 t (ix3 0 y d) = m ((c.tc : Thread nD τ).loc main_arg0) (ix3 (seqOf t) y d) := by
  have h := (idx t).1
  rw [← V_main_arg0 m c]
  blk_ext [iblk, h]

/-- One entry of the result: a head's value, a one, or a zero. -/
def onesAt (a0 : (⟨3, ![16, 512, 256]⟩ : Shape).Idx → EReal) (b : Fin 16) (h : Fin 4) (j : Fin 80) (p : Fin 512) : EReal :=
  val (fun e => a0 (ix3 b p (vrow h e))) j

/-- The whole result array. -/
def G (c : Dev nD) : S16x4x80x512.Idx → EReal := fun i =>
  onesAt (m ((c.tc : Thread nD τ).loc main_arg0)) (i 0) (i 1) (i 2) (i 3)

/-- Every block of the result array is written. -/
theorem covers1 : (cfg0.win 1).Covers :=
  (cfg0.win 1).covers_of_indexMap_surj rfl (by decide) fun β => by
    have key : ∀ i : grid0.Coords, cc0_transform_1 i = ![(i 0).val, 0, 0, 0] := by decide +kernel
    have h1 : (β 1).val = 0 := by have := (β 1).isLt; have e : (cfg0.win 1).nblk 1 = 1 := by decide
                                  omega
    have h2 : (β 2).val = 0 := by have := (β 2).isLt; have e : (cfg0.win 1).nblk 2 = 1 := by decide
                                  omega
    have h3 : (β 3).val = 0 := by have := (β 3).isLt; have e : (cfg0.win 1).nblk 3 = 1 := by decide
                                  omega
    let i : grid0.Coords := fun a => match a with
      | ⟨0, _⟩ => ⟨(β 0).val, lt_of_lt_of_le (β 0).isLt (show (cfg0.win 1).nblk 0 ≤ grid0.bound 0 by decide)⟩
      | ⟨1, _⟩ => ⟨0, show 0 < grid0.bound 1 by decide⟩
    refine ⟨i, fun a => ?_⟩
    show cc0_transform_1 i a = _
    rw [key i]
    fin_cases a
    · rfl
    · exact h1.symm
    · exact h2.symm
    · exact h3.symm

/-- The place in the result array of an entry of a grid point's block. -/
theorem place (t : Fin cfg0.N) (h : Fin 4) (j : Fin 80) (y : Fin 512) :
    ((View.whole main_v0).slice (win0_1.rect t)).emb (ix4 0 h j y) = ix4 (seqOf t) h j y := by
  have g := (idx t).2
  blk_ext [g]

/-- What one grid point writes, at its place in the array. -/
theorem point (c : Dev nD) (t : Fin cfg0.N) (y : S1x4x80x512.Idx) :
    blockOf (iblk m c 0 t) y = G m c (((View.whole main_v0).slice (win0_1.rect t)).emb y) := by
  obtain ⟨a, h, j, y, rfl⟩ : ∃ (a : Fin 1) (h : Fin 4) (j : Fin 80) (q : Fin 512), y = ix4 a h j q :=
    ⟨y 0, y 1, y 2, y 3, eq_ix4 y⟩
  obtain rfl : a = 0 := Subsingleton.elim _ _
  rw [place, blockOf_apply]
  simp only [flip_apply, read0]
  rfl

/-- The result array after the run. -/
theorem final (c : Dev nD) : (dats m 0 c).arrAt 1 cfg0.N = G m c := by
  refine (dats m 0 c).arrAt_eq_of_covers 1 _ covers1 fun t hf y => ?_
  blk_simp
  rw [after0_1]
  unfold outsAt0
  frame_out
  exact point m c t y

end Cert.Ones
-- ==== Proof.Ones.lean ====
/- The claim on the transposed values with their row of ones: kernel and reference leave one array. -/
module

public import proofs.«01_k».proof.Defs
public import proofs.«01_k».proof.Proof.OnesArray
public import proofs.«01_k».proof.Proof.Gen.Reference8Ideal.Run
public import Idealize.ShloMosaic.Lib.Claim

@[expose] public section

set_option maxRecDepth 16384

noncomputable section

namespace Cert.Ones

open Idealize.ShloMosaic Idealize.ShloMosaic.TcCoe Idealize.SL.Sem
open Cert.Kv (val vrow)

namespace Ref

open Cert.Reference8Ideal Cert.Reference8Ideal.Gen

/-- The values, transposed. -/
def flipArr (a0 : FVec Ideal S16x512x256 .bf16) : FVec Ideal S16x4x64x512 .bf16 :=
  transpose S16x4x64x512 [0, 2, 3, 1] (shapeCast S16x512x4x64 a0 shapeCasts_S16x512x256_S16x512x4x64) transposes_S16x512x4x64_S16x4x64x512_0_2_3_1

/-- The values, a row of ones, rows of zeros. -/
def onesArr (v : FVec Ideal S16x4x64x512 .bf16) : FVec Ideal S16x4x80x512 .bf16 :=
  concatenate S16x4x80x512 2 [⟨S16x4x64x512, v⟩, ⟨S16x4x1x512, broadcastInDim S16x4x1x512 ![] bcast_S_S16x4x1x512 (constant S_ .bf16 0x3F80#16)⟩, ⟨S16x4x15x512, broadcastInDim S16x4x15x512 ![] bcast_S_S16x4x15x512 (constant S_ .bf16 0x0000#16)⟩] concatenates_S16x4x64x512_S16x4x1x512_S16x4x15x512_S16x4x80x512_d2

/-- A transposed value. -/
theorem flipArr_apply (a0 : FVec Ideal S16x512x256 .bf16) (b : Fin 16) (h : Fin 4) (e : Fin 64) (p : Fin 512) :
    flipArr a0 (ix4 b h e p) = (a0 (ix3 b p (vrow h e)) : EReal) := by
  unfold vrow
  pointwise [flipArr]

/-- An entry of the result. -/
theorem onesArr_apply (v : FVec Ideal S16x4x64x512 .bf16) (b : Fin 16) (h : Fin 4) (j : Fin 80) (p : Fin 512) :
    onesArr v (ix4 b h j p) = (val (fun e => v (ix4 b h e p)) j : EReal) := by
  unfold val
  pointwise [onesArr]
  by_cases hj : j.val < 64
  · rw [dif_pos hj, dif_pos hj]
  · rw [dif_neg hj, dif_neg hj]
    have : j.val - 64 < 1 ↔ j.val = 64 := by omega
    simp only [this, dite_eq_ite]

/-- The reference's array, from the kernel's argument, is the array the kernel leaves. -/
theorem eq (a0 : FVec Ideal S16x512x256 .bf16) : onesArr (flipArr a0) = fun i => (onesAt a0 (i 0) (i 1) (i 2) (i 3) : EReal) := by
  refine funext fun i => ?_
  obtain ⟨b, h, j, p, rfl⟩ : ∃ (b : Fin 16) (h : Fin 4) (j : Fin 80) (p : Fin 512), i = ix4 b h j p := ⟨i 0, i 1, i 2, i 3, eq_ix4 i⟩
  rw [onesArr_apply]
  simp only [flipArr_apply]
  rfl

end Ref

/-- The claim: the kernel's transposed values with their row of ones are the plain ones. -/
theorem holds : Cert.algebraic_Kernel8Ideal_Reference8Ideal := fun m g m' g' _ hag =>
  ⟨fun c => G m c,
    (θ_run _ _ _).mono (fun r h c => ⟨(h c).1.trans (final m c), (h c).2⟩) (Cert.Kernel8Ideal.Value.run_blocks m g),
    (θ_run _ _ _).mono (fun r h c => ⟨by
      refine (h c).1.trans ((Ref.eq _).trans ?_)
      have h0 := hag c
      rw [h0]
      rfl, (h c).2⟩)
      (Cert.Reference8Ideal.Value.run m' g')⟩

end Cert.Ones
-- ==== Proof.Lower.lean ====
/- The lower bounds' claim: kernel and reference, from one memory's logits, leave one array. -/
module

public import proofs.«01_k».proof.Defs
public import proofs.«01_k».proof.Proof.Pre
public import proofs.«01_k».proof.Proof.Gen.Kernel9Ideal.Value
public import proofs.«01_k».proof.Proof.Gen.Reference9Ideal.Run
public import proofs.«01_k».proof.Proof.Gen.Pre_proper
public import Idealize.ShloMosaic.Lib.Pipeline.ValueKit
public import Idealize.ShloMosaic.Lib.Pipeline.Covers
public import Idealize.ShloMosaic.Lib.Claim
public import Idealize.ShloMosaic.Lib.Tactic.CleanTypes

@[expose] public section

set_option maxRecDepth 16384

noncomputable section

namespace Cert.Lower

open Idealize.ShloMosaic Idealize.ShloMosaic.TcCoe Idealize.SL.Sem Cert.Soft

/-! ## The mathematics of one column -/

/-- The greatest of a column's four logits. -/
def top (e : Fin 4 → EReal) : EReal := max (max (max (e 0) (e 1)) (e 2)) (e 3)

/-- A layer's weight: the exponential of its logit less the greatest. -/
def wt (e : Fin 4 → EReal) (k : Fin 4) : EReal := Ideal.exp (e k - top e)

/-- The sum of the weights. -/
def tot (e : Fin 4 → EReal) : EReal := wt e 0 + wt e 1 + wt e 2 + wt e 3

/-- A layer's probability. -/
def prob (e : Fin 4 → EReal) (k : Fin 4) : EReal := Ideal.div (wt e k) (tot e)

/-- A layer's lower bound as the kernel adds it up: the probabilities of the layers after the first. -/
def bound (e : Fin 4 → EReal) : Fin 4 → EReal :=
  ![0, 0 + prob e 1, 0 + prob e 1 + prob e 2, 0 + prob e 1 + prob e 2 + prob e 3]

/-- The same as the reference adds it up: the probabilities of the layers so far, less the first layer's. -/
def plain (e : Fin 4 → EReal) : Fin 4 → EReal :=
  ![prob e 0 - prob e 0, prob e 0 + prob e 1 - prob e 0, prob e 0 + prob e 1 + prob e 2 - prob e 0,
    prob e 0 + prob e 1 + prob e 2 + prob e 3 - prob e 0]

/-- A logit is at most the greatest. -/
theorem le_top' (e : Fin 4 → EReal) (k : Fin 4) : e k ≤ top e := by
  unfold top
  fin_cases k <;> simp

/-- The greatest is one of the logits. -/
theorem top_mem (e : Fin 4 → EReal) : ∃ k, e k = top e := by
  unfold top
  rcases max_choice (max (max (e 0) (e 1)) (e 2)) (e 3) with h | h
  · rcases max_choice (max (e 0) (e 1)) (e 2) with h' | h'
    · rcases max_choice (e 0) (e 1) with h'' | h''
      · exact ⟨0, by rw [h, h', h'']⟩
      · exact ⟨1, by rw [h, h', h'']⟩
    · exact ⟨2, by rw [h, h']⟩
  · exact ⟨3, by rw [h]⟩

/-- With no logit plus infinity and not all minus infinity, every weight is a real number, not negative, and one of them is one. -/
theorem weights (e : Fin 4 → EReal) (h : ∀ k, e k ≠ ⊤) (h' : top e ≠ ⊥) :
    ∃ w : Fin 4 → ℝ, (∀ k, wt e k = (w k : EReal)) ∧ (∀ k, 0 ≤ w k) ∧ ∃ k, w k = 1 := by
  obtain ⟨z, hz⟩ := top_mem e
  obtain ⟨M, hM⟩ := isReal_of_bounds h' (hz ▸ h z)
  have key : ∀ k, ∃ r : ℝ, wt e k = (r : EReal) ∧ 0 ≤ r ∧ (e k = top e → r = 1) := fun k => by
    by_cases hb : e k = ⊥
    · refine ⟨0, ?_, le_rfl, fun hk => absurd (hk.symm.trans hb) h'⟩
      rw [wt, hb, sub_eq_add_neg, EReal.bot_add]
      rfl
    · obtain ⟨r, hr⟩ := isReal_of_bounds hb (h k)
      refine ⟨Real.exp (r - M), ?_, (Real.exp_pos _).le, fun hk => ?_⟩
      · rw [wt, hr, hM, exp_sub]
      · rw [hr, hM, EReal.coe_eq_coe_iff] at hk
        rw [hk, sub_self, Real.exp_zero]
  choose w hw using key
  exact ⟨w, fun k => (hw k).1, fun k => (hw k).2.1, z, (hw z).2.2 hz⟩

/-- Then every probability is a real number. -/
theorem isReal_prob (e : Fin 4 → EReal) (h : ∀ k, e k ≠ ⊤) (h' : top e ≠ ⊥) (k : Fin 4) : IsReal (prob e k) := by
  obtain ⟨w, hw, hp, z, hz⟩ := weights e h h'
  have hs : (0 : ℝ) < w 0 + w 1 + w 2 + w 3 := by
    have h0 := hp 0; have h1 := hp 1; have h2 := hp 2; have h3 := hp 3
    fin_cases z <;> simp only [Fin.reduceFinMk, Fin.zero_eta, Fin.mk_one] at hz <;> linarith
  have ht : tot e = ((w 0 + w 1 + w 2 + w 3 : ℝ) : EReal) := by
    rw [tot, hw, hw, hw, hw, ← EReal.coe_add, ← EReal.coe_add, ← EReal.coe_add]
  rw [prob, hw, ht, Ideal.div_coe hs.ne', ← EReal.coe_mul]
  exact ⟨_, rfl⟩

/-- So the two ways of adding up agree. -/
theorem plain_eq (e : Fin 4 → EReal) (h : ∀ k, e k ≠ ⊤) (h' : top e ≠ ⊥) (l : Fin 4) : plain e l = bound e l := by
  obtain ⟨p0, h0⟩ := isReal_prob e h h' 0
  obtain ⟨p1, h1⟩ := isReal_prob e h h' 1
  obtain ⟨p2, h2⟩ := isReal_prob e h h' 2
  obtain ⟨p3, h3⟩ := isReal_prob e h h' 3
  have z : (0 : EReal) = ((0 : ℝ) : EReal) := rfl
  unfold plain bound
  rw [h0, h1, h2, h3]
  fin_cases l
  · show (p0 : EReal) - p0 = 0
    rw [← EReal.coe_sub, sub_self]; rfl
  · show (p0 : EReal) + p1 - p0 = 0 + p1
    rw [z, ← EReal.coe_add, ← EReal.coe_sub, ← EReal.coe_add]; congr 1; ring
  · show (p0 : EReal) + p1 + p2 - p0 = 0 + p1 + p2
    rw [z, ← EReal.coe_add, ← EReal.coe_add, ← EReal.coe_sub, ← EReal.coe_add, ← EReal.coe_add]; congr 1; ring
  · show (p0 : EReal) + p1 + p2 + p3 - p0 = 0 + p1 + p2 + p3
    rw [z, ← EReal.coe_add, ← EReal.coe_add, ← EReal.coe_add, ← EReal.coe_sub, ← EReal.coe_add, ← EReal.coe_add, ← EReal.coe_add]
    congr 1; ring

/-- The logits of a column, the two stacks' columns side by side. -/
def col (a : (⟨3, ![2, 4, 256]⟩ : Shape).Idx → EReal) (n : Fin 512) (k : Fin 4) : EReal :=
  a (ix3 ⟨n.val / 256, by omega⟩ k ⟨n.val % 256, by omega⟩)

/-! ## The kernel -/

section Kernel

open Cert.Kernel9Ideal Cert.Kernel9Ideal.Gen

/-- The first row of the array the kernel loads. -/
theorem row0 (x : Vec Ideal S4x512 .f32) (n : Fin 512) : k0_pay2 (F := Ideal) (View.ld x r0_0) (ix2 0 n) = x (ix2 0 n) := by
  pointwise [k0_pay2, k0_pay1]
/-- The second row. -/
theorem row1 (x : Vec Ideal S4x512 .f32) (n : Fin 512) : k0_pay3 (F := Ideal) (View.ld x r0_0) (ix2 0 n) = x (ix2 1 n) := by
  pointwise [k0_pay3, k0_pay1]
/-- The third row. -/
theorem row2 (x : Vec Ideal S4x512 .f32) (n : Fin 512) : k0_pay4 (F := Ideal) (View.ld x r0_0) (ix2 0 n) = x (ix2 2 n) := by
  pointwise [k0_pay4, k0_pay1]
/-- The fourth row. -/
theorem row3 (x : Vec Ideal S4x512 .f32) (n : Fin 512) : k0_pay5 (F := Ideal) (View.ld x r0_0) (ix2 0 n) = x (ix2 3 n) := by
  pointwise [k0_pay5, k0_pay1]

/-- The greatest logit of a column. -/
theorem pay6 (x : Vec Ideal S4x512 .f32) (n : Fin 512) :
    k0_pay6 (F := Ideal) (View.ld x r0_0) (ix2 0 n) = top fun k => x (ix2 k n) := by
  show (max (max (max (k0_pay2 (F := Ideal) (View.ld x r0_0) (ix2 0 n)) (k0_pay3 (F := Ideal) (View.ld x r0_0) (ix2 0 n)))
    (k0_pay4 (F := Ideal) (View.ld x r0_0) (ix2 0 n))) (k0_pay5 (F := Ideal) (View.ld x r0_0) (ix2 0 n)) : EReal) = _
  rw [row0, row1, row2, row3]
  rfl

/-- The second layer's weight. -/
theorem pay7 (x : Vec Ideal S4x512 .f32) (n : Fin 512) :
    k0_pay7 (F := Ideal) (View.ld x r0_0) (ix2 0 n) = wt (fun k => x (ix2 k n)) 1 := by
  show Ideal.exp (k0_pay3 (F := Ideal) (View.ld x r0_0) (ix2 0 n) - k0_pay6 (F := Ideal) (View.ld x r0_0) (ix2 0 n) : EReal) = _
  rw [row1, pay6]
  rfl
/-- The third layer's weight. -/
theorem pay8 (x : Vec Ideal S4x512 .f32) (n : Fin 512) :
    k0_pay8 (F := Ideal) (View.ld x r0_0) (ix2 0 n) = wt (fun k => x (ix2 k n)) 2 := by
  show Ideal.exp (k0_pay4 (F := Ideal) (View.ld x r0_0) (ix2 0 n) - k0_pay6 (F := Ideal) (View.ld x r0_0) (ix2 0 n) : EReal) = _
  rw [row2, pay6]
  rfl
/-- The fourth layer's weight. -/
theorem pay9 (x : Vec Ideal S4x512 .f32) (n : Fin 512) :
    k0_pay9 (F := Ideal) (View.ld x r0_0) (ix2 0 n) = wt (fun k => x (ix2 k n)) 3 := by
  show Ideal.exp (k0_pay5 (F := Ideal) (View.ld x r0_0) (ix2 0 n) - k0_pay6 (F := Ideal) (View.ld x r0_0) (ix2 0 n) : EReal) = _
  rw [row3, pay6]
  rfl

/-- The sum of the weights. -/
theorem pay10 (x : Vec Ideal S4x512 .f32) (n : Fin 512) :
    k0_pay10 (F := Ideal) (View.ld x r0_0) (ix2 0 n) = tot fun k => x (ix2 k n) := by
  show (Ideal.exp (k0_pay2 (F := Ideal) (View.ld x r0_0) (ix2 0 n) - k0_pay6 (F := Ideal) (View.ld x r0_0) (ix2 0 n) : EReal)
    + k0_pay7 (F := Ideal) (View.ld x r0_0) (ix2 0 n) + k0_pay8 (F := Ideal) (View.ld x r0_0) (ix2 0 n)
    + k0_pay9 (F := Ideal) (View.ld x r0_0) (ix2 0 n) : EReal) = _
  rw [row0, pay6, pay7, pay8, pay9]
  rfl

/-- The first row the kernel stores holds zeros. -/
theorem pay11 (n : Fin 512) : k0_pay11 (F := Ideal) (ix2 0 n) = (0 : EReal) := by
  pointwise [k0_pay11]
/-- The second row holds the second layer's bounds. -/
theorem pay12 (x : Vec Ideal S4x512 .f32) (n : Fin 512) :
    k0_pay12 (F := Ideal) (View.ld x r0_0) (ix2 0 n) = bound (fun k => x (ix2 k n)) 1 := by
  show (k0_pay11 (F := Ideal) (ix2 0 n)
    + Ideal.div (k0_pay7 (F := Ideal) (View.ld x r0_0) (ix2 0 n)) (k0_pay10 (F := Ideal) (View.ld x r0_0) (ix2 0 n)) : EReal) = _
  rw [pay11, pay7, pay10]
  rfl
/-- The third row holds the third layer's bounds. -/
theorem pay13 (x : Vec Ideal S4x512 .f32) (n : Fin 512) :
    k0_pay13 (F := Ideal) (View.ld x r0_0) (ix2 0 n) = bound (fun k => x (ix2 k n)) 2 := by
  show (k0_pay12 (F := Ideal) (View.ld x r0_0) (ix2 0 n)
    + Ideal.div (k0_pay8 (F := Ideal) (View.ld x r0_0) (ix2 0 n)) (k0_pay10 (F := Ideal) (View.ld x r0_0) (ix2 0 n)) : EReal) = _
  rw [pay12, pay8, pay10]
  rfl
/-- The fourth row holds the fourth layer's bounds. -/
theorem pay14 (x : Vec Ideal S4x512 .f32) (n : Fin 512) :
    k0_pay14 (F := Ideal) (View.ld x r0_0) (ix2 0 n) = bound (fun k => x (ix2 k n)) 3 := by
  show (k0_pay13 (F := Ideal) (View.ld x r0_0) (ix2 0 n)
    + Ideal.div (k0_pay9 (F := Ideal) (View.ld x r0_0) (ix2 0 n)) (k0_pay10 (F := Ideal) (View.ld x r0_0) (ix2 0 n)) : EReal) = _
  rw [pay13, pay9, pay10]
  rfl

/-- What the body leaves, row by row. -/
def blockOf (x0 : Vec Ideal S4x512 .f32) : FVec Ideal S4x512 .f32 :=
  View.canon ([⟨Rect.unit ![3, 0] ![1, 512] inb_S4x512_S1x512_3_0, k0_pay14 (F := Ideal) (View.ld x0 r0_0)⟩,
    ⟨Rect.unit ![2, 0] ![1, 512] inb_S4x512_S1x512_2_0, k0_pay13 (F := Ideal) (View.ld x0 r0_0)⟩,
    ⟨Rect.unit ![1, 0] ![1, 512] inb_S4x512_S1x512_1_0, k0_pay12 (F := Ideal) (View.ld x0 r0_0)⟩,
    ⟨Rect.unit ![0, 0] ![1, 512] inb_S4x512_S1x512_0_0, k0_pay11 (F := Ideal)⟩] : List (View.Piece (Elt Ideal) S4x512 .f32))

/-- The block the body leaves is that block. -/
theorem out_eq (x0 : Vec Ideal S4x512 .f32) : out0_1 (F := Ideal) x0 = blockOf x0 := rfl

/-- A row of the block, from the piece that holds it. -/
theorem piece (x0 : Vec Ideal S4x512 .f32) (l0 : Fin 4) (p : FVec Ideal S1x512 .f32)
    (hp : ∀ n : Fin 512, p (ix2 0 n) = bound (fun k => x0 (ix2 k n)) l0) (y : S1x512.Idx) (l : Fin 4) (n : Fin 512)
    (h0 : l.val = l0.val) (h1 : n.val = (y 1).val) : p y = bound (fun k => x0 (ix2 k n)) l := by
  obtain ⟨a, b, rfl⟩ : ∃ (a : Fin 1) (b : Fin 512), y = ix2 a b := ⟨y 0, y 1, eq_ix2 y⟩
  obtain rfl : a = 0 := Subsingleton.elim _ _
  obtain rfl : l = l0 := Fin.ext h0
  obtain rfl : n = b := Fin.ext h1
  exact hp n

/-- An entry of that block. -/
theorem blockOf_apply (x0 : Vec Ideal S4x512 .f32) (l : Fin 4) (n : Fin 512) :
    blockOf x0 (ix2 l n) = bound (fun k => x0 (ix2 k n)) l := by
  unfold blockOf
  have a3 : ∀ {i n : ℕ}, i = 3 + n → n < 1 → i = 3 := by omega
  have a2 : ∀ {i n : ℕ}, i = 2 + n → n < 1 → i = 2 := by omega
  have a1 : ∀ {i n : ℕ}, i = 1 + n → n < 1 → i = 1 := by omega
  have a0 : ∀ {i n : ℕ}, i = n → n < 1 → i = 0 := by omega
  canon_tiles x g using View.cover_of_tiledBy _ ![1, 512] (by sl_kernel_rfl) _
  · exact piece x0 3 _ (pay14 x0) x l n (a3 g0 x0_lt) g1
  · exact piece x0 2 _ (pay13 x0) x l n (a2 g0 x0_lt) g1
  · exact piece x0 1 _ (pay12 x0) x l n (a1 g0 x0_lt) g1
  · exact piece x0 0 _ pay11 x l n (a0 g0 x0_lt) g1

variable (m : (ℓ : Loc nD τ sig) → Buf (Elt Ideal) ℓ)

/-- The array the kernel loads: the logits with the layers in front. -/
theorem logits (c : Dev nD) (l : Fin 4) (n : Fin 512) :
    V m c main_v1 (ix2 l n) = col (m ((c.tc : Thread nD τ).loc main_arg0)) n l := by
  unfold col
  entry_read
  pointwise

/-- Where each window stands. -/
theorem idx : ∀ t : Fin cfg0.N, win0_0.index t = ![0, 0] ∧ win0_1.index t = ![0, 0] := by decide +kernel

/-- The logits, read from the array. -/
theorem read0 (c : Dev nD) (t : Fin cfg0.N) (l : Fin 4) (n : Fin 512) :
    iblk m c 0 t (ix2 l n) = col (m ((c.tc : Thread nD τ).loc main_arg0)) n l := by
  have h := (idx t).1
  rw [← logits m c]
  blk_ext [iblk, h]

/-- The whole result array. -/
def G (c : Dev nD) : S4x512.Idx → EReal := fun i => bound (col (m ((c.tc : Thread nD τ).loc main_arg0)) (i 1)) (i 0)

/-- The whole result array is written. -/
theorem covers1 : (cfg0.win 1).Covers :=
  (cfg0.win 1).covers_of_indexMap_surj rfl (by decide) (by decide +kernel)

/-- The place in the result array of an entry of the block. -/
theorem place (t : Fin cfg0.N) (l : Fin 4) (n : Fin 512) :
    ((View.whole main_v2).slice (win0_1.rect t)).emb (ix2 l n) = ix2 l n := by
  have h := (idx t).2
  blk_ext [h]

/-- What the body writes, at its place in the array. -/
theorem point (c : Dev nD) (t : Fin cfg0.N) (y : S4x512.Idx) :
    blockOf (iblk m c 0 t) y = G m c (((View.whole main_v2).slice (win0_1.rect t)).emb y) := by
  obtain ⟨l, n, rfl⟩ : ∃ (l : Fin 4) (n : Fin 512), y = ix2 l n := ⟨y 0, y 1, eq_ix2 y⟩
  rw [place, blockOf_apply]
  simp only [read0]
  rfl

/-- The result array after the run. -/
theorem final (c : Dev nD) : (dats m 0 c).arrAt 1 cfg0.N = G m c := by
  refine (dats m 0 c).arrAt_eq_of_covers 1 _ covers1 fun t hf y => ?_
  blk_simp
  have key := point m c t y
  rw [after0_1, out_eq]
  generalize blockOf (iblk m c 0 t) = B at key ⊢
  frame_out
  exact key

end Kernel

/-! ## The reference -/

/-- The running sum over the four layers, as the reference writes it, at an entry. -/
theorem runSum {u : Shape} (x : FVec Ideal ⟨3, ![2, 4, 256]⟩ .f32) (init : FVec Ideal u .f32)
    (h : (⟨3, ![2, 4, 256]⟩ : Shape).ReduceWindows ![1, 4, 1] ![1, 1, 1] ![0, 3, 0] ![0, 0, 0] ⟨3, ![2, 4, 256]⟩) (hu : 0 < u.numel)
    (hz : init (Shape.Idx.first hu) = (0 : EReal)) (s : Fin 2) (l : Fin 4) (n : Fin 256) :
    Host.reduceWindowAdd ![1, 4, 1] ![1, 1, 1] ![0, 3, 0] ![0, 0, 0] x init h hu (ix3 s l n)
      = ((![x (ix3 s 0 n), x (ix3 s 0 n) + x (ix3 s 1 n), x (ix3 s 0 n) + x (ix3 s 1 n) + x (ix3 s 2 n),
          x (ix3 s 0 n) + x (ix3 s 1 n) + x (ix3 s 2 n) + x (ix3 s 3 n)] : Fin 4 → EReal) l) := by
  have e0 : ∀ k : Fin (⟨3, ![1, 4, 1]⟩ : Shape).numel, ((⟨3, ![1, 4, 1]⟩ : Shape).rowMajor.symm k 0).val = 0 := by decide +kernel
  have e1 : ∀ k : Fin (⟨3, ![1, 4, 1]⟩ : Shape).numel, ((⟨3, ![1, 4, 1]⟩ : Shape).rowMajor.symm k 1).val = k.val := by decide +kernel
  have e2 : ∀ k : Fin (⟨3, ![1, 4, 1]⟩ : Shape).numel, ((⟨3, ![1, 4, 1]⟩ : Shape).rowMajor.symm k 2).val = 0 := by decide +kernel
  have e : (List.finRange (⟨3, ![1, 4, 1]⟩ : Shape).numel) = [⟨0, by decide⟩, ⟨1, by decide⟩, ⟨2, by decide⟩, ⟨3, by decide⟩] := by decide +kernel
  have whole : Host.reduceWindowAdd ![1, 4, 1] ![1, 1, 1] ![0, 3, 0] ![0, 0, 0] x init h hu (ix3 s l n)
      = (List.finRange (⟨3, ![1, 4, 1]⟩ : Shape).numel).foldl (fun r k => r
        + if hk : 3 ≤ l.val + k.val ∧ l.val + k.val - 3 < 4 then (x (ix3 s ⟨l.val + k.val - 3, hk.2⟩ n) : EReal) else 0) (0 : EReal) := by
    show Ideal.hostReduceWindowAdd ![1, 4, 1] ![1, 1, 1] ![0, 3, 0] ![0, 0, 0] h x (init (Shape.Idx.first hu)) (ix3 s l n) = _
    unfold Ideal.hostReduceWindowAdd Host.reduceWindow
    rw [hz]
    refine congrArg (fun f => List.foldl f (0 : EReal) (List.finRange (⟨3, ![1, 4, 1]⟩ : Shape).numel)) (funext fun r => funext fun k => congrArg (r + ·) ?_)
    dsimp only
    split
    · next hin =>
      have h1 := hin 1
      change 3 ≤ l.val * 1 + ((⟨3, ![1, 4, 1]⟩ : Shape).rowMajor.symm k 1).val
        ∧ l.val * 1 + ((⟨3, ![1, 4, 1]⟩ : Shape).rowMajor.symm k 1).val - 3 < 4 at h1
      rw [e1, mul_one] at h1
      rw [dif_pos h1]
      refine congrArg x (funext fun a => Fin.ext ?_)
      fin_cases a
      · show s.val * 1 + ((⟨3, ![1, 4, 1]⟩ : Shape).rowMajor.symm k 0).val - 0 = s.val
        rw [e0]; omega
      · show l.val * 1 + ((⟨3, ![1, 4, 1]⟩ : Shape).rowMajor.symm k 1).val - 3 = l.val + k.val - 3
        rw [e1]; omega
      · show n.val * 1 + ((⟨3, ![1, 4, 1]⟩ : Shape).rowMajor.symm k 2).val - 0 = n.val
        rw [e2]; omega
    · next hin =>
      rw [dif_neg]
      intro hk
      refine hin fun a => ?_
      fin_cases a
      · show 0 ≤ s.val * 1 + ((⟨3, ![1, 4, 1]⟩ : Shape).rowMajor.symm k 0).val ∧ s.val * 1 + ((⟨3, ![1, 4, 1]⟩ : Shape).rowMajor.symm k 0).val - 0 < 2
        rw [e0]; omega
      · show 3 ≤ l.val * 1 + ((⟨3, ![1, 4, 1]⟩ : Shape).rowMajor.symm k 1).val ∧ l.val * 1 + ((⟨3, ![1, 4, 1]⟩ : Shape).rowMajor.symm k 1).val - 3 < 4
        rw [e1]; omega
      · show 0 ≤ n.val * 1 + ((⟨3, ![1, 4, 1]⟩ : Shape).rowMajor.symm k 2).val ∧ n.val * 1 + ((⟨3, ![1, 4, 1]⟩ : Shape).rowMajor.symm k 2).val - 0 < 256
        rw [e2]; omega
  rw [whole, e]
  simp only [List.foldl_cons, List.foldl_nil]
  fin_cases l <;> simp

section Reference

open Cert.Reference9Ideal Cert.Reference9Ideal.Gen

/-- The pattern of minus infinity. -/
theorem ofBits_neg_inf : Ideal.ofBits .f32 0xFF800000#32 = (⊥ : EReal) := by
  simp [Ideal.ofBits, Ideal.ieee]

/-- The greatest logit, found from minus infinity on. -/
theorem fold_top (e : Fin 4 → EReal) : Finset.univ.fold max ⊥ e = top e := by
  refine le_antisymm ((Finset.fold_max_le _).2 ⟨bot_le, fun k _ => le_top' e k⟩) ?_
  obtain ⟨k, hk⟩ := top_mem e
  rw [← hk]
  exact (Finset.le_fold_max (e k)).2 (Or.inr ⟨k, Finset.mem_univ k, le_rfl⟩)

/-- The greatest of a column's logits, as the host finds it. -/
theorem max_apply {u : Shape} (a : FVec Ideal ⟨3, ![2, 4, 256]⟩ .f32) (init : FVec Ideal u .f32)
    (h : (⟨3, ![2, 4, 256]⟩ : Shape).ReducesTo [1] ⟨2, ![2, 256]⟩) (hu : 0 < u.numel) (hz : init (Shape.Idx.first hu) = (⊥ : EReal))
    (s : Fin 2) (n : Fin 256) : Host.reduce FloatOps.maximumf a init h hu (ix2 s n) = top fun k => a (ix3 s k n) := by
  rw [Host.reduce_eq_fold, h.fold_fiber_r3_a1, hz]
  exact fold_top fun k => a (ix3 s k n)

/-- The columns' greatest logits. -/
def maxArr (a : FVec Ideal S2x4x256 .f32) : FVec Ideal S2x256 .f32 :=
  maximumf (broadcastInDim S2x256 ![] bcast_S_S2x256 (constant S_ .f32 0xFF800000#32)) (Host.reduce FloatOps.maximumf a (constant S_ .f32 0xFF800000#32) reducesTo_S2x4x256_S2x256_d1 h_S_)

/-- A column's number at each of its layers. -/
def spread (x : FVec Ideal S2x256 .f32) : FVec Ideal S2x4x256 .f32 :=
  broadcastInDim S2x4x256 ![0, 1, 2] bcast_S2x1x256_S2x4x256_0_1_2 (broadcastInDim S2x1x256 ![0, 2] bcast_S2x256_S2x1x256_0_2 x)

/-- The weights. -/
def wtArr (a : FVec Ideal S2x4x256 .f32) : FVec Ideal S2x4x256 .f32 := Host.exp (subf a (spread (maxArr a)))

/-- The probabilities. -/
def probArr (a : FVec Ideal S2x4x256 .f32) : FVec Ideal S2x4x256 .f32 :=
  Host.divf (wtArr a) (spread (Host.reduceAdd (wtArr a) (constant S_ .f32 0x00000000#32) reducesTo_S2x4x256_S2x256_d1 h_S_))

/-- The running sums of the probabilities. -/
def sumArr (p : FVec Ideal S2x4x256 .f32) : FVec Ideal S2x4x256 .f32 :=
  Host.reduceWindowAdd ![1, 4, 1] ![1, 1, 1] ![0, 3, 0] ![0, 0, 0] p (broadcastInDim S_ ![] bcast_S_S_ (constant S_ .f32 0x00000000#32)) reduceWindows_S2x4x256_S2x4x256_w1s1p0_0_w4s1p3_0_w1s1p0_0 h_S_

/-- The result from the probabilities and their running sums. -/
def lowArr (p q : FVec Ideal S2x4x256 .f32) : FVec Ideal S4x512 .f32 :=
  shapeCast _ (transpose S4x2x256 [1, 0, 2] (subf q (broadcastInDim S2x4x256 ![0, 1, 2] bcast_S2x1x256_S2x4x256_0_1_2 (extractStridedSlice S2x1x256 ![0, 0, 0] p slices_S2x4x256_S2x1x256_0_0_0))) transposes_S2x4x256_S4x2x256_1_0_2) shapeCasts_S4x2x256_S4x512

/-- A column's greatest logit. -/
theorem maxArr_apply (a : FVec Ideal S2x4x256 .f32) (s : Fin 2) (n : Fin 256) :
    maxArr a (ix2 s n) = top fun k => a (ix3 s k n) := by
  have hb : broadcastInDim S2x256 ![] bcast_S_S2x256 (constant (F := Ideal) S_ .f32 0xFF800000#32) (ix2 s n) = (⊥ : EReal) := by
    pointwise
    exact ofBits_neg_inf
  rw [maxArr, maximumf_apply, hb, max_apply a _ _ _ ofBits_neg_inf]
  exact max_eq_right bot_le

/-- The spread array at an entry. -/
theorem spread_apply (x : FVec Ideal S2x256 .f32) (s : Fin 2) (l : Fin 4) (n : Fin 256) : spread x (ix3 s l n) = x (ix2 s n) := by
  pointwise [spread]

/-- A weight. -/
theorem wtArr_apply (a : FVec Ideal S2x4x256 .f32) (s : Fin 2) (l : Fin 4) (n : Fin 256) :
    wtArr a (ix3 s l n) = wt (fun k => a (ix3 s k n)) l := by
  show Ideal.exp (a (ix3 s l n) - spread (maxArr a) (ix3 s l n) : EReal) = _
  rw [spread_apply, maxArr_apply]
  rfl

/-- A column's sum of weights. -/
theorem total_apply (w : FVec Ideal S2x4x256 .f32) (s : Fin 2) (n : Fin 256) :
    Host.reduceAdd w (constant S_ .f32 0x00000000#32) reducesTo_S2x4x256_S2x256_d1 h_S_ (ix2 s n)
      = (0 + ∑ k : Fin 4, w (ix3 s k n) : EReal) := by
  pointwise

/-- A probability. -/
theorem probArr_apply (a : FVec Ideal S2x4x256 .f32) (s : Fin 2) (l : Fin 4) (n : Fin 256) :
    probArr a (ix3 s l n) = prob (fun k => a (ix3 s k n)) l := by
  show Ideal.div (wtArr a (ix3 s l n)) (spread _ (ix3 s l n)) = _
  rw [spread_apply, total_apply, zero_add, Fin.sum_univ_four]
  simp only [wtArr_apply]
  rfl

/-- An entry of the result. -/
theorem lowArr_apply (p q : FVec Ideal S2x4x256 .f32) (l : Fin 4) (n : Fin 512) :
    lowArr p q (ix2 l n)
      = (q (ix3 ⟨n.val / 256, by omega⟩ l ⟨n.val % 256, by omega⟩) - p (ix3 ⟨n.val / 256, by omega⟩ 0 ⟨n.val % 256, by omega⟩) : EReal) := by
  pointwise [lowArr]

/-- The reference's array is the array the kernel leaves, where no logit is plus infinity and no column's are all minus infinity. -/
theorem eq (a : FVec Ideal S2x4x256 .f32) (h : ∀ i, a i ≠ (⊤ : EReal)) (h' : ∀ (s : Fin 2) (n : Fin 256), top (fun k => a (ix3 s k n)) ≠ ⊥) :
    lowArr (probArr a) (sumArr (probArr a)) = fun i => (bound (col a (i 1)) (i 0) : EReal) := by
  refine funext fun i => ?_
  obtain ⟨l, n, rfl⟩ : ∃ (l : Fin 4) (n : Fin 512), i = ix2 l n := ⟨i 0, i 1, eq_ix2 i⟩
  have hz : broadcastInDim S_ ![] bcast_S_S_ (constant (F := Ideal) S_ .f32 0x00000000#32) (Shape.Idx.first h_S_) = (0 : EReal) :=
    Ideal.ofBits_zero_f32
  rw [lowArr_apply, sumArr, runSum _ _ _ _ hz]
  simp only [probArr_apply]
  refine Eq.trans ?_ (plain_eq (col a n) (fun k => h _) (h' _ _) l)
  fin_cases l <;> rfl

end Reference

/-! ## The claim -/

/-- A greatest logit above the pattern of minus infinity is not minus infinity. -/
theorem ne_bot_of_gt {x : EReal} (h : FloatOps.cmpf (F := Ideal) (φ := .f32) .ogt x (Ideal.ofBits .f32 0xFF800000#32) = 1#1) : x ≠ ⊥ := by
  rw [ofBits_neg_inf] at h
  rintro rfl
  have : FloatOps.cmpf (F := Ideal) (φ := .f32) .ogt (⊥ : EReal) (⊥ : EReal) = 0#1 := by
    show BitVec.ofBool (decide ((⊥ : EReal) < ⊥)) = 0#1
    simp
  rw [this] at h
  exact absurd h (by decide)

/-- A number below the infinity's pattern is not plus infinity. -/
theorem ne_top_of_lt {x : EReal} (h : FloatOps.cmpf (F := Ideal) (φ := .f32) .olt x (Ideal.ofBits .f32 0x7F800000#32) = 1#1) : x ≠ ⊤ := by
  rw [Cert.Pre.ofBits_inf] at h
  rintro rfl
  have : FloatOps.cmpf (F := Ideal) (φ := .f32) .olt (⊤ : EReal) (⊤ : EReal) = 0#1 := by
    show BitVec.ofBool (decide ((⊤ : EReal) < ⊤)) = 0#1
    simp
  rw [this] at h
  exact absurd h (by decide)

/-- The precondition's second part, read: no column's logits are all minus infinity. -/
theorem read_top (a : FVec Ideal Cert.Pre_proper.S2x4x256 .f32) (h : (Cert.Pre_proper.fn (F := Ideal) a).2 = fun _ => 1#1) (s : Fin 2) (n : Fin 256) :
    top (fun k => a (ix3 s k n)) ≠ ⊥ := by
  rw [← max_apply a (constant Cert.Pre_proper.S_ .f32 0xFF800000#32) Cert.Pre_proper.Gen.reducesTo_S2x4x256_S2x256_d1 Cert.Pre_proper.Gen.h_S_ ofBits_neg_inf s n]
  exact ne_bot_of_gt (congrFun h (ix2 s n))

/-- The precondition's first part, read: no logit is plus infinity. -/
theorem read_lt (a : FVec Ideal Cert.Pre_proper.S2x4x256 .f32) (h : (Cert.Pre_proper.fn (F := Ideal) a).1 = fun _ => 1#1)
    (i : Cert.Pre_proper.S2x4x256.Idx) : a i ≠ (⊤ : EReal) :=
  ne_top_of_lt (congrFun h i)

/-- The claim: the bounds added up in the kernel and the plain ones are the same array. -/
theorem holds : Cert.algebraic_Kernel9Ideal_Reference9Ideal_pre_proper := fun m g m' g' hp hag =>
  ⟨fun c => G m c,
    (θ_run _ _ _).mono (fun r h c => ⟨(h c).1.trans (final m c), (h c).2⟩) (Cert.Kernel9Ideal.Value.run_blocks m g),
    (θ_run _ _ _).mono (fun r h c => ⟨by
      refine (h c).1.trans ?_
      rw [hag c]
      exact eq _ (read_lt _ (hp c).1) (read_top _ (hp c).2), (h c).2⟩)
      (Cert.Reference9Ideal.Value.run m' g')⟩

end Cert.Lower
-- ==== Proof.StageSpec.lean ====
/- The long convolution's transforms over the extended reals, from the arrays that the calls are given. -/
module

public import proofs.«01_k».proof.Proof.Soft

@[expose] public section

noncomputable section

namespace Cert.Stage

open Idealize.ShloMosaic

/-- One entry of the first transform: a row of the table times the positions of one residue. -/
def fwdAt (f : (⟨2, ![66, 32]⟩ : Shape).Idx → EReal) (x : (⟨4, ![4, 32, 128, 256]⟩ : Shape).Idx → EReal)
    (b : Fin 4) (k : Fin 66) (r : Fin 128) (c : Fin 256) : EReal :=
  ∑ n : Fin 32, f (ix2 k n) * x (ix4 b n r c)

/-- One entry of the last transform and the gate: a row of the table times the spectrum, plus the input times the bias, times the
    gate. -/
def invAt (g : (⟨2, ![32, 66]⟩ : Shape).Idx → EReal) (p : (⟨4, ![4, 66, 128, 256]⟩ : Shape).Idx → EReal)
    (u z : (⟨4, ![4, 32, 128, 256]⟩ : Shape).Idx → EReal) (w : (⟨2, ![1, 256]⟩ : Shape).Idx → EReal)
    (b : Fin 4) (n : Fin 32) (r : Fin 128) (c : Fin 256) : EReal :=
  u (ix4 b n r c) * (∑ k : Fin 66, g (ix2 n k) * p (ix4 b k r c) + z (ix4 b n r c) * w (ix2 0 c))

/-- Two columns of 128, one below the other. -/
def two (u w : Fin 128 → EReal) (j : Fin 256) : EReal := if h : j.val < 128 then u ⟨j.val, h⟩ else w ⟨j.val - 128, by omega⟩

/-- Row `r` of half `h` of a column of 256. -/
def row (h : Fin 2) (r : Fin 128) : Fin 256 := ⟨h.val * 128 + r.val, by omega⟩

/-- The parts of a column of 256, stacked: read at a row, the part of its half. -/
theorem two_split (u : Fin 2 → Fin 128 → EReal) (j : Fin 256) :
    two (u 0) (u 1) j = u ⟨j.val / 128, by omega⟩ ⟨j.val % 128, by omega⟩ := by
  unfold two
  by_cases h : j.val < 128
  · rw [dif_pos h]
    congr 1
    · congr 1
      exact Fin.ext (by show 0 = j.val / 128; omega)
    · exact Fin.ext (by show j.val = j.val % 128; omega)
  · rw [dif_neg h]
    congr 1
    · congr 1
      exact Fin.ext (by show 1 = j.val / 128; omega)
    · exact Fin.ext (by show j.val - 128 = j.val % 128; omega)

/-- One entry of a frequency's product of a matrix of 256 by 256 and the stacked real and imaginary parts of a batch's channel. -/
def mixAt {nb ch : ℕ} (f : (⟨3, ![33, 256, 256]⟩ : Shape).Idx → EReal) (a : (⟨5, ![nb, 2, 33, 128, ch]⟩ : Shape).Idx → EReal)
    (b : Fin nb) (k : Fin 33) (i : Fin 256) (d : Fin ch) : EReal :=
  ∑ j : Fin 256, f (ix3 k i j) * two (fun s => a (ix5 b 0 k s d)) (fun s => a (ix5 b 1 k s d)) j

/-- The product of two spectra at a frequency, from their real and imaginary parts: the real part over the imaginary part. -/
def times (x s : Fin 2 → Fin 128 → EReal) (j : Fin 256) : EReal :=
  two (fun r => x 0 r * s 0 r - x 1 r * s 1 r) (fun r => x 0 r * s 1 r + x 1 r * s 0 r) j

/-- One entry of a frequency's filtering: the transform, its product with the filter's spectrum, and a matrix times that. -/
def applyAt (f g : (⟨3, ![33, 256, 256]⟩ : Shape).Idx → EReal) (a : (⟨5, ![4, 2, 33, 128, 256]⟩ : Shape).Idx → EReal)
    (s : (⟨4, ![2, 33, 128, 512]⟩ : Shape).Idx → EReal) (b : Fin 4) (k : Fin 33) (i : Fin 256) (d : Fin 256) : EReal :=
  ∑ j : Fin 256, g (ix3 k i j) * times (fun h r => mixAt f a b k (row h r) d) (fun h r => s (ix4 h k r ⟨d.val, by omega⟩)) j

end Cert.Stage
-- ==== Proof.InvArray.lean ====
/- The long convolution's last transform: the kernel's result array. -/
module

public import proofs.«01_k».proof.Proof.Gen.Kernel10Ideal.Value
public import proofs.«01_k».proof.Proof.StageSpec
public import Idealize.ShloMosaic.Lib.Pipeline.ValueKit
public import Idealize.ShloMosaic.Lib.Pipeline.Covers
public import Idealize.ShloMosaic.Lib.Claim
public import Idealize.ShloMosaic.Lib.Tactic.CleanTypes

@[expose] public section

set_option maxRecDepth 16384

noncomputable section

namespace Cert.Inv

open Idealize.ShloMosaic Idealize.ShloMosaic.TcCoe Cert.Kernel10Ideal Cert.Kernel10Ideal.Gen Cert.Stage

/-- What one grid point computes, at an entry. -/
theorem pay_apply (v0 : Vec Ideal S32x66 .bf16) (v1 : Vec Ideal S1x66x64x256 .bf16) (v2 v3 : Vec Ideal S1x32x64x256 .f32)
    (v4 : Vec Ideal S1x1x256 .f32) (n : Fin 32) (y : Fin 64) (d : Fin 256) :
    k0_pay1 (F := Ideal) v0 v1 v2 v3 v4 (ix4 0 n y d)
      = (v2 (ix4 0 n y d) * (∑ k : Fin 66, v0 (ix2 n k) * v1 (ix4 0 k y d) + v3 (ix4 0 n y d) * v4 (ix3 0 0 d)) : EReal) := by
  pointwise [k0_pay1]

variable (m : (ℓ : Loc nD τ sig) → Buf (Elt Ideal) ℓ)

/-- The batch of a grid point. -/
def batchOf (t : Fin cfg0.N) : Fin 4 := ⟨(grid0.coords t 0).val, (grid0.coords t 0).isLt⟩

/-- The half of the residues of a grid point. -/
def halfOf (t : Fin cfg0.N) : Fin 2 := ⟨(grid0.coords t 1).val, (grid0.coords t 1).isLt⟩

/-- Residue `y` of a grid point's half. -/
def resOf (t : Fin cfg0.N) (y : Fin 64) : Fin 128 := ⟨(halfOf t).val * 64 + y.val, by omega⟩

/-- Where each window stands at a grid point. -/
theorem idx : ∀ t : Fin cfg0.N, win0_0.index t = ![0, 0] ∧ win0_1.index t = ![(batchOf t).val, 0, (halfOf t).val, 0]
    ∧ win0_2.index t = ![(batchOf t).val, 0, (halfOf t).val, 0] ∧ win0_3.index t = ![(batchOf t).val, 0, (halfOf t).val, 0]
    ∧ win0_4.index t = ![0, 0, 0] ∧ win0_5.index t = ![(batchOf t).val, 0, (halfOf t).val, 0] := by
  decide +kernel

/-- The table, read from the array. -/
theorem read0 (c : Dev nD) (t : Fin cfg0.N) (n : Fin 32) (k : Fin 66) :
    iblk m c 0 t (ix2 n k) = m ((c.tc : Thread nD τ).loc main_arg0) (ix2 n k) := by
  have h := (idx t).1
  rw [← V_main_arg0 m c]
  blk_ext [iblk, h]

/-- The spectrum, read from the array. -/
theorem read1 (c : Dev nD) (t : Fin cfg0.N) (k : Fin 66) (y : Fin 64) (d : Fin 256) :
    iblk m c 1 t (ix4 0 k y d) = m ((c.tc : Thread nD τ).loc main_arg1) (ix4 (batchOf t) k (resOf t y) d) := by
  have h := (idx t).2.1
  rw [← V_main_arg1 m c]
  unfold resOf
  blk_ext [iblk, h]

/-- The gate, read from the array. -/
theorem read2 (c : Dev nD) (t : Fin cfg0.N) (n : Fin 32) (y : Fin 64) (d : Fin 256) :
    iblk m c 2 t (ix4 0 n y d) = m ((c.tc : Thread nD τ).loc main_arg2) (ix4 (batchOf t) n (resOf t y) d) := by
  have h := (idx t).2.2.1
  rw [← V_main_arg2 m c]
  unfold resOf
  blk_ext [iblk, h]

/-- The convolution's input, read from the array. -/
theorem read3 (c : Dev nD) (t : Fin cfg0.N) (n : Fin 32) (y : Fin 64) (d : Fin 256) :
    iblk m c 3 t (ix4 0 n y d) = m ((c.tc : Thread nD τ).loc main_arg3) (ix4 (batchOf t) n (resOf t y) d) := by
  have h := (idx t).2.2.2.1
  rw [← V_main_arg3 m c]
  unfold resOf
  blk_ext [iblk, h]

/-- The bias with an axis added on the host, read from the call's argument. -/
theorem bias (c : Dev nD) (d : Fin 256) :
    V m c main_v0 (ix3 0 0 d) = m ((c.tc : Thread nD τ).loc main_arg4) (ix2 0 d) := by
  entry_read
  pointwise

/-- The bias, read from the array. -/
theorem read4 (c : Dev nD) (t : Fin cfg0.N) (d : Fin 256) :
    iblk m c 4 t (ix3 0 0 d) = m ((c.tc : Thread nD τ).loc main_arg4) (ix2 0 d) := by
  have h := (idx t).2.2.2.2.1
  rw [← bias m c]
  blk_ext [iblk, h]

/-- The whole result array. -/
def G (c : Dev nD) : S4x32x128x256.Idx → EReal := fun i =>
  invAt (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (i 0) (i 1) (i 2) (i 3)

/-- Every block of the result array is written. -/
theorem covers5 : (cfg0.win 5).Covers :=
  (cfg0.win 5).covers_of_indexMap_surj rfl (by decide) fun β => by
    have key : ∀ i : grid0.Coords, cc0_transform_5 i = ![(i 0).val, 0, (i 1).val, 0] := by decide +kernel
    have h1 : (β 1).val = 0 := by have := (β 1).isLt; have e : (cfg0.win 5).nblk 1 = 1 := by decide
                                  omega
    have h3 : (β 3).val = 0 := by have := (β 3).isLt; have e : (cfg0.win 5).nblk 3 = 1 := by decide
                                  omega
    let i : grid0.Coords := fun a => match a with
      | ⟨0, _⟩ => ⟨(β 0).val, lt_of_lt_of_le (β 0).isLt (show (cfg0.win 5).nblk 0 ≤ grid0.bound 0 by decide)⟩
      | ⟨1, _⟩ => ⟨(β 2).val, lt_of_lt_of_le (β 2).isLt (show (cfg0.win 5).nblk 2 ≤ grid0.bound 1 by decide)⟩
    refine ⟨i, fun a => ?_⟩
    show cc0_transform_5 i a = _
    rw [key i]
    fin_cases a
    · rfl
    · exact h1.symm
    · rfl
    · exact h3.symm

/-- The place in the result array of an entry of a grid point's block. -/
theorem place (t : Fin cfg0.N) (n : Fin 32) (y : Fin 64) (d : Fin 256) :
    ((View.whole main_v1).slice (win0_5.rect t)).emb (ix4 0 n y d) = ix4 (batchOf t) n (resOf t y) d := by
  have h := (idx t).2.2.2.2.2
  unfold resOf
  blk_ext [h]

/-- What one grid point writes, at its place in the array. -/
theorem point (c : Dev nD) (t : Fin cfg0.N) (y : S1x32x64x256.Idx) :
    k0_pay1 (F := Ideal) (iblk m c 0 t) (iblk m c 1 t) (iblk m c 2 t) (iblk m c 3 t) (iblk m c 4 t) y = G m c (((View.whole main_v1).slice (win0_5.rect t)).emb y) := by
  obtain ⟨a, n, y, d, rfl⟩ : ∃ (a : Fin 1) (n : Fin 32) (q : Fin 64) (d : Fin 256), y = ix4 a n q d :=
    ⟨y 0, y 1, y 2, y 3, eq_ix4 y⟩
  obtain rfl : a = 0 := Subsingleton.elim _ _
  rw [place, pay_apply]
  simp only [read0, read1, read2, read3, read4]
  rfl

/-- The result array after the run. -/
theorem final (c : Dev nD) : (dats m 0 c).arrAt 5 cfg0.N = G m c := by
  refine (dats m 0 c).arrAt_eq_of_covers 5 _ covers5 fun t hf y => ?_
  blk_simp
  rw [after0_5]
  unfold out0_5
  frame_out
  exact point m c t y

end Cert.Inv
-- ==== Proof.Inv.lean ====
/- The claim on the long convolution's last transform: kernel and reference leave one array. -/
module

public import proofs.«01_k».proof.Defs
public import proofs.«01_k».proof.Proof.InvArray
public import proofs.«01_k».proof.Proof.Gen.Reference10Ideal.Run
public import Idealize.ShloMosaic.Lib.Claim

@[expose] public section

set_option maxRecDepth 16384

noncomputable section

namespace Cert.Inv

open Idealize.ShloMosaic Idealize.ShloMosaic.TcCoe Idealize.SL.Sem Cert.Stage

namespace Ref

open Cert.Reference10Ideal Cert.Reference10Ideal.Gen

/-- The transform of the spectrum. -/
def turn (a0 : FVec Ideal S32x66 .bf16) (a1 : FVec Ideal S4x66x128x256 .bf16) : FVec Ideal S4x32x128x256 .f32 :=
  transpose S4x32x128x256 [0, 3, 1, 2] (Host.dotGeneral dot_S4x66x128x256_S32x66_S4x128x256x32_1_1_023_0_n_n none (extf .f32 a1 bitsLt_bf16_f32) (extf .f32 a0 bitsLt_bf16_f32)) transposes_S4x128x256x32_S4x32x128x256_0_3_1_2

/-- The reference's array. -/
def arr (v : FVec Ideal S4x32x128x256 .f32) (a2 a3 : FVec Ideal S4x32x128x256 .f32) (a4 : FVec Ideal S1x256 .f32) : FVec Ideal S4x32x128x256 .f32 :=
  mulf a2 (addf v (mulf a3 (broadcastInDim S4x32x128x256 ![0, 1, 2, 3] bcast_S1x1x1x256_S4x32x128x256_0_1_2_3 (broadcastInDim S1x1x1x256 ![3] bcast_S256_S1x1x1x256_3 (shapeCast S256 a4 shapeCasts_S1x256_S256)))))

/-- An entry of the transform: the same sum, its factors the other way round. -/
theorem turn_apply (a0 : FVec Ideal S32x66 .bf16) (a1 : FVec Ideal S4x66x128x256 .bf16) (b : Fin 4) (n : Fin 32) (r : Fin 128)
    (d : Fin 256) : turn a0 a1 (ix4 b n r d) = (∑ k : Fin 66, a1 (ix4 b k r d) * a0 (ix2 n k) : EReal) := by
  pointwise [turn]

/-- An entry of the reference's array. -/
theorem arr_apply (v : FVec Ideal S4x32x128x256 .f32) (a2 a3 : FVec Ideal S4x32x128x256 .f32) (a4 : FVec Ideal S1x256 .f32)
    (b : Fin 4) (n : Fin 32) (r : Fin 128) (d : Fin 256) :
    arr v a2 a3 a4 (ix4 b n r d) = (a2 (ix4 b n r d) * (v (ix4 b n r d) + a3 (ix4 b n r d) * a4 (ix2 0 d)) : EReal) := by
  pointwise [arr]

/-- The reference's array, from the kernel's arguments, is the array the kernel leaves. -/
theorem eq (a0 : FVec Ideal S32x66 .bf16) (a1 : FVec Ideal S4x66x128x256 .bf16) (a2 a3 : FVec Ideal S4x32x128x256 .f32)
    (a4 : FVec Ideal S1x256 .f32) :
    arr (turn a0 a1) a2 a3 a4 = fun i => (invAt a0 a1 a2 a3 a4 (i 0) (i 1) (i 2) (i 3) : EReal) := by
  refine funext fun i => ?_
  obtain ⟨b, n, r, d, rfl⟩ : ∃ (b : Fin 4) (n : Fin 32) (r : Fin 128) (d : Fin 256), i = ix4 b n r d :=
    ⟨i 0, i 1, i 2, i 3, eq_ix4 i⟩
  rw [arr_apply, turn_apply, Finset.sum_congr rfl fun k _ => mul_comm _ _]
  rfl

end Ref

/-- The claim: the kernel's last transform is the plain one. -/
theorem holds : Cert.algebraic_Kernel10Ideal_Reference10Ideal := fun m g m' g' _ hag =>
  ⟨fun c => G m c,
    (θ_run _ _ _).mono (fun r h c => ⟨(h c).1.trans (final m c), (h c).2⟩) (Cert.Kernel10Ideal.Value.run_blocks m g),
    (θ_run _ _ _).mono (fun r h c => ⟨by
      refine (h c).1.trans ((Ref.eq _ _ _ _ _).trans ?_)
      obtain ⟨h0, h1, h2, h3, h4⟩ := hag c
      rw [h0, h1, h2, h3, h4]
      rfl, (h c).2⟩)
      (Cert.Reference10Ideal.Value.run m' g')⟩

end Cert.Inv
-- ==== Proof.FwdArray.lean ====
/- The long convolution's first transform: the kernel's result array. -/
module

public import proofs.«01_k».proof.Proof.Gen.Kernel11Ideal.Value
public import proofs.«01_k».proof.Proof.StageSpec
public import Idealize.ShloMosaic.Lib.Pipeline.ValueKit
public import Idealize.ShloMosaic.Lib.Pipeline.Covers
public import Idealize.ShloMosaic.Lib.Claim
public import Idealize.ShloMosaic.Lib.Tactic.CleanTypes

@[expose] public section

set_option maxRecDepth 16384

noncomputable section

namespace Cert.Fwd

open Idealize.ShloMosaic Idealize.ShloMosaic.TcCoe Cert.Kernel11Ideal Cert.Kernel11Ideal.Gen Cert.Stage

/-- What one grid point computes, at an entry. -/
theorem pay_apply (v0 : Vec Ideal S66x32 .bf16) (v1 : Vec Ideal S1x32x64x256 .f32) (k : Fin 66) (y : Fin 64) (c : Fin 256) :
    k0_pay1 (F := Ideal) v0 v1 (ix4 0 k y c) = (∑ n : Fin 32, v0 (ix2 k n) * v1 (ix4 0 n y c) : EReal) := by
  pointwise [k0_pay1]

variable (m : (ℓ : Loc nD τ sig) → Buf (Elt Ideal) ℓ)

/-- The batch of a grid point. -/
def batchOf (t : Fin cfg0.N) : Fin 4 := ⟨(grid0.coords t 0).val, (grid0.coords t 0).isLt⟩

/-- The half of the residues of a grid point. -/
def halfOf (t : Fin cfg0.N) : Fin 2 := ⟨(grid0.coords t 1).val, (grid0.coords t 1).isLt⟩

/-- Residue `y` of a grid point's half. -/
def resOf (t : Fin cfg0.N) (y : Fin 64) : Fin 128 := ⟨(halfOf t).val * 64 + y.val, by omega⟩

/-- Where each window stands at a grid point. -/
theorem idx : ∀ t : Fin cfg0.N, win0_0.index t = ![0, 0] ∧ win0_1.index t = ![(batchOf t).val, 0, (halfOf t).val, 0]
    ∧ win0_2.index t = ![(batchOf t).val, 0, (halfOf t).val, 0] := by
  decide +kernel

/-- The table, read from the array. -/
theorem read0 (c : Dev nD) (t : Fin cfg0.N) (k : Fin 66) (n : Fin 32) :
    iblk m c 0 t (ix2 k n) = m ((c.tc : Thread nD τ).loc main_arg0) (ix2 k n) := by
  have h := (idx t).1
  rw [← V_main_arg0 m c]
  blk_ext [iblk, h]

/-- The input, read from the array. -/
theorem read1 (c : Dev nD) (t : Fin cfg0.N) (n : Fin 32) (y : Fin 64) (d : Fin 256) :
    iblk m c 1 t (ix4 0 n y d) = m ((c.tc : Thread nD τ).loc main_arg1) (ix4 (batchOf t) n (resOf t y) d) := by
  have h := (idx t).2.1
  rw [← V_main_arg1 m c]
  unfold resOf
  blk_ext [iblk, h]

/-- The whole result array. -/
def G (c : Dev nD) : S4x66x128x256.Idx → EReal := fun i =>
  fwdAt (m ((c.tc : Thread nD τ).loc main_arg0)) (m ((c.tc : Thread nD τ).loc main_arg1)) (i 0) (i 1) (i 2) (i 3)

/-- Every block of the result array is written. -/
theorem covers2 : (cfg0.win 2).Covers :=
  (cfg0.win 2).covers_of_indexMap_surj rfl (by decide) fun β => by
    have key : ∀ i : grid0.Coords, cc0_transform_2 i = ![(i 0).val, 0, (i 1).val, 0] := by decide +kernel
    have h1 : (β 1).val = 0 := by have := (β 1).isLt; have e : (cfg0.win 2).nblk 1 = 1 := by decide
                                  omega
    have h3 : (β 3).val = 0 := by have := (β 3).isLt; have e : (cfg0.win 2).nblk 3 = 1 := by decide
                                  omega
    let i : grid0.Coords := fun a => match a with
      | ⟨0, _⟩ => ⟨(β 0).val, lt_of_lt_of_le (β 0).isLt (show (cfg0.win 2).nblk 0 ≤ grid0.bound 0 by decide)⟩
      | ⟨1, _⟩ => ⟨(β 2).val, lt_of_lt_of_le (β 2).isLt (show (cfg0.win 2).nblk 2 ≤ grid0.bound 1 by decide)⟩
    refine ⟨i, fun a => ?_⟩
    show cc0_transform_2 i a = _
    rw [key i]
    fin_cases a
    · rfl
    · exact h1.symm
    · rfl
    · exact h3.symm

/-- The place in the result array of an entry of a grid point's block. -/
theorem place (t : Fin cfg0.N) (k : Fin 66) (y : Fin 64) (d : Fin 256) :
    ((View.whole main_v0).slice (win0_2.rect t)).emb (ix4 0 k y d) = ix4 (batchOf t) k (resOf t y) d := by
  have h := (idx t).2.2
  unfold resOf
  blk_ext [h]

/-- What one grid point writes, at its place in the array. -/
theorem point (c : Dev nD) (t : Fin cfg0.N) (y : S1x66x64x256.Idx) :
    k0_pay1 (F := Ideal) (iblk m c 0 t) (iblk m c 1 t) y = G m c (((View.whole main_v0).slice (win0_2.rect t)).emb y) := by
  obtain ⟨a, k, y, d, rfl⟩ : ∃ (a : Fin 1) (k : Fin 66) (q : Fin 64) (d : Fin 256), y = ix4 a k q d :=
    ⟨y 0, y 1, y 2, y 3, eq_ix4 y⟩
  obtain rfl : a = 0 := Subsingleton.elim _ _
  rw [place, pay_apply]
  simp only [read0, read1]
  rfl

/-- The result array after the run. -/
theorem final (c : Dev nD) : (dats m 0 c).arrAt 2 cfg0.N = G m c := by
  refine (dats m 0 c).arrAt_eq_of_covers 2 _ covers2 fun t hf y => ?_
  blk_simp
  rw [after0_2]
  unfold out0_2
  frame_out
  exact point m c t y

end Cert.Fwd
-- ==== Proof.Fwd.lean ====
/- The claim on the long convolution's first transform: kernel and reference leave one array. -/
module

public import proofs.«01_k».proof.Defs
public import proofs.«01_k».proof.Proof.FwdArray
public import proofs.«01_k».proof.Proof.Gen.Reference11Ideal.Run
public import Idealize.ShloMosaic.Lib.Claim

@[expose] public section

set_option maxRecDepth 16384

noncomputable section

namespace Cert.Fwd

open Idealize.ShloMosaic Idealize.ShloMosaic.TcCoe Idealize.SL.Sem Cert.Stage

namespace Ref

open Cert.Reference11Ideal Cert.Reference11Ideal.Gen

/-- The reference's array. -/
def arr (a0 : FVec Ideal S66x32 .bf16) (a1 : FVec Ideal S4x32x128x256 .f32) : FVec Ideal S4x66x128x256 .bf16 :=
  truncf .bf16 (transpose S4x66x128x256 [0, 3, 1, 2] (Host.dotGeneral dot_S4x32x128x256_S66x32_S4x128x256x66_1_1_023_0_n_n none a1 (extf .f32 a0 bitsLt_bf16_f32)) transposes_S4x128x256x66_S4x66x128x256_0_3_1_2) bitsLt_bf16_f32

/-- An entry of the reference's array: the same sum, its factors the other way round. -/
theorem arr_apply (a0 : FVec Ideal S66x32 .bf16) (a1 : FVec Ideal S4x32x128x256 .f32) (b : Fin 4) (k : Fin 66) (r : Fin 128)
    (d : Fin 256) : arr a0 a1 (ix4 b k r d) = (∑ n : Fin 32, a1 (ix4 b n r d) * a0 (ix2 k n) : EReal) := by
  pointwise [arr]

/-- The reference's array, from the kernel's arguments, is the array the kernel leaves. -/
theorem eq (a0 : FVec Ideal S66x32 .bf16) (a1 : FVec Ideal S4x32x128x256 .f32) :
    arr a0 a1 = fun i => (fwdAt a0 a1 (i 0) (i 1) (i 2) (i 3) : EReal) := by
  refine funext fun i => ?_
  obtain ⟨b, k, r, d, rfl⟩ : ∃ (b : Fin 4) (k : Fin 66) (r : Fin 128) (d : Fin 256), i = ix4 b k r d :=
    ⟨i 0, i 1, i 2, i 3, eq_ix4 i⟩
  rw [arr_apply]
  exact Finset.sum_congr rfl fun n _ => mul_comm _ _

end Ref

/-- The claim: the kernel's first transform is the plain one. -/
theorem holds : Cert.algebraic_Kernel11Ideal_Reference11Ideal := fun m g m' g' _ hag =>
  ⟨fun c => G m c,
    (θ_run _ _ _).mono (fun r h c => ⟨(h c).1.trans (final m c), (h c).2⟩) (Cert.Kernel11Ideal.Value.run_blocks m g),
    (θ_run _ _ _).mono (fun r h c => ⟨by
      refine (h c).1.trans ((Ref.eq _ _).trans ?_)
      obtain ⟨h0, h1⟩ := hag c
      rw [h0, h1]
      rfl, (h c).2⟩)
      (Cert.Reference11Ideal.Value.run m' g')⟩

end Cert.Fwd
-- ==== Proof.MixArray.lean ====
/- The long convolution's transform at every frequency: the kernel's result array. -/
module

public import proofs.«01_k».proof.Proof.Gen.Kernel12Ideal.Value
public import proofs.«01_k».proof.Proof.StageSpec
public import Idealize.ShloMosaic.Lib.Pipeline.ValueKit
public import Idealize.ShloMosaic.Lib.Pipeline.Covers
public import Idealize.ShloMosaic.Lib.Claim
public import Idealize.ShloMosaic.Lib.Tactic.CleanTypes

@[expose] public section

set_option maxRecDepth 16384

noncomputable section

namespace Cert.Mix

open Idealize.ShloMosaic Idealize.ShloMosaic.TcCoe Cert.Kernel12Ideal Cert.Kernel12Ideal.Gen Cert.Stage

/-- The product of one matrix and one stacked pair, at an entry. -/
theorem prod_apply (v0 v2 : Vec Ideal S1x1x1x128x512 .bf16) (v5 : Vec Ideal S1x256x256 .bf16) (i : Fin 256) (d : Fin 512) :
    k0_pay2 (F := Ideal) v0 v2 v5 (ix2 i d)
      = (∑ j : Fin 256, v5 (ix3 0 i j) * two (fun s => v0 (ix5 0 0 0 s d)) (fun s => v2 (ix5 0 0 0 s d)) j : EReal) := by
  unfold two
  pointwise [k0_pay2]

/-- Its upper half. -/
theorem upper_apply (v0 v2 : Vec Ideal S1x1x1x128x512 .bf16) (v5 : Vec Ideal S1x256x256 .bf16) (r : Fin 128) (d : Fin 512) :
    k0_pay3 (F := Ideal) v0 v2 v5 (ix5 0 0 0 r d) = (k0_pay2 (F := Ideal) v0 v2 v5 (ix2 (row 0 r) d) : EReal) := by
  have hv : row 0 r = ⟨r.val, by omega⟩ := Fin.ext (by show 0 * 128 + r.val = r.val; omega)
  rw [hv]
  unfold k0_pay3
  generalize k0_pay2 (F := Ideal) v0 v2 v5 = w
  pointwise

/-- Its lower half. -/
theorem lower_apply (v0 v2 : Vec Ideal S1x1x1x128x512 .bf16) (v5 : Vec Ideal S1x256x256 .bf16) (r : Fin 128) (d : Fin 512) :
    k0_pay4 (F := Ideal) v0 v2 v5 (ix5 0 0 0 r d) = (k0_pay2 (F := Ideal) v0 v2 v5 (ix2 (row 1 r) d) : EReal) := by
  have hv : row 1 r = ⟨128 + r.val, by omega⟩ := Fin.ext (by show 1 * 128 + r.val = 128 + r.val; omega)
  rw [hv]
  unfold k0_pay4
  generalize k0_pay2 (F := Ideal) v0 v2 v5 = w
  pointwise

/-- A matrix out of its block. -/
def matOf (x0 : Vec Ideal S3x256x256 .bf16) (k : Fin 3) : Vec Ideal S1x256x256 .bf16 := fun y => x0 (ix3 k (y 1) (y 2))

/-- A part out of its block. -/
def partOf (x1 : Vec Ideal S1x2x3x128x512 .bf16) (h : Fin 2) (k : Fin 3) : Vec Ideal S1x1x1x128x512 .bf16 :=
  fun y => x1 (ix5 0 h k (y 3) (y 4))

/-- A matrix, as it is loaded. -/
theorem mat_ld (x0 : Vec Ideal S3x256x256 .bf16) (k : Fin 3) (h : ∀ a, ![k.val, 0, 0] a + S1x256x256.size a ≤ S3x256x256.size a) :
    View.ld x0 (Rect.unit (s := S3x256x256) ![k.val, 0, 0] S1x256x256.size h) = matOf x0 k := by
  refine funext fun y => ?_
  obtain ⟨a, i, j, rfl⟩ : ∃ (a : Fin 1) (i j : Fin 256), y = ix3 a i j := ⟨y 0, y 1, y 2, eq_ix3 y⟩
  obtain rfl : a = 0 := Subsingleton.elim _ _
  show _ = x0 (ix3 k i j)
  pointwise

/-- A part, as it is loaded. -/
theorem part_ld (x1 : Vec Ideal S1x2x3x128x512 .bf16) (p : Fin 2) (k : Fin 3)
    (h : ∀ a, ![0, p.val, k.val, 0, 0] a + S1x1x1x128x512.size a ≤ S1x2x3x128x512.size a) :
    View.ld x1 (Rect.unit (s := S1x2x3x128x512) ![0, p.val, k.val, 0, 0] S1x1x1x128x512.size h) = partOf x1 p k := by
  refine funext fun y => ?_
  obtain ⟨a, b, e, r, d, rfl⟩ : ∃ (a b e : Fin 1) (r : Fin 128) (d : Fin 512), y = ix5 a b e r d := ⟨y 0, y 1, y 2, y 3, y 4, eq_ix5 y⟩
  obtain rfl : a = 0 := Subsingleton.elim _ _
  obtain rfl : b = 0 := Subsingleton.elim _ _
  obtain rfl : e = 0 := Subsingleton.elim _ _
  show _ = x1 (ix5 0 p k r d)
  pointwise

/-- One entry of a grid point's result. -/
def tileAt (x0 : Vec Ideal S3x256x256 .bf16) (x1 : Vec Ideal S1x2x3x128x512 .bf16) (h : Fin 2) (k : Fin 3) (r : Fin 128)
    (d : Fin 512) : EReal :=
  ∑ j : Fin 256, x0 (ix3 k (row h r) j) * two (fun s => x1 (ix5 0 0 k s d)) (fun s => x1 (ix5 0 1 k s d)) j

/-- A stored upper half, where it lies. -/
theorem upper_piece (x0 : Vec Ideal S3x256x256 .bf16) (x1 : Vec Ideal S1x2x3x128x512 .bf16) (q : Fin 3)
    {v0 v2 : Vec Ideal S1x1x1x128x512 .bf16} {v5 : Vec Ideal S1x256x256 .bf16} (h0 : v0 = partOf x1 0 q) (h2 : v2 = partOf x1 1 q)
    (h5 : v5 = matOf x0 q) (x : S1x1x1x128x512.Idx) (h : Fin 2) (k : Fin 3) (r : Fin 128) (d : Fin 512) (hh : h.val = 0)
    (hk : k.val = q.val) (hr : r.val = (x 3).val) (hd : d.val = (x 4).val) :
    k0_pay3 (F := Ideal) v0 v2 v5 x = (tileAt x0 x1 h k r d : EReal) := by
  obtain ⟨a, b, e, y, z, rfl⟩ : ∃ (a b e : Fin 1) (y : Fin 128) (z : Fin 512), x = ix5 a b e y z := ⟨x 0, x 1, x 2, x 3, x 4, eq_ix5 x⟩
  obtain rfl : a = 0 := Subsingleton.elim _ _
  obtain rfl : b = 0 := Subsingleton.elim _ _
  obtain rfl : e = 0 := Subsingleton.elim _ _
  obtain rfl : h = 0 := Fin.ext hh
  obtain rfl : k = q := Fin.ext hk
  obtain rfl : r = y := Fin.ext hr
  obtain rfl : d = z := Fin.ext hd
  subst h0 h2 h5
  rw [upper_apply, prod_apply]
  rfl

/-- A stored lower half, where it lies. -/
theorem lower_piece (x0 : Vec Ideal S3x256x256 .bf16) (x1 : Vec Ideal S1x2x3x128x512 .bf16) (q : Fin 3)
    {v0 v2 : Vec Ideal S1x1x1x128x512 .bf16} {v5 : Vec Ideal S1x256x256 .bf16} (h0 : v0 = partOf x1 0 q) (h2 : v2 = partOf x1 1 q)
    (h5 : v5 = matOf x0 q) (x : S1x1x1x128x512.Idx) (h : Fin 2) (k : Fin 3) (r : Fin 128) (d : Fin 512) (hh : h.val = 1)
    (hk : k.val = q.val) (hr : r.val = (x 3).val) (hd : d.val = (x 4).val) :
    k0_pay4 (F := Ideal) v0 v2 v5 x = (tileAt x0 x1 h k r d : EReal) := by
  obtain ⟨a, b, e, y, z, rfl⟩ : ∃ (a b e : Fin 1) (y : Fin 128) (z : Fin 512), x = ix5 a b e y z := ⟨x 0, x 1, x 2, x 3, x 4, eq_ix5 x⟩
  obtain rfl : a = 0 := Subsingleton.elim _ _
  obtain rfl : b = 0 := Subsingleton.elim _ _
  obtain rfl : e = 0 := Subsingleton.elim _ _
  obtain rfl : h = 1 := Fin.ext hh
  obtain rfl : k = q := Fin.ext hk
  obtain rfl : r = y := Fin.ext hr
  obtain rfl : d = z := Fin.ext hd
  subst h0 h2 h5
  rw [lower_apply, prod_apply]
  rfl

/-- What one grid point leaves in its block. -/
def blockOf (x0 : Vec Ideal S3x256x256 .bf16) (x1 : Vec Ideal S1x2x3x128x512 .bf16) : FVec Ideal S1x2x3x128x512 .f32 :=
  View.canon (([
    ⟨Rect.unit ![0, 1, 2, 0, 0] ![1, 1, 1, 128, 512] inb_S1x2x3x128x512_S1x1x1x128x512_0_1_2_0_0, k0_pay4 (F := Ideal) (View.ld x1 r0_6) (View.ld x1 r0_7) (View.ld x0 r0_8)⟩,
    ⟨Rect.unit ![0, 0, 2, 0, 0] ![1, 1, 1, 128, 512] inb_S1x2x3x128x512_S1x1x1x128x512_0_0_2_0_0, k0_pay3 (F := Ideal) (View.ld x1 r0_6) (View.ld x1 r0_7) (View.ld x0 r0_8)⟩,
    ⟨Rect.unit ![0, 1, 1, 0, 0] ![1, 1, 1, 128, 512] inb_S1x2x3x128x512_S1x1x1x128x512_0_1_1_0_0, k0_pay4 (F := Ideal) (View.ld x1 r0_3) (View.ld x1 r0_4) (View.ld x0 r0_5)⟩,
    ⟨Rect.unit ![0, 0, 1, 0, 0] ![1, 1, 1, 128, 512] inb_S1x2x3x128x512_S1x1x1x128x512_0_0_1_0_0, k0_pay3 (F := Ideal) (View.ld x1 r0_3) (View.ld x1 r0_4) (View.ld x0 r0_5)⟩,
    ⟨Rect.unit ![0, 1, 0, 0, 0] ![1, 1, 1, 128, 512] inb_S1x2x3x128x512_S1x1x1x128x512_0_1_0_0_0, k0_pay4 (F := Ideal) (View.ld x1 r0_0) (View.ld x1 r0_1) (View.ld x0 r0_2)⟩,
    ⟨Rect.unit ![0, 0, 0, 0, 0] ![1, 1, 1, 128, 512] inb_S1x2x3x128x512_S1x1x1x128x512_0_0_0_0_0, k0_pay3 (F := Ideal) (View.ld x1 r0_0) (View.ld x1 r0_1) (View.ld x0 r0_2)⟩] : List (View.Piece (Elt Ideal) S1x2x3x128x512 .f32)))

/-- The block the body leaves is that block. -/
theorem out_eq (x0 : Vec Ideal S3x256x256 .bf16) (x1 : Vec Ideal S1x2x3x128x512 .bf16) : out0_2 (F := Ideal) x0 x1 = blockOf x0 x1 := rfl

/-- An entry of that block. -/
theorem blockOf_apply (x0 : Vec Ideal S3x256x256 .bf16) (x1 : Vec Ideal S1x2x3x128x512 .bf16) (h : Fin 2) (k : Fin 3) (r : Fin 128)
    (d : Fin 512) : blockOf x0 x1 (ix5 0 h k r d) = (tileAt x0 x1 h k r d : EReal) := by
  unfold blockOf
  have a2 : ∀ {i n : ℕ}, i = 2 + n → n < 1 → i = 2 := by omega
  have a1 : ∀ {i n : ℕ}, i = 1 + n → n < 1 → i = 1 := by omega
  have a0 : ∀ {i n : ℕ}, i = n → n < 1 → i = 0 := by omega
  canon_tiles x g using View.cover_of_tiledBy _ ![1, 1, 1, 128, 512] (by sl_kernel_rfl) _
  · exact lower_piece x0 x1 2 (part_ld x1 0 2 _) (part_ld x1 1 2 _) (mat_ld x0 2 _) x h k r d (a1 g1 x1_lt) (a2 g2 x2_lt) g3 g4
  · exact upper_piece x0 x1 2 (part_ld x1 0 2 _) (part_ld x1 1 2 _) (mat_ld x0 2 _) x h k r d (a0 g1 x1_lt) (a2 g2 x2_lt) g3 g4
  · exact lower_piece x0 x1 1 (part_ld x1 0 1 _) (part_ld x1 1 1 _) (mat_ld x0 1 _) x h k r d (a1 g1 x1_lt) (a1 g2 x2_lt) g3 g4
  · exact upper_piece x0 x1 1 (part_ld x1 0 1 _) (part_ld x1 1 1 _) (mat_ld x0 1 _) x h k r d (a0 g1 x1_lt) (a1 g2 x2_lt) g3 g4
  · exact lower_piece x0 x1 0 (part_ld x1 0 0 _) (part_ld x1 1 0 _) (mat_ld x0 0 _) x h k r d (a1 g1 x1_lt) (a0 g2 x2_lt) g3 g4
  · exact upper_piece x0 x1 0 (part_ld x1 0 0 _) (part_ld x1 1 0 _) (mat_ld x0 0 _) x h k r d (a0 g1 x1_lt) (a0 g2 x2_lt) g3 g4

variable (m : (ℓ : Loc nD τ sig) → Buf (Elt Ideal) ℓ)

/-- Which three frequencies a grid point has. -/
def stepOf (t : Fin cfg0.N) : Fin 11 := ⟨(grid0.coords t 0).val, (grid0.coords t 0).isLt⟩

/-- Frequency `k` of a grid point's three. -/
def freqOf (t : Fin cfg0.N) (k : Fin 3) : Fin 33 := ⟨(stepOf t).val * 3 + k.val, by omega⟩

/-- Where each window stands at a grid point. -/
theorem idx : ∀ t : Fin cfg0.N, win0_0.index t = ![(stepOf t).val, 0, 0] ∧ win0_1.index t = ![0, 0, (stepOf t).val, 0, 0]
    ∧ win0_2.index t = ![0, 0, (stepOf t).val, 0, 0] := by
  decide +kernel

/-- The matrices, read from the array. -/
theorem read0 (c : Dev nD) (t : Fin cfg0.N) (k : Fin 3) (i j : Fin 256) :
    iblk m c 0 t (ix3 k i j) = m ((c.tc : Thread nD τ).loc main_arg0) (ix3 (freqOf t k) i j) := by
  have h := (idx t).1
  rw [← V_main_arg0 m c]
  unfold freqOf
  blk_ext [iblk, h]

/-- The parts, read from the array. -/
theorem read1 (c : Dev nD) (t : Fin cfg0.N) (p : Fin 2) (k : Fin 3) (r : Fin 128) (d : Fin 512) :
    iblk m c 1 t (ix5 0 p k r d) = m ((c.tc : Thread nD τ).loc main_arg1) (ix5 0 p (freqOf t k) r d) := by
  have h := (idx t).2.1
  rw [← V_main_arg1 m c]
  unfold freqOf
  blk_ext [iblk, h]

/-- The whole result array. -/
def G (c : Dev nD) : S1x2x33x128x512.Idx → EReal := fun i =>
  mixAt (m ((c.tc : Thread nD τ).loc main_arg0)) (m ((c.tc : Thread nD τ).loc main_arg1)) (i 0) (i 2) (row (i 1) (i 3)) (i 4)

/-- Every block of the result array is written. -/
theorem covers2 : (cfg0.win 2).Covers :=
  (cfg0.win 2).covers_of_indexMap_surj rfl (by decide) fun β => by
    have key : ∀ i : grid0.Coords, cc0_transform_2 i = ![0, 0, (i 0).val, 0, 0] := by decide +kernel
    have h0 : (β 0).val = 0 := by have := (β 0).isLt; have e : (cfg0.win 2).nblk 0 = 1 := by decide
                                  omega
    have h1 : (β 1).val = 0 := by have := (β 1).isLt; have e : (cfg0.win 2).nblk 1 = 1 := by decide
                                  omega
    have h3 : (β 3).val = 0 := by have := (β 3).isLt; have e : (cfg0.win 2).nblk 3 = 1 := by decide
                                  omega
    have h4 : (β 4).val = 0 := by have := (β 4).isLt; have e : (cfg0.win 2).nblk 4 = 1 := by decide
                                  omega
    let i : grid0.Coords := fun a => match a with
      | ⟨0, _⟩ => ⟨(β 2).val, lt_of_lt_of_le (β 2).isLt (show (cfg0.win 2).nblk 2 ≤ grid0.bound 0 by decide)⟩
    refine ⟨i, fun a => ?_⟩
    show cc0_transform_2 i a = _
    rw [key i]
    fin_cases a
    · exact h0.symm
    · exact h1.symm
    · rfl
    · exact h3.symm
    · exact h4.symm

/-- The place in the result array of an entry of a grid point's block. -/
theorem place (t : Fin cfg0.N) (p : Fin 2) (k : Fin 3) (r : Fin 128) (d : Fin 512) :
    ((View.whole main_v0).slice (win0_2.rect t)).emb (ix5 0 p k r d) = ix5 0 p (freqOf t k) r d := by
  have h := (idx t).2.2
  unfold freqOf
  blk_ext [h]

/-- What one grid point writes, at its place in the array. -/
theorem point (c : Dev nD) (t : Fin cfg0.N) (y : S1x2x3x128x512.Idx) :
    blockOf (iblk m c 0 t) (iblk m c 1 t) y = G m c (((View.whole main_v0).slice (win0_2.rect t)).emb y) := by
  obtain ⟨a, p, k, r, d, rfl⟩ : ∃ (a : Fin 1) (p : Fin 2) (k : Fin 3) (r : Fin 128) (d : Fin 512), y = ix5 a p k r d :=
    ⟨y 0, y 1, y 2, y 3, y 4, eq_ix5 y⟩
  obtain rfl : a = 0 := Subsingleton.elim _ _
  rw [place, blockOf_apply]
  unfold tileAt
  simp only [read0, read1]
  rfl

/-- The result array after the run. -/
theorem final (c : Dev nD) : (dats m 0 c).arrAt 2 cfg0.N = G m c := by
  refine (dats m 0 c).arrAt_eq_of_covers 2 _ covers2 fun t hf y => ?_
  blk_simp
  rw [after0_2, out_eq]
  frame_out
  exact point m c t y

end Cert.Mix
-- ==== Proof.Mix.lean ====
/- The claim on the long convolution's transform at every frequency: kernel and reference leave one array. -/
module

public import proofs.«01_k».proof.Defs
public import proofs.«01_k».proof.Proof.MixArray
public import proofs.«01_k».proof.Proof.Gen.Reference12Ideal.Run
public import Idealize.ShloMosaic.Lib.Claim

@[expose] public section

set_option maxRecDepth 16384

noncomputable section

namespace Cert.Mix

open Idealize.ShloMosaic Idealize.ShloMosaic.TcCoe Idealize.SL.Sem Cert.Stage

namespace Ref

open Cert.Reference12Ideal Cert.Reference12Ideal.Gen

/-- The parts, stacked. -/
def stack (a1 : FVec Ideal S1x2x33x128x512 .bf16) : FVec Ideal S33x256x512 .f32 :=
  shapeCast S33x256x512 (transpose S1x33x2x128x512 [0, 2, 1, 3, 4] (extf .f32 a1 bitsLt_bf16_f32) transposes_S1x2x33x128x512_S1x33x2x128x512_0_2_1_3_4) shapeCasts_S1x33x2x128x512_S33x256x512

/-- The products. -/
def prod (a0 : FVec Ideal S33x256x256 .bf16) (v : FVec Ideal S33x256x512 .f32) : FVec Ideal S33x256x512 .f32 :=
  Host.dotGeneral dot_S33x256x256_S33x256x512_S33x256x512_2_1_1_2_0_0 none (extf .f32 a0 bitsLt_bf16_f32) v

/-- The reference's array. -/
def arr (v : FVec Ideal S33x256x512 .f32) : FVec Ideal S1x2x33x128x512 .f32 :=
  transpose S1x2x33x128x512 [0, 2, 1, 3, 4] (shapeCast S1x33x2x128x512 v shapeCasts_S33x256x512_S1x33x2x128x512) transposes_S1x33x2x128x512_S1x2x33x128x512_0_2_1_3_4

/-- An entry of the stacked parts. -/
theorem stack_apply (a1 : FVec Ideal S1x2x33x128x512 .bf16) (k : Fin 33) (j : Fin 256) (d : Fin 512) :
    stack a1 (ix3 k j d) = (two (fun s => a1 (ix5 0 0 k s d)) (fun s => a1 (ix5 0 1 k s d)) j : EReal) := by
  rw [two_split (fun h s => (a1 (ix5 0 h k s d) : EReal))]
  pointwise [stack]

/-- An entry of the products. -/
theorem prod_apply (a0 : FVec Ideal S33x256x256 .bf16) (v : FVec Ideal S33x256x512 .f32) (k : Fin 33) (i : Fin 256) (d : Fin 512) :
    prod a0 v (ix3 k i d) = (∑ j : Fin 256, a0 (ix3 k i j) * v (ix3 k j d) : EReal) := by
  pointwise [prod]

/-- An entry of the reference's array. -/
theorem arr_apply (v : FVec Ideal S33x256x512 .f32) (p : Fin 2) (k : Fin 33) (r : Fin 128) (d : Fin 512) :
    arr v (ix5 0 p k r d) = (v (ix3 k (row p r) d) : EReal) := by
  unfold row
  pointwise [arr]

/-- The reference's array, from the kernel's arguments, is the array the kernel leaves. -/
theorem eq (a0 : FVec Ideal S33x256x256 .bf16) (a1 : FVec Ideal S1x2x33x128x512 .bf16) :
    arr (prod a0 (stack a1)) = fun i => (mixAt a0 a1 (i 0) (i 2) (row (i 1) (i 3)) (i 4) : EReal) := by
  refine funext fun i => ?_
  obtain ⟨a, p, k, r, d, rfl⟩ : ∃ (a : Fin 1) (p : Fin 2) (k : Fin 33) (r : Fin 128) (d : Fin 512), i = ix5 a p k r d :=
    ⟨i 0, i 1, i 2, i 3, i 4, eq_ix5 i⟩
  obtain rfl : a = 0 := Subsingleton.elim _ _
  rw [arr_apply, prod_apply]
  simp only [stack_apply]
  rfl

end Ref

/-- The claim: the kernel's transform at every frequency is the plain one. -/
theorem holds : Cert.algebraic_Kernel12Ideal_Reference12Ideal := fun m g m' g' _ hag =>
  ⟨fun c => G m c,
    (θ_run _ _ _).mono (fun r h c => ⟨(h c).1.trans (final m c), (h c).2⟩) (Cert.Kernel12Ideal.Value.run_blocks m g),
    (θ_run _ _ _).mono (fun r h c => ⟨by
      refine (h c).1.trans ((Ref.eq _ _).trans ?_)
      obtain ⟨h0, h1⟩ := hag c
      rw [h0, h1]
      rfl, (h c).2⟩)
      (Cert.Reference12Ideal.Value.run m' g')⟩

end Cert.Mix
-- ==== Proof.FiltArray.lean ====
/- The long convolution's filtering at every frequency: the kernel's result array. -/
module

public import proofs.«01_k».proof.Proof.Gen.Kernel13Ideal.Value
public import proofs.«01_k».proof.Proof.StageSpec
public import Idealize.ShloMosaic.Lib.Pipeline.ValueKit
public import Idealize.ShloMosaic.Lib.Pipeline.Covers
public import Idealize.ShloMosaic.Lib.Claim
public import Idealize.ShloMosaic.Lib.Tactic.CleanTypes

@[expose] public section

set_option maxRecDepth 16384

noncomputable section

namespace Cert.Filt

open Idealize.ShloMosaic Idealize.ShloMosaic.TcCoe Cert.Kernel13Ideal Cert.Kernel13Ideal.Gen Cert.Stage

/-- The transform: one matrix and one stacked pair. -/
def prodOf (v0 v2 : Vec Ideal S1x1x1x128x256 .bf16) (v5 : Vec Ideal S1x256x256 .bf16) : FVec Ideal S256x256 .f32 :=
  matmul (φ₁ := .bf16) (φ₂ := .bf16) dot_S256x256_S256x256_S256x256_1_0_0_1_n_n none (shapeCast S256x256 v5 shapeCasts_S1x256x256_S256x256) (concatenate S256x256 0 [⟨S128x256, shapeCast S128x256 v0 shapeCasts_S1x1x1x128x256_S128x256⟩, ⟨S128x256, shapeCast S128x256 v2 shapeCasts_S1x1x1x128x256_S128x256⟩] concatenates_S128x256_S128x256_S256x256_d0) (constant S256x256 .f32 0x00000000#32)

/-- Its product with the filter's spectrum. -/
def timesOf (x : FVec Ideal S256x256 .f32) (v10 v12 : Vec Ideal S1x1x128x256 .f32) : FVec Ideal S256x256 .f32 :=
  concatenate S256x256 0 [⟨S128x256, subf (mulf (extractStridedSlice S128x256 ![0, 0] x slices_S256x256_o0_0_S128x256) (shapeCast S128x256 v10 shapeCasts_S1x1x128x256_S128x256)) (mulf (extractStridedSlice S128x256 ![128, 0] x slices_S256x256_o128_0_S128x256) (shapeCast S128x256 v12 shapeCasts_S1x1x128x256_S128x256))⟩, ⟨S128x256, addf (mulf (extractStridedSlice S128x256 ![0, 0] x slices_S256x256_o0_0_S128x256) (shapeCast S128x256 v12 shapeCasts_S1x1x128x256_S128x256)) (mulf (extractStridedSlice S128x256 ![128, 0] x slices_S256x256_o128_0_S128x256) (shapeCast S128x256 v10 shapeCasts_S1x1x128x256_S128x256))⟩] concatenates_S128x256_S128x256_S256x256_d0

/-- The second matrix times that. -/
def backOf (v21 : Vec Ideal S1x256x256 .bf16) (y : FVec Ideal S256x256 .f32) : FVec Ideal S256x256 .f32 :=
  matmul (φ₁ := .bf16) (φ₂ := .bf16) dot_S256x256_S256x256_S256x256_1_0_0_1_n_n none (shapeCast S256x256 v21 shapeCasts_S1x256x256_S256x256) (truncf .bf16 y bitsLt_bf16_f32) (constant S256x256 .f32 0x00000000#32)

/-- The three steps are what the body computes for one batch and one frequency. -/
theorem pay_eq (v0 v2 : Vec Ideal S1x1x1x128x256 .bf16) (v5 : Vec Ideal S1x256x256 .bf16) (v10 v12 : Vec Ideal S1x1x128x256 .f32)
    (v21 : Vec Ideal S1x256x256 .bf16) :
    k0_pay4 (F := Ideal) v0 v2 v5 v10 v12 v21 = backOf v21 (timesOf (prodOf v0 v2 v5) v10 v12) := rfl

/-- The transform, at an entry. -/
theorem prod_apply (v0 v2 : Vec Ideal S1x1x1x128x256 .bf16) (v5 : Vec Ideal S1x256x256 .bf16) (i d : Fin 256) :
    prodOf v0 v2 v5 (ix2 i d)
      = (∑ j : Fin 256, v5 (ix3 0 i j) * two (fun s => v0 (ix5 0 0 0 s d)) (fun s => v2 (ix5 0 0 0 s d)) j : EReal) := by
  unfold two
  pointwise [prodOf]

/-- Row `r` of the first half. -/
theorem row_zero (r : Fin 128) : row 0 r = ⟨r.val, by omega⟩ := Fin.ext (by show 0 * 128 + r.val = r.val; omega)

/-- Row `r` of the second half. -/
theorem row_one (r : Fin 128) : row 1 r = ⟨128 + r.val, by omega⟩ := Fin.ext (by show 1 * 128 + r.val = 128 + r.val; omega)

/-- The product with the filter's spectrum, at an entry. -/
theorem times_apply (x : FVec Ideal S256x256 .f32) (v10 v12 : Vec Ideal S1x1x128x256 .f32) (j d : Fin 256) :
    timesOf x v10 v12 (ix2 j d)
      = (two (fun r => x (ix2 (row 0 r) d) * v10 (ix4 0 0 r d) - x (ix2 (row 1 r) d) * v12 (ix4 0 0 r d))
          (fun r => x (ix2 (row 0 r) d) * v12 (ix4 0 0 r d) + x (ix2 (row 1 r) d) * v10 (ix4 0 0 r d)) j : EReal) := by
  simp only [row_zero, row_one]
  unfold two
  pointwise [timesOf]

/-- The second matrix times an array, at an entry. -/
theorem back_apply (v21 : Vec Ideal S1x256x256 .bf16) (y : FVec Ideal S256x256 .f32) (i d : Fin 256) :
    backOf v21 y (ix2 i d) = (∑ j : Fin 256, v21 (ix3 0 i j) * y (ix2 j d) : EReal) := by
  pointwise [backOf]

/-- The upper half of the result. -/
theorem upper_apply (v0 v2 : Vec Ideal S1x1x1x128x256 .bf16) (v5 : Vec Ideal S1x256x256 .bf16) (v10 v12 : Vec Ideal S1x1x128x256 .f32)
    (v21 : Vec Ideal S1x256x256 .bf16) (r : Fin 128) (d : Fin 256) :
    k0_pay6 (F := Ideal) (k0_pay5 v0 v2 v5 v10 v12 v21) (ix5 0 0 0 r d) = (k0_pay4 (F := Ideal) v0 v2 v5 v10 v12 v21 (ix2 (row 0 r) d) : EReal) := by
  rw [row_zero]
  unfold k0_pay6 k0_pay5
  generalize k0_pay4 (F := Ideal) v0 v2 v5 v10 v12 v21 = w
  pointwise

/-- The lower half of the result. -/
theorem lower_apply (w : FVec Ideal S256x256 .f32) (r : Fin 128) (d : Fin 256) :
    k0_pay7 (F := Ideal) w (ix5 0 0 0 r d) = (w (ix2 (row 1 r) d) : EReal) := by
  rw [row_one]
  pointwise [k0_pay7]

/-- A matrix out of its block. -/
def matOf (x0 : Vec Ideal S3x256x256 .bf16) (k : Fin 3) : Vec Ideal S1x256x256 .bf16 := fun y => x0 (ix3 k (y 1) (y 2))

/-- A part out of its block. -/
def partOf (x2 : Vec Ideal S4x2x3x128x256 .bf16) (b : Fin 4) (h : Fin 2) (k : Fin 3) : Vec Ideal S1x1x1x128x256 .bf16 :=
  fun y => x2 (ix5 b h k (y 3) (y 4))

/-- A part of the filter's spectrum out of its block. -/
def specOf (x3 : Vec Ideal S2x3x128x256 .f32) (h : Fin 2) (k : Fin 3) : Vec Ideal S1x1x128x256 .f32 := fun y => x3 (ix4 h k (y 2) (y 3))

/-- A matrix, as it is loaded. -/
theorem mat_ld (x0 : Vec Ideal S3x256x256 .bf16) (k : Fin 3) (h : ∀ a, ![k.val, 0, 0] a + S1x256x256.size a ≤ S3x256x256.size a) :
    View.ld x0 (Rect.unit (s := S3x256x256) ![k.val, 0, 0] S1x256x256.size h) = matOf x0 k := by
  refine funext fun y => ?_
  obtain ⟨a, i, j, rfl⟩ : ∃ (a : Fin 1) (i j : Fin 256), y = ix3 a i j := ⟨y 0, y 1, y 2, eq_ix3 y⟩
  obtain rfl : a = 0 := Subsingleton.elim _ _
  show _ = x0 (ix3 k i j)
  pointwise

/-- A part, as it is loaded. -/
theorem part_ld (x2 : Vec Ideal S4x2x3x128x256 .bf16) (b : Fin 4) (p : Fin 2) (k : Fin 3)
    (h : ∀ a, ![b.val, p.val, k.val, 0, 0] a + S1x1x1x128x256.size a ≤ S4x2x3x128x256.size a) :
    View.ld x2 (Rect.unit (s := S4x2x3x128x256) ![b.val, p.val, k.val, 0, 0] S1x1x1x128x256.size h) = partOf x2 b p k := by
  refine funext fun y => ?_
  obtain ⟨a, f, e, r, d, rfl⟩ : ∃ (a f e : Fin 1) (r : Fin 128) (d : Fin 256), y = ix5 a f e r d := ⟨y 0, y 1, y 2, y 3, y 4, eq_ix5 y⟩
  obtain rfl : a = 0 := Subsingleton.elim _ _
  obtain rfl : f = 0 := Subsingleton.elim _ _
  obtain rfl : e = 0 := Subsingleton.elim _ _
  show _ = x2 (ix5 b p k r d)
  pointwise

/-- A part of the filter's spectrum, as it is loaded. -/
theorem spec_ld (x3 : Vec Ideal S2x3x128x256 .f32) (p : Fin 2) (k : Fin 3)
    (h : ∀ a, ![p.val, k.val, 0, 0] a + S1x1x128x256.size a ≤ S2x3x128x256.size a) :
    View.ld x3 (Rect.unit (s := S2x3x128x256) ![p.val, k.val, 0, 0] S1x1x128x256.size h) = specOf x3 p k := by
  refine funext fun y => ?_
  obtain ⟨a, f, r, d, rfl⟩ : ∃ (a f : Fin 1) (r : Fin 128) (d : Fin 256), y = ix4 a f r d := ⟨y 0, y 1, y 2, y 3, eq_ix4 y⟩
  obtain rfl : a = 0 := Subsingleton.elim _ _
  obtain rfl : f = 0 := Subsingleton.elim _ _
  show _ = x3 (ix4 p k r d)
  pointwise

/-- One entry of a grid point's transform. -/
def firstAt (x0 : Vec Ideal S3x256x256 .bf16) (x2 : Vec Ideal S4x2x3x128x256 .bf16) (b : Fin 4) (k : Fin 3) (i d : Fin 256) : EReal :=
  ∑ j : Fin 256, x0 (ix3 k i j) * two (fun s => x2 (ix5 b 0 k s d)) (fun s => x2 (ix5 b 1 k s d)) j

/-- One entry of a grid point's result. -/
def tileAt (x0 x1 : Vec Ideal S3x256x256 .bf16) (x2 : Vec Ideal S4x2x3x128x256 .bf16) (x3 : Vec Ideal S2x3x128x256 .f32) (b : Fin 4) (h : Fin 2)
    (k : Fin 3) (r : Fin 128) (d : Fin 256) : EReal :=
  ∑ j : Fin 256, x1 (ix3 k (row h r) j) * times (fun p s => firstAt x0 x2 b k (row p s) d) (fun p s => x3 (ix4 p k s d)) j

/-- The loaded values of one batch and one frequency: what the body computes of them. -/
theorem body_apply (x0 x1 : Vec Ideal S3x256x256 .bf16) (x2 : Vec Ideal S4x2x3x128x256 .bf16) (x3 : Vec Ideal S2x3x128x256 .f32) (b : Fin 4) (k : Fin 3)
    (h : Fin 2) (r : Fin 128) (d : Fin 256) :
    k0_pay4 (F := Ideal) (partOf x2 b 0 k) (partOf x2 b 1 k) (matOf x0 k) (specOf x3 0 k) (specOf x3 1 k) (matOf x1 k) (ix2 (row h r) d)
      = (tileAt x0 x1 x2 x3 b h k r d : EReal) := by
  rw [pay_eq, back_apply]
  simp only [times_apply, prod_apply]
  rfl

/-- A stored upper half, where it lies. -/
theorem upper_piece (x0 x1 : Vec Ideal S3x256x256 .bf16) (x2 : Vec Ideal S4x2x3x128x256 .bf16) (x3 : Vec Ideal S2x3x128x256 .f32) (f : Fin 4)
    (q : Fin 3) {v0 v2 : Vec Ideal S1x1x1x128x256 .bf16} {v5 : Vec Ideal S1x256x256 .bf16} {v10 v12 : Vec Ideal S1x1x128x256 .f32}
    {v21 : Vec Ideal S1x256x256 .bf16} (h0 : v0 = partOf x2 f 0 q) (h2 : v2 = partOf x2 f 1 q) (h5 : v5 = matOf x0 q)
    (h10 : v10 = specOf x3 0 q) (h12 : v12 = specOf x3 1 q) (h21 : v21 = matOf x1 q) (x : S1x1x1x128x256.Idx) (b : Fin 4) (h : Fin 2)
    (k : Fin 3) (r : Fin 128) (d : Fin 256) (hb : b.val = f.val) (hh : h.val = 0) (hk : k.val = q.val) (hr : r.val = (x 3).val)
    (hd : d.val = (x 4).val) : k0_pay6 (F := Ideal) (k0_pay5 v0 v2 v5 v10 v12 v21) x = (tileAt x0 x1 x2 x3 b h k r d : EReal) := by
  obtain ⟨a, g, e, y, z, rfl⟩ : ∃ (a g e : Fin 1) (y : Fin 128) (z : Fin 256), x = ix5 a g e y z := ⟨x 0, x 1, x 2, x 3, x 4, eq_ix5 x⟩
  obtain rfl : a = 0 := Subsingleton.elim _ _
  obtain rfl : g = 0 := Subsingleton.elim _ _
  obtain rfl : e = 0 := Subsingleton.elim _ _
  obtain rfl : b = f := Fin.ext hb
  obtain rfl : h = 0 := Fin.ext hh
  obtain rfl : k = q := Fin.ext hk
  obtain rfl : r = y := Fin.ext hr
  obtain rfl : d = z := Fin.ext hd
  subst h0 h2 h5 h10 h12 h21
  rw [upper_apply, body_apply]

/-- A stored lower half, where it lies. -/
theorem lower_piece (x0 x1 : Vec Ideal S3x256x256 .bf16) (x2 : Vec Ideal S4x2x3x128x256 .bf16) (x3 : Vec Ideal S2x3x128x256 .f32) (f : Fin 4)
    (q : Fin 3) {v0 v2 : Vec Ideal S1x1x1x128x256 .bf16} {v5 : Vec Ideal S1x256x256 .bf16} {v10 v12 : Vec Ideal S1x1x128x256 .f32}
    {v21 : Vec Ideal S1x256x256 .bf16} (h0 : v0 = partOf x2 f 0 q) (h2 : v2 = partOf x2 f 1 q) (h5 : v5 = matOf x0 q)
    (h10 : v10 = specOf x3 0 q) (h12 : v12 = specOf x3 1 q) (h21 : v21 = matOf x1 q) (x : S1x1x1x128x256.Idx) (b : Fin 4) (h : Fin 2)
    (k : Fin 3) (r : Fin 128) (d : Fin 256) (hb : b.val = f.val) (hh : h.val = 1) (hk : k.val = q.val) (hr : r.val = (x 3).val)
    (hd : d.val = (x 4).val) : k0_pay7 (F := Ideal) (k0_pay4 v0 v2 v5 v10 v12 v21) x = (tileAt x0 x1 x2 x3 b h k r d : EReal) := by
  obtain ⟨a, g, e, y, z, rfl⟩ : ∃ (a g e : Fin 1) (y : Fin 128) (z : Fin 256), x = ix5 a g e y z := ⟨x 0, x 1, x 2, x 3, x 4, eq_ix5 x⟩
  obtain rfl : a = 0 := Subsingleton.elim _ _
  obtain rfl : g = 0 := Subsingleton.elim _ _
  obtain rfl : e = 0 := Subsingleton.elim _ _
  obtain rfl : b = f := Fin.ext hb
  obtain rfl : h = 1 := Fin.ext hh
  obtain rfl : k = q := Fin.ext hk
  obtain rfl : r = y := Fin.ext hr
  obtain rfl : d = z := Fin.ext hd
  subst h0 h2 h5 h10 h12 h21
  rw [lower_apply, body_apply]

/-- What one grid point leaves in its block. -/
def blockOf (x0 x1 : Vec Ideal S3x256x256 .bf16) (x2 : Vec Ideal S4x2x3x128x256 .bf16) (x3 : Vec Ideal S2x3x128x256 .f32) : FVec Ideal S4x2x3x128x256 .bf16 :=
  View.canon (([
    ⟨Rect.unit ![3, 1, 2, 0, 0] ![1, 1, 1, 128, 256] inb_S4x2x3x128x256_S1x1x1x128x256_3_1_2_0_0, k0_pay7 (F := Ideal) (k0_pay4 (View.ld x2 r0_31) (View.ld x2 r0_32) (View.ld x0 r0_24) (View.ld x3 r0_25) (View.ld x3 r0_26) (View.ld x1 r0_24))⟩,
    ⟨Rect.unit ![3, 0, 2, 0, 0] ![1, 1, 1, 128, 256] inb_S4x2x3x128x256_S1x1x1x128x256_3_0_2_0_0, k0_pay6 (F := Ideal) (k0_pay5 (View.ld x2 r0_31) (View.ld x2 r0_32) (View.ld x0 r0_24) (View.ld x3 r0_25) (View.ld x3 r0_26) (View.ld x1 r0_24))⟩,
    ⟨Rect.unit ![2, 1, 2, 0, 0] ![1, 1, 1, 128, 256] inb_S4x2x3x128x256_S1x1x1x128x256_2_1_2_0_0, k0_pay7 (F := Ideal) (k0_pay4 (View.ld x2 r0_29) (View.ld x2 r0_30) (View.ld x0 r0_24) (View.ld x3 r0_25) (View.ld x3 r0_26) (View.ld x1 r0_24))⟩,
    ⟨Rect.unit ![2, 0, 2, 0, 0] ![1, 1, 1, 128, 256] inb_S4x2x3x128x256_S1x1x1x128x256_2_0_2_0_0, k0_pay6 (F := Ideal) (k0_pay5 (View.ld x2 r0_29) (View.ld x2 r0_30) (View.ld x0 r0_24) (View.ld x3 r0_25) (View.ld x3 r0_26) (View.ld x1 r0_24))⟩,
    ⟨Rect.unit ![1, 1, 2, 0, 0] ![1, 1, 1, 128, 256] inb_S4x2x3x128x256_S1x1x1x128x256_1_1_2_0_0, k0_pay7 (F := Ideal) (k0_pay4 (View.ld x2 r0_27) (View.ld x2 r0_28) (View.ld x0 r0_24) (View.ld x3 r0_25) (View.ld x3 r0_26) (View.ld x1 r0_24))⟩,
    ⟨Rect.unit ![1, 0, 2, 0, 0] ![1, 1, 1, 128, 256] inb_S4x2x3x128x256_S1x1x1x128x256_1_0_2_0_0, k0_pay6 (F := Ideal) (k0_pay5 (View.ld x2 r0_27) (View.ld x2 r0_28) (View.ld x0 r0_24) (View.ld x3 r0_25) (View.ld x3 r0_26) (View.ld x1 r0_24))⟩,
    ⟨Rect.unit ![0, 1, 2, 0, 0] ![1, 1, 1, 128, 256] inb_S4x2x3x128x256_S1x1x1x128x256_0_1_2_0_0, k0_pay7 (F := Ideal) (k0_pay4 (View.ld x2 r0_22) (View.ld x2 r0_23) (View.ld x0 r0_24) (View.ld x3 r0_25) (View.ld x3 r0_26) (View.ld x1 r0_24))⟩,
    ⟨Rect.unit ![0, 0, 2, 0, 0] ![1, 1, 1, 128, 256] inb_S4x2x3x128x256_S1x1x1x128x256_0_0_2_0_0, k0_pay6 (F := Ideal) (k0_pay5 (View.ld x2 r0_22) (View.ld x2 r0_23) (View.ld x0 r0_24) (View.ld x3 r0_25) (View.ld x3 r0_26) (View.ld x1 r0_24))⟩,
    ⟨Rect.unit ![3, 1, 1, 0, 0] ![1, 1, 1, 128, 256] inb_S4x2x3x128x256_S1x1x1x128x256_3_1_1_0_0, k0_pay7 (F := Ideal) (k0_pay4 (View.ld x2 r0_20) (View.ld x2 r0_21) (View.ld x0 r0_13) (View.ld x3 r0_14) (View.ld x3 r0_15) (View.ld x1 r0_13))⟩,
    ⟨Rect.unit ![3, 0, 1, 0, 0] ![1, 1, 1, 128, 256] inb_S4x2x3x128x256_S1x1x1x128x256_3_0_1_0_0, k0_pay6 (F := Ideal) (k0_pay5 (View.ld x2 r0_20) (View.ld x2 r0_21) (View.ld x0 r0_13) (View.ld x3 r0_14) (View.ld x3 r0_15) (View.ld x1 r0_13))⟩,
    ⟨Rect.unit ![2, 1, 1, 0, 0] ![1, 1, 1, 128, 256] inb_S4x2x3x128x256_S1x1x1x128x256_2_1_1_0_0, k0_pay7 (F := Ideal) (k0_pay4 (View.ld x2 r0_18) (View.ld x2 r0_19) (View.ld x0 r0_13) (View.ld x3 r0_14) (View.ld x3 r0_15) (View.ld x1 r0_13))⟩,
    ⟨Rect.unit ![2, 0, 1, 0, 0] ![1, 1, 1, 128, 256] inb_S4x2x3x128x256_S1x1x1x128x256_2_0_1_0_0, k0_pay6 (F := Ideal) (k0_pay5 (View.ld x2 r0_18) (View.ld x2 r0_19) (View.ld x0 r0_13) (View.ld x3 r0_14) (View.ld x3 r0_15) (View.ld x1 r0_13))⟩,
    ⟨Rect.unit ![1, 1, 1, 0, 0] ![1, 1, 1, 128, 256] inb_S4x2x3x128x256_S1x1x1x128x256_1_1_1_0_0, k0_pay7 (F := Ideal) (k0_pay4 (View.ld x2 r0_16) (View.ld x2 r0_17) (View.ld x0 r0_13) (View.ld x3 r0_14) (View.ld x3 r0_15) (View.ld x1 r0_13))⟩,
    ⟨Rect.unit ![1, 0, 1, 0, 0] ![1, 1, 1, 128, 256] inb_S4x2x3x128x256_S1x1x1x128x256_1_0_1_0_0, k0_pay6 (F := Ideal) (k0_pay5 (View.ld x2 r0_16) (View.ld x2 r0_17) (View.ld x0 r0_13) (View.ld x3 r0_14) (View.ld x3 r0_15) (View.ld x1 r0_13))⟩,
    ⟨Rect.unit ![0, 1, 1, 0, 0] ![1, 1, 1, 128, 256] inb_S4x2x3x128x256_S1x1x1x128x256_0_1_1_0_0, k0_pay7 (F := Ideal) (k0_pay4 (View.ld x2 r0_11) (View.ld x2 r0_12) (View.ld x0 r0_13) (View.ld x3 r0_14) (View.ld x3 r0_15) (View.ld x1 r0_13))⟩,
    ⟨Rect.unit ![0, 0, 1, 0, 0] ![1, 1, 1, 128, 256] inb_S4x2x3x128x256_S1x1x1x128x256_0_0_1_0_0, k0_pay6 (F := Ideal) (k0_pay5 (View.ld x2 r0_11) (View.ld x2 r0_12) (View.ld x0 r0_13) (View.ld x3 r0_14) (View.ld x3 r0_15) (View.ld x1 r0_13))⟩,
    ⟨Rect.unit ![3, 1, 0, 0, 0] ![1, 1, 1, 128, 256] inb_S4x2x3x128x256_S1x1x1x128x256_3_1_0_0_0, k0_pay7 (F := Ideal) (k0_pay4 (View.ld x2 r0_9) (View.ld x2 r0_10) (View.ld x0 r0_2) (View.ld x3 r0_3) (View.ld x3 r0_4) (View.ld x1 r0_2))⟩,
    ⟨Rect.unit ![3, 0, 0, 0, 0] ![1, 1, 1, 128, 256] inb_S4x2x3x128x256_S1x1x1x128x256_3_0_0_0_0, k0_pay6 (F := Ideal) (k0_pay5 (View.ld x2 r0_9) (View.ld x2 r0_10) (View.ld x0 r0_2) (View.ld x3 r0_3) (View.ld x3 r0_4) (View.ld x1 r0_2))⟩,
    ⟨Rect.unit ![2, 1, 0, 0, 0] ![1, 1, 1, 128, 256] inb_S4x2x3x128x256_S1x1x1x128x256_2_1_0_0_0, k0_pay7 (F := Ideal) (k0_pay4 (View.ld x2 r0_7) (View.ld x2 r0_8) (View.ld x0 r0_2) (View.ld x3 r0_3) (View.ld x3 r0_4) (View.ld x1 r0_2))⟩,
    ⟨Rect.unit ![2, 0, 0, 0, 0] ![1, 1, 1, 128, 256] inb_S4x2x3x128x256_S1x1x1x128x256_2_0_0_0_0, k0_pay6 (F := Ideal) (k0_pay5 (View.ld x2 r0_7) (View.ld x2 r0_8) (View.ld x0 r0_2) (View.ld x3 r0_3) (View.ld x3 r0_4) (View.ld x1 r0_2))⟩,
    ⟨Rect.unit ![1, 1, 0, 0, 0] ![1, 1, 1, 128, 256] inb_S4x2x3x128x256_S1x1x1x128x256_1_1_0_0_0, k0_pay7 (F := Ideal) (k0_pay4 (View.ld x2 r0_5) (View.ld x2 r0_6) (View.ld x0 r0_2) (View.ld x3 r0_3) (View.ld x3 r0_4) (View.ld x1 r0_2))⟩,
    ⟨Rect.unit ![1, 0, 0, 0, 0] ![1, 1, 1, 128, 256] inb_S4x2x3x128x256_S1x1x1x128x256_1_0_0_0_0, k0_pay6 (F := Ideal) (k0_pay5 (View.ld x2 r0_5) (View.ld x2 r0_6) (View.ld x0 r0_2) (View.ld x3 r0_3) (View.ld x3 r0_4) (View.ld x1 r0_2))⟩,
    ⟨Rect.unit ![0, 1, 0, 0, 0] ![1, 1, 1, 128, 256] inb_S4x2x3x128x256_S1x1x1x128x256_0_1_0_0_0, k0_pay7 (F := Ideal) (k0_pay4 (View.ld x2 r0_0) (View.ld x2 r0_1) (View.ld x0 r0_2) (View.ld x3 r0_3) (View.ld x3 r0_4) (View.ld x1 r0_2))⟩,
    ⟨Rect.unit ![0, 0, 0, 0, 0] ![1, 1, 1, 128, 256] inb_S4x2x3x128x256_S1x1x1x128x256_0_0_0_0_0, k0_pay6 (F := Ideal) (k0_pay5 (View.ld x2 r0_0) (View.ld x2 r0_1) (View.ld x0 r0_2) (View.ld x3 r0_3) (View.ld x3 r0_4) (View.ld x1 r0_2))⟩] : List (View.Piece (Elt Ideal) S4x2x3x128x256 .bf16)))

/-- The block the body leaves is that block. -/
theorem out_eq (x0 x1 : Vec Ideal S3x256x256 .bf16) (x2 : Vec Ideal S4x2x3x128x256 .bf16) (x3 : Vec Ideal S2x3x128x256 .f32) :
    out0_4 (F := Ideal) x0 x1 x2 x3 = blockOf x0 x1 x2 x3 := rfl

/-- An entry of that block. -/
theorem blockOf_apply (x0 x1 : Vec Ideal S3x256x256 .bf16) (x2 : Vec Ideal S4x2x3x128x256 .bf16) (x3 : Vec Ideal S2x3x128x256 .f32) (b : Fin 4) (h : Fin 2)
    (k : Fin 3) (r : Fin 128) (d : Fin 256) : blockOf x0 x1 x2 x3 (ix5 b h k r d) = (tileAt x0 x1 x2 x3 b h k r d : EReal) := by
  unfold blockOf
  have a3 : ∀ {i n : ℕ}, i = 3 + n → n < 1 → i = 3 := by omega
  have a2 : ∀ {i n : ℕ}, i = 2 + n → n < 1 → i = 2 := by omega
  have a1 : ∀ {i n : ℕ}, i = 1 + n → n < 1 → i = 1 := by omega
  have a0 : ∀ {i n : ℕ}, i = n → n < 1 → i = 0 := by omega
  canon_tiles x g using View.cover_of_tiledBy _ ![1, 1, 1, 128, 256] (by sl_kernel_rfl) _
  · exact lower_piece x0 x1 x2 x3 3 2 (part_ld x2 3 0 2 _) (part_ld x2 3 1 2 _) (mat_ld x0 2 _) (spec_ld x3 0 2 _) (spec_ld x3 1 2 _) (mat_ld x1 2 _)
      x b h k r d (a3 g0 x0_lt) (a1 g1 x1_lt) (a2 g2 x2_lt) g3 g4
  · exact upper_piece x0 x1 x2 x3 3 2 (part_ld x2 3 0 2 _) (part_ld x2 3 1 2 _) (mat_ld x0 2 _) (spec_ld x3 0 2 _) (spec_ld x3 1 2 _) (mat_ld x1 2 _)
      x b h k r d (a3 g0 x0_lt) (a0 g1 x1_lt) (a2 g2 x2_lt) g3 g4
  · exact lower_piece x0 x1 x2 x3 2 2 (part_ld x2 2 0 2 _) (part_ld x2 2 1 2 _) (mat_ld x0 2 _) (spec_ld x3 0 2 _) (spec_ld x3 1 2 _) (mat_ld x1 2 _)
      x b h k r d (a2 g0 x0_lt) (a1 g1 x1_lt) (a2 g2 x2_lt) g3 g4
  · exact upper_piece x0 x1 x2 x3 2 2 (part_ld x2 2 0 2 _) (part_ld x2 2 1 2 _) (mat_ld x0 2 _) (spec_ld x3 0 2 _) (spec_ld x3 1 2 _) (mat_ld x1 2 _)
      x b h k r d (a2 g0 x0_lt) (a0 g1 x1_lt) (a2 g2 x2_lt) g3 g4
  · exact lower_piece x0 x1 x2 x3 1 2 (part_ld x2 1 0 2 _) (part_ld x2 1 1 2 _) (mat_ld x0 2 _) (spec_ld x3 0 2 _) (spec_ld x3 1 2 _) (mat_ld x1 2 _)
      x b h k r d (a1 g0 x0_lt) (a1 g1 x1_lt) (a2 g2 x2_lt) g3 g4
  · exact upper_piece x0 x1 x2 x3 1 2 (part_ld x2 1 0 2 _) (part_ld x2 1 1 2 _) (mat_ld x0 2 _) (spec_ld x3 0 2 _) (spec_ld x3 1 2 _) (mat_ld x1 2 _)
      x b h k r d (a1 g0 x0_lt) (a0 g1 x1_lt) (a2 g2 x2_lt) g3 g4
  · exact lower_piece x0 x1 x2 x3 0 2 (part_ld x2 0 0 2 _) (part_ld x2 0 1 2 _) (mat_ld x0 2 _) (spec_ld x3 0 2 _) (spec_ld x3 1 2 _) (mat_ld x1 2 _)
      x b h k r d (a0 g0 x0_lt) (a1 g1 x1_lt) (a2 g2 x2_lt) g3 g4
  · exact upper_piece x0 x1 x2 x3 0 2 (part_ld x2 0 0 2 _) (part_ld x2 0 1 2 _) (mat_ld x0 2 _) (spec_ld x3 0 2 _) (spec_ld x3 1 2 _) (mat_ld x1 2 _)
      x b h k r d (a0 g0 x0_lt) (a0 g1 x1_lt) (a2 g2 x2_lt) g3 g4
  · exact lower_piece x0 x1 x2 x3 3 1 (part_ld x2 3 0 1 _) (part_ld x2 3 1 1 _) (mat_ld x0 1 _) (spec_ld x3 0 1 _) (spec_ld x3 1 1 _) (mat_ld x1 1 _)
      x b h k r d (a3 g0 x0_lt) (a1 g1 x1_lt) (a1 g2 x2_lt) g3 g4
  · exact upper_piece x0 x1 x2 x3 3 1 (part_ld x2 3 0 1 _) (part_ld x2 3 1 1 _) (mat_ld x0 1 _) (spec_ld x3 0 1 _) (spec_ld x3 1 1 _) (mat_ld x1 1 _)
      x b h k r d (a3 g0 x0_lt) (a0 g1 x1_lt) (a1 g2 x2_lt) g3 g4
  · exact lower_piece x0 x1 x2 x3 2 1 (part_ld x2 2 0 1 _) (part_ld x2 2 1 1 _) (mat_ld x0 1 _) (spec_ld x3 0 1 _) (spec_ld x3 1 1 _) (mat_ld x1 1 _)
      x b h k r d (a2 g0 x0_lt) (a1 g1 x1_lt) (a1 g2 x2_lt) g3 g4
  · exact upper_piece x0 x1 x2 x3 2 1 (part_ld x2 2 0 1 _) (part_ld x2 2 1 1 _) (mat_ld x0 1 _) (spec_ld x3 0 1 _) (spec_ld x3 1 1 _) (mat_ld x1 1 _)
      x b h k r d (a2 g0 x0_lt) (a0 g1 x1_lt) (a1 g2 x2_lt) g3 g4
  · exact lower_piece x0 x1 x2 x3 1 1 (part_ld x2 1 0 1 _) (part_ld x2 1 1 1 _) (mat_ld x0 1 _) (spec_ld x3 0 1 _) (spec_ld x3 1 1 _) (mat_ld x1 1 _)
      x b h k r d (a1 g0 x0_lt) (a1 g1 x1_lt) (a1 g2 x2_lt) g3 g4
  · exact upper_piece x0 x1 x2 x3 1 1 (part_ld x2 1 0 1 _) (part_ld x2 1 1 1 _) (mat_ld x0 1 _) (spec_ld x3 0 1 _) (spec_ld x3 1 1 _) (mat_ld x1 1 _)
      x b h k r d (a1 g0 x0_lt) (a0 g1 x1_lt) (a1 g2 x2_lt) g3 g4
  · exact lower_piece x0 x1 x2 x3 0 1 (part_ld x2 0 0 1 _) (part_ld x2 0 1 1 _) (mat_ld x0 1 _) (spec_ld x3 0 1 _) (spec_ld x3 1 1 _) (mat_ld x1 1 _)
      x b h k r d (a0 g0 x0_lt) (a1 g1 x1_lt) (a1 g2 x2_lt) g3 g4
  · exact upper_piece x0 x1 x2 x3 0 1 (part_ld x2 0 0 1 _) (part_ld x2 0 1 1 _) (mat_ld x0 1 _) (spec_ld x3 0 1 _) (spec_ld x3 1 1 _) (mat_ld x1 1 _)
      x b h k r d (a0 g0 x0_lt) (a0 g1 x1_lt) (a1 g2 x2_lt) g3 g4
  · exact lower_piece x0 x1 x2 x3 3 0 (part_ld x2 3 0 0 _) (part_ld x2 3 1 0 _) (mat_ld x0 0 _) (spec_ld x3 0 0 _) (spec_ld x3 1 0 _) (mat_ld x1 0 _)
      x b h k r d (a3 g0 x0_lt) (a1 g1 x1_lt) (a0 g2 x2_lt) g3 g4
  · exact upper_piece x0 x1 x2 x3 3 0 (part_ld x2 3 0 0 _) (part_ld x2 3 1 0 _) (mat_ld x0 0 _) (spec_ld x3 0 0 _) (spec_ld x3 1 0 _) (mat_ld x1 0 _)
      x b h k r d (a3 g0 x0_lt) (a0 g1 x1_lt) (a0 g2 x2_lt) g3 g4
  · exact lower_piece x0 x1 x2 x3 2 0 (part_ld x2 2 0 0 _) (part_ld x2 2 1 0 _) (mat_ld x0 0 _) (spec_ld x3 0 0 _) (spec_ld x3 1 0 _) (mat_ld x1 0 _)
      x b h k r d (a2 g0 x0_lt) (a1 g1 x1_lt) (a0 g2 x2_lt) g3 g4
  · exact upper_piece x0 x1 x2 x3 2 0 (part_ld x2 2 0 0 _) (part_ld x2 2 1 0 _) (mat_ld x0 0 _) (spec_ld x3 0 0 _) (spec_ld x3 1 0 _) (mat_ld x1 0 _)
      x b h k r d (a2 g0 x0_lt) (a0 g1 x1_lt) (a0 g2 x2_lt) g3 g4
  · exact lower_piece x0 x1 x2 x3 1 0 (part_ld x2 1 0 0 _) (part_ld x2 1 1 0 _) (mat_ld x0 0 _) (spec_ld x3 0 0 _) (spec_ld x3 1 0 _) (mat_ld x1 0 _)
      x b h k r d (a1 g0 x0_lt) (a1 g1 x1_lt) (a0 g2 x2_lt) g3 g4
  · exact upper_piece x0 x1 x2 x3 1 0 (part_ld x2 1 0 0 _) (part_ld x2 1 1 0 _) (mat_ld x0 0 _) (spec_ld x3 0 0 _) (spec_ld x3 1 0 _) (mat_ld x1 0 _)
      x b h k r d (a1 g0 x0_lt) (a0 g1 x1_lt) (a0 g2 x2_lt) g3 g4
  · exact lower_piece x0 x1 x2 x3 0 0 (part_ld x2 0 0 0 _) (part_ld x2 0 1 0 _) (mat_ld x0 0 _) (spec_ld x3 0 0 _) (spec_ld x3 1 0 _) (mat_ld x1 0 _)
      x b h k r d (a0 g0 x0_lt) (a1 g1 x1_lt) (a0 g2 x2_lt) g3 g4
  · exact upper_piece x0 x1 x2 x3 0 0 (part_ld x2 0 0 0 _) (part_ld x2 0 1 0 _) (mat_ld x0 0 _) (spec_ld x3 0 0 _) (spec_ld x3 1 0 _) (mat_ld x1 0 _)
      x b h k r d (a0 g0 x0_lt) (a0 g1 x1_lt) (a0 g2 x2_lt) g3 g4

variable (m : (ℓ : Loc nD τ sig) → Buf (Elt Ideal) ℓ)

/-- Which three frequencies a grid point has. -/
def stepOf (t : Fin cfg0.N) : Fin 11 := ⟨(grid0.coords t 0).val, (grid0.coords t 0).isLt⟩

/-- Frequency `k` of a grid point's three. -/
def freqOf (t : Fin cfg0.N) (k : Fin 3) : Fin 33 := ⟨(stepOf t).val * 3 + k.val, by omega⟩

/-- Where each window stands at a grid point. -/
theorem idx : ∀ t : Fin cfg0.N, win0_0.index t = ![(stepOf t).val, 0, 0] ∧ win0_1.index t = ![(stepOf t).val, 0, 0]
    ∧ win0_2.index t = ![0, 0, (stepOf t).val, 0, 0] ∧ win0_3.index t = ![0, (stepOf t).val, 0, 0]
    ∧ win0_4.index t = ![0, 0, (stepOf t).val, 0, 0] := by
  decide +kernel

/-- The first matrices, read from the array. -/
theorem read0 (c : Dev nD) (t : Fin cfg0.N) (k : Fin 3) (i j : Fin 256) :
    iblk m c 0 t (ix3 k i j) = m ((c.tc : Thread nD τ).loc main_arg0) (ix3 (freqOf t k) i j) := by
  have h := (idx t).1
  rw [← V_main_arg0 m c]
  unfold freqOf
  blk_ext [iblk, h]

/-- The second matrices, read from the array. -/
theorem read1 (c : Dev nD) (t : Fin cfg0.N) (k : Fin 3) (i j : Fin 256) :
    iblk m c 1 t (ix3 k i j) = m ((c.tc : Thread nD τ).loc main_arg1) (ix3 (freqOf t k) i j) := by
  have h := (idx t).2.1
  rw [← V_main_arg1 m c]
  unfold freqOf
  blk_ext [iblk, h]

/-- The parts, read from the array. -/
theorem read2 (c : Dev nD) (t : Fin cfg0.N) (b : Fin 4) (p : Fin 2) (k : Fin 3) (r : Fin 128) (d : Fin 256) :
    iblk m c 2 t (ix5 b p k r d) = m ((c.tc : Thread nD τ).loc main_arg2) (ix5 b p (freqOf t k) r d) := by
  have h := (idx t).2.2.1
  rw [← V_main_arg2 m c]
  unfold freqOf
  blk_ext [iblk, h]

/-- The filter's spectrum, read from the array. -/
theorem read3 (c : Dev nD) (t : Fin cfg0.N) (p : Fin 2) (k : Fin 3) (r : Fin 128) (d : Fin 256) :
    iblk m c 3 t (ix4 p k r d) = m ((c.tc : Thread nD τ).loc main_arg3) (ix4 p (freqOf t k) r ⟨d.val, by omega⟩) := by
  have h := (idx t).2.2.2.1
  rw [← V_main_arg3 m c]
  unfold freqOf
  blk_ext [iblk, h]

/-- The whole result array. -/
def G (c : Dev nD) : S4x2x33x128x256.Idx → EReal := fun i =>
  applyAt (m ((c.tc : Thread nD τ).loc main_arg0)) (m ((c.tc : Thread nD τ).loc main_arg1)) (m ((c.tc : Thread nD τ).loc main_arg2))
    (m ((c.tc : Thread nD τ).loc main_arg3)) (i 0) (i 2) (row (i 1) (i 3)) (i 4)

/-- Every block of the result array is written. -/
theorem covers4 : (cfg0.win 4).Covers :=
  (cfg0.win 4).covers_of_indexMap_surj rfl (by decide) fun β => by
    have key : ∀ i : grid0.Coords, cc0_transform_4 i = ![0, 0, (i 0).val, 0, 0] := by decide +kernel
    have h0 : (β 0).val = 0 := by have := (β 0).isLt; have e : (cfg0.win 4).nblk 0 = 1 := by decide
                                  omega
    have h1 : (β 1).val = 0 := by have := (β 1).isLt; have e : (cfg0.win 4).nblk 1 = 1 := by decide
                                  omega
    have h3 : (β 3).val = 0 := by have := (β 3).isLt; have e : (cfg0.win 4).nblk 3 = 1 := by decide
                                  omega
    have h4 : (β 4).val = 0 := by have := (β 4).isLt; have e : (cfg0.win 4).nblk 4 = 1 := by decide
                                  omega
    let i : grid0.Coords := fun a => match a with
      | ⟨0, _⟩ => ⟨(β 2).val, lt_of_lt_of_le (β 2).isLt (show (cfg0.win 4).nblk 2 ≤ grid0.bound 0 by decide)⟩
    refine ⟨i, fun a => ?_⟩
    show cc0_transform_4 i a = _
    rw [key i]
    fin_cases a
    · exact h0.symm
    · exact h1.symm
    · rfl
    · exact h3.symm
    · exact h4.symm

/-- The place in the result array of an entry of a grid point's block. -/
theorem place (t : Fin cfg0.N) (b : Fin 4) (p : Fin 2) (k : Fin 3) (r : Fin 128) (d : Fin 256) :
    ((View.whole main_v0).slice (win0_4.rect t)).emb (ix5 b p k r d) = ix5 b p (freqOf t k) r d := by
  have h := (idx t).2.2.2.2
  unfold freqOf
  blk_ext [h]

/-- What one grid point writes, at its place in the array. -/
theorem point (c : Dev nD) (t : Fin cfg0.N) (y : S4x2x3x128x256.Idx) :
    blockOf (iblk m c 0 t) (iblk m c 1 t) (iblk m c 2 t) (iblk m c 3 t) y = G m c (((View.whole main_v0).slice (win0_4.rect t)).emb y) := by
  obtain ⟨b, p, k, r, d, rfl⟩ : ∃ (b : Fin 4) (p : Fin 2) (k : Fin 3) (r : Fin 128) (d : Fin 256), y = ix5 b p k r d :=
    ⟨y 0, y 1, y 2, y 3, y 4, eq_ix5 y⟩
  rw [place, blockOf_apply]
  unfold tileAt firstAt
  simp only [read0, read1, read2, read3]
  rfl

/-- The result array after the run. -/
theorem final (c : Dev nD) : (dats m 0 c).arrAt 4 cfg0.N = G m c := by
  refine (dats m 0 c).arrAt_eq_of_covers 4 _ covers4 fun t hf y => ?_
  blk_simp
  rw [after0_4, out_eq]
  frame_out
  exact point m c t y

end Cert.Filt
-- ==== Proof.Filt.lean ====
/- The claim on the long convolution's filtering at every frequency: kernel and reference leave one array. -/
module

public import proofs.«01_k».proof.Defs
public import proofs.«01_k».proof.Proof.FiltArray
public import proofs.«01_k».proof.Proof.Gen.Reference13Ideal.Run
public import Idealize.ShloMosaic.Lib.Claim

@[expose] public section

set_option maxRecDepth 16384

noncomputable section

namespace Cert.Filt

open Idealize.ShloMosaic Idealize.ShloMosaic.TcCoe Idealize.SL.Sem Cert.Stage

namespace Ref

open Cert.Reference13Ideal Cert.Reference13Ideal.Gen

/-- The parts, stacked. -/
def stack (a2 : FVec Ideal S4x2x33x128x256 .bf16) : FVec Ideal S4x33x256x256 .f32 :=
  shapeCast S4x33x256x256 (transpose S4x33x2x128x256 [0, 2, 1, 3, 4] (extf .f32 a2 bitsLt_bf16_f32) transposes_S4x2x33x128x256_S4x33x2x128x256_0_2_1_3_4) shapeCasts_S4x33x2x128x256_S4x33x256x256

/-- Every frequency's matrix times every batch's array. -/
def prod (a0 : FVec Ideal S33x256x256 .bf16) (v : FVec Ideal S4x33x256x256 .f32) : FVec Ideal S4x33x256x256 .f32 :=
  transpose S4x33x256x256 [1, 0, 3, 2] (Host.dotGeneral dot_S4x33x256x256_S33x256x256_S33x4x256x256_2_2_03_1_1_0 none v (extf .f32 a0 bitsLt_bf16_f32)) transposes_S33x4x256x256_S4x33x256x256_1_0_3_2

/-- The real parts. -/
def upper (x : FVec Ideal S4x33x256x256 .f32) : FVec Ideal S4x33x128x256 .f32 :=
  extractStridedSlice S4x33x128x256 ![0, 0, 0, 0] x slices_S4x33x256x256_S4x33x128x256_0_0_0_0

/-- The imaginary parts. -/
def lower (x : FVec Ideal S4x33x256x256 .f32) : FVec Ideal S4x33x128x256 .f32 :=
  extractStridedSlice S4x33x128x256 ![0, 0, 128, 0] x slices_S4x33x256x256_S4x33x128x256_0_0_128_0

/-- The real parts of the filter's spectrum, for every batch. -/
def real (a3 : FVec Ideal S2x33x128x512 .f32) : FVec Ideal S4x33x128x256 .f32 :=
  broadcastInDim S4x33x128x256 ![0, 1, 2, 3] bcast_S1x33x128x256_S4x33x128x256_0_1_2_3 (broadcastInDim S1x33x128x256 ![1, 2, 3] bcast_S33x128x256_S1x33x128x256_1_2_3 (shapeCast S33x128x256 (extractStridedSlice S1x33x128x256 ![0, 0, 0, 0] a3 slices_S2x33x128x512_S1x33x128x256_0_0_0_0) shapeCasts_S1x33x128x256_S33x128x256))

/-- The imaginary parts of the filter's spectrum, for every batch. -/
def imag (a3 : FVec Ideal S2x33x128x512 .f32) : FVec Ideal S4x33x128x256 .f32 :=
  broadcastInDim S4x33x128x256 ![0, 1, 2, 3] bcast_S1x33x128x256_S4x33x128x256_0_1_2_3 (broadcastInDim S1x33x128x256 ![1, 2, 3] bcast_S33x128x256_S1x33x128x256_1_2_3 (shapeCast S33x128x256 (extractStridedSlice S1x33x128x256 ![1, 0, 0, 0] a3 slices_S2x33x128x512_S1x33x128x256_1_0_0_0) shapeCasts_S1x33x128x256_S33x128x256))

/-- The product of the spectra, from their parts. -/
def both (x y u v : FVec Ideal S4x33x128x256 .f32) : FVec Ideal S4x33x256x256 .f32 :=
  concatenate S4x33x256x256 2 [⟨S4x33x128x256, (subf (mulf x u) (mulf y v))⟩, ⟨S4x33x128x256, (addf (mulf x v) (mulf y u))⟩] concatenates_S4x33x128x256_S4x33x128x256_S4x33x256x256_d2

/-- The reference's array. -/
def arr (v : FVec Ideal S4x33x256x256 .f32) : FVec Ideal S4x2x33x128x256 .bf16 :=
  truncf .bf16 (transpose S4x2x33x128x256 [0, 2, 1, 3, 4] (shapeCast S4x33x2x128x256 v shapeCasts_S4x33x256x256_S4x33x2x128x256) transposes_S4x33x2x128x256_S4x2x33x128x256_0_2_1_3_4) bitsLt_bf16_f32

/-- The transform of every batch. -/
def first (a0 : FVec Ideal S33x256x256 .bf16) (a2 : FVec Ideal S4x2x33x128x256 .bf16) : FVec Ideal S4x33x256x256 .f32 :=
  prod a0 (stack a2)

/-- The whole reference. -/
def whole (a0 a1 : FVec Ideal S33x256x256 .bf16) (a2 : FVec Ideal S4x2x33x128x256 .bf16) (a3 : FVec Ideal S2x33x128x512 .f32) :
    FVec Ideal S4x2x33x128x256 .bf16 :=
  arr (prod a1 (both (upper (first a0 a2)) (lower (first a0 a2)) (real a3) (imag a3)))

/-- An entry of the stacked parts. -/
theorem stack_apply (a2 : FVec Ideal S4x2x33x128x256 .bf16) (b : Fin 4) (k : Fin 33) (j d : Fin 256) :
    stack a2 (ix4 b k j d) = (two (fun s => a2 (ix5 b 0 k s d)) (fun s => a2 (ix5 b 1 k s d)) j : EReal) := by
  rw [two_split (fun h s => (a2 (ix5 b h k s d) : EReal))]
  pointwise [stack]

/-- An entry of the products. -/
theorem prod_apply (a0 : FVec Ideal S33x256x256 .bf16) (v : FVec Ideal S4x33x256x256 .f32) (b : Fin 4) (k : Fin 33) (i d : Fin 256) :
    prod a0 v (ix4 b k i d) = (∑ j : Fin 256, a0 (ix3 k i j) * v (ix4 b k j d) : EReal) := by
  have h : prod a0 v (ix4 b k i d) = (∑ j : Fin 256, v (ix4 b k j d) * a0 (ix3 k i j) : EReal) := by
    pointwise [prod]
  rw [h]
  exact Finset.sum_congr rfl fun j _ => mul_comm _ _

/-- An entry of the real parts. -/
theorem upper_apply (x : FVec Ideal S4x33x256x256 .f32) (b : Fin 4) (k : Fin 33) (r : Fin 128) (d : Fin 256) :
    upper x (ix4 b k r d) = (x (ix4 b k (row 0 r) d) : EReal) := by
  rw [row_zero]
  pointwise [upper]

/-- An entry of the imaginary parts. -/
theorem lower_apply (x : FVec Ideal S4x33x256x256 .f32) (b : Fin 4) (k : Fin 33) (r : Fin 128) (d : Fin 256) :
    lower x (ix4 b k r d) = (x (ix4 b k (row 1 r) d) : EReal) := by
  rw [row_one]
  pointwise [lower]

/-- An entry of the filter's real parts. -/
theorem real_apply (a3 : FVec Ideal S2x33x128x512 .f32) (b : Fin 4) (k : Fin 33) (r : Fin 128) (d : Fin 256) :
    real a3 (ix4 b k r d) = (a3 (ix4 0 k r ⟨d.val, by omega⟩) : EReal) := by
  pointwise [real]

/-- An entry of the filter's imaginary parts. -/
theorem imag_apply (a3 : FVec Ideal S2x33x128x512 .f32) (b : Fin 4) (k : Fin 33) (r : Fin 128) (d : Fin 256) :
    imag a3 (ix4 b k r d) = (a3 (ix4 1 k r ⟨d.val, by omega⟩) : EReal) := by
  pointwise [imag]

/-- An entry of the product of the spectra. -/
theorem both_apply (x y u v : FVec Ideal S4x33x128x256 .f32) (b : Fin 4) (k : Fin 33) (j d : Fin 256) :
    both x y u v (ix4 b k j d)
      = (two (fun r => x (ix4 b k r d) * u (ix4 b k r d) - y (ix4 b k r d) * v (ix4 b k r d))
          (fun r => x (ix4 b k r d) * v (ix4 b k r d) + y (ix4 b k r d) * u (ix4 b k r d)) j : EReal) := by
  unfold two
  pointwise [both]

/-- An entry of the reference's array. -/
theorem arr_apply (v : FVec Ideal S4x33x256x256 .f32) (b : Fin 4) (p : Fin 2) (k : Fin 33) (r : Fin 128) (d : Fin 256) :
    arr v (ix5 b p k r d) = (v (ix4 b k (row p r) d) : EReal) := by
  unfold row
  pointwise [arr]

/-- An entry of the transform. -/
theorem first_apply (a0 : FVec Ideal S33x256x256 .bf16) (a2 : FVec Ideal S4x2x33x128x256 .bf16) (b : Fin 4) (k : Fin 33)
    (i d : Fin 256) : first a0 a2 (ix4 b k i d) = (mixAt a0 a2 b k i d : EReal) := by
  unfold first
  rw [prod_apply]
  simp only [stack_apply]
  rfl

/-- The reference's array, from the kernel's arguments, is the array the kernel leaves. -/
theorem eq (a0 a1 : FVec Ideal S33x256x256 .bf16) (a2 : FVec Ideal S4x2x33x128x256 .bf16) (a3 : FVec Ideal S2x33x128x512 .f32) :
    whole a0 a1 a2 a3 = fun i => (applyAt a0 a1 a2 a3 (i 0) (i 2) (row (i 1) (i 3)) (i 4) : EReal) := by
  refine funext fun i => ?_
  obtain ⟨b, p, k, r, d, rfl⟩ : ∃ (b : Fin 4) (p : Fin 2) (k : Fin 33) (r : Fin 128) (d : Fin 256), i = ix5 b p k r d :=
    ⟨i 0, i 1, i 2, i 3, i 4, eq_ix5 i⟩
  unfold whole
  rw [arr_apply, prod_apply]
  simp only [both_apply, upper_apply, lower_apply, real_apply, imag_apply, first_apply]
  rfl

end Ref

/-- The claim: the kernel's filtering at every frequency is the plain one. -/
theorem holds : Cert.algebraic_Kernel13Ideal_Reference13Ideal := fun m g m' g' _ hag =>
  ⟨fun c => G m c,
    (θ_run _ _ _).mono (fun r h c => ⟨(h c).1.trans (final m c), (h c).2⟩) (Cert.Kernel13Ideal.Value.run_blocks m g),
    (θ_run _ _ _).mono (fun r h c => ⟨by
      refine (h c).1.trans ((Ref.eq _ _ _ _).trans ?_)
      obtain ⟨h0, h1, h2, h3⟩ := hag c
      rw [h0, h1, h2, h3]
      rfl, (h c).2⟩)
      (Cert.Reference13Ideal.Value.run m' g')⟩

end Cert.Filt
-- ==== Proof.lean ====
module

public import proofs.«01_k».proof.Proof.Gen.Kernel.Frame
public import proofs.«01_k».proof.Proof.Gen.Kernel2.Frame
public import proofs.«01_k».proof.Defs
public import proofs.«01_k».proof.Proof.Attention
public import proofs.«01_k».proof.Proof.InProj
public import proofs.«01_k».proof.Proof.DiffAttn
public import proofs.«01_k».proof.Proof.OutProj
public import proofs.«01_k».proof.Proof.Gen.Kernel4.Frame
public import proofs.«01_k».proof.Proof.Gen.Kernel5.Frame
public import proofs.«01_k».proof.Proof.Kv
public import proofs.«01_k».proof.Proof.Gen.Kernel6.Frame
public import proofs.«01_k».proof.Proof.Mod
public import proofs.«01_k».proof.Proof.Gen.Kernel7.Frame
public import proofs.«01_k».proof.Proof.Taps
public import proofs.«01_k».proof.Proof.Gen.Kernel8.Frame
public import proofs.«01_k».proof.Proof.Ones
public import proofs.«01_k».proof.Proof.Gen.Kernel9.Frame
public import proofs.«01_k».proof.Proof.Lower
public import proofs.«01_k».proof.Proof.Gen.Kernel10.Frame
public import proofs.«01_k».proof.Proof.Inv
public import proofs.«01_k».proof.Proof.Gen.Kernel11.Frame
public import proofs.«01_k».proof.Proof.Fwd
public import proofs.«01_k».proof.Proof.Gen.Kernel12.Frame
public import proofs.«01_k».proof.Proof.Mix
public import proofs.«01_k».proof.Proof.Gen.Kernel13.Frame
public import proofs.«01_k».proof.Proof.Filt
public import proofs.«01_k».proof.Proof.Gen.Kernel3.Frame
public import Idealize.ShloMosaic.Adequacy
public import Idealize.ShloMosaic.Init

@[expose] public section

noncomputable section

namespace Cert.Proof

open Idealize.ShloMosaic Idealize.SL.Sem

/-- The attention's reference ends with its arguments unchanged; it has no semaphores. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The input projection's reference ends with its arguments unchanged; it has no semaphores. -/
theorem frame_reference2 : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- The differential attention's reference ends with its arguments unchanged; it has no semaphores. -/
theorem frame_reference3 : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

/-- The output projection's reference ends with its arguments unchanged; it has no semaphores. -/
theorem frame_reference4 : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

/-- The reference of the keys and values ends with its arguments unchanged; it has no semaphores. -/
theorem frame_reference5 : Cert.quiescent_Reference5Ideal := fun m ρ _ =>
  (θ_run Cert.Reference5Ideal.defs _ _).mono (fun r h => ⟨fun c => (h c).2.2, sem_eq_zero_of_no_sems (by decide) r.2⟩)
    (Cert.Reference5Ideal.Value.run (F := Ideal) m ρ)

/-- The modulations' reference ends with its arguments unchanged; it has no semaphores. -/
theorem frame_reference6 : Cert.quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)

/-- The filters' reference ends with its arguments unchanged; it has no semaphores. -/
theorem frame_reference7 : Cert.quiescent_Reference7Ideal := fun m ρ _ =>
  (θ_run Cert.Reference7Ideal.defs _ _).mono (fun r h => ⟨fun c => (h c).2, sem_eq_zero_of_no_sems (by decide) r.2⟩)
    (Cert.Reference7Ideal.Value.run (F := Ideal) m ρ)

/-- The reference of the transposed values ends with its argument unchanged; it has no semaphores. -/
theorem frame_reference8 : Cert.quiescent_Reference8Ideal := fun m ρ _ =>
  (θ_run Cert.Reference8Ideal.defs _ _).mono (fun r h => ⟨fun c => (h c).2, sem_eq_zero_of_no_sems (by decide) r.2⟩)
    (Cert.Reference8Ideal.Value.run (F := Ideal) m ρ)

/-- The lower bounds' reference ends with its argument unchanged; it has no semaphores. -/
theorem frame_reference9 : Cert.quiescent_Reference9Ideal := fun m ρ _ =>
  (θ_run Cert.Reference9Ideal.defs _ _).mono (fun r h => ⟨fun c => (h c).2, sem_eq_zero_of_no_sems (by decide) r.2⟩)
    (Cert.Reference9Ideal.Value.run (F := Ideal) m ρ)

/-- The last transform's reference ends with its arguments unchanged; it has no semaphores. -/
theorem frame_reference10 : Cert.quiescent_Reference10Ideal := fun m ρ _ =>
  (θ_run Cert.Reference10Ideal.defs _ _).mono (fun r h => ⟨fun c => (h c).2, sem_eq_zero_of_no_sems (by decide) r.2⟩)
    (Cert.Reference10Ideal.Value.run (F := Ideal) m ρ)

/-- The first transform's reference ends with its arguments unchanged; it has no semaphores. -/
theorem frame_reference11 : Cert.quiescent_Reference11Ideal := fun m ρ _ =>
  (θ_run Cert.Reference11Ideal.defs _ _).mono (fun r h => ⟨fun c => (h c).2, sem_eq_zero_of_no_sems (by decide) r.2⟩)
    (Cert.Reference11Ideal.Value.run (F := Ideal) m ρ)

/-- The reference of the transform at every frequency ends with its arguments unchanged; it has no semaphores. -/
theorem frame_reference12 : Cert.quiescent_Reference12Ideal := fun m ρ _ =>
  (θ_run Cert.Reference12Ideal.defs _ _).mono (fun r h => ⟨fun c => (h c).2, sem_eq_zero_of_no_sems (by decide) r.2⟩)
    (Cert.Reference12Ideal.Value.run (F := Ideal) m ρ)

/-- The reference of the filtering at every frequency ends with its arguments unchanged; it has no semaphores. -/
theorem frame_reference13 : Cert.quiescent_Reference13Ideal := fun m ρ _ =>
  (θ_run Cert.Reference13Ideal.defs _ _).mono (fun r h => ⟨fun c => (h c).2, sem_eq_zero_of_no_sems (by decide) r.2⟩)
    (Cert.Reference13Ideal.Value.run (F := Ideal) m ρ)

/-- Every claim: the frames, by the generated theorems; the idealizations, which replace nothing; the values. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Pre.facts, Cert.Pre_finite.Gen.facts, Cert.Pre_blocks.Gen.facts, Cert.Pre_padded.Gen.facts, Cert.Pre_below.Gen.facts, Cert.Pre_under.Gen.facts, Cert.Pre_proper.Gen.facts,
  fun m ρ _ => Cert.Kernel.Gen.frame m ρ,
  fun m ρ _ => Cert.KernelIdeal.Gen.frame m ρ,
  fun m ρ _ => Cert.KernelIdeal.Gen.frame m ρ,
  frame_reference,
  fun m ρ _ => frame_reference m ρ trivial,
  fun m ρ _ => Cert.Kernel2.Gen.frame m ρ,
  fun m ρ _ => Cert.Kernel2Ideal.Gen.frame m ρ,
  frame_reference2,
  fun m ρ _ => Cert.Kernel3.Gen.frame m ρ,
  fun m ρ _ => Cert.Kernel3Ideal.Gen.frame m ρ,
  fun m ρ _ => Cert.Kernel3Ideal.Gen.frame m ρ,
  frame_reference3,
  fun m ρ _ => frame_reference3 m ρ trivial,
  fun m ρ _ => Cert.Kernel4.Gen.frame m ρ,
  fun m ρ _ => Cert.Kernel4Ideal.Gen.frame m ρ,
  fun m ρ _ => Cert.Kernel4Ideal.Gen.frame m ρ,
  frame_reference4,
  fun m ρ _ => frame_reference4 m ρ trivial,
  fun m ρ _ => Cert.Kernel5.Gen.frame m ρ,
  fun m ρ _ => Cert.Kernel5Ideal.Gen.frame m ρ,
  fun m ρ _ => Cert.Kernel5Ideal.Gen.frame m ρ,
  frame_reference5,
  fun m ρ _ => frame_reference5 m ρ trivial,
  fun m ρ _ => Cert.Kernel6.Gen.frame m ρ,
  fun m ρ _ => Cert.Kernel6Ideal.Gen.frame m ρ,
  fun m ρ _ => Cert.Kernel6Ideal.Gen.frame m ρ,
  frame_reference6,
  fun m ρ _ => frame_reference6 m ρ trivial,
  fun m ρ _ => Cert.Kernel7.Gen.frame m ρ,
  fun m ρ _ => Cert.Kernel7Ideal.Gen.frame m ρ,
  fun m ρ _ => Cert.Kernel7Ideal.Gen.frame m ρ,
  frame_reference7,
  fun m ρ _ => frame_reference7 m ρ trivial,
  fun m ρ _ => Cert.Kernel8.Gen.frame m ρ,
  fun m ρ _ => Cert.Kernel8Ideal.Gen.frame m ρ,
  frame_reference8,
  fun m ρ _ => Cert.Kernel9.Gen.frame m ρ,
  fun m ρ _ => Cert.Kernel9Ideal.Gen.frame m ρ,
  fun m ρ _ => Cert.Kernel9Ideal.Gen.frame m ρ,
  frame_reference9,
  fun m ρ _ => frame_reference9 m ρ trivial,
  fun m ρ _ => Cert.Kernel10.Gen.frame m ρ,
  fun m ρ _ => Cert.Kernel10Ideal.Gen.frame m ρ,
  frame_reference10,
  fun m ρ _ => Cert.Kernel11.Gen.frame m ρ,
  fun m ρ _ => Cert.Kernel11Ideal.Gen.frame m ρ,
  frame_reference11,
  fun m ρ _ => Cert.Kernel12.Gen.frame m ρ,
  fun m ρ _ => Cert.Kernel12Ideal.Gen.frame m ρ,
  frame_reference12,
  fun m ρ _ => Cert.Kernel13.Gen.frame m ρ,
  fun m ρ _ => Cert.Kernel13Ideal.Gen.frame m ρ,
  frame_reference13,
  trivial,
  Cert.Attention.holds,
  trivial,
  Cert.In.holds,
  trivial,
  Cert.Diff.holds,
  trivial,
  Cert.Out.holds,
  trivial,
  Cert.Kv.holds,
  trivial,
  Cert.Mod.holds,
  trivial,
  Cert.Taps.holds,
  trivial,
  Cert.Ones.holds,
  trivial,
  Cert.Lower.holds,
  trivial,
  Cert.Inv.holds,
  trivial,
  Cert.Fwd.holds,
  trivial,
  Cert.Mix.holds,
  trivial,
  Cert.Filt.holds⟩

end Cert.Proof

end
